-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys_and_weights [hPre_finite_keys_and_weights : Cert.Pre_finite_keys_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_keys_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys_and_weights [hPre_finite_keys_and_weights : Cert.Pre_finite_keys_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_keys_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_keys_and_weights [hKernelIdeal : Cert.KernelIdeal.Facts] [hPre_finite_keys_and_weights : Cert.Pre_finite_keys_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_keys_and_weights [hReferenceIdeal : Cert.ReferenceIdeal.Facts] [hPre_finite_keys_and_weights : Cert.Pre_finite_keys_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite_keys_and_weights [hKernelIdeal : Cert.KernelIdeal.Facts] [hReferenceIdeal : Cert.ReferenceIdeal.Facts] [hPre_finite_keys_and_weights : Cert.Pre_finite_keys_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v44_0)) (v1 : (c : Dev Cert.Kernel2Ideal.nD) → Buf (Elt Ideal) ((c.tc : Thread Cert.Kernel2Ideal.nD Cert.Kernel2Ideal.τ).loc Cert.Kernel2Ideal.main_v44_1)) (v2 : (c : Dev Cert.Kernel2Ideal.nD) → Buf (Elt Ideal) ((c.tc : Thread Cert.Kernel2Ideal.nD Cert.Kernel2Ideal.τ).loc Cert.Kernel2Ideal.main_v44_2)) (v3 : (c : Dev Cert.Kernel2Ideal.nD) → Buf (Elt Ideal) ((c.tc : Thread Cert.Kernel2Ideal.nD Cert.Kernel2Ideal.τ).loc Cert.Kernel2Ideal.main_v44_3)) (v4 : (c : Dev Cert.Kernel2Ideal.nD) → Buf (Elt Ideal) ((c.tc : Thread Cert.Kernel2Ideal.nD Cert.Kernel2Ideal.τ).loc Cert.Kernel2Ideal.main_v44_4)) (v5 : (c : Dev Cert.Kernel2Ideal.nD) → Buf (Elt Ideal) ((c.tc : Thread Cert.Kernel2Ideal.nD Cert.Kernel2Ideal.τ).loc Cert.Kernel2Ideal.main_v44_5)) (v6 : (c : Dev Cert.Kernel2Ideal.nD) → Buf (Elt Ideal) ((c.tc : Thread Cert.Kernel2Ideal.nD Cert.Kernel2Ideal.τ).loc Cert.Kernel2Ideal.main_v44_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44_0) = v0 c
          ∧ r.2.mem ((c.tc : Thread Cert.Kernel2Ideal.nD Cert.Kernel2Ideal.τ).loc Cert.Kernel2Ideal.main_v44_1) = v1 c
          ∧ r.2.mem ((c.tc : Thread Cert.Kernel2Ideal.nD Cert.Kernel2Ideal.τ).loc Cert.Kernel2Ideal.main_v44_2) = v2 c
          ∧ r.2.mem ((c.tc : Thread Cert.Kernel2Ideal.nD Cert.Kernel2Ideal.τ).loc Cert.Kernel2Ideal.main_v44_3) = v3 c
          ∧ r.2.mem ((c.tc : Thread Cert.Kernel2Ideal.nD Cert.Kernel2Ideal.τ).loc Cert.Kernel2Ideal.main_v44_4) = v4 c
          ∧ r.2.mem ((c.tc : Thread Cert.Kernel2Ideal.nD Cert.Kernel2Ideal.τ).loc Cert.Kernel2Ideal.main_v44_5) = v5 c
          ∧ r.2.mem ((c.tc : Thread Cert.Kernel2Ideal.nD Cert.Kernel2Ideal.τ).loc Cert.Kernel2Ideal.main_v44_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v41) = v3 c
          ∧ r.2.mem ((c.tc : Thread Cert.Reference2Ideal.nD Cert.Reference2Ideal.τ).loc Cert.Reference2Ideal.main_v42) = v4 c
          ∧ r.2.mem ((c.tc : Thread Cert.Reference2Ideal.nD Cert.Reference2Ideal.τ).loc Cert.Reference2Ideal.main_v43) = v5 c
          ∧ r.2.mem ((c.tc : Thread Cert.Reference2Ideal.nD Cert.Reference2Ideal.τ).loc Cert.Reference2Ideal.main_v27) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v34)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  IdealRules.named_const.Statement Cert.Kernel6Ideal.κ "log2e_neg" .f32 0xBFB8AA3B#32 ((-((Real.log 2)⁻¹) : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v25)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v70_0)) (v1 : (c : Dev Cert.Kernel7Ideal.nD) → Buf (Elt Ideal) ((c.tc : Thread Cert.Kernel7Ideal.nD Cert.Kernel7Ideal.τ).loc Cert.Kernel7Ideal.main_v70_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v70_0) = v0 c
          ∧ r.2.mem ((c.tc : Thread Cert.Kernel7Ideal.nD Cert.Kernel7Ideal.τ).loc Cert.Kernel7Ideal.main_v70_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v71) = v0 c
          ∧ r.2.mem ((c.tc : Thread Cert.Reference7Ideal.nD Cert.Reference7Ideal.τ).loc Cert.Reference7Ideal.main_v73) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v34)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v34) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v77) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_keys_and_weights : Cert.Pre_finite_keys_and_weights.Facts),
    quiescent_Kernel (hKernel := hKernel)
    ∧ quiescent_KernelIdeal (hKernelIdeal := hKernelIdeal)
    ∧ quiescent_KernelIdeal_pre_finite_keys_and_weights (hKernelIdeal := hKernelIdeal) (hPre_finite_keys_and_weights := hPre_finite_keys_and_weights)
    ∧ quiescent_ReferenceIdeal (hReferenceIdeal := hReferenceIdeal)
    ∧ quiescent_ReferenceIdeal_pre_finite_keys_and_weights (hReferenceIdeal := hReferenceIdeal) (hPre_finite_keys_and_weights := hPre_finite_keys_and_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_keys_and_weights (hKernelIdeal := hKernelIdeal) (hReferenceIdeal := hReferenceIdeal) (hPre_finite_keys_and_weights := hPre_finite_keys_and_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_keys_and_weights.lean ====
abbrev S4x8192x1024 : Shape := ⟨3, ![4, 8192, 1024]⟩
abbrev S4x4x8192x64 : Shape := ⟨4, ![4, 4, 8192, 64]⟩
abbrev S4x8192x256 : Shape := ⟨3, ![4, 8192, 256]⟩
abbrev S1x64 : Shape := ⟨2, ![1, 64]⟩
abbrev S_ : Shape := ⟨0, ![]⟩

class Facts : Prop where
  bcast_S_S4x4x8192x64 : S_.BroadcastsInDim S4x4x8192x64 (![] : Fin 0 → Fin S4x4x8192x64.rank)
  bcast_S_S1x64 : S_.BroadcastsInDim S1x64 (![] : Fin 0 → Fin S1x64.rank)

variable [Facts]

def fn {F : FTy → Type} [FloatOps F] (main_arg0 : FVec F S4x8192x1024 .bf16) (main_arg1 : FVec F S4x4x8192x64 .bf16) (main_arg2 : FVec F S4x8192x256 .bf16) (main_arg3 : FVec F S1x64 .f32) : IVec S4x4x8192x64 1 × IVec S1x64 1 :=
  let main_v0 : FVec F S4x4x8192x64 .bf16 := Host.absf main_arg1
  let main_cst : FVec F S_ .bf16 := constant S_ .bf16 0x7F80#16
  let main_v1 : FVec F S4x4x8192x64 .bf16 := broadcastInDim S4x4x8192x64 ![] bcast_S_S4x4x8192x64 main_cst
  let main_v2 : IVec S4x4x8192x64 1 := cmpf .olt main_v0 main_v1
  let main_v3 : FVec F S1x64 .f32 := Host.absf main_arg3
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  (main_v2, main_v5)
-- ==== Kernel.lean ====
abbrev S4x8192x1024 : Shape := ⟨3, ![4, 8192, 1024]⟩
abbrev S4x4x8192x64 : Shape := ⟨4, ![4, 4, 8192, 64]⟩
abbrev S4x8192x256 : Shape := ⟨3, ![4, 8192, 256]⟩
abbrev S1x64 : Shape := ⟨2, ![1, 64]⟩
abbrev S32 : Shape := ⟨1, ![32]⟩
abbrev S_ : Shape := ⟨0, ![]⟩
abbrev S64 : Shape := ⟨1, ![64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S64x1 : Shape := ⟨2, ![64, 1]⟩
abbrev S4x64 : Shape := ⟨2, ![4, 64]⟩
abbrev S128 : Shape := ⟨1, ![128]⟩
abbrev S128x64 : Shape := ⟨2, ![128, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x256 : Shape := ⟨2, ![8192, 256]⟩
abbrev S4x2x4096x4x64 : Shape := ⟨5, ![4, 2, 4096, 4, 64]⟩
abbrev S4x4x2x64x4096 : Shape := ⟨5, ![4, 4, 2, 64, 4096]⟩
abbrev S4x4x2x16x4096 : Shape := ⟨5, ![4, 4, 2, 16, 4096]⟩
abbrev S4x4x2x80x4096 : Shape := ⟨5, ![4, 4, 2, 80, 4096]⟩
abbrev S1x512x256 : Shape := ⟨3, ![1, 512, 256]⟩
abbrev S1x1x8192x64 : Shape := ⟨4, ![1, 1, 8192, 64]⟩
abbrev S1x1x2x80x4096 : Shape := ⟨5, ![1, 1, 2, 80, 4096]⟩
abbrev S512x256 : Shape := ⟨2, ![512, 256]⟩
abbrev S64x2048 : Shape := ⟨2, ![64, 2048]⟩
abbrev S1x2048 : Shape := ⟨2, ![1, 2048]⟩
abbrev S80x2048 : Shape := ⟨2, ![80, 2048]⟩
abbrev S4x256x512 : Shape := ⟨3, ![4, 256, 512]⟩
abbrev S256x512 : Shape := ⟨2, ![256, 512]⟩
abbrev S64x512 : Shape := ⟨2, ![64, 512]⟩
abbrev S1x1x256x64 : Shape := ⟨4, ![1, 1, 256, 64]⟩
abbrev S256x64 : Shape := ⟨2, ![256, 64]⟩
abbrev S1x256x512 : Shape := ⟨3, ![1, 256, 512]⟩
abbrev S1x1x1x80x256 : Shape := ⟨5, ![1, 1, 1, 80, 256]⟩
abbrev S80x256 : Shape := ⟨2, ![80, 256]⟩
abbrev S1x512 : Shape := ⟨2, ![1, 512]⟩
abbrev S512 : Shape := ⟨1, ![512]⟩
abbrev S80x512 : Shape := ⟨2, ![80, 512]⟩

abbrev nBuf : Space → Nat
  | .hbm => 115
  | .vmem => 18
  | .smem => 0
  | _ => 0

abbrev bufTy : (tb : Table) → Fin (tcTables nBuf tb) → BufTy
  | .hbm, ⟨0, _⟩ => ⟨S4x8192x1024, .bf16⟩
  | .hbm, ⟨1, _⟩ => ⟨S4x4x8192x64, .bf16⟩
  | .hbm, ⟨2, _⟩ => ⟨S4x8192x256, .bf16⟩
  | .hbm, ⟨3, _⟩ => ⟨S1x64, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S64, .i32⟩
  | .hbm, ⟨19, _⟩ => ⟨S256, .i32⟩
  | .hbm, ⟨20, _⟩ => ⟨S_, .i32⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S1x256, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S256x256, .bf16⟩
  | .hbm, ⟨44, _⟩ => ⟨S64, .f32⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S64, .f32⟩
  | .hbm, ⟨54, _⟩ => ⟨S1x64, .f32⟩
  | .hbm, ⟨55, _⟩ => ⟨S4x64, .f32⟩
  | .hbm, ⟨56, _⟩ => ⟨S256, .f32⟩
  | .hbm, ⟨57, _⟩ => ⟨S1x256, .f32⟩
  | .hbm, ⟨58, _⟩ => ⟨S128, .f32⟩
  | .hbm, ⟨59, _⟩ => ⟨S128x64, .f32⟩
  | .hbm, ⟨60, _⟩ => ⟨S8192, .f32⟩
  | .hbm, ⟨61, _⟩ => ⟨S64, .f32⟩
  | .hbm, ⟨62, _⟩ => ⟨S1x64, .f32⟩
  | .hbm, ⟨63, _⟩ => ⟨S128x64, .f32⟩
  | .hbm, ⟨64, _⟩ => ⟨S8192, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S8192x1, .f32⟩
  | .hbm, ⟨80, _⟩ => ⟨S1x16, .f32⟩
  | .hbm, ⟨81, _⟩ => ⟨S8192x16, .f32⟩
  | .hbm, ⟨82, _⟩ => ⟨S8192x16, .f32⟩
  | .hbm, ⟨83, _⟩ => ⟨S8192x16, .f32⟩
  | .hbm, ⟨84, _⟩ => ⟨S8192x1, .f32⟩
  | .hbm, ⟨85, _⟩ => ⟨S1x16, .f32⟩
  | .hbm, ⟨86, _⟩ => ⟨S8192x16, .f32⟩
  | .hbm, ⟨87, _⟩ => ⟨S8192x16, .f32⟩
  | .hbm, ⟨88, _⟩ => ⟨S8192x16, .f32⟩
  | .hbm, ⟨89, _⟩ => ⟨S8192x32, .f32⟩
  | .hbm, ⟨90, _⟩ => ⟨S8192x32, .f32⟩
  | .hbm, ⟨91, _⟩ => ⟨S8192x32, .f32⟩
  | .hbm, ⟨92, _⟩ => ⟨S8192x64, .f32⟩
  | .hbm, ⟨93, _⟩ => ⟨S8192x32, .f32⟩
  | .hbm, ⟨94, _⟩ => ⟨S8192x64, .f32⟩
  | .hbm, ⟨95, _⟩ => ⟨S1x8192x1x64, .f32⟩
  | .hbm, ⟨96, _⟩ => ⟨S1x8192x4x64, .f32⟩
  | .hbm, ⟨97, _⟩ => ⟨S8192x256, .f32⟩
  | .hbm, ⟨98, _⟩ => ⟨S1x8192x1x64, .f32⟩
  | .hbm, ⟨99, _⟩ => ⟨S1x8192x4x64, .f32⟩
  | .hbm, ⟨100, _⟩ => ⟨S8192x256, .f32⟩
  | .hbm, ⟨101, _⟩ => ⟨S4x2x4096x4x64, .bf16⟩
  | .hbm, ⟨102, _⟩ => ⟨S4x4x2x64x4096, .bf16⟩
  | .hbm, ⟨103, _⟩ => ⟨S4x4x2x16x4096, .i32⟩
  | .hbm, ⟨104, _⟩ => ⟨S_, .i32⟩
  | .hbm, ⟨105, _⟩ => ⟨S4x4x2x16x4096, .i32⟩
  | .hbm, ⟨106, _⟩ => ⟨S4x4x2x16x4096, .i1⟩
  | .hbm, ⟨107, _⟩ => ⟨S_, .f32⟩
  | .hbm, ⟨108, _⟩ => ⟨S_, .f32⟩
  | .hbm, ⟨109, _⟩ => ⟨S4x4x2x16x4096, .f32⟩
  | .hbm, ⟨110, _⟩ => ⟨S4x4x2x16x4096, .f32⟩
  | .hbm, ⟨111, _⟩ => ⟨S4x4x2x16x4096, .f32⟩
  | .hbm, ⟨112, _⟩ => ⟨S4x4x2x16x4096, .bf16⟩
  | .hbm, ⟨113, _⟩ => ⟨S4x4x2x80x4096, .bf16⟩
  | .hbm, ⟨114, _⟩ => ⟨S4x8192x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x1x8192x64, .bf16⟩
  | .local _ .vmem, ⟨3, _⟩ => ⟨S1x1x8192x64, .bf16⟩
  | .local _ .vmem, ⟨4, _⟩ => ⟨S1x1x2x80x4096, .bf16⟩
  | .local _ .vmem, ⟨5, _⟩ => ⟨S1x1x2x80x4096, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S256x256, .bf16⟩
  | .local _ .vmem, ⟨11, _⟩ => ⟨S1x256, .f32⟩
  | .local _ .vmem, ⟨12, _⟩ => ⟨S1x512x256, .bf16⟩
  | .local _ .vmem, ⟨13, _⟩ => ⟨S1x512x256, .bf16⟩
  | .local _ .vmem, ⟨14, _⟩ => ⟨S64x2048, .bf16⟩
  | .local _ .vmem, ⟨15, _⟩ => ⟨S1x2048, .f32⟩
  | .local _ .vmem, ⟨16, _⟩ => ⟨S80x2048, .f32⟩
  | .local _ .vmem, ⟨17, _⟩ => ⟨S4x256x512, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_c_5 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_9 : Ref sig .tc := ⟨.hbm, 104, rfl⟩
abbrev main_v73 : Ref sig .tc := ⟨.hbm, 105, rfl⟩
abbrev main_v74 : Ref sig .tc := ⟨.hbm, 106, rfl⟩
abbrev main_cst_10 : Ref sig .tc := ⟨.hbm, 107, rfl⟩
abbrev main_cst_11 : Ref sig .tc := ⟨.hbm, 108, rfl⟩
abbrev main_call1_v0 : Ref sig .tc := ⟨.hbm, 109, rfl⟩
abbrev main_call1_v1 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 16], ![false, false, false]⟩

def k0_mult1 : BitVec 32 :=
  let c0_i32_28 : BitVec 32 := 0#32
  c0_i32_28
def k0_mult2 : BitVec 32 :=
  let c0_i32_38 : BitVec 32 := 0#32
  c0_i32_38
def k0_mult3 : BitVec 32 :=
  let c0_i32_47 : BitVec 32 := 0#32
  c0_i32_47
def k0_mult4 : BitVec 32 :=
  let c0_i32_56 : BitVec 32 := 0#32
  c0_i32_56
@[reducible] def k0_t1_loop : Scf.Loop 32 :=
  let c0_i32_65 : BitVec 32 := 0#32
  let c2_i32 : BitVec 32 := 2#32
  let v114 : BitVec 32 := Scalar.addi c0_i32_65 c2_i32
  let c1_i32_66 : BitVec 32 := 1#32
  ⟨c0_i32_65, v114, c1_i32_66⟩
def k0_mult5 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32 : BitVec 32 := 4096#32
  let v133 : BitVec 32 := Scalar.muli arg15 c4096_i32
  let c256_i32 : BitVec 32 := 256#32
  let v134 : BitVec 32 := Scalar.addi v133 c256_i32
  v134
def k0_off1 (k0_t1 : Fin k0_t1_loop.trips) (c256_i32 : BitVec 32) : Fin 4 → Nat :=
  let c0_77 : Index := 0#32
  let c0_78 : Index := 0#32
  let c0_i32_65 : BitVec 32 := 0#32
  let c1_i32_66 : BitVec 32 := 1#32
  let arg15 : BitVec 32 := Scf.iv c0_i32_65 c1_i32_66 k0_t1
  let c4096_i32 : BitVec 32 := 4096#32
  let v133 : BitVec 32 := Scalar.muli arg15 c4096_i32
  let v134 : BitVec 32 := Scalar.addi v133 c256_i32
  let v135 : BitVec 32 := v134
  let v136 : Index := Scalar.indexCast v135
  let c0_79 : Index := 0#32
  ![0, 0, v136.toNat, 0]
def k0_off2 (k0_t1 : Fin k0_t1_loop.trips) : Fin 5 → Nat :=
  let c0_86 : Index := 0#32
  let c0_87 : Index := 0#32
  let c0_i32_65 : BitVec 32 := 0#32
  let c1_i32_66 : BitVec 32 := 1#32
  let arg15 : BitVec 32 := Scf.iv c0_i32_65 c1_i32_66 k0_t1
  let v143 : Index := Scalar.indexCast arg15
  let c0_88 : Index := 0#32
  let c0_89 : Index := 0#32
  ![0, 0, v143.toNat, 0, 0]
def k0_mult6 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_100 : BitVec 32 := 4096#32
  let v169 : BitVec 32 := Scalar.muli arg15 c4096_i32_100
  let c256_i32_101 : BitVec 32 := 256#32
  let v170 : BitVec 32 := Scalar.addi v169 c256_i32_101
  v170
def k0_mult7 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_125 : BitVec 32 := 4096#32
  let v205 : BitVec 32 := Scalar.muli arg15 c4096_i32_125
  let c256_i32_126 : BitVec 32 := 256#32
  let v206 : BitVec 32 := Scalar.addi v205 c256_i32_126
  v206
def k0_mult8 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_150 : BitVec 32 := 4096#32
  let v241 : BitVec 32 := Scalar.muli arg15 c4096_i32_150
  let c256_i32_151 : BitVec 32 := 256#32
  let v242 : BitVec 32 := Scalar.addi v241 c256_i32_151
  v242
def k0_mult9 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_175 : BitVec 32 := 4096#32
  let v277 : BitVec 32 := Scalar.muli arg15 c4096_i32_175
  let c512_i32 : BitVec 32 := 512#32
  let v278 : BitVec 32 := Scalar.addi v277 c512_i32
  v278
def k0_off3 (k0_t1 : Fin k0_t1_loop.trips) : Fin 5 → Nat :=
  let c0_182 : Index := 0#32
  let c0_183 : Index := 0#32
  let c0_i32_65 : BitVec 32 := 0#32
  let c1_i32_66 : BitVec 32 := 1#32
  let arg15 : BitVec 32 := Scf.iv c0_i32_65 c1_i32_66 k0_t1
  let v285 : Index := Scalar.indexCast arg15
  let c0_184 : Index := 0#32
  let c256 : Index := 256#32
  ![0, 0, v285.toNat, 0, 256]
def k0_mult10 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_195 : BitVec 32 := 4096#32
  let v311 : BitVec 32 := Scalar.muli arg15 c4096_i32_195
  let c512_i32_196 : BitVec 32 := 512#32
  let v312 : BitVec 32 := Scalar.addi v311 c512_i32_196
  v312
def k0_mult11 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_217 : BitVec 32 := 4096#32
  let v345 : BitVec 32 := Scalar.muli arg15 c4096_i32_217
  let c512_i32_218 : BitVec 32 := 512#32
  let v346 : BitVec 32 := Scalar.addi v345 c512_i32_218
  v346
def k0_mult12 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_239 : BitVec 32 := 4096#32
  let v379 : BitVec 32 := Scalar.muli arg15 c4096_i32_239
  let c512_i32_240 : BitVec 32 := 512#32
  let v380 : BitVec 32 := Scalar.addi v379 c512_i32_240
  v380
def k0_mult13 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_261 : BitVec 32 := 4096#32
  let v413 : BitVec 32 := Scalar.muli arg15 c4096_i32_261
  let c768_i32 : BitVec 32 := 768#32
  let v414 : BitVec 32 := Scalar.addi v413 c768_i32
  v414
def k0_off4 (k0_t1 : Fin k0_t1_loop.trips) : Fin 5 → Nat :=
  let c0_268 : Index := 0#32
  let c0_269 : Index := 0#32
  let c0_i32_65 : BitVec 32 := 0#32
  let c1_i32_66 : BitVec 32 := 1#32
  let arg15 : BitVec 32 := Scf.iv c0_i32_65 c1_i32_66 k0_t1
  let v421 : Index := Scalar.indexCast arg15
  let c0_270 : Index := 0#32
  let c512_271 : Index := 512#32
  ![0, 0, v421.toNat, 0, 512]
def k0_mult14 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_282 : BitVec 32 := 4096#32
  let v447 : BitVec 32 := Scalar.muli arg15 c4096_i32_282
  let c768_i32_283 : BitVec 32 := 768#32
  let v448 : BitVec 32 := Scalar.addi v447 c768_i32_283
  v448
def k0_mult15 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_304 : BitVec 32 := 4096#32
  let v481 : BitVec 32 := Scalar.muli arg15 c4096_i32_304
  let c768_i32_305 : BitVec 32 := 768#32
  let v482 : BitVec 32 := Scalar.addi v481 c768_i32_305
  v482
def k0_mult16 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_326 : BitVec 32 := 4096#32
  let v515 : BitVec 32 := Scalar.muli arg15 c4096_i32_326
  let c768_i32_327 : BitVec 32 := 768#32
  let v516 : BitVec 32 := Scalar.addi v515 c768_i32_327
  v516
def k0_mult17 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_348 : BitVec 32 := 4096#32
  let v549 : BitVec 32 := Scalar.muli arg15 c4096_i32_348
  let c1024_i32 : BitVec 32 := 1024#32
  let v550 : BitVec 32 := Scalar.addi v549 c1024_i32
  v550
def k0_off5 (k0_t1 : Fin k0_t1_loop.trips) : Fin 5 → Nat :=
  let c0_355 : Index := 0#32
  let c0_356 : Index := 0#32
  let c0_i32_65 : BitVec 32 := 0#32
  let c1_i32_66 : BitVec 32 := 1#32
  let arg15 : BitVec 32 := Scf.iv c0_i32_65 c1_i32_66 k0_t1
  let v557 : Index := Scalar.indexCast arg15
  let c0_357 : Index := 0#32
  let c768 : Index := 768#32
  ![0, 0, v557.toNat, 0, 768]
def k0_mult18 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_368 : BitVec 32 := 4096#32
  let v583 : BitVec 32 := Scalar.muli arg15 c4096_i32_368
  let c1024_i32_369 : BitVec 32 := 1024#32
  let v584 : BitVec 32 := Scalar.addi v583 c1024_i32_369
  v584
def k0_mult19 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_390 : BitVec 32 := 4096#32
  let v617 : BitVec 32 := Scalar.muli arg15 c4096_i32_390
  let c1024_i32_391 : BitVec 32 := 1024#32
  let v618 : BitVec 32 := Scalar.addi v617 c1024_i32_391
  v618
def k0_mult20 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_412 : BitVec 32 := 4096#32
  let v651 : BitVec 32 := Scalar.muli arg15 c4096_i32_412
  let c1024_i32_413 : BitVec 32 := 1024#32
  let v652 : BitVec 32 := Scalar.addi v651 c1024_i32_413
  v652
def k0_mult21 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_434 : BitVec 32 := 4096#32
  let v685 : BitVec 32 := Scalar.muli arg15 c4096_i32_434
  let c1280_i32 : BitVec 32 := 1280#32
  let v686 : BitVec 32 := Scalar.addi v685 c1280_i32
  v686
def k0_off6 (k0_t1 : Fin k0_t1_loop.trips) : Fin 5 → Nat :=
  let c0_441 : Index := 0#32
  let c0_442 : Index := 0#32
  let c0_i32_65 : BitVec 32 := 0#32
  let c1_i32_66 : BitVec 32 := 1#32
  let arg15 : BitVec 32 := Scf.iv c0_i32_65 c1_i32_66 k0_t1
  let v693 : Index := Scalar.indexCast arg15
  let c0_443 : Index := 0#32
  let c1024_444 : Index := 1024#32
  ![0, 0, v693.toNat, 0, 1024]
def k0_mult22 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_455 : BitVec 32 := 4096#32
  let v719 : BitVec 32 := Scalar.muli arg15 c4096_i32_455
  let c1280_i32_456 : BitVec 32 := 1280#32
  let v720 : BitVec 32 := Scalar.addi v719 c1280_i32_456
  v720
def k0_mult23 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_477 : BitVec 32 := 4096#32
  let v753 : BitVec 32 := Scalar.muli arg15 c4096_i32_477
  let c1280_i32_478 : BitVec 32 := 1280#32
  let v754 : BitVec 32 := Scalar.addi v753 c1280_i32_478
  v754
def k0_mult24 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_499 : BitVec 32 := 4096#32
  let v787 : BitVec 32 := Scalar.muli arg15 c4096_i32_499
  let c1280_i32_500 : BitVec 32 := 1280#32
  let v788 : BitVec 32 := Scalar.addi v787 c1280_i32_500
  v788
def k0_mult25 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_521 : BitVec 32 := 4096#32
  let v821 : BitVec 32 := Scalar.muli arg15 c4096_i32_521
  let c1536_i32 : BitVec 32 := 1536#32
  let v822 : BitVec 32 := Scalar.addi v821 c1536_i32
  v822
def k0_off7 (k0_t1 : Fin k0_t1_loop.trips) : Fin 5 → Nat :=
  let c0_528 : Index := 0#32
  let c0_529 : Index := 0#32
  let c0_i32_65 : BitVec 32 := 0#32
  let c1_i32_66 : BitVec 32 := 1#32
  let arg15 : BitVec 32 := Scf.iv c0_i32_65 c1_i32_66 k0_t1
  let v829 : Index := Scalar.indexCast arg15
  let c0_530 : Index := 0#32
  let c1280 : Index := 1280#32
  ![0, 0, v829.toNat, 0, 1280]
def k0_mult26 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_541 : BitVec 32 := 4096#32
  let v855 : BitVec 32 := Scalar.muli arg15 c4096_i32_541
  let c1536_i32_542 : BitVec 32 := 1536#32
  let v856 : BitVec 32 := Scalar.addi v855 c1536_i32_542
  v856
def k0_mult27 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_563 : BitVec 32 := 4096#32
  let v889 : BitVec 32 := Scalar.muli arg15 c4096_i32_563
  let c1536_i32_564 : BitVec 32 := 1536#32
  let v890 : BitVec 32 := Scalar.addi v889 c1536_i32_564
  v890
def k0_mult28 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_585 : BitVec 32 := 4096#32
  let v923 : BitVec 32 := Scalar.muli arg15 c4096_i32_585
  let c1536_i32_586 : BitVec 32 := 1536#32
  let v924 : BitVec 32 := Scalar.addi v923 c1536_i32_586
  v924
def k0_mult29 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_607 : BitVec 32 := 4096#32
  let v957 : BitVec 32 := Scalar.muli arg15 c4096_i32_607
  let c1792_i32 : BitVec 32 := 1792#32
  let v958 : BitVec 32 := Scalar.addi v957 c1792_i32
  v958
def k0_off8 (k0_t1 : Fin k0_t1_loop.trips) : Fin 5 → Nat :=
  let c0_614 : Index := 0#32
  let c0_615 : Index := 0#32
  let c0_i32_65 : BitVec 32 := 0#32
  let c1_i32_66 : BitVec 32 := 1#32
  let arg15 : BitVec 32 := Scf.iv c0_i32_65 c1_i32_66 k0_t1
  let v965 : Index := Scalar.indexCast arg15
  let c0_616 : Index := 0#32
  let c1536_617 : Index := 1536#32
  ![0, 0, v965.toNat, 0, 1536]
def k0_mult30 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_628 : BitVec 32 := 4096#32
  let v991 : BitVec 32 := Scalar.muli arg15 c4096_i32_628
  let c1792_i32_629 : BitVec 32 := 1792#32
  let v992 : BitVec 32 := Scalar.addi v991 c1792_i32_629
  v992
def k0_mult31 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_650 : BitVec 32 := 4096#32
  let v1025 : BitVec 32 := Scalar.muli arg15 c4096_i32_650
  let c1792_i32_651 : BitVec 32 := 1792#32
  let v1026 : BitVec 32 := Scalar.addi v1025 c1792_i32_651
  v1026
def k0_mult32 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_672 : BitVec 32 := 4096#32
  let v1059 : BitVec 32 := Scalar.muli arg15 c4096_i32_672
  let c1792_i32_673 : BitVec 32 := 1792#32
  let v1060 : BitVec 32 := Scalar.addi v1059 c1792_i32_673
  v1060
def k0_mult33 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_694 : BitVec 32 := 4096#32
  let v1093 : BitVec 32 := Scalar.muli arg15 c4096_i32_694
  let c2048_i32 : BitVec 32 := 2048#32
  let v1094 : BitVec 32 := Scalar.addi v1093 c2048_i32
  v1094
def k0_off9 (k0_t1 : Fin k0_t1_loop.trips) : Fin 5 → Nat :=
  let c0_701 : Index := 0#32
  let c0_702 : Index := 0#32
  let c0_i32_65 : BitVec 32 := 0#32
  let c1_i32_66 : BitVec 32 := 1#32
  let arg15 : BitVec 32 := Scf.iv c0_i32_65 c1_i32_66 k0_t1
  let v1101 : Index := Scalar.indexCast arg15
  let c0_703 : Index := 0#32
  let c1792 : Index := 1792#32
  ![0, 0, v1101.toNat, 0, 1792]
def k0_mult34 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_714 : BitVec 32 := 4096#32
  let v1127 : BitVec 32 := Scalar.muli arg15 c4096_i32_714
  let c2048_i32_715 : BitVec 32 := 2048#32
  let v1128 : BitVec 32 := Scalar.addi v1127 c2048_i32_715
  v1128
def k0_mult35 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_736 : BitVec 32 := 4096#32
  let v1161 : BitVec 32 := Scalar.muli arg15 c4096_i32_736
  let c2048_i32_737 : BitVec 32 := 2048#32
  let v1162 : BitVec 32 := Scalar.addi v1161 c2048_i32_737
  v1162
def k0_mult36 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_758 : BitVec 32 := 4096#32
  let v1195 : BitVec 32 := Scalar.muli arg15 c4096_i32_758
  let c2048_i32_759 : BitVec 32 := 2048#32
  let v1196 : BitVec 32 := Scalar.addi v1195 c2048_i32_759
  v1196
def k0_mult37 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_780 : BitVec 32 := 4096#32
  let v1229 : BitVec 32 := Scalar.muli arg15 c4096_i32_780
  let c2304_i32 : BitVec 32 := 2304#32
  let v1230 : BitVec 32 := Scalar.addi v1229 c2304_i32
  v1230
def k0_off10 (k0_t1 : Fin k0_t1_loop.trips) : Fin 5 → Nat :=
  let c0_787 : Index := 0#32
  let c0_788 : Index := 0#32
  let c0_i32_65 : BitVec 32 := 0#32
  let c1_i32_66 : BitVec 32 := 1#32
  let arg15 : BitVec 32 := Scf.iv c0_i32_65 c1_i32_66 k0_t1
  let v1237 : Index := Scalar.indexCast arg15
  let c0_789 : Index := 0#32
  let c2048 : Index := 2048#32
  ![0, 0, v1237.toNat, 0, 2048]
def k0_mult38 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_800 : BitVec 32 := 4096#32
  let v1263 : BitVec 32 := Scalar.muli arg15 c4096_i32_800
  let c2304_i32_801 : BitVec 32 := 2304#32
  let v1264 : BitVec 32 := Scalar.addi v1263 c2304_i32_801
  v1264
def k0_mult39 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_822 : BitVec 32 := 4096#32
  let v1297 : BitVec 32 := Scalar.muli arg15 c4096_i32_822
  let c2304_i32_823 : BitVec 32 := 2304#32
  let v1298 : BitVec 32 := Scalar.addi v1297 c2304_i32_823
  v1298
def k0_mult40 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_844 : BitVec 32 := 4096#32
  let v1331 : BitVec 32 := Scalar.muli arg15 c4096_i32_844
  let c2304_i32_845 : BitVec 32 := 2304#32
  let v1332 : BitVec 32 := Scalar.addi v1331 c2304_i32_845
  v1332
def k0_mult41 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_866 : BitVec 32 := 4096#32
  let v1365 : BitVec 32 := Scalar.muli arg15 c4096_i32_866
  let c2560_i32 : BitVec 32 := 2560#32
  let v1366 : BitVec 32 := Scalar.addi v1365 c2560_i32
  v1366
def k0_off11 (k0_t1 : Fin k0_t1_loop.trips) : Fin 5 → Nat :=
  let c0_873 : Index := 0#32
  let c0_874 : Index := 0#32
  let c0_i32_65 : BitVec 32 := 0#32
  let c1_i32_66 : BitVec 32 := 1#32
  let arg15 : BitVec 32 := Scf.iv c0_i32_65 c1_i32_66 k0_t1
  let v1373 : Index := Scalar.indexCast arg15
  let c0_875 : Index := 0#32
  let c2304 : Index := 2304#32
  ![0, 0, v1373.toNat, 0, 2304]
def k0_mult42 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_886 : BitVec 32 := 4096#32
  let v1399 : BitVec 32 := Scalar.muli arg15 c4096_i32_886
  let c2560_i32_887 : BitVec 32 := 2560#32
  let v1400 : BitVec 32 := Scalar.addi v1399 c2560_i32_887
  v1400
def k0_mult43 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_908 : BitVec 32 := 4096#32
  let v1433 : BitVec 32 := Scalar.muli arg15 c4096_i32_908
  let c2560_i32_909 : BitVec 32 := 2560#32
  let v1434 : BitVec 32 := Scalar.addi v1433 c2560_i32_909
  v1434
def k0_mult44 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_930 : BitVec 32 := 4096#32
  let v1467 : BitVec 32 := Scalar.muli arg15 c4096_i32_930
  let c2560_i32_931 : BitVec 32 := 2560#32
  let v1468 : BitVec 32 := Scalar.addi v1467 c2560_i32_931
  v1468
def k0_mult45 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_952 : BitVec 32 := 4096#32
  let v1501 : BitVec 32 := Scalar.muli arg15 c4096_i32_952
  let c2816_i32 : BitVec 32 := 2816#32
  let v1502 : BitVec 32 := Scalar.addi v1501 c2816_i32
  v1502
def k0_off12 (k0_t1 : Fin k0_t1_loop.trips) : Fin 5 → Nat :=
  let c0_959 : Index := 0#32
  let c0_960 : Index := 0#32
  let c0_i32_65 : BitVec 32 := 0#32
  let c1_i32_66 : BitVec 32 := 1#32
  let arg15 : BitVec 32 := Scf.iv c0_i32_65 c1_i32_66 k0_t1
  let v1509 : Index := Scalar.indexCast arg15
  let c0_961 : Index := 0#32
  let c2560 : Index := 2560#32
  ![0, 0, v1509.toNat, 0, 2560]
def k0_mult46 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_972 : BitVec 32 := 4096#32
  let v1535 : BitVec 32 := Scalar.muli arg15 c4096_i32_972
  let c2816_i32_973 : BitVec 32 := 2816#32
  let v1536 : BitVec 32 := Scalar.addi v1535 c2816_i32_973
  v1536
def k0_mult47 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_994 : BitVec 32 := 4096#32
  let v1569 : BitVec 32 := Scalar.muli arg15 c4096_i32_994
  let c2816_i32_995 : BitVec 32 := 2816#32
  let v1570 : BitVec 32 := Scalar.addi v1569 c2816_i32_995
  v1570
def k0_mult48 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1016 : BitVec 32 := 4096#32
  let v1603 : BitVec 32 := Scalar.muli arg15 c4096_i32_1016
  let c2816_i32_1017 : BitVec 32 := 2816#32
  let v1604 : BitVec 32 := Scalar.addi v1603 c2816_i32_1017
  v1604
def k0_mult49 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1038 : BitVec 32 := 4096#32
  let v1637 : BitVec 32 := Scalar.muli arg15 c4096_i32_1038
  let c3072_i32 : BitVec 32 := 3072#32
  let v1638 : BitVec 32 := Scalar.addi v1637 c3072_i32
  v1638
def k0_off13 (k0_t1 : Fin k0_t1_loop.trips) : Fin 5 → Nat :=
  let c0_1045 : Index := 0#32
  let c0_1046 : Index := 0#32
  let c0_i32_65 : BitVec 32 := 0#32
  let c1_i32_66 : BitVec 32 := 1#32
  let arg15 : BitVec 32 := Scf.iv c0_i32_65 c1_i32_66 k0_t1
  let v1645 : Index := Scalar.indexCast arg15
  let c0_1047 : Index := 0#32
  let c2816 : Index := 2816#32
  ![0, 0, v1645.toNat, 0, 2816]
def k0_mult50 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1058 : BitVec 32 := 4096#32
  let v1671 : BitVec 32 := Scalar.muli arg15 c4096_i32_1058
  let c3072_i32_1059 : BitVec 32 := 3072#32
  let v1672 : BitVec 32 := Scalar.addi v1671 c3072_i32_1059
  v1672
def k0_mult51 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1080 : BitVec 32 := 4096#32
  let v1705 : BitVec 32 := Scalar.muli arg15 c4096_i32_1080
  let c3072_i32_1081 : BitVec 32 := 3072#32
  let v1706 : BitVec 32 := Scalar.addi v1705 c3072_i32_1081
  v1706
def k0_mult52 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1102 : BitVec 32 := 4096#32
  let v1739 : BitVec 32 := Scalar.muli arg15 c4096_i32_1102
  let c3072_i32_1103 : BitVec 32 := 3072#32
  let v1740 : BitVec 32 := Scalar.addi v1739 c3072_i32_1103
  v1740
def k0_mult53 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1124 : BitVec 32 := 4096#32
  let v1773 : BitVec 32 := Scalar.muli arg15 c4096_i32_1124
  let c3328_i32 : BitVec 32 := 3328#32
  let v1774 : BitVec 32 := Scalar.addi v1773 c3328_i32
  v1774
def k0_off14 (k0_t1 : Fin k0_t1_loop.trips) : Fin 5 → Nat :=
  let c0_1131 : Index := 0#32
  let c0_1132 : Index := 0#32
  let c0_i32_65 : BitVec 32 := 0#32
  let c1_i32_66 : BitVec 32 := 1#32
  let arg15 : BitVec 32 := Scf.iv c0_i32_65 c1_i32_66 k0_t1
  let v1781 : Index := Scalar.indexCast arg15
  let c0_1133 : Index := 0#32
  let c3072 : Index := 3072#32
  ![0, 0, v1781.toNat, 0, 3072]
def k0_mult54 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1144 : BitVec 32 := 4096#32
  let v1807 : BitVec 32 := Scalar.muli arg15 c4096_i32_1144
  let c3328_i32_1145 : BitVec 32 := 3328#32
  let v1808 : BitVec 32 := Scalar.addi v1807 c3328_i32_1145
  v1808
def k0_mult55 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1166 : BitVec 32 := 4096#32
  let v1841 : BitVec 32 := Scalar.muli arg15 c4096_i32_1166
  let c3328_i32_1167 : BitVec 32 := 3328#32
  let v1842 : BitVec 32 := Scalar.addi v1841 c3328_i32_1167
  v1842
def k0_mult56 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1188 : BitVec 32 := 4096#32
  let v1875 : BitVec 32 := Scalar.muli arg15 c4096_i32_1188
  let c3328_i32_1189 : BitVec 32 := 3328#32
  let v1876 : BitVec 32 := Scalar.addi v1875 c3328_i32_1189
  v1876
def k0_mult57 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1210 : BitVec 32 := 4096#32
  let v1909 : BitVec 32 := Scalar.muli arg15 c4096_i32_1210
  let c3584_i32 : BitVec 32 := 3584#32
  let v1910 : BitVec 32 := Scalar.addi v1909 c3584_i32
  v1910
def k0_off15 (k0_t1 : Fin k0_t1_loop.trips) : Fin 5 → Nat :=
  let c0_1217 : Index := 0#32
  let c0_1218 : Index := 0#32
  let c0_i32_65 : BitVec 32 := 0#32
  let c1_i32_66 : BitVec 32 := 1#32
  let arg15 : BitVec 32 := Scf.iv c0_i32_65 c1_i32_66 k0_t1
  let v1917 : Index := Scalar.indexCast arg15
  let c0_1219 : Index := 0#32
  let c3328 : Index := 3328#32
  ![0, 0, v1917.toNat, 0, 3328]
def k0_mult58 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1230 : BitVec 32 := 4096#32
  let v1943 : BitVec 32 := Scalar.muli arg15 c4096_i32_1230
  let c3584_i32_1231 : BitVec 32 := 3584#32
  let v1944 : BitVec 32 := Scalar.addi v1943 c3584_i32_1231
  v1944
def k0_mult59 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1252 : BitVec 32 := 4096#32
  let v1977 : BitVec 32 := Scalar.muli arg15 c4096_i32_1252
  let c3584_i32_1253 : BitVec 32 := 3584#32
  let v1978 : BitVec 32 := Scalar.addi v1977 c3584_i32_1253
  v1978
def k0_mult60 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1274 : BitVec 32 := 4096#32
  let v2011 : BitVec 32 := Scalar.muli arg15 c4096_i32_1274
  let c3584_i32_1275 : BitVec 32 := 3584#32
  let v2012 : BitVec 32 := Scalar.addi v2011 c3584_i32_1275
  v2012
def k0_mult61 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1296 : BitVec 32 := 4096#32
  let v2045 : BitVec 32 := Scalar.muli arg15 c4096_i32_1296
  let c3840_i32 : BitVec 32 := 3840#32
  let v2046 : BitVec 32 := Scalar.addi v2045 c3840_i32
  v2046
def k0_off16 (k0_t1 : Fin k0_t1_loop.trips) : Fin 5 → Nat :=
  let c0_1303 : Index := 0#32
  let c0_1304 : Index := 0#32
  let c0_i32_65 : BitVec 32 := 0#32
  let c1_i32_66 : BitVec 32 := 1#32
  let arg15 : BitVec 32 := Scf.iv c0_i32_65 c1_i32_66 k0_t1
  let v2053 : Index := Scalar.indexCast arg15
  let c0_1305 : Index := 0#32
  let c3584 : Index := 3584#32
  ![0, 0, v2053.toNat, 0, 3584]
def k0_mult62 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1316 : BitVec 32 := 4096#32
  let v2079 : BitVec 32 := Scalar.muli arg15 c4096_i32_1316
  let c3840_i32_1317 : BitVec 32 := 3840#32
  let v2080 : BitVec 32 := Scalar.addi v2079 c3840_i32_1317
  v2080
def k0_mult63 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1338 : BitVec 32 := 4096#32
  let v2113 : BitVec 32 := Scalar.muli arg15 c4096_i32_1338
  let c3840_i32_1339 : BitVec 32 := 3840#32
  let v2114 : BitVec 32 := Scalar.addi v2113 c3840_i32_1339
  v2114
def k0_mult64 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c4096_i32_1360 : BitVec 32 := 4096#32
  let v2147 : BitVec 32 := Scalar.muli arg15 c4096_i32_1360
  let c3840_i32_1361 : BitVec 32 := 3840#32
  let v2148 : BitVec 32 := Scalar.addi v2147 c3840_i32_1361
  v2148
def k0_off17 (k0_t1 : Fin k0_t1_loop.trips) : Fin 5 → Nat :=
  let c0_1382 : Index := 0#32
  let c0_1383 : Index := 0#32
  let c0_i32_65 : BitVec 32 := 0#32
  let c1_i32_66 : BitVec 32 := 1#32
  let arg15 : BitVec 32 := Scf.iv c0_i32_65 c1_i32_66 k0_t1
  let v2181 : Index := Scalar.indexCast arg15
  let c0_1384 : Index := 0#32
  let c3840 : Index := 3840#32
  ![0, 0, v2181.toNat, 0, 3840]
def k0_mult65 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c1_i32_75 : BitVec 32 := 1#32
  let v131 : BitVec 32 := Scalar.addi arg15 c1_i32_75
  let c1_i32_76 : BitVec 32 := 1#32
  let v132 : BitVec 32 := Scalar.minsi v131 c1_i32_76
  let c4096_i32_1395 : BitVec 32 := 4096#32
  let v2207 : BitVec 32 := Scalar.muli v132 c4096_i32_1395
  let c0_i32_1396 : BitVec 32 := 0#32
  let v2208 : BitVec 32 := Scalar.addi v2207 c0_i32_1396
  v2208
def k0_off18 (k0_t1 : Fin k0_t1_loop.trips) : Fin 4 → Nat :=
  let c0_1397 : Index := 0#32
  let c0_1398 : Index := 0#32
  let c0_i32_65 : BitVec 32 := 0#32
  let c1_i32_66 : BitVec 32 := 1#32
  let arg15 : BitVec 32 := Scf.iv c0_i32_65 c1_i32_66 k0_t1
  let c1_i32_75 : BitVec 32 := 1#32
  let v131 : BitVec 32 := Scalar.addi arg15 c1_i32_75
  let c1_i32_76 : BitVec 32 := 1#32
  let v132 : BitVec 32 := Scalar.minsi v131 c1_i32_76
  let c4096_i32_1395 : BitVec 32 := 4096#32
  let v2207 : BitVec 32 := Scalar.muli v132 c4096_i32_1395
  let c0_i32_1396 : BitVec 32 := 0#32
  let v2208 : BitVec 32 := Scalar.addi v2207 c0_i32_1396
  let v2209 : BitVec 32 := v2208
  let v2210 : Index := Scalar.indexCast v2209
  let c0_1399 : Index := 0#32
  ![0, 0, v2210.toNat, 0]
def k0_mult66 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c1_i32_75 : BitVec 32 := 1#32
  let v131 : BitVec 32 := Scalar.addi arg15 c1_i32_75
  let c1_i32_76 : BitVec 32 := 1#32
  let v132 : BitVec 32 := Scalar.minsi v131 c1_i32_76
  let c4096_i32_1420 : BitVec 32 := 4096#32
  let v2244 : BitVec 32 := Scalar.muli v132 c4096_i32_1420
  let c0_i32_1421 : BitVec 32 := 0#32
  let v2245 : BitVec 32 := Scalar.addi v2244 c0_i32_1421
  v2245
def k0_mult67 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c1_i32_75 : BitVec 32 := 1#32
  let v131 : BitVec 32 := Scalar.addi arg15 c1_i32_75
  let c1_i32_76 : BitVec 32 := 1#32
  let v132 : BitVec 32 := Scalar.minsi v131 c1_i32_76
  let c4096_i32_1445 : BitVec 32 := 4096#32
  let v2281 : BitVec 32 := Scalar.muli v132 c4096_i32_1445
  let c0_i32_1446 : BitVec 32 := 0#32
  let v2282 : BitVec 32 := Scalar.addi v2281 c0_i32_1446
  v2282
def k0_mult68 (k0_t1 : Fin k0_t1_loop.trips) : BitVec 32 :=
  let c0_i32_65 : BitVec 32 := 0#32
  let c1_i32_66 : BitVec 32 := 1#32
  let arg15 : BitVec 32 := Scf.iv c0_i32_65 c1_i32_66 k0_t1
  let c1_i32_75 : BitVec 32 := 1#32
  let v131 : BitVec 32 := Scalar.addi arg15 c1_i32_75
  let c1_i32_76 : BitVec 32 := 1#32
  let v132 : BitVec 32 := Scalar.minsi v131 c1_i32_76
  let c4096_i32_1470 : BitVec 32 := 4096#32
  let v2318 : BitVec 32 := Scalar.muli v132 c4096_i32_1470
  let c0_i32_1471 : BitVec 32 := 0#32
  let v2319 : BitVec 32 := Scalar.addi v2318 c0_i32_1471
  v2319
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x80x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S4x8192x1024 : Shape := ⟨3, ![4, 8192, 1024]⟩
abbrev S4x4x8192x64 : Shape := ⟨4, ![4, 4, 8192, 64]⟩
abbrev S4x8192x256 : Shape := ⟨3, ![4, 8192, 256]⟩
abbrev S1x64 : Shape := ⟨2, ![1, 64]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S4x8192x4x4x64 : Shape := ⟨5, ![4, 8192, 4, 4, 64]⟩
abbrev S4x8192x4x64 : Shape := ⟨4, ![4, 8192, 4, 64]⟩
abbrev S1x32 : Shape := ⟨2, ![1, 32]⟩
abbrev S32 : Shape := ⟨1, ![32]⟩
abbrev S4x8192x4x4 : Shape := ⟨4, ![4, 8192, 4, 4]⟩
abbrev S4x8192x4x4x1 : Shape := ⟨5, ![4, 8192, 4, 4, 1]⟩
abbrev S1x1x1x1x64 : Shape := ⟨5, ![1, 1, 1, 1, 64]⟩
abbrev S1x8192x1x1x32 : Shape := ⟨5, ![1, 8192, 1, 1, 32]⟩
abbrev S4x8192x4x4x32 : Shape := ⟨5, ![4, 8192, 4, 4, 32]⟩
abbrev S4x4x8192x8192x4 : Shape := ⟨5, ![4, 4, 8192, 8192, 4]⟩
abbrev S4x4x4x8192x8192 : Shape := ⟨5, ![4, 4, 4, 8192, 8192]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩

abbrev nBuf : Space → Nat
  | .hbm => 102
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x4x8192x64, .bf16⟩
  | .hbm, ⟨2, _⟩ => ⟨S4x8192x256, .bf16⟩
  | .hbm, ⟨3, _⟩ => ⟨S1x64, .f32⟩
  | .hbm, ⟨4, _⟩ => ⟨S128, .f32⟩
  | .hbm, ⟨5, _⟩ => ⟨S128x64, .f32⟩
  | .hbm, ⟨6, _⟩ => ⟨S8192, .f32⟩
  | .hbm, ⟨7, _⟩ => ⟨S64, .f32⟩
  | .hbm, ⟨8, _⟩ => ⟨S1x64, .f32⟩
  | .hbm, ⟨9, _⟩ => ⟨S128x64, .f32⟩
  | .hbm, ⟨10, _⟩ => ⟨S8192, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x1, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S4x8192x1024, .f32⟩
  | .hbm, ⟨39, _⟩ => ⟨S4x8192x4x4x64, .f32⟩
  | .hbm, ⟨40, _⟩ => ⟨S4x4x8192x64, .f32⟩
  | .hbm, ⟨41, _⟩ => ⟨S4x8192x256, .f32⟩
  | .hbm, ⟨42, _⟩ => ⟨S4x8192x4x64, .f32⟩
  | .hbm, ⟨43, _⟩ => ⟨S1x32, .f32⟩
  | .hbm, ⟨44, _⟩ => ⟨S32, .f32⟩
  | .hbm, ⟨45, _⟩ => ⟨S1x32, .f32⟩
  | .hbm, ⟨46, _⟩ => ⟨S32, .f32⟩
  | .hbm, ⟨47, _⟩ => ⟨S64, .f32⟩
  | .hbm, ⟨48, _⟩ => ⟨S4x8192x4x4x64, .f32⟩
  | .hbm, ⟨49, _⟩ => ⟨S_, .f32⟩
  | .hbm, ⟨50, _⟩ => ⟨S4x8192x4x4, .f32⟩
  | .hbm, ⟨51, _⟩ => ⟨S4x8192x4x4x1, .f32⟩
  | .hbm, ⟨52, _⟩ => ⟨S_, .f32⟩
  | .hbm, ⟨53, _⟩ => ⟨S4x8192x4x4x1, .f32⟩
  | .hbm, ⟨54, _⟩ => ⟨S4x8192x4x4x1, .f32⟩
  | .hbm, ⟨55, _⟩ => ⟨S_, .f32⟩
  | .hbm, ⟨56, _⟩ => ⟨S4x8192x4x4x1, .f32⟩
  | .hbm, ⟨57, _⟩ => ⟨S4x8192x4x4x1, .f32⟩
  | .hbm, ⟨58, _⟩ => ⟨S4x8192x4x4x1, .f32⟩
  | .hbm, ⟨59, _⟩ => ⟨S4x8192x4x4x64, .f32⟩
  | .hbm, ⟨60, _⟩ => ⟨S4x8192x4x4x64, .f32⟩
  | .hbm, ⟨61, _⟩ => ⟨S1x1x1x1x64, .f32⟩
  | .hbm, ⟨62, _⟩ => ⟨S4x8192x4x4x64, .f32⟩
  | .hbm, ⟨63, _⟩ => ⟨S4x8192x4x4x64, .f32⟩
  | .hbm, ⟨64, _⟩ => ⟨S1x8192x1x1x32, .f32⟩
  | .hbm, ⟨65, _⟩ => ⟨S1x8192x1x1x32, .f32⟩
  | .hbm, ⟨66, _⟩ => ⟨S4x8192x4x4x32, .f32⟩
  | .hbm, ⟨67, _⟩ => ⟨S4x8192x4x4x32, .f32⟩
  | .hbm, ⟨68, _⟩ => ⟨S4x8192x4x4x32, .f32⟩
  | .hbm, ⟨69, _⟩ => ⟨S4x8192x4x4x32, .f32⟩
  | .hbm, ⟨70, _⟩ => ⟨S4x8192x4x4x32, .f32⟩
  | .hbm, ⟨71, _⟩ => ⟨S4x8192x4x4x32, .f32⟩
  | .hbm, ⟨72, _⟩ => ⟨S4x8192x4x4x32, .f32⟩
  | .hbm, ⟨73, _⟩ => ⟨S4x8192x4x4x32, .f32⟩
  | .hbm, ⟨74, _⟩ => ⟨S4x8192x4x4x32, .f32⟩
  | .hbm, ⟨75, _⟩ => ⟨S4x8192x4x4x32, .f32⟩
  | .hbm, ⟨76, _⟩ => ⟨S4x8192x4x4x32, .f32⟩
  | .hbm, ⟨77, _⟩ => ⟨S4x8192x4x4x32, .f32⟩
  | .hbm, ⟨78, _⟩ => ⟨S4x8192x4x4x64, .f32⟩
  | .hbm, ⟨79, _⟩ => ⟨S4x4x8192x8192x4, .f32⟩
  | .hbm, ⟨80, _⟩ => ⟨S4x4x4x8192x8192, .f32⟩
  | .hbm, ⟨81, _⟩ => ⟨S_, .f32⟩
  | .hbm, ⟨82, _⟩ => ⟨S4x4x4x8192x8192, .f32⟩
  | .hbm, ⟨83, _⟩ => ⟨S4x4x4x8192x8192, .f32⟩
  | .hbm, ⟨84, _⟩ => ⟨S_, .f32⟩
  | .hbm, ⟨85, _⟩ => ⟨S4x4x4x8192, .f32⟩
  | .hbm, ⟨86, _⟩ => ⟨S_, .f32⟩
  | .hbm, ⟨87, _⟩ => ⟨S4x4x4x8192, .f32⟩
  | .hbm, ⟨88, _⟩ => ⟨S4x4x4x8192, .f32⟩
  | .hbm, ⟨89, _⟩ => ⟨S4x4x4x8192x1, .f32⟩
  | .hbm, ⟨90, _⟩ => ⟨S4x4x4x8192x8192, .f32⟩
  | .hbm, ⟨91, _⟩ => ⟨S4x4x4x8192x8192, .f32⟩
  | .hbm, ⟨92, _⟩ => ⟨S4x4x4x8192x8192, .f32⟩
  | .hbm, ⟨93, _⟩ => ⟨S_, .f32⟩
  | .hbm, ⟨94, _⟩ => ⟨S4x4x4x8192, .f32⟩
  | .hbm, ⟨95, _⟩ => ⟨S4x4x4x8192x1, .f32⟩
  | .hbm, ⟨96, _⟩ => ⟨S4x4x4x8192x8192, .f32⟩
  | .hbm, ⟨97, _⟩ => ⟨S4x4x4x8192x8192, .f32⟩
  | .hbm, ⟨98, _⟩ => ⟨S4x4x64x4x8192, .f32⟩
  | .hbm, ⟨99, _⟩ => ⟨S4x8192x4x4x64, .f32⟩
  | .hbm, ⟨100, _⟩ => ⟨S4x8192x1024, .f32⟩
  | .hbm, ⟨101, _⟩ => ⟨S4x8192x1024, .bf16⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_6 : Ref sig .tc := ⟨.hbm, 81, rfl⟩
abbrev main_v70 : Ref sig .tc := ⟨.hbm, 82, rfl⟩
abbrev main_v71 : Ref sig .tc := ⟨.hbm, 83, rfl⟩
abbrev main_cst_7 : Ref sig .tc := ⟨.hbm, 84, rfl⟩
abbrev main_v72 : Ref sig .tc := ⟨.hbm, 85, rfl⟩
abbrev main_cst_8 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_9 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1x1024x8768 : Shape := ⟨3, ![1, 1024, 8768]⟩
abbrev S32 : Shape := ⟨1, ![32]⟩
abbrev S_ : Shape := ⟨0, ![]⟩
abbrev S64 : Shape := ⟨1, ![64]⟩
abbrev S1024x8768 : Shape := ⟨2, ![1024, 8768]⟩
abbrev S1024x1024 : Shape := ⟨2, ![1024, 1024]⟩
abbrev S1024x256 : Shape := ⟨2, ![1024, 256]⟩
abbrev S1024x2048 : Shape := ⟨2, ![1024, 2048]⟩
abbrev S1024x3072 : Shape := ⟨2, ![1024, 3072]⟩
abbrev S1024x64 : Shape := ⟨2, ![1024, 64]⟩
abbrev S1024x16x64 : Shape := ⟨3, ![1024, 16, 64]⟩
abbrev S64x1 : Shape := ⟨2, ![64, 1]⟩
abbrev S1024x4x64 : Shape := ⟨3, ![1024, 4, 64]⟩
abbrev S1024x32 : Shape := ⟨2, ![1024, 32]⟩
abbrev S1024x8960 : Shape := ⟨2, ![1024, 8960]⟩
abbrev S1024 : Shape := ⟨1, ![1024]⟩
abbrev S32768x256 : Shape := ⟨2, ![32768, 256]⟩
abbrev S32768x2048 : Shape := ⟨2, ![32768, 2048]⟩
abbrev S32768x3072 : Shape := ⟨2, ![32768, 3072]⟩
abbrev S512x1024 : Shape := ⟨2, ![512, 1024]⟩
abbrev S512x256 : Shape := ⟨2, ![512, 256]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 62
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x8768, .f32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S64, .i32⟩
  | .hbm, ⟨18, _⟩ => ⟨S1024x8768, .f32⟩
  | .hbm, ⟨19, _⟩ => ⟨S1024x1024, .f32⟩
  | .hbm, ⟨20, _⟩ => ⟨S1024x256, .f32⟩
  | .hbm, ⟨21, _⟩ => ⟨S1024x256, .f32⟩
  | .hbm, ⟨22, _⟩ => ⟨S1024x2048, .f32⟩
  | .hbm, ⟨23, _⟩ => ⟨S1024x3072, .f32⟩
  | .hbm, ⟨24, _⟩ => ⟨S1024x64, .f32⟩
  | .hbm, ⟨25, _⟩ => ⟨S1024x2048, .f32⟩
  | .hbm, ⟨26, _⟩ => ⟨S1024x16x64, .f32⟩
  | .hbm, ⟨27, _⟩ => ⟨S_, .i32⟩
  | .hbm, ⟨28, _⟩ => ⟨S64, .i32⟩
  | .hbm, ⟨29, _⟩ => ⟨S64, .i1⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S64, .i32⟩
  | .hbm, ⟨34, _⟩ => ⟨S64x1, .i32⟩
  | .hbm, ⟨35, _⟩ => ⟨S1024x16x64, .f32⟩
  | .hbm, ⟨36, _⟩ => ⟨S1024x1024, .f32⟩
  | .hbm, ⟨37, _⟩ => ⟨S1024x4x64, .f32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S64x1, .i32⟩
  | .hbm, ⟨46, _⟩ => ⟨S1024x4x64, .f32⟩
  | .hbm, ⟨47, _⟩ => ⟨S1024x256, .f32⟩
  | .hbm, ⟨48, _⟩ => ⟨S1024x32, .f32⟩
  | .hbm, ⟨49, _⟩ => ⟨S1024x32, .f32⟩
  | .hbm, ⟨50, _⟩ => ⟨S1024x256, .f32⟩
  | .hbm, ⟨51, _⟩ => ⟨S1024x8960, .f32⟩
  | .hbm, ⟨52, _⟩ => ⟨S1024x8960, .bf16⟩
  | .hbm, ⟨53, _⟩ => ⟨S1024, .f32⟩
  | .hbm, ⟨54, _⟩ => ⟨S1x1024, .f32⟩
  | .hbm, ⟨55, _⟩ => ⟨S32768x1024, .bf16⟩
  | .hbm, ⟨56, _⟩ => ⟨S32768x256, .bf16⟩
  | .hbm, ⟨57, _⟩ => ⟨S32768x256, .bf16⟩
  | .hbm, ⟨58, _⟩ => ⟨S32768x2048, .bf16⟩
  | .hbm, ⟨59, _⟩ => ⟨S32768x3072, .bf16⟩
  | .hbm, ⟨60, _⟩ => ⟨S32768x2048, .bf16⟩
  | .hbm, ⟨61, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x8960, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x2048, .bf16⟩
  | .local _ .vmem, ⟨11, _⟩ => ⟨S512x2048, .bf16⟩
  | .local _ .vmem, ⟨12, _⟩ => ⟨S512x3072, .bf16⟩
  | .local _ .vmem, ⟨13, _⟩ => ⟨S512x3072, .bf16⟩
  | .local _ .vmem, ⟨14, _⟩ => ⟨S512x2048, .bf16⟩
  | .local _ .vmem, ⟨15, _⟩ => ⟨S512x2048, .bf16⟩
  | .local _ .vmem, ⟨16, _⟩ => ⟨S512x256, .f32⟩
  | .local _ .vmem, ⟨17, _⟩ => ⟨S512x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev main_v44_3 : Ref sig .tc := ⟨.hbm, 58, rfl⟩
abbrev main_v44_4 : Ref sig .tc := ⟨.hbm, 59, rfl⟩
abbrev main_v44_5 : Ref sig .tc := ⟨.hbm, 60, rfl⟩
abbrev main_v44_6 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S1x1024 : Shape := ⟨2, ![1, 1024]⟩
abbrev S1x1024x8768 : Shape := ⟨3, ![1, 1024, 8768]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x8768 : Shape := ⟨2, ![1024, 8768]⟩
abbrev S32768x8768 : Shape := ⟨2, ![32768, 8768]⟩
abbrev S32768x256 : Shape := ⟨2, ![32768, 256]⟩
abbrev S32768x2048 : Shape := ⟨2, ![32768, 2048]⟩
abbrev S32768x3072 : Shape := ⟨2, ![32768, 3072]⟩
abbrev S32768x64 : Shape := ⟨2, ![32768, 64]⟩
abbrev S32768x2x1x32 : Shape := ⟨4, ![32768, 2, 1, 32]⟩
abbrev S1x32768x1x2x1x1x1x32 : Shape := ⟨8, ![1, 32768, 1, 2, 1, 1, 1, 32]⟩
abbrev S1x32768x1x2x4x1x1x32 : Shape := ⟨8, ![1, 32768, 1, 2, 4, 1, 1, 32]⟩
abbrev S32768x2x4x32 : Shape := ⟨4, ![32768, 2, 4, 32]⟩
abbrev S32768x16x64 : Shape := ⟨3, ![32768, 16, 64]⟩
abbrev S32768x16x32 : Shape := ⟨3, ![32768, 16, 32]⟩
abbrev S32768x4x64 : Shape := ⟨3, ![32768, 4, 64]⟩
abbrev S32768x4x32 : Shape := ⟨3, ![32768, 4, 32]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x8768, .f32⟩
  | .hbm, ⟨3, _⟩ => ⟨S1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S1024x8768, .f32⟩
  | .hbm, ⟨21, _⟩ => ⟨S32768x8768, .f32⟩
  | .hbm, ⟨22, _⟩ => ⟨S32768x1024, .f32⟩
  | .hbm, ⟨23, _⟩ => ⟨S32768x256, .f32⟩
  | .hbm, ⟨24, _⟩ => ⟨S32768x256, .f32⟩
  | .hbm, ⟨25, _⟩ => ⟨S32768x2048, .f32⟩
  | .hbm, ⟨26, _⟩ => ⟨S32768x3072, .f32⟩
  | .hbm, ⟨27, _⟩ => ⟨S32768x64, .f32⟩
  | .hbm, ⟨28, _⟩ => ⟨S32768x2048, .f32⟩
  | .hbm, ⟨29, _⟩ => ⟨S32768x2x1x32, .f32⟩
  | .hbm, ⟨30, _⟩ => ⟨S1x32768x1x2x1x1x1x32, .f32⟩
  | .hbm, ⟨31, _⟩ => ⟨S1x32768x1x2x4x1x1x32, .f32⟩
  | .hbm, ⟨32, _⟩ => ⟨S32768x2x4x32, .f32⟩
  | .hbm, ⟨33, _⟩ => ⟨S32768x256, .f32⟩
  | .hbm, ⟨34, _⟩ => ⟨S32768x16x64, .f32⟩
  | .hbm, ⟨35, _⟩ => ⟨S32768x16x32, .f32⟩
  | .hbm, ⟨36, _⟩ => ⟨S32768x16x32, .f32⟩
  | .hbm, ⟨37, _⟩ => ⟨S32768x16x64, .f32⟩
  | .hbm, ⟨38, _⟩ => ⟨S32768x1024, .f32⟩
  | .hbm, ⟨39, _⟩ => ⟨S32768x1024, .bf16⟩
  | .hbm, ⟨40, _⟩ => ⟨S32768x4x64, .f32⟩
  | .hbm, ⟨41, _⟩ => ⟨S32768x4x32, .f32⟩
  | .hbm, ⟨42, _⟩ => ⟨S32768x4x32, .f32⟩
  | .hbm, ⟨43, _⟩ => ⟨S32768x4x64, .f32⟩
  | .hbm, ⟨44, _⟩ => ⟨S32768x256, .f32⟩
  | .hbm, ⟨45, _⟩ => ⟨S32768x256, .bf16⟩
  | .hbm, ⟨46, _⟩ => ⟨S32768x256, .bf16⟩
  | .hbm, ⟨47, _⟩ => ⟨S32768x2048, .bf16⟩
  | .hbm, ⟨48, _⟩ => ⟨S32768x3072, .bf16⟩
  | .hbm, ⟨49, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S1x2048 : Shape := ⟨2, ![1, 2048]⟩
abbrev S1x1024x1024 : Shape := ⟨3, ![1, 1024, 1024]⟩
abbrev S1x2048x1024 : Shape := ⟨3, ![1, 2048, 1024]⟩
abbrev S1x1024 : Shape := ⟨2, ![1, 1024]⟩
abbrev S2048 : Shape := ⟨1, ![2048]⟩
abbrev S1024x1024 : Shape := ⟨2, ![1024, 1024]⟩
abbrev S2048x1024 : Shape := ⟨2, ![2048, 1024]⟩
abbrev S1024 : Shape := ⟨1, ![1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S32768x2048, .bf16⟩
  | .hbm, ⟨4, _⟩ => ⟨S1x2048, .f32⟩
  | .hbm, ⟨5, _⟩ => ⟨S1x1024x1024, .f32⟩
  | .hbm, ⟨6, _⟩ => ⟨S1x2048x1024, .f32⟩
  | .hbm, ⟨7, _⟩ => ⟨S1x1024x1024, .f32⟩
  | .hbm, ⟨8, _⟩ => ⟨S1x1024, .f32⟩
  | .hbm, ⟨9, _⟩ => ⟨S2048, .f32⟩
  | .hbm, ⟨10, _⟩ => ⟨S1x2048, .f32⟩
  | .hbm, ⟨11, _⟩ => ⟨S1024x1024, .f32⟩
  | .hbm, ⟨12, _⟩ => ⟨S1024x1024, .bf16⟩
  | .hbm, ⟨13, _⟩ => ⟨S2048x1024, .f32⟩
  | .hbm, ⟨14, _⟩ => ⟨S2048x1024, .bf16⟩
  | .hbm, ⟨15, _⟩ => ⟨S1024x1024, .f32⟩
  | .hbm, ⟨16, _⟩ => ⟨S1024x1024, .bf16⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1024x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x1024 : Shape := ⟨2, ![32768, 1024]⟩
abbrev S32768x2048 : Shape := ⟨2, ![32768, 2048]⟩
abbrev S1x2048 : Shape := ⟨2, ![1, 2048]⟩
abbrev S1x1024x1024 : Shape := ⟨3, ![1, 1024, 1024]⟩
abbrev S1x2048x1024 : Shape := ⟨3, ![1, 2048, 1024]⟩
abbrev S1x1024 : Shape := ⟨2, ![1, 1024]⟩
abbrev S2048 : Shape := ⟨1, ![2048]⟩
abbrev S_ : Shape := ⟨0, ![]⟩
abbrev S1024x1024 : Shape := ⟨2, ![1024, 1024]⟩
abbrev S2048x1024 : Shape := ⟨2, ![2048, 1024]⟩
abbrev S1024 : Shape := ⟨1, ![1024]⟩
abbrev S32768 : Shape := ⟨1, ![32768]⟩
abbrev S32768x1 : Shape := ⟨2, ![32768, 1]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x2048, .bf16⟩
  | .hbm, ⟨3, _⟩ => ⟨S32768x2048, .bf16⟩
  | .hbm, ⟨4, _⟩ => ⟨S1x2048, .f32⟩
  | .hbm, ⟨5, _⟩ => ⟨S1x1024x1024, .f32⟩
  | .hbm, ⟨6, _⟩ => ⟨S1x2048x1024, .f32⟩
  | .hbm, ⟨7, _⟩ => ⟨S1x1024x1024, .f32⟩
  | .hbm, ⟨8, _⟩ => ⟨S1x1024, .f32⟩
  | .hbm, ⟨9, _⟩ => ⟨S32768x2048, .f32⟩
  | .hbm, ⟨10, _⟩ => ⟨S2048, .f32⟩
  | .hbm, ⟨11, _⟩ => ⟨S1x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x1024, .f32⟩
  | .hbm, ⟨23, _⟩ => ⟨S32768x1024, .f32⟩
  | .hbm, ⟨24, _⟩ => ⟨S1024x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S2048x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S1024x1024, .f32⟩
  | .hbm, ⟨34, _⟩ => ⟨S32768x1024, .f32⟩
  | .hbm, ⟨35, _⟩ => ⟨S32768x1024, .f32⟩
  | .hbm, ⟨36, _⟩ => ⟨S1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S32768x1024 : Shape := ⟨2, ![32768, 1024]⟩
abbrev S1x1024x5632 : Shape := ⟨3, ![1, 1024, 5632]⟩
abbrev S1024x5632 : Shape := ⟨2, ![1024, 5632]⟩
abbrev S32768x5632 : Shape := ⟨2, ![32768, 5632]⟩
abbrev S512x1024 : Shape := ⟨2, ![512, 1024]⟩
abbrev S512x5632 : Shape := ⟨2, ![512, 5632]⟩
abbrev S1024x512 : Shape := ⟨2, ![1024, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S32768x1024, .bf16⟩
  | .hbm, ⟨1, _⟩ => ⟨S1x1024x5632, .f32⟩
  | .hbm, ⟨2, _⟩ => ⟨S1024x5632, .f32⟩
  | .hbm, ⟨3, _⟩ => ⟨S1024x5632, .bf16⟩
  | .hbm, ⟨4, _⟩ => ⟨S32768x5632, .bf16⟩
  | .local _ .vmem, ⟨0, _⟩ => ⟨S512x1024, .bf16⟩
  | .local _ .vmem, ⟨1, _⟩ => ⟨S512x1024, .bf16⟩
  | .local _ .vmem, ⟨2, _⟩ => ⟨S1024x5632, .bf16⟩
  | .local _ .vmem, ⟨3, _⟩ => ⟨S512x5632, .bf16⟩
  | .local _ .vmem, ⟨4, _⟩ => ⟨S512x5632, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32768x1024 : Shape := ⟨2, ![32768, 1024]⟩
abbrev S1x1024x5632 : Shape := ⟨3, ![1, 1024, 5632]⟩
abbrev S1024x5632 : Shape := ⟨2, ![1024, 5632]⟩
abbrev S32768x5632 : Shape := ⟨2, ![32768, 5632]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x5632, .f32⟩
  | .hbm, ⟨2, _⟩ => ⟨S32768x1024, .f32⟩
  | .hbm, ⟨3, _⟩ => ⟨S1024x5632, .f32⟩
  | .hbm, ⟨4, _⟩ => ⟨S32768x5632, .f32⟩
  | .hbm, ⟨5, _⟩ => ⟨S32768x5632, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S32768x5632 : Shape := ⟨2, ![32768, 5632]⟩
abbrev S32768x1024 : Shape := ⟨2, ![32768, 1024]⟩
abbrev S32768x256 : Shape := ⟨2, ![32768, 256]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S1024 : Shape := ⟨1, ![1024]⟩
abbrev S128 : Shape := ⟨1, ![128]⟩
abbrev S160 : Shape := ⟨1, ![160]⟩
abbrev S1x160 : Shape := ⟨2, ![1, 160]⟩
abbrev S128x1 : Shape := ⟨2, ![128, 1]⟩
abbrev S_ : Shape := ⟨0, ![]⟩
abbrev S128x160 : Shape := ⟨2, ![128, 160]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S1024x1024 : Shape := ⟨2, ![1024, 1024]⟩
abbrev S512x5632 : Shape := ⟨2, ![512, 5632]⟩
abbrev S16x5632 : Shape := ⟨2, ![16, 5632]⟩
abbrev S512x1024 : Shape := ⟨2, ![512, 1024]⟩
abbrev S512x256 : Shape := ⟨2, ![512, 256]⟩
abbrev S512x2816 : Shape := ⟨2, ![512, 2816]⟩
abbrev S128x256 : Shape := ⟨2, ![128, 256]⟩
abbrev S16x256 : Shape := ⟨2, ![16, 256]⟩
abbrev S160x256 : Shape := ⟨2, ![160, 256]⟩
abbrev S1x256 : Shape := ⟨2, ![1, 256]⟩
abbrev S512 : Shape := ⟨1, ![512]⟩
abbrev S512x1 : Shape := ⟨2, ![512, 1]⟩

abbrev nBuf : Space → Nat
  | .hbm => 49
  | .vmem => 22
  | .smem => 0
  | _ => 0

abbrev bufTy : (tb : Table) → Fin (tcTables nBuf tb) → BufTy
  | .hbm, ⟨0, _⟩ => ⟨S32768x5632, .bf16⟩
  | .hbm, ⟨1, _⟩ => ⟨S32768x1024, .f32⟩
  | .hbm, ⟨2, _⟩ => ⟨S32768x256, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S128, .i32⟩
  | .hbm, ⟨11, _⟩ => ⟨S160, .i32⟩
  | .hbm, ⟨12, _⟩ => ⟨S1x160, .i32⟩
  | .hbm, ⟨13, _⟩ => ⟨S128x1, .i32⟩
  | .hbm, ⟨14, _⟩ => ⟨S_, .i32⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x160, .i32⟩
  | .hbm, ⟨21, _⟩ => ⟨S128x160, .i32⟩
  | .hbm, ⟨22, _⟩ => ⟨S128x160, .i1⟩
  | .hbm, ⟨23, _⟩ => ⟨S128x160, .bf16⟩
  | .hbm, ⟨24, _⟩ => ⟨S1x160, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x160, .i32⟩
  | .hbm, ⟨33, _⟩ => ⟨S128x160, .i32⟩
  | .hbm, ⟨34, _⟩ => ⟨S128x160, .i1⟩
  | .hbm, ⟨35, _⟩ => ⟨S128x160, .bf16⟩
  | .hbm, ⟨36, _⟩ => ⟨S3x5632, .f32⟩
  | .hbm, ⟨37, _⟩ => ⟨S5632, .f32⟩
  | .hbm, ⟨38, _⟩ => ⟨S1x5632, .f32⟩
  | .hbm, ⟨39, _⟩ => ⟨S2816x1024, .f32⟩
  | .hbm, ⟨40, _⟩ => ⟨S2816x1024, .bf16⟩
  | .hbm, ⟨41, _⟩ => ⟨S256x1024, .f32⟩
  | .hbm, ⟨42, _⟩ => ⟨S256x1024, .bf16⟩
  | .hbm, ⟨43, _⟩ => ⟨S1024x1024, .f32⟩
  | .hbm, ⟨44, _⟩ => ⟨S1024x1024, .bf16⟩
  | .hbm, ⟨45, _⟩ => ⟨S1024, .f32⟩
  | .hbm, ⟨46, _⟩ => ⟨S1x1024, .f32⟩
  | .hbm, ⟨47, _⟩ => ⟨S1x1024, .f32⟩
  | .hbm, ⟨48, _⟩ => ⟨S32768x1024, .f32⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S16x5632, .bf16⟩
  | .local _ .vmem, ⟨5, _⟩ => ⟨S16x5632, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S128x160, .bf16⟩
  | .local _ .vmem, ⟨11, _⟩ => ⟨S128x160, .bf16⟩
  | .local _ .vmem, ⟨12, _⟩ => ⟨S3x5632, .f32⟩
  | .local _ .vmem, ⟨13, _⟩ => ⟨S1x5632, .f32⟩
  | .local _ .vmem, ⟨14, _⟩ => ⟨S2816x1024, .bf16⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S32768x5632 : Shape := ⟨2, ![32768, 5632]⟩
abbrev S32768x1024 : Shape := ⟨2, ![32768, 1024]⟩
abbrev S32768x256 : Shape := ⟨2, ![32768, 256]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S1024 : Shape := ⟨1, ![1024]⟩
abbrev S4x8192x5632 : Shape := ⟨3, ![4, 8192, 5632]⟩
abbrev S_ : Shape := ⟨0, ![]⟩
abbrev S4x1x5632 : Shape := ⟨3, ![4, 1, 5632]⟩
abbrev S4x8191x5632 : Shape := ⟨3, ![4, 8191, 5632]⟩
abbrev S3x5632 : Shape := ⟨2, ![3, 5632]⟩
abbrev S5632 : Shape := ⟨1, ![5632]⟩
abbrev S1x1x5632 : Shape := ⟨3, ![1, 1, 5632]⟩
abbrev S32768x2816 : Shape := ⟨2, ![32768, 2816]⟩
abbrev S2816x1024 : Shape := ⟨2, ![2816, 1024]⟩
abbrev S1024x1024 : Shape := ⟨2, ![1024, 1024]⟩
abbrev S256x1024 : Shape := ⟨2, ![256, 1024]⟩
abbrev S32768 : Shape := ⟨1, ![32768]⟩
abbrev S32768x1 : Shape := ⟨2, ![32768, 1]⟩

abbrev nBuf : Space → Nat
  | .hbm => 98
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S32768x1024, .f32⟩
  | .hbm, ⟨2, _⟩ => ⟨S32768x256, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S32768x5632, .f32⟩
  | .hbm, ⟨11, _⟩ => ⟨S4x8192x5632, .f32⟩
  | .hbm, ⟨12, _⟩ => ⟨S_, .f32⟩
  | .hbm, ⟨13, _⟩ => ⟨S4x1x5632, .f32⟩
  | .hbm, ⟨14, _⟩ => ⟨S4x8191x5632, .f32⟩
  | .hbm, ⟨15, _⟩ => ⟨S4x8192x5632, .f32⟩
  | .hbm, ⟨16, _⟩ => ⟨S4x8191x5632, .f32⟩
  | .hbm, ⟨17, _⟩ => ⟨S4x8192x5632, .f32⟩
  | .hbm, ⟨18, _⟩ => ⟨S3x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S4x8192x5632, .f32⟩
  | .hbm, ⟨23, _⟩ => ⟨S4x8192x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x8192x5632, .f32⟩
  | .hbm, ⟨28, _⟩ => ⟨S4x8192x5632, .f32⟩
  | .hbm, ⟨29, _⟩ => ⟨S4x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S4x8192x5632, .f32⟩
  | .hbm, ⟨34, _⟩ => ⟨S4x8192x5632, .f32⟩
  | .hbm, ⟨35, _⟩ => ⟨S4x8192x5632, .f32⟩
  | .hbm, ⟨36, _⟩ => ⟨S5632, .f32⟩
  | .hbm, ⟨37, _⟩ => ⟨S1x1x5632, .f32⟩
  | .hbm, ⟨38, _⟩ => ⟨S4x8192x5632, .f32⟩
  | .hbm, ⟨39, _⟩ => ⟨S4x8192x5632, .f32⟩
  | .hbm, ⟨40, _⟩ => ⟨S32768x5632, .f32⟩
  | .hbm, ⟨41, _⟩ => ⟨S32768x2816, .f32⟩
  | .hbm, ⟨42, _⟩ => ⟨S32768x2816, .f32⟩
  | .hbm, ⟨43, _⟩ => ⟨S32768x2816, .f32⟩
  | .hbm, ⟨44, _⟩ => ⟨S_, .f32⟩
  | .hbm, ⟨45, _⟩ => ⟨S32768x2816, .f32⟩
  | .hbm, ⟨46, _⟩ => ⟨S32768x2816, .f32⟩
  | .hbm, ⟨47, _⟩ => ⟨S32768x2816, .f32⟩
  | .hbm, ⟨48, _⟩ => ⟨S_, .f32⟩
  | .hbm, ⟨49, _⟩ => ⟨S32768x2816, .f32⟩
  | .hbm, ⟨50, _⟩ => ⟨S32768x2816, .f32⟩
  | .hbm, ⟨51, _⟩ => ⟨S32768x2816, .f32⟩
  | .hbm, ⟨52, _⟩ => ⟨S_, .f32⟩
  | .hbm, ⟨53, _⟩ => ⟨S32768x2816, .f32⟩
  | .hbm, ⟨54, _⟩ => ⟨S32768x2816, .f32⟩
  | .hbm, ⟨55, _⟩ => ⟨S_, .f32⟩
  | .hbm, ⟨56, _⟩ => ⟨S32768x2816, .f32⟩
  | .hbm, ⟨57, _⟩ => ⟨S32768x2816, .f32⟩
  | .hbm, ⟨58, _⟩ => ⟨S32768x2816, .f32⟩
  | .hbm, ⟨59, _⟩ => ⟨S32768x2816, .f32⟩
  | .hbm, ⟨60, _⟩ => ⟨S32768x2816, .f32⟩
  | .hbm, ⟨61, _⟩ => ⟨S2816x1024, .f32⟩
  | .hbm, ⟨62, _⟩ => ⟨S32768x1024, .f32⟩
  | .hbm, ⟨63, _⟩ => ⟨S32768x1024, .f32⟩
  | .hbm, ⟨64, _⟩ => ⟨S1024x1024, .f32⟩
  | .hbm, ⟨65, _⟩ => ⟨S32768x1024, .f32⟩
  | .hbm, ⟨66, _⟩ => ⟨S1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768x1024, .f32⟩
  | .hbm, ⟨74, _⟩ => ⟨S32768x1024, .f32⟩
  | .hbm, ⟨75, _⟩ => ⟨S_, .f32⟩
  | .hbm, ⟨76, _⟩ => ⟨S32768x1024, .f32⟩
  | .hbm, ⟨77, _⟩ => ⟨S32768x1024, .f32⟩
  | .hbm, ⟨78, _⟩ => ⟨S256x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768, .f32⟩
  | .hbm, ⟨85, _⟩ => ⟨S32768x1, .f32⟩
  | .hbm, ⟨86, _⟩ => ⟨S_, .f32⟩
  | .hbm, ⟨87, _⟩ => ⟨S32768x1, .f32⟩
  | .hbm, ⟨88, _⟩ => ⟨S32768x1, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S32768x1, .f32⟩
  | .hbm, ⟨93, _⟩ => ⟨S32768x1024, .f32⟩
  | .hbm, ⟨94, _⟩ => ⟨S32768x1024, .f32⟩
  | .hbm, ⟨95, _⟩ => ⟨S1x1024, .f32⟩
  | .hbm, ⟨96, _⟩ => ⟨S32768x1024, .f32⟩
  | .hbm, ⟨97, _⟩ => ⟨S32768x1024, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Kernel6.lean ====
abbrev S4x8192x3072 : Shape := ⟨3, ![4, 8192, 3072]⟩
abbrev S1x3x3072 : Shape := ⟨3, ![1, 3, 3072]⟩
abbrev S1x3072 : Shape := ⟨2, ![1, 3072]⟩
abbrev S128 : Shape := ⟨1, ![128]⟩
abbrev S160 : Shape := ⟨1, ![160]⟩
abbrev S1x160 : Shape := ⟨2, ![1, 160]⟩
abbrev S128x1 : Shape := ⟨2, ![128, 1]⟩
abbrev S_ : Shape := ⟨0, ![]⟩
abbrev S128x160 : Shape := ⟨2, ![128, 160]⟩
abbrev S3x3072 : Shape := ⟨2, ![3, 3072]⟩
abbrev S3072 : Shape := ⟨1, ![3072]⟩
abbrev S1x128x3072 : Shape := ⟨3, ![1, 128, 3072]⟩
abbrev S1x16x3072 : Shape := ⟨3, ![1, 16, 3072]⟩
abbrev S1x128x512 : Shape := ⟨3, ![1, 128, 512]⟩
abbrev S128x512 : Shape := ⟨2, ![128, 512]⟩
abbrev S1x16x512 : Shape := ⟨3, ![1, 16, 512]⟩
abbrev S16x512 : Shape := ⟨2, ![16, 512]⟩
abbrev S160x512 : Shape := ⟨2, ![160, 512]⟩
abbrev S1x512 : Shape := ⟨2, ![1, 512]⟩

abbrev nBuf : Space → Nat
  | .hbm => 33
  | .vmem => 12
  | .smem => 0
  | _ => 0

abbrev bufTy : (tb : Table) → Fin (tcTables nBuf tb) → BufTy
  | .hbm, ⟨0, _⟩ => ⟨S4x8192x3072, .bf16⟩
  | .hbm, ⟨1, _⟩ => ⟨S1x3x3072, .f32⟩
  | .hbm, ⟨2, _⟩ => ⟨S1x3072, .f32⟩
  | .hbm, ⟨3, _⟩ => ⟨S128, .i32⟩
  | .hbm, ⟨4, _⟩ => ⟨S160, .i32⟩
  | .hbm, ⟨5, _⟩ => ⟨S1x160, .i32⟩
  | .hbm, ⟨6, _⟩ => ⟨S128x1, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x160, .i32⟩
  | .hbm, ⟨14, _⟩ => ⟨S128x160, .i32⟩
  | .hbm, ⟨15, _⟩ => ⟨S128x160, .i1⟩
  | .hbm, ⟨16, _⟩ => ⟨S128x160, .bf16⟩
  | .hbm, ⟨17, _⟩ => ⟨S1x160, .i32⟩
  | .hbm, ⟨18, _⟩ => ⟨S128x1, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x160, .i32⟩
  | .hbm, ⟨26, _⟩ => ⟨S128x160, .i32⟩
  | .hbm, ⟨27, _⟩ => ⟨S128x160, .i1⟩
  | .hbm, ⟨28, _⟩ => ⟨S128x160, .bf16⟩
  | .hbm, ⟨29, _⟩ => ⟨S3x3072, .f32⟩
  | .hbm, ⟨30, _⟩ => ⟨S3072, .f32⟩
  | .hbm, ⟨31, _⟩ => ⟨S1x3072, .f32⟩
  | .hbm, ⟨32, _⟩ => ⟨S4x8192x3072, .bf16⟩
  | .local _ .vmem, ⟨0, _⟩ => ⟨S1x128x3072, .bf16⟩
  | .local _ .vmem, ⟨1, _⟩ => ⟨S1x128x3072, .bf16⟩
  | .local _ .vmem, ⟨2, _⟩ => ⟨S1x16x3072, .bf16⟩
  | .local _ .vmem, ⟨3, _⟩ => ⟨S1x16x3072, .bf16⟩
  | .local _ .vmem, ⟨4, _⟩ => ⟨S1x16x3072, .bf16⟩
  | .local _ .vmem, ⟨5, _⟩ => ⟨S1x16x3072, .bf16⟩
  | .local _ .vmem, ⟨6, _⟩ => ⟨S128x160, .bf16⟩
  | .local _ .vmem, ⟨7, _⟩ => ⟨S128x160, .bf16⟩
  | .local _ .vmem, ⟨8, _⟩ => ⟨S3x3072, .f32⟩
  | .local _ .vmem, ⟨9, _⟩ => ⟨S1x3072, .f32⟩
  | .local _ .vmem, ⟨10, _⟩ => ⟨S1x128x3072, .bf16⟩
  | .local _ .vmem, ⟨11, _⟩ => ⟨S1x128x3072, .bf16⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel6Ideal.lean ====
variable {F : FTy → Type} [FloatOps F] [Named F]
def κ : String → Option EReal := fun
  | "log2e_neg" => some ((-((Real.log 2)⁻¹) : ℝ) : EReal)
  | _ => none
-- ==== Reference6Ideal.lean ====
abbrev S4x8192x3072 : Shape := ⟨3, ![4, 8192, 3072]⟩
abbrev S1x3x3072 : Shape := ⟨3, ![1, 3, 3072]⟩
abbrev S1x3072 : Shape := ⟨2, ![1, 3072]⟩
abbrev S_ : Shape := ⟨0, ![]⟩
abbrev S4x1x3072 : Shape := ⟨3, ![4, 1, 3072]⟩
abbrev S4x8191x3072 : Shape := ⟨3, ![4, 8191, 3072]⟩
abbrev S3x3072 : Shape := ⟨2, ![3, 3072]⟩
abbrev S3072 : Shape := ⟨1, ![3072]⟩
abbrev S1x1x3072 : Shape := ⟨3, ![1, 1, 3072]⟩

abbrev nBuf : Space → Nat
  | .hbm => 42
  | .vmem => 0
  | .smem => 0
  | _ => 0

abbrev bufTy : (tb : Table) → Fin (tcTables nBuf tb) → BufTy
  | .hbm, ⟨0, _⟩ => ⟨S4x8192x3072, .bf16⟩
  | .hbm, ⟨1, _⟩ => ⟨S1x3x3072, .f32⟩
  | .hbm, ⟨2, _⟩ => ⟨S1x3072, .f32⟩
  | .hbm, ⟨3, _⟩ => ⟨S4x8192x3072, .f32⟩
  | .hbm, ⟨4, _⟩ => ⟨S_, .f32⟩
  | .hbm, ⟨5, _⟩ => ⟨S4x1x3072, .f32⟩
  | .hbm, ⟨6, _⟩ => ⟨S4x8191x3072, .f32⟩
  | .hbm, ⟨7, _⟩ => ⟨S4x8192x3072, .f32⟩
  | .hbm, ⟨8, _⟩ => ⟨S4x8191x3072, .f32⟩
  | .hbm, ⟨9, _⟩ => ⟨S4x8192x3072, .f32⟩
  | .hbm, ⟨10, _⟩ => ⟨S3x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S4x8192x3072, .f32⟩
  | .hbm, ⟨15, _⟩ => ⟨S4x8192x3072, .f32⟩
  | .hbm, ⟨16, _⟩ => ⟨S1x3072, .f32⟩
  | .hbm, ⟨17, _⟩ => ⟨S3072, .f32⟩
  | .hbm, ⟨18, _⟩ => ⟨S1x1x3072, .f32⟩
  | .hbm, ⟨19, _⟩ => ⟨S4x8192x3072, .f32⟩
  | .hbm, ⟨20, _⟩ => ⟨S4x8192x3072, .f32⟩
  | .hbm, ⟨21, _⟩ => ⟨S4x8192x3072, .f32⟩
  | .hbm, ⟨22, _⟩ => ⟨S1x3072, .f32⟩
  | .hbm, ⟨23, _⟩ => ⟨S3072, .f32⟩
  | .hbm, ⟨24, _⟩ => ⟨S1x1x3072, .f32⟩
  | .hbm, ⟨25, _⟩ => ⟨S4x8192x3072, .f32⟩
  | .hbm, ⟨26, _⟩ => ⟨S4x8192x3072, .f32⟩
  | .hbm, ⟨27, _⟩ => ⟨S4x8192x3072, .f32⟩
  | .hbm, ⟨28, _⟩ => ⟨S3072, .f32⟩
  | .hbm, ⟨29, _⟩ => ⟨S1x1x3072, .f32⟩
  | .hbm, ⟨30, _⟩ => ⟨S4x8192x3072, .f32⟩
  | .hbm, ⟨31, _⟩ => ⟨S4x8192x3072, .f32⟩
  | .hbm, ⟨32, _⟩ => ⟨S4x8192x3072, .f32⟩
  | .hbm, ⟨33, _⟩ => ⟨S4x8192x3072, .f32⟩
  | .hbm, ⟨34, _⟩ => ⟨S_, .f32⟩
  | .hbm, ⟨35, _⟩ => ⟨S4x8192x3072, .f32⟩
  | .hbm, ⟨36, _⟩ => ⟨S4x8192x3072, .f32⟩
  | .hbm, ⟨37, _⟩ => ⟨S_, .f32⟩
  | .hbm, ⟨38, _⟩ => ⟨S4x8192x3072, .f32⟩
  | .hbm, ⟨39, _⟩ => ⟨S4x8192x3072, .f32⟩
  | .hbm, ⟨40, _⟩ => ⟨S4x8192x3072, .f32⟩
  | .hbm, ⟨41, _⟩ => ⟨S4x8192x3072, .bf16⟩
  | _, _ => ⟨S4x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel7.lean ====
abbrev S4x8192x256 : Shape := ⟨3, ![4, 8192, 256]⟩
abbrev S1x64 : Shape := ⟨2, ![1, 64]⟩
abbrev S32 : Shape := ⟨1, ![32]⟩
abbrev S_ : Shape := ⟨0, ![]⟩
abbrev S64 : Shape := ⟨1, ![64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S64x1 : Shape := ⟨2, ![64, 1]⟩
abbrev S4x64 : Shape := ⟨2, ![4, 64]⟩
abbrev S128 : Shape := ⟨1, ![128]⟩
abbrev S128x64 : Shape := ⟨2, ![128, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x256 : Shape := ⟨2, ![8192, 256]⟩
abbrev S4x4x8192x64 : Shape := ⟨4, ![4, 4, 8192, 64]⟩
abbrev S4x4x2x80x4096 : Shape := ⟨5, ![4, 4, 2, 80, 4096]⟩
abbrev S1x4096x256 : Shape := ⟨3, ![1, 4096, 256]⟩
abbrev S4096x256 : Shape := ⟨2, ![4096, 256]⟩
abbrev S1x4x4096x64 : Shape := ⟨4, ![1, 4, 4096, 64]⟩
abbrev S1x4x1x80x4096 : Shape := ⟨5, ![1, 4, 1, 80, 4096]⟩
abbrev S256x4096 : Shape := ⟨2, ![256, 4096]⟩
abbrev S16x4096 : Shape := ⟨2, ![16, 4096]⟩
abbrev S4096x64 : Shape := ⟨2, ![4096, 64]⟩
abbrev S1x1x4096x64 : Shape := ⟨4, ![1, 1, 4096, 64]⟩
abbrev S64x4096 : Shape := ⟨2, ![64, 4096]⟩
abbrev S1x1x1x64x4096 : Shape := ⟨5, ![1, 1, 1, 64, 4096]⟩
abbrev S1x1x1x16x4096 : Shape := ⟨5, ![1, 1, 1, 16, 4096]⟩

abbrev nBuf : Space → Nat
  | .hbm => 102
  | .vmem => 14
  | .smem => 0
  | _ => 0

abbrev bufTy : (tb : Table) → Fin (tcTables nBuf tb) → BufTy
  | .hbm, ⟨0, _⟩ => ⟨S4x8192x256, .bf16⟩
  | .hbm, ⟨1, _⟩ => ⟨S4x8192x256, .bf16⟩
  | .hbm, ⟨2, _⟩ => ⟨S1x64, .f32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S64, .i32⟩
  | .hbm, ⟨18, _⟩ => ⟨S256, .i32⟩
  | .hbm, ⟨19, _⟩ => ⟨S_, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S256, .i32⟩
  | .hbm, ⟨28, _⟩ => ⟨S256, .i32⟩
  | .hbm, ⟨29, _⟩ => ⟨S_, .i32⟩
  | .hbm, ⟨30, _⟩ => ⟨S256, .i32⟩
  | .hbm, ⟨31, _⟩ => ⟨S256, .i1⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S1x256, .i32⟩
  | .hbm, ⟨39, _⟩ => ⟨S256x256, .i32⟩
  | .hbm, ⟨40, _⟩ => ⟨S256x256, .i32⟩
  | .hbm, ⟨41, _⟩ => ⟨S256x256, .i1⟩
  | .hbm, ⟨42, _⟩ => ⟨S256x256, .bf16⟩
  | .hbm, ⟨43, _⟩ => ⟨S64, .f32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S64, .i32⟩
  | .hbm, ⟨51, _⟩ => ⟨S64x1, .i32⟩
  | .hbm, ⟨52, _⟩ => ⟨S64, .f32⟩
  | .hbm, ⟨53, _⟩ => ⟨S1x64, .f32⟩
  | .hbm, ⟨54, _⟩ => ⟨S4x64, .f32⟩
  | .hbm, ⟨55, _⟩ => ⟨S256, .f32⟩
  | .hbm, ⟨56, _⟩ => ⟨S1x256, .f32⟩
  | .hbm, ⟨57, _⟩ => ⟨S128, .f32⟩
  | .hbm, ⟨58, _⟩ => ⟨S128x64, .f32⟩
  | .hbm, ⟨59, _⟩ => ⟨S8192, .f32⟩
  | .hbm, ⟨60, _⟩ => ⟨S64, .f32⟩
  | .hbm, ⟨61, _⟩ => ⟨S1x64, .f32⟩
  | .hbm, ⟨62, _⟩ => ⟨S128x64, .f32⟩
  | .hbm, ⟨63, _⟩ => ⟨S8192, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S8192x1, .f32⟩
  | .hbm, ⟨79, _⟩ => ⟨S1x16, .f32⟩
  | .hbm, ⟨80, _⟩ => ⟨S8192x16, .f32⟩
  | .hbm, ⟨81, _⟩ => ⟨S8192x16, .f32⟩
  | .hbm, ⟨82, _⟩ => ⟨S8192x16, .f32⟩
  | .hbm, ⟨83, _⟩ => ⟨S8192x1, .f32⟩
  | .hbm, ⟨84, _⟩ => ⟨S1x16, .f32⟩
  | .hbm, ⟨85, _⟩ => ⟨S8192x16, .f32⟩
  | .hbm, ⟨86, _⟩ => ⟨S8192x16, .f32⟩
  | .hbm, ⟨87, _⟩ => ⟨S8192x16, .f32⟩
  | .hbm, ⟨88, _⟩ => ⟨S8192x32, .f32⟩
  | .hbm, ⟨89, _⟩ => ⟨S8192x32, .f32⟩
  | .hbm, ⟨90, _⟩ => ⟨S8192x32, .f32⟩
  | .hbm, ⟨91, _⟩ => ⟨S8192x64, .f32⟩
  | .hbm, ⟨92, _⟩ => ⟨S8192x32, .f32⟩
  | .hbm, ⟨93, _⟩ => ⟨S8192x64, .f32⟩
  | .hbm, ⟨94, _⟩ => ⟨S1x8192x1x64, .f32⟩
  | .hbm, ⟨95, _⟩ => ⟨S1x8192x4x64, .f32⟩
  | .hbm, ⟨96, _⟩ => ⟨S8192x256, .f32⟩
  | .hbm, ⟨97, _⟩ => ⟨S1x8192x1x64, .f32⟩
  | .hbm, ⟨98, _⟩ => ⟨S1x8192x4x64, .f32⟩
  | .hbm, ⟨99, _⟩ => ⟨S8192x256, .f32⟩
  | .hbm, ⟨100, _⟩ => ⟨S4x4x8192x64, .bf16⟩
  | .hbm, ⟨101, _⟩ => ⟨S4x4x2x80x4096, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S256x256, .bf16⟩
  | .local _ .vmem, ⟨9, _⟩ => ⟨S1x256, .f32⟩
  | .local _ .vmem, ⟨10, _⟩ => ⟨S1x4x4096x64, .bf16⟩
  | .local _ .vmem, ⟨11, _⟩ => ⟨S1x4x4096x64, .bf16⟩
  | .local _ .vmem, ⟨12, _⟩ => ⟨S1x4x1x80x4096, .bf16⟩
  | .local _ .vmem, ⟨13, _⟩ => ⟨S1x4x1x80x4096, .bf16⟩
  | _, _ => ⟨S4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70_0 : Ref sig .tc := ⟨.hbm, 100, rfl⟩
abbrev main_v70_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x4096x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x1x80x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S4x8192x256 : Shape := ⟨3, ![4, 8192, 256]⟩
abbrev S1x64 : Shape := ⟨2, ![1, 64]⟩
abbrev S128 : Shape := ⟨1, ![128]⟩
abbrev S128x64 : Shape := ⟨2, ![128, 64]⟩
abbrev S8192 : Shape := ⟨1, ![8192]⟩
abbrev S64 : Shape := ⟨1, ![64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S4x8192x4x64 : Shape := ⟨4, ![4, 8192, 4, 64]⟩
abbrev S1x32 : Shape := ⟨2, ![1, 32]⟩
abbrev S32 : Shape := ⟨1, ![32]⟩
abbrev S4x8192x4 : Shape := ⟨3, ![4, 8192, 4]⟩
abbrev S4x8192x4x1 : Shape := ⟨4, ![4, 8192, 4, 1]⟩
abbrev S1x1x1x64 : Shape := ⟨4, ![1, 1, 1, 64]⟩
abbrev S1x8192x1x32 : Shape := ⟨4, ![1, 8192, 1, 32]⟩
abbrev S4x8192x4x32 : Shape := ⟨4, ![4, 8192, 4, 32]⟩
abbrev S4x2x4096x4x64 : Shape := ⟨5, ![4, 2, 4096, 4, 64]⟩
abbrev S4x4x2x64x4096 : Shape := ⟨5, ![4, 4, 2, 64, 4096]⟩
abbrev S4x4x2x1x4096 : Shape := ⟨5, ![4, 4, 2, 1, 4096]⟩
abbrev S4x4x2x15x4096 : Shape := ⟨5, ![4, 4, 2, 15, 4096]⟩
abbrev S4x4x8192x64 : Shape := ⟨4, ![4, 4, 8192, 64]⟩
abbrev S4x4x2x80x4096 : Shape := ⟨5, ![4, 4, 2, 80, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x256, .bf16⟩
  | .hbm, ⟨1, _⟩ => ⟨S4x8192x256, .bf16⟩
  | .hbm, ⟨2, _⟩ => ⟨S1x64, .f32⟩
  | .hbm, ⟨3, _⟩ => ⟨S128, .f32⟩
  | .hbm, ⟨4, _⟩ => ⟨S128x64, .f32⟩
  | .hbm, ⟨5, _⟩ => ⟨S8192, .f32⟩
  | .hbm, ⟨6, _⟩ => ⟨S64, .f32⟩
  | .hbm, ⟨7, _⟩ => ⟨S1x64, .f32⟩
  | .hbm, ⟨8, _⟩ => ⟨S128x64, .f32⟩
  | .hbm, ⟨9, _⟩ => ⟨S8192, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S8192x1, .f32⟩
  | .hbm, ⟨25, _⟩ => ⟨S1x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x1, .f32⟩
  | .hbm, ⟨30, _⟩ => ⟨S1x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S4x8192x256, .f32⟩
  | .hbm, ⟨38, _⟩ => ⟨S4x8192x4x64, .f32⟩
  | .hbm, ⟨39, _⟩ => ⟨S1x32, .f32⟩
  | .hbm, ⟨40, _⟩ => ⟨S32, .f32⟩
  | .hbm, ⟨41, _⟩ => ⟨S1x32, .f32⟩
  | .hbm, ⟨42, _⟩ => ⟨S32, .f32⟩
  | .hbm, ⟨43, _⟩ => ⟨S64, .f32⟩
  | .hbm, ⟨44, _⟩ => ⟨S4x8192x4x64, .f32⟩
  | .hbm, ⟨45, _⟩ => ⟨S_, .f32⟩
  | .hbm, ⟨46, _⟩ => ⟨S4x8192x4, .f32⟩
  | .hbm, ⟨47, _⟩ => ⟨S4x8192x4x1, .f32⟩
  | .hbm, ⟨48, _⟩ => ⟨S_, .f32⟩
  | .hbm, ⟨49, _⟩ => ⟨S4x8192x4x1, .f32⟩
  | .hbm, ⟨50, _⟩ => ⟨S4x8192x4x1, .f32⟩
  | .hbm, ⟨51, _⟩ => ⟨S_, .f32⟩
  | .hbm, ⟨52, _⟩ => ⟨S4x8192x4x1, .f32⟩
  | .hbm, ⟨53, _⟩ => ⟨S4x8192x4x1, .f32⟩
  | .hbm, ⟨54, _⟩ => ⟨S4x8192x4x1, .f32⟩
  | .hbm, ⟨55, _⟩ => ⟨S4x8192x4x64, .f32⟩
  | .hbm, ⟨56, _⟩ => ⟨S4x8192x4x64, .f32⟩
  | .hbm, ⟨57, _⟩ => ⟨S1x1x1x64, .f32⟩
  | .hbm, ⟨58, _⟩ => ⟨S4x8192x4x64, .f32⟩
  | .hbm, ⟨59, _⟩ => ⟨S4x8192x4x64, .f32⟩
  | .hbm, ⟨60, _⟩ => ⟨S1x8192x1x32, .f32⟩
  | .hbm, ⟨61, _⟩ => ⟨S1x8192x1x32, .f32⟩
  | .hbm, ⟨62, _⟩ => ⟨S4x8192x4x32, .f32⟩
  | .hbm, ⟨63, _⟩ => ⟨S4x8192x4x32, .f32⟩
  | .hbm, ⟨64, _⟩ => ⟨S4x8192x4x32, .f32⟩
  | .hbm, ⟨65, _⟩ => ⟨S4x8192x4x32, .f32⟩
  | .hbm, ⟨66, _⟩ => ⟨S4x8192x4x32, .f32⟩
  | .hbm, ⟨67, _⟩ => ⟨S4x8192x4x32, .f32⟩
  | .hbm, ⟨68, _⟩ => ⟨S4x8192x4x32, .f32⟩
  | .hbm, ⟨69, _⟩ => ⟨S4x8192x4x32, .f32⟩
  | .hbm, ⟨70, _⟩ => ⟨S4x8192x4x32, .f32⟩
  | .hbm, ⟨71, _⟩ => ⟨S4x8192x4x32, .f32⟩
  | .hbm, ⟨72, _⟩ => ⟨S4x8192x4x32, .f32⟩
  | .hbm, ⟨73, _⟩ => ⟨S4x8192x4x32, .f32⟩
  | .hbm, ⟨74, _⟩ => ⟨S4x8192x4x64, .f32⟩
  | .hbm, ⟨75, _⟩ => ⟨S4x8192x256, .f32⟩
  | .hbm, ⟨76, _⟩ => ⟨S4x2x4096x4x64, .f32⟩
  | .hbm, ⟨77, _⟩ => ⟨S4x4x2x64x4096, .f32⟩
  | .hbm, ⟨78, _⟩ => ⟨S_, .f32⟩
  | .hbm, ⟨79, _⟩ => ⟨S4x4x2x1x4096, .f32⟩
  | .hbm, ⟨80, _⟩ => ⟨S_, .f32⟩
  | .hbm, ⟨81, _⟩ => ⟨S4x4x2x15x4096, .f32⟩
  | .hbm, ⟨82, _⟩ => ⟨S4x4x8192x64, .f32⟩
  | .hbm, ⟨83, _⟩ => ⟨S4x4x8192x64, .bf16⟩
  | .hbm, ⟨84, _⟩ => ⟨S4x4x2x80x4096, .f32⟩
  | .hbm, ⟨85, _⟩ => ⟨S4x4x2x80x4096, .bf16⟩
  | _, _ => ⟨S4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_6 : Ref sig .tc := ⟨.hbm, 78, rfl⟩
abbrev main_v68 : Ref sig .tc := ⟨.hbm, 79, rfl⟩
abbrev main_cst_7 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== Kernel8.lean ====
abbrev S16384x5632 : Shape := ⟨2, ![16384, 5632]⟩
abbrev S16384x1024 : Shape := ⟨2, ![16384, 1024]⟩
abbrev S16384x256 : Shape := ⟨2, ![16384, 256]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S1024 : Shape := ⟨1, ![1024]⟩
abbrev S128 : Shape := ⟨1, ![128]⟩
abbrev S160 : Shape := ⟨1, ![160]⟩
abbrev S1x160 : Shape := ⟨2, ![1, 160]⟩
abbrev S128x1 : Shape := ⟨2, ![128, 1]⟩
abbrev S_ : Shape := ⟨0, ![]⟩
abbrev S128x160 : Shape := ⟨2, ![128, 160]⟩
abbrev S3x5632 : Shape := ⟨2, ![3, 5632]⟩
abbrev S5632 : Shape := ⟨1, ![5632]⟩
abbrev S2816x1024 : Shape := ⟨2, ![2816, 1024]⟩
abbrev S256x1024 : Shape := ⟨2, ![256, 1024]⟩
abbrev S1024x1024 : Shape := ⟨2, ![1024, 1024]⟩
abbrev S512x5632 : Shape := ⟨2, ![512, 5632]⟩
abbrev S16x5632 : Shape := ⟨2, ![16, 5632]⟩
abbrev S512x1024 : Shape := ⟨2, ![512, 1024]⟩
abbrev S512x256 : Shape := ⟨2, ![512, 256]⟩
abbrev S512x2816 : Shape := ⟨2, ![512, 2816]⟩
abbrev S128x256 : Shape := ⟨2, ![128, 256]⟩
abbrev S16x256 : Shape := ⟨2, ![16, 256]⟩
abbrev S160x256 : Shape := ⟨2, ![160, 256]⟩
abbrev S1x256 : Shape := ⟨2, ![1, 256]⟩
abbrev S512 : Shape := ⟨1, ![512]⟩
abbrev S512x1 : Shape := ⟨2, ![512, 1]⟩

abbrev nBuf : Space → Nat
  | .hbm => 49
  | .vmem => 22
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .f32⟩
  | .hbm, ⟨2, _⟩ => ⟨S16384x256, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S128, .i32⟩
  | .hbm, ⟨11, _⟩ => ⟨S160, .i32⟩
  | .hbm, ⟨12, _⟩ => ⟨S1x160, .i32⟩
  | .hbm, ⟨13, _⟩ => ⟨S128x1, .i32⟩
  | .hbm, ⟨14, _⟩ => ⟨S_, .i32⟩
  | .hbm, ⟨15, _⟩ => ⟨S128x1, .i32⟩
  | .hbm, ⟨16, _⟩ => ⟨S128x1, .i32⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x160, .i32⟩
  | .hbm, ⟨21, _⟩ => ⟨S128x160, .i32⟩
  | .hbm, ⟨22, _⟩ => ⟨S128x160, .i1⟩
  | .hbm, ⟨23, _⟩ => ⟨S128x160, .bf16⟩
  | .hbm, ⟨24, _⟩ => ⟨S1x160, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x160, .i32⟩
  | .hbm, ⟨33, _⟩ => ⟨S128x160, .i32⟩
  | .hbm, ⟨34, _⟩ => ⟨S128x160, .i1⟩
  | .hbm, ⟨35, _⟩ => ⟨S128x160, .bf16⟩
  | .hbm, ⟨36, _⟩ => ⟨S3x5632, .f32⟩
  | .hbm, ⟨37, _⟩ => ⟨S5632, .f32⟩
  | .hbm, ⟨38, _⟩ => ⟨S1x5632, .f32⟩
  | .hbm, ⟨39, _⟩ => ⟨S2816x1024, .f32⟩
  | .hbm, ⟨40, _⟩ => ⟨S2816x1024, .bf16⟩
  | .hbm, ⟨41, _⟩ => ⟨S256x1024, .f32⟩
  | .hbm, ⟨42, _⟩ => ⟨S256x1024, .bf16⟩
  | .hbm, ⟨43, _⟩ => ⟨S1024x1024, .f32⟩
  | .hbm, ⟨44, _⟩ => ⟨S1024x1024, .bf16⟩
  | .hbm, ⟨45, _⟩ => ⟨S1024, .f32⟩
  | .hbm, ⟨46, _⟩ => ⟨S1x1024, .f32⟩
  | .hbm, ⟨47, _⟩ => ⟨S1x1024, .f32⟩
  | .hbm, ⟨48, _⟩ => ⟨S16384x1024, .f32⟩
  | .local _ .vmem, ⟨0, _⟩ => ⟨S512x5632, .bf16⟩
  | .local _ .vmem, ⟨1, _⟩ => ⟨S512x5632, .bf16⟩
  | .local _ .vmem, ⟨2, _⟩ => ⟨S16x5632, .bf16⟩
  | .local _ .vmem, ⟨3, _⟩ => ⟨S16x5632, .bf16⟩
  | .local _ .vmem, ⟨4, _⟩ => ⟨S16x5632, .bf16⟩
  | .local _ .vmem, ⟨5, _⟩ => ⟨S16x5632, .bf16⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S128x160, .bf16⟩
  | .local _ .vmem, ⟨11, _⟩ => ⟨S128x160, .bf16⟩
  | .local _ .vmem, ⟨12, _⟩ => ⟨S3x5632, .f32⟩
  | .local _ .vmem, ⟨13, _⟩ => ⟨S1x5632, .f32⟩
  | .local _ .vmem, ⟨14, _⟩ => ⟨S2816x1024, .bf16⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x2816, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x160 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x160 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference8Ideal.lean ====
abbrev S16384x5632 : Shape := ⟨2, ![16384, 5632]⟩
abbrev S16384x1024 : Shape := ⟨2, ![16384, 1024]⟩
abbrev S16384x256 : Shape := ⟨2, ![16384, 256]⟩
abbrev S1x3x5632 : Shape := ⟨3, ![1, 3, 5632]⟩
abbrev S1x5632 : Shape := ⟨2, ![1, 5632]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S1024 : Shape := ⟨1, ![1024]⟩
abbrev S2x8192x5632 : Shape := ⟨3, ![2, 8192, 5632]⟩
abbrev S_ : Shape := ⟨0, ![]⟩
abbrev S2x1x5632 : Shape := ⟨3, ![2, 1, 5632]⟩
abbrev S2x8191x5632 : Shape := ⟨3, ![2, 8191, 5632]⟩
abbrev S3x5632 : Shape := ⟨2, ![3, 5632]⟩
abbrev S5632 : Shape := ⟨1, ![5632]⟩
abbrev S1x1x5632 : Shape := ⟨3, ![1, 1, 5632]⟩
abbrev S16384x2816 : Shape := ⟨2, ![16384, 2816]⟩
abbrev S2816x1024 : Shape := ⟨2, ![2816, 1024]⟩
abbrev S1024x1024 : Shape := ⟨2, ![1024, 1024]⟩
abbrev S256x1024 : Shape := ⟨2, ![256, 1024]⟩
abbrev S16384 : Shape := ⟨1, ![16384]⟩
abbrev S16384x1 : Shape := ⟨2, ![16384, 1]⟩

abbrev nBuf : Space → Nat
  | .hbm => 98
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .f32⟩
  | .hbm, ⟨2, _⟩ => ⟨S16384x256, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x256x1024, .f32⟩
  | .hbm, ⟨7, _⟩ => ⟨S1x1024x1024, .f32⟩
  | .hbm, ⟨8, _⟩ => ⟨S1x1024, .f32⟩
  | .hbm, ⟨9, _⟩ => ⟨S1024, .f32⟩
  | .hbm, ⟨10, _⟩ => ⟨S16384x5632, .f32⟩
  | .hbm, ⟨11, _⟩ => ⟨S2x8192x5632, .f32⟩
  | .hbm, ⟨12, _⟩ => ⟨S_, .f32⟩
  | .hbm, ⟨13, _⟩ => ⟨S2x1x5632, .f32⟩
  | .hbm, ⟨14, _⟩ => ⟨S2x8191x5632, .f32⟩
  | .hbm, ⟨15, _⟩ => ⟨S2x8192x5632, .f32⟩
  | .hbm, ⟨16, _⟩ => ⟨S2x8191x5632, .f32⟩
  | .hbm, ⟨17, _⟩ => ⟨S2x8192x5632, .f32⟩
  | .hbm, ⟨18, _⟩ => ⟨S3x5632, .f32⟩
  | .hbm, ⟨19, _⟩ => ⟨S1x5632, .f32⟩
  | .hbm, ⟨20, _⟩ => ⟨S5632, .f32⟩
  | .hbm, ⟨21, _⟩ => ⟨S1x1x5632, .f32⟩
  | .hbm, ⟨22, _⟩ => ⟨S2x8192x5632, .f32⟩
  | .hbm, ⟨23, _⟩ => ⟨S2x8192x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S2x8192x5632, .f32⟩
  | .hbm, ⟨28, _⟩ => ⟨S2x8192x5632, .f32⟩
  | .hbm, ⟨29, _⟩ => ⟨S2x8192x5632, .f32⟩
  | .hbm, ⟨30, _⟩ => ⟨S1x5632, .f32⟩
  | .hbm, ⟨31, _⟩ => ⟨S5632, .f32⟩
  | .hbm, ⟨32, _⟩ => ⟨S1x1x5632, .f32⟩
  | .hbm, ⟨33, _⟩ => ⟨S2x8192x5632, .f32⟩
  | .hbm, ⟨34, _⟩ => ⟨S2x8192x5632, .f32⟩
  | .hbm, ⟨35, _⟩ => ⟨S2x8192x5632, .f32⟩
  | .hbm, ⟨36, _⟩ => ⟨S5632, .f32⟩
  | .hbm, ⟨37, _⟩ => ⟨S1x1x5632, .f32⟩
  | .hbm, ⟨38, _⟩ => ⟨S2x8192x5632, .f32⟩
  | .hbm, ⟨39, _⟩ => ⟨S2x8192x5632, .f32⟩
  | .hbm, ⟨40, _⟩ => ⟨S16384x5632, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S_, .f32⟩
  | .hbm, ⟨53, _⟩ => ⟨S16384x2816, .f32⟩
  | .hbm, ⟨54, _⟩ => ⟨S16384x2816, .f32⟩
  | .hbm, ⟨55, _⟩ => ⟨S_, .f32⟩
  | .hbm, ⟨56, _⟩ => ⟨S16384x2816, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S2816x1024, .f32⟩
  | .hbm, ⟨62, _⟩ => ⟨S16384x1024, .f32⟩
  | .hbm, ⟨63, _⟩ => ⟨S16384x1024, .f32⟩
  | .hbm, ⟨64, _⟩ => ⟨S1024x1024, .f32⟩
  | .hbm, ⟨65, _⟩ => ⟨S16384x1024, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S256x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1024, .f32⟩
  | .hbm, ⟨94, _⟩ => ⟨S16384x1024, .f32⟩
  | .hbm, ⟨95, _⟩ => ⟨S1x1024, .f32⟩
  | .hbm, ⟨96, _⟩ => ⟨S16384x1024, .f32⟩
  | .hbm, ⟨97, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_cst_7 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Proof.InT.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Tactic

/-! The weights of the in-projection as the host code lays them out. -/

@[expose] public section

set_option maxRecDepth 65536

noncomputable section

namespace Cert.Kernel2Ideal.In

open Idealize.ShloMosaic Idealize.ShloMosaic.TcCoe Idealize.ShloMosaic.Tactic Idealize.SL.Sem
open Cert.Kernel2Ideal Cert.Kernel2Ideal.Gen

/-- The order of a head's channels: the even ones, then the odd ones. -/
def permT : IVec S64 32 :=
  concatenate S64 0
    [⟨S32, addi (broadcastInDim S32 ![] bcast_S_S32 (constantI S_ 32 0#32)) (muli (broadcastInDim S32 ![] bcast_S_S32 (constantI S_ 32 2#32)) (iotaInDim S32 32 0))⟩,
     ⟨S32, addi (broadcastInDim S32 ![] bcast_S_S32 (constantI S_ 32 1#32)) (muli (broadcastInDim S32 ![] bcast_S_S32 (constantI S_ 32 2#32)) (iotaInDim S32 32 0))⟩]
    concatenates_S32_S32_S64_d0

/-- The order as a column of start indices. -/
def startT : IVec S64x1 32 :=
  broadcastInDim S64x1 ![0] bcast_S64_S64x1_0
    (select (cmpi .slt permT (broadcastInDim S64 ![] bcast_S_S64 (constantI S_ 32 0#32)))
      (addi permT (broadcastInDim S64 ![] bcast_S_S64 (constantI S_ 32 64#32))) permT)

/-- The weights as a matrix. -/
def matT (w : FVec Ideal S1x1024x8768 .f32) : FVec Ideal S1024x8768 .f32 := shapeCast S1024x8768 w shapeCasts_S1x1024x8768_S1024x8768

/-- The queries' weights, each head's channels in the new order. -/
def wqT (w : FVec Ideal S1x1024x8768 .f32) : FVec Ideal S1024x1024 .f32 :=
  shapeCast S1024x1024 (Host.gather gather_S1024x16x64_S64x1_S1024x16x64_01_2_n_n_2_1_1024161
    (shapeCast S1024x16x64 (extractStridedSlice S1024x1024 ![0, 0] (matT w) slices_S1024x8768_S1024x1024_0_0) shapeCasts_S1024x1024_S1024x16x64) startT) shapeCasts_S1024x16x64_S1024x1024

/-- The keys' weights, each head's channels in the new order. -/
def wkT (w : FVec Ideal S1x1024x8768 .f32) : FVec Ideal S1024x256 .f32 :=
  shapeCast S1024x256 (Host.gather gather_S1024x4x64_S64x1_S1024x4x64_01_2_n_n_2_1_102441
    (shapeCast S1024x4x64 (extractStridedSlice S1024x256 ![0, 1024] (matT w) slices_S1024x8768_S1024x256_0_1024) shapeCasts_S1024x256_S1024x4x64) startT) shapeCasts_S1024x4x64_S1024x256

/-- The time steps' weights of one direction. -/
def wdaT (w : FVec Ideal S1x1024x8768 .f32) : FVec Ideal S1024x32 .f32 :=
  extractStridedSlice S1024x32 ![0, 0] (extractStridedSlice S1024x64 ![0, 6656] (matT w) slices_S1024x8768_S1024x64_0_6656) slices_S1024x64_S1024x32_0_0

/-- The time steps' weights of the other direction. -/
def wdbT (w : FVec Ideal S1x1024x8768 .f32) : FVec Ideal S1024x32 .f32 :=
  extractStridedSlice S1024x32 ![0, 32] (extractStridedSlice S1024x64 ![0, 6656] (matT w) slices_S1024x8768_S1024x64_0_6656) slices_S1024x64_S1024x32_0_32

/-- The time steps' weights, each direction's copied to fill its lanes. -/
def wdtT (w : FVec Ideal S1x1024x8768 .f32) : FVec Ideal S1024x256 .f32 :=
  concatenate S1024x256 1 [⟨S1024x32, wdaT w⟩, ⟨S1024x32, wdaT w⟩, ⟨S1024x32, wdaT w⟩, ⟨S1024x32, wdaT w⟩, ⟨S1024x32, wdbT w⟩, ⟨S1024x32, wdbT w⟩, ⟨S1024x32, wdbT w⟩, ⟨S1024x32, wdbT w⟩] concatenates_S1024x32_S1024x32_S1024x32_S1024x32_S1024x32_S1024x32_S1024x32_S1024x32_S1024x256_d1

/-- All the weights as the call gets them. -/
def wallT (w : FVec Ideal S1x1024x8768 .f32) : FVec Ideal S1024x8960 .bf16 :=
  truncf (F := Ideal) .bf16 (concatenate S1024x8960 1 [⟨S1024x1024, wqT w⟩, ⟨S1024x256, wkT w⟩, ⟨S1024x256, extractStridedSlice S1024x256 ![0, 1280] (matT w) slices_S1024x8768_S1024x256_0_1280⟩,
    ⟨S1024x2048, extractStridedSlice S1024x2048 ![0, 1536] (matT w) slices_S1024x8768_S1024x2048_0_1536⟩, ⟨S1024x3072, extractStridedSlice S1024x3072 ![0, 3584] (matT w) slices_S1024x8768_S1024x3072_0_3584⟩,
    ⟨S1024x2048, extractStridedSlice S1024x2048 ![0, 6720] (matT w) slices_S1024x8768_S1024x2048_0_6720⟩, ⟨S1024x256, wdtT w⟩] concatenates_S1024x1024_S1024x256_S1024x256_S1024x2048_S1024x3072_S1024x2048_S1024x256_S1024x8960_d1) bitsLt_bf16_f32

/-- The weights the call gets are those. -/
theorem V_w (m : (ℓ : Loc nD τ sig) → Buf (Elt Ideal) ℓ) (c : Dev nD) :
    (show FVec Ideal S1024x8960 .bf16 from V m c main_v41) = wallT (m ((c : Thread nD τ).loc main_arg2)) := by
  sl_kernel_rfl

/-- The channel order at a place. -/
theorem perm_at (e : Fin 64) : permT (ix1 e) = BitVec.ofNat 32 (if e.val < 32 then 2 * e.val else 1 + 2 * (e.val - 32)) := by
  pointwise [permT]
  revert e
  decide +kernel

/-- The start index at a place. -/
theorem start_at (e : Fin 64) : startT (ix2 e 0) = BitVec.ofNat 32 (if e.val < 32 then 2 * e.val else 1 + 2 * (e.val - 32)) := by
  pointwise [startT]
  rw [perm_at]
  revert e
  decide +kernel

/-- The start index, read signed and clamped, is the channel itself. -/
theorem start_clamp (e : Fin 64) : min (startT (ix2 e 0)).toInt.toNat (64 - 1) = if e.val < 32 then 2 * e.val else 1 + 2 * (e.val - 32) := by
  rw [start_at]
  revert e
  decide +kernel

/-- A gather of whole columns along the last of three axes. -/
abbrev colDims (A B : ℕ) (wf : GatherDims.WF ⟨3, ![A, B, 64]⟩ ⟨2, ![64, 1]⟩ ⟨3, ![A, B, 64]⟩ [0, 1] [2] [] [2] [] 1 ![A, B, 1]) :
    GatherDims ⟨3, ![A, B, 64]⟩ ⟨2, ![64, 1]⟩ ⟨3, ![A, B, 64]⟩ where
  offsetDims := [0, 1]
  collapsedSliceDims := [2]
  operandBatchingDims := []
  startIndicesBatchingDims := []
  startIndexMap := [2]
  indexVectorDim := 1
  sliceSizes := ![A, B, 1]
  wf := wf

/-- It takes, at a place of the last axis, the column its start index names. -/
theorem gather_col {α : Type} {A B : ℕ} (wf : GatherDims.WF ⟨3, ![A, B, 64]⟩ ⟨2, ![64, 1]⟩ ⟨3, ![A, B, 64]⟩ [0, 1] [2] [] [2] [] 1 ![A, B, 1])
    (x : (⟨3, ![A, B, 64]⟩ : Shape).Idx → α) (idx : IVec ⟨2, ![64, 1]⟩ 32) (a : Fin A) (b : Fin B) (e : Fin 64) :
    Host.gather (colDims A B wf) x idx (ix3 a b e) = x (ix3 a b ⟨min (idx (ix2 e 0)).toInt.toNat (64 - 1), by omega⟩) := by
  unfold Host.gather
  congr 1
  funext q
  refine Fin.ext ?_
  show (colDims A B wf).start (ix3 a b e) idx q + (colDims A B wf).batchCoord (ix3 a b e) q + (colDims A B wf).offCoord (ix3 a b e) q = _
  rw [GatherDims.batchCoord_eq_zero _ _ _ List.not_mem_nil]
  have h : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases h with rfl | rfl | rfl
  · unfold GatherDims.start
    rw [dif_neg (show (0 : Fin 3) ∉ (colDims A B wf).startIndexMap from (by decide : (0 : Fin 3) ∉ [(2 : Fin 3)]))]
    simp only [Nat.zero_add]
    unfold GatherDims.offCoord
    rw [dif_pos (show (0 : Fin 3) ∈ (colDims A B wf).sKept from (by decide : (0 : Fin 3) ∈ [(0 : Fin 3), 1]))]
    rfl
  · unfold GatherDims.start
    rw [dif_neg (show (1 : Fin 3) ∉ (colDims A B wf).startIndexMap from (by decide : (1 : Fin 3) ∉ [(2 : Fin 3)]))]
    simp only [Nat.zero_add]
    unfold GatherDims.offCoord
    rw [dif_pos (show (1 : Fin 3) ∈ (colDims A B wf).sKept from (by decide : (1 : Fin 3) ∈ [(0 : Fin 3), 1]))]
    rfl
  · rw [GatherDims.offCoord_eq_zero _ _ _ (fun h => ((GatherDims.mem_sKept _ _).mp h).1 (List.mem_singleton.mpr rfl))]
    simp only [Nat.add_zero]
    unfold GatherDims.start
    rw [dif_pos (show (2 : Fin 3) ∈ (colDims A B wf).startIndexMap from List.mem_singleton.mpr rfl)]
    have hsi : (colDims A B wf).siIdx (ix3 a b e) ⟨List.idxOf (2 : Fin 3) (colDims A B wf).startIndexMap,
        List.idxOf_lt_length_iff.2 (List.mem_singleton.mpr rfl)⟩ = ix2 e 0 := by
      funext q; refine Fin.ext ?_
      match q with
      | ⟨0, _⟩ => rfl
      | ⟨1, _⟩ => rfl
    rw [hsi]
    rfl

/-- The channel a column of the reordered weights comes from. -/
def chan (j : ℕ) : ℕ := j / 64 * 64 + if j % 64 < 32 then 2 * (j % 64) else 1 + 2 * (j % 64 - 32)

/-- It lies in the same head. -/
theorem chan_lt (j n : ℕ) (h : j < 64 * n) : chan j < 64 * n := by
  unfold chan
  split <;> omega

/-- The queries' weights at a column. -/
theorem wq_at (w : FVec Ideal S1x1024x8768 .f32) (k : Fin 1024) (j : Fin 1024) :
    (wqT w (ix2 k j) : EReal) = w (ix3 0 k ⟨chan j.val, by have := chan_lt j.val 16 (by omega); omega⟩) := by
  pointwise [wqT]
  refine (gather_col _ _ _ _ _ _).trans ?_
  pointwise [matT]
  exact congrArg (fun x => w (ix3 0 k x)) (Fin.ext (congrArg (fun n => j.val / 64 * 64 + n) (start_clamp ⟨j.val % 64, by omega⟩)))

/-- The keys' weights at a column. -/
theorem wk_at (w : FVec Ideal S1x1024x8768 .f32) (k : Fin 1024) (j : Fin 256) :
    (wkT w (ix2 k j) : EReal) = w (ix3 0 k ⟨1024 + chan j.val, by have := chan_lt j.val 4 (by omega); omega⟩) := by
  pointwise [wkT]
  refine (gather_col _ _ _ _ _ _).trans ?_
  pointwise [matT]
  exact congrArg (fun x => w (ix3 0 k x)) (Fin.ext (congrArg (fun n => 1024 + (j.val / 64 * 64 + n)) (start_clamp ⟨j.val % 64, by omega⟩)))

/-- The time steps' weights at a column. -/
theorem wdt_at (w : FVec Ideal S1x1024x8768 .f32) (k : Fin 1024) (j : Fin 256) :
    (wdtT w (ix2 k j) : EReal) = w (ix3 0 k ⟨6656 + (j.val / 128 * 32 + j.val % 32), by omega⟩) := by
  pointwise [wdtT, wdaT, wdbT, matT]
  split_ifs <;> exact congrArg (fun x => w (ix3 0 k x)) (Fin.ext (by dsimp only; omega))

/-- All the weights at the queries' columns. -/
theorem wall_q (w : FVec Ideal S1x1024x8768 .f32) (k : Fin 1024) (j : Fin 1024) :
    (wallT w (ix2 k ⟨0 + j.val, by omega⟩) : EReal) = w (ix3 0 k ⟨chan j.val, by have := chan_lt j.val 16 (by omega); omega⟩) := by
  pointwise [wallT]
  exact wq_at w k j

/-- All the weights at the keys' columns. -/
theorem wall_k (w : FVec Ideal S1x1024x8768 .f32) (k : Fin 1024) (j : Fin 256) :
    (wallT w (ix2 k ⟨1024 + j.val, by omega⟩) : EReal) = w (ix3 0 k ⟨1024 + chan j.val, by have := chan_lt j.val 4 (by omega); omega⟩) := by
  pointwise [wallT]
  exact wk_at w k j

/-- All the weights at the values' columns. -/
theorem wall_v (w : FVec Ideal S1x1024x8768 .f32) (k : Fin 1024) (j : Fin 256) :
    (wallT w (ix2 k ⟨1280 + j.val, by omega⟩) : EReal) = w (ix3 0 k ⟨1280 + j.val, by omega⟩) := by
  pointwise [wallT, matT]
  rw [dif_neg (by omega), dif_neg (by omega), dif_pos (by omega)]
  exact congrArg (fun x => w (ix3 0 k x)) (Fin.ext (by dsimp only; omega))

/-- All the weights at the gate branch's columns. -/
theorem wall_z (w : FVec Ideal S1x1024x8768 .f32) (k : Fin 1024) (j : Fin 2048) :
    (wallT w (ix2 k ⟨1536 + j.val, by omega⟩) : EReal) = w (ix3 0 k ⟨1536 + j.val, by omega⟩) := by
  pointwise [wallT, matT]
  rw [dif_neg (by omega), dif_neg (by omega), dif_neg (by omega), dif_pos (by omega)]
  exact congrArg (fun x => w (ix3 0 k x)) (Fin.ext (by dsimp only; omega))

/-- All the weights at the state-space branch's columns. -/
theorem wall_x (w : FVec Ideal S1x1024x8768 .f32) (k : Fin 1024) (j : Fin 3072) :
    (wallT w (ix2 k ⟨3584 + j.val, by omega⟩) : EReal) = w (ix3 0 k ⟨3584 + j.val, by omega⟩) := by
  pointwise [wallT, matT]
  rw [dif_neg (by omega), dif_neg (by omega), dif_neg (by omega), dif_neg (by omega), dif_pos (by omega)]
  exact congrArg (fun x => w (ix3 0 k x)) (Fin.ext (by dsimp only; omega))

/-- All the weights at the merge gates' columns. -/
theorem wall_g (w : FVec Ideal S1x1024x8768 .f32) (k : Fin 1024) (j : Fin 2048) :
    (wallT w (ix2 k ⟨6656 + j.val, by omega⟩) : EReal) = w (ix3 0 k ⟨6720 + j.val, by omega⟩) := by
  pointwise [wallT, matT]
  rw [dif_neg (by omega), dif_neg (by omega), dif_neg (by omega), dif_neg (by omega), dif_neg (by omega), dif_pos (by omega)]
  exact congrArg (fun x => w (ix3 0 k x)) (Fin.ext (by dsimp only; omega))

/-- All the weights at the time steps' columns. -/
theorem wall_t (w : FVec Ideal S1x1024x8768 .f32) (k : Fin 1024) (j : Fin 256) :
    (wallT w (ix2 k ⟨8704 + j.val, by omega⟩) : EReal) = w (ix3 0 k ⟨6656 + (j.val / 128 * 32 + j.val % 32), by omega⟩) := by
  pointwise [wallT]
  rw [dif_neg (by omega), dif_neg (by omega), dif_neg (by omega), dif_neg (by omega), dif_neg (by omega), dif_neg (by omega)]
  exact (congrArg (fun x => wdtT w (ix2 k x)) (Fin.ext (by dsimp only; omega))).trans (wdt_at w k j)

end Cert.Kernel2Ideal.In
end
-- ==== Proof.InRef.lean ====
module

public import proofs.«01_k».proof.Proof.InT

/-! The in-projection: what the reference gives, element by element. -/

@[expose] public section

set_option maxRecDepth 65536

noncomputable section

namespace Cert.Reference2Ideal.In

open Idealize.ShloMosaic Idealize.ShloMosaic.TcCoe Idealize.ShloMosaic.Tactic Idealize.SL.Sem
open Cert.Reference2Ideal Cert.Reference2Ideal.Gen
open Cert.Kernel2Ideal.In (chan chan_lt)

/-- A row's element over the row's root mean square, times a weight. -/
def rmsf (x : Fin 1024 → EReal) (w : EReal) (j : Fin 1024) : EReal :=
  x j * Ideal.rsqrt (Ideal.div (∑ z, x z * x z) (Ideal.ofBits FTy.f32 1149239296#32) + Ideal.ofBits FTy.f32 897988541#32) * w

/-- The projection of the normed rows. -/
def prj (x0 : FVec Ideal S32768x1024 .f32) (x1 : FVec Ideal S1x1024 .f32) (x2 : FVec Ideal S1x1024x8768 .f32) : FVec Ideal S32768x8768 .f32 :=
  (Host.dotGeneral (F := Ideal) (φ₁ := .f32) (φ₂ := .f32) dot_S32768x1024_S1024x8768_S32768x8768_1_0_0_1_n_n none (mulf (mulf x0 (broadcastInDim S32768x1024 ![0, 1] bcast_S32768x1_S32768x1024_0_1 (Host.rsqrt (addf (Host.divf (broadcastInDim S32768x1 ![0] bcast_S32768_S32768x1_0 (Host.reduceAdd (mulf x0 x0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast S1024 x1 shapeCasts_S1x1024_S1024)))) (shapeCast S1024x8768 x2 shapeCasts_S1x1024x8768_S1024x8768))

/-- An element of the projection. -/
theorem prj_at (x0 : FVec Ideal S32768x1024 .f32) (x1 : FVec Ideal S1x1024 .f32) (x2 : FVec Ideal S1x1024x8768 .f32) (r : Fin 32768) (j : Fin 8768) :
    (prj x0 x1 x2 (ix2 r j) : EReal) = ∑ k, rmsf (fun z => x0 (ix2 r z)) (x1 (ix2 0 k)) k * x2 (ix3 0 k j) := by
  pointwise [prj, rmsf]

/-- The queries. -/
def res_q (p : FVec Ideal S32768x8768 .f32) : FVec Ideal S32768x1024 .bf16 :=
  truncf (F := Ideal) .bf16 (shapeCast S32768x1024 (concatenate S32768x16x64 2 [⟨S32768x16x32, (Host.slice S32768x16x32 ![0, 0, 0] ![1, 1, 2] (shapeCast S32768x16x64 (extractStridedSlice S32768x1024 ![0, 0] p slices_S32768x8768_S32768x1024_0_0) shapeCasts_S32768x1024_S32768x16x64) slicesBy_S32768x16x64_S32768x16x32_0s1_0s1_0s2)⟩, ⟨S32768x16x32, (Host.slice S32768x16x32 ![0, 0, 1] ![1, 1, 2] (shapeCast S32768x16x64 (extractStridedSlice S32768x1024 ![0, 0] p slices_S32768x8768_S32768x1024_0_0) shapeCasts_S32768x1024_S32768x16x64) slicesBy_S32768x16x64_S32768x16x32_0s1_0s1_1s2)⟩] concatenates_S32768x16x32_S32768x16x32_S32768x16x64_d2) shapeCasts_S32768x16x64_S32768x1024) bitsLt_bf16_f32

/-- Each is a column of the projection. -/
theorem res_q_at (p : FVec Ideal S32768x8768 .f32) (r : Fin 32768) (j : Fin 1024) : (res_q p (ix2 r j) : EReal) = p (ix2 r ⟨chan j.val, by have := chan_lt j.val 16 (by omega); omega⟩) := by
  pointwise [res_q]
  split_ifs with h <;> exact congrArg (fun x => p (ix2 r x)) (Fin.ext (by simp only [chan, h, if_true, if_false]))

/-- The keys. -/
def res_k (p : FVec Ideal S32768x8768 .f32) : FVec Ideal S32768x256 .bf16 :=
  truncf (F := Ideal) .bf16 (shapeCast S32768x256 (concatenate S32768x4x64 2 [⟨S32768x4x32, (Host.slice S32768x4x32 ![0, 0, 0] ![1, 1, 2] (shapeCast S32768x4x64 (extractStridedSlice S32768x256 ![0, 1024] p slices_S32768x8768_S32768x256_0_1024) shapeCasts_S32768x256_S32768x4x64) slicesBy_S32768x4x64_S32768x4x32_0s1_0s1_0s2)⟩, ⟨S32768x4x32, (Host.slice S32768x4x32 ![0, 0, 1] ![1, 1, 2] (shapeCast S32768x4x64 (extractStridedSlice S32768x256 ![0, 1024] p slices_S32768x8768_S32768x256_0_1024) shapeCasts_S32768x256_S32768x4x64) slicesBy_S32768x4x64_S32768x4x32_0s1_0s1_1s2)⟩] concatenates_S32768x4x32_S32768x4x32_S32768x4x64_d2) shapeCasts_S32768x4x64_S32768x256) bitsLt_bf16_f32

/-- Each is a column of the projection. -/
theorem res_k_at (p : FVec Ideal S32768x8768 .f32) (r : Fin 32768) (j : Fin 256) : (res_k p (ix2 r j) : EReal) = p (ix2 r ⟨1024 + chan j.val, by have := chan_lt j.val 4 (by omega); omega⟩) := by
  pointwise [res_k]
  split_ifs with h <;> exact congrArg (fun x => p (ix2 r x)) (Fin.ext (by simp only [chan, h, if_true, if_false]))

/-- The values. -/
def res_v (p : FVec Ideal S32768x8768 .f32) : FVec Ideal S32768x256 .bf16 :=
  truncf (F := Ideal) .bf16 (extractStridedSlice S32768x256 ![0, 1280] p slices_S32768x8768_S32768x256_0_1280) bitsLt_bf16_f32

/-- Each is a column of the projection. -/
theorem res_v_at (p : FVec Ideal S32768x8768 .f32) (r : Fin 32768) (j : Fin 256) : (res_v p (ix2 r j) : EReal) = p (ix2 r ⟨1280 + j.val, by omega⟩) := by
  pointwise [res_v]

/-- The gate branch. -/
def res_z (p : FVec Ideal S32768x8768 .f32) : FVec Ideal S32768x2048 .bf16 :=
  truncf (F := Ideal) .bf16 (extractStridedSlice S32768x2048 ![0, 1536] p slices_S32768x8768_S32768x2048_0_1536) bitsLt_bf16_f32

/-- Each is a column of the projection. -/
theorem res_z_at (p : FVec Ideal S32768x8768 .f32) (r : Fin 32768) (j : Fin 2048) : (res_z p (ix2 r j) : EReal) = p (ix2 r ⟨1536 + j.val, by omega⟩) := by
  pointwise [res_z]

/-- The state-space branch. -/
def res_x (p : FVec Ideal S32768x8768 .f32) : FVec Ideal S32768x3072 .bf16 :=
  truncf (F := Ideal) .bf16 (extractStridedSlice S32768x3072 ![0, 3584] p slices_S32768x8768_S32768x3072_0_3584) bitsLt_bf16_f32

/-- Each is a column of the projection. -/
theorem res_x_at (p : FVec Ideal S32768x8768 .f32) (r : Fin 32768) (j : Fin 3072) : (res_x p (ix2 r j) : EReal) = p (ix2 r ⟨3584 + j.val, by omega⟩) := by
  pointwise [res_x]

/-- The merge gates. -/
def res_g (p : FVec Ideal S32768x8768 .f32) : FVec Ideal S32768x2048 .bf16 :=
  truncf (F := Ideal) .bf16 (extractStridedSlice S32768x2048 ![0, 6720] p slices_S32768x8768_S32768x2048_0_6720) bitsLt_bf16_f32

/-- Each is a column of the projection. -/
theorem res_g_at (p : FVec Ideal S32768x8768 .f32) (r : Fin 32768) (j : Fin 2048) : (res_g p (ix2 r j) : EReal) = p (ix2 r ⟨6720 + j.val, by omega⟩) := by
  pointwise [res_g]

/-- The time steps. -/
def res_t (p : FVec Ideal S32768x8768 .f32) : FVec Ideal S32768x256 .f32 :=
  shapeCast S32768x256 (shapeCast S32768x2x4x32 (broadcastInDim S1x32768x1x2x4x1x1x32 ![0, 1, 2, 3, 4, 5, 6, 7] bcast_S1x32768x1x2x1x1x1x32_S1x32768x1x2x4x1x1x32_0_1_2_3_4_5_6_7 (shapeCast S1x32768x1x2x1x1x1x32 (shapeCast S32768x2x1x32 (extractStridedSlice S32768x64 ![0, 6656] p slices_S32768x8768_S32768x64_0_6656) shapeCasts_S32768x64_S32768x2x1x32) shapeCasts_S32768x2x1x32_S1x32768x1x2x1x1x1x32)) shapeCasts_S1x32768x1x2x4x1x1x32_S32768x2x4x32) shapeCasts_S32768x2x4x32_S32768x256

/-- Each is a column of the projection. -/
theorem res_t_at (p : FVec Ideal S32768x8768 .f32) (r : Fin 32768) (j : Fin 256) : (res_t p (ix2 r j) : EReal) = p (ix2 r ⟨6656 + (j.val / 128 * 32 + j.val % 32), by omega⟩) := by
  pointwise [res_t]

end Cert.Reference2Ideal.In
end
-- ==== Proof.In.lean ====
module

public import proofs.«01_k».proof.Proof.InRef

/-! The in-projection: what the call leaves, element by element. -/

@[expose] public section

set_option maxRecDepth 65536

noncomputable section

namespace Cert.Kernel2Ideal.In

open Idealize.ShloMosaic Idealize.ShloMosaic.TcCoe Idealize.ShloMosaic.Tactic Idealize.SL.Sem
open Cert.Kernel2Ideal Cert.Kernel2Ideal.Gen
open Idealize.ShloMosaic.Pipeline (Dat)
open Cert.Reference2Ideal.In (rmsf prj prj_at)

/-- The body's normed rows, at an element. -/
theorem h_at (x : FVec Ideal S512x1024 .f32) (w : FVec Ideal S1x1024 .f32) (i : Fin 512) (j : Fin 1024) :
    ((show FVec Ideal S512x1024 .bf16 from k0_pay6 (F := Ideal) x w) (ix2 i j) : EReal) = rmsf (fun z => x (ix2 i z)) (w (ix2 0 j)) j := by
  pointwise [k0_pay6, rmsf]

/-- A chunk of 512 columns' product, at an element. -/
theorem wide_at (h : FVec Ideal S512x1024 .bf16) (w : FVec Ideal S1024x512 .bf16) (i j : Fin 512) :
    ((show FVec Ideal S512x512 .bf16 from k0_pay1 (F := Ideal) h w) (ix2 i j) : EReal) = ∑ x, h (ix2 i x) * w (ix2 x j) := by
  pointwise [k0_pay1]

/-- A chunk of 256 columns' product, at an element. -/
theorem narrow_at (h : FVec Ideal S512x1024 .bf16) (w : FVec Ideal S1024x256 .bf16) (i : Fin 512) (j : Fin 256) :
    ((show FVec Ideal S512x256 .bf16 from k0_pay10 (F := Ideal) h w) (ix2 i j) : EReal) = ∑ x, h (ix2 i x) * w (ix2 x j) := by
  pointwise [k0_pay10]

/-- The time steps' product, at an element. -/
theorem steps_at (h : FVec Ideal S512x1024 .bf16) (w : FVec Ideal S1024x256 .bf16) (i : Fin 512) (j : Fin 256) :
    ((show FVec Ideal S512x256 .f32 from k0_pay5 (F := Ideal) h w) (ix2 i j) : EReal) = ∑ x, h (ix2 i x) * w (ix2 x j) := by
  pointwise [k0_pay5]

/-- A run of columns' product: each row times each column of the weights from `off` on. -/
def part (n off : ℕ) (hn : off + n ≤ 8960) (h : FVec Ideal S512x1024 .bf16) (w : FVec Ideal S1024x8960 .bf16) : (⟨2, ![512, n]⟩ : Shape).Idx → EReal :=
  fun y => ∑ k : Fin 1024, (h (ix2 (y 0) k) : EReal) * w (ix2 k ⟨off + (y 1).val, by have : (y 1).val < n := (y 1).isLt; omega⟩)

/-- The chunk of 512 columns at `o` is that stretch of the run. -/
theorem wide_eq (n off lo o : ℕ) (hn : off + n ≤ 8960) (e : o = off + lo) (h : FVec Ideal S512x1024 .bf16) (w : FVec Ideal S1024x8960 .bf16)
    (hw : ∀ a, (![0, o] : Fin 2 → ℕ) a + S1024x512.size a ≤ S1024x8960.size a)
    (ho : ∀ a, (![0, lo] : Fin 2 → ℕ) a + S512x512.size a ≤ (⟨2, ![512, n]⟩ : Shape).size a) (y : S512x512.Idx) :
    (k0_pay1 (F := Ideal) h (View.ld (Val := Elt Ideal) (e' := .bf16) w (Rect.unit (s := S1024x8960) ![0, o] S1024x512.size hw)) y : EReal)
      = part n off hn h w ((Rect.unit (s := ⟨2, ![512, n]⟩) ![0, lo] S512x512.size ho).emb y) := by
  obtain ⟨i, j, rfl⟩ : ∃ (i j : Fin 512), y = ix2 i j := ⟨y 0, y 1, eq_ix2 (n0 := 512) (n1 := 512) y⟩
  refine (wide_at _ _ i j).trans (Finset.sum_congr rfl fun x _ => ?_)
  refine congrArg₂ (fun a b : EReal => a * b) (congrArg h ?_) (congrArg w ?_)
  · refine congrArg (fun a => ix2 a x) (Fin.ext ?_)
    exact (show i.val = 0 + 1 * i.val by omega)
  · refine funext fun a => Fin.ext ?_
    match a with
    | 0 => exact (show 0 + 1 * x.val = x.val by omega)
    | 1 => exact (show o + 1 * j.val = off + (lo + 1 * j.val) by omega)

/-- The chunk of 256 columns at `o` is that run. -/
theorem narrow_eq (o : ℕ) (hn : o + 256 ≤ 8960) (h : FVec Ideal S512x1024 .bf16) (w : FVec Ideal S1024x8960 .bf16)
    (hw : ∀ a, (![0, o] : Fin 2 → ℕ) a + S1024x256.size a ≤ S1024x8960.size a) :
    (k0_pay10 (F := Ideal) h (View.ld (Val := Elt Ideal) (e' := .bf16) w (Rect.unit (s := S1024x8960) ![0, o] S1024x256.size hw)) : S512x256.Idx → EReal)
      = part 256 o hn h w := by
  funext y
  obtain ⟨i, j, rfl⟩ : ∃ (i : Fin 512) (j : Fin 256), y = ix2 i j := ⟨y 0, y 1, eq_ix2 (n0 := 512) (n1 := 256) y⟩
  refine (narrow_at _ _ i j).trans (Finset.sum_congr rfl fun x _ => ?_)
  refine congrArg₂ (fun a b : EReal => a * b) rfl (congrArg w ?_)
  refine funext fun a => Fin.ext ?_
  match a with
  | 0 => exact (show 0 + 1 * x.val = x.val by omega)
  | 1 => exact (show o + 1 * j.val = o + j.val by omega)

/-- What the body leaves of the queries. -/
theorem out3 (x : Vec Ideal S512x1024 .f32) (nw : Vec Ideal S1x1024 .f32) (w : Vec Ideal S1024x8960 .bf16) : (out0_3 (F := Ideal) x nw w : S512x1024.Idx → EReal) = part 1024 0 (by omega) (k0_pay6 (F := Ideal) x nw) w := by
  funext y
  unfold out0_3
  refine View.canon_apply_of_pieces (Val := Elt Ideal) (part 1024 0 (by omega) (k0_pay6 (F := Ideal) x nw) w) _ (fun p hp q => ?_) y (cover0_3 _ _ y)
  skip
  rw [View.ld_unit_zero (by decide), View.ld_unit_zero (by decide)] at hp
  simp only [List.mem_cons, List.not_mem_nil, or_false] at hp
  rcases hp with rfl | rfl
  · exact wide_eq 1024 0 512 512 (by omega) (by omega) (k0_pay6 (F := Ideal) x nw) w inb_S1024x8960_S1024x512_0_512 inb_S512x1024_S512x512_0_512 q
  · exact wide_eq 1024 0 0 0 (by omega) (by omega) (k0_pay6 (F := Ideal) x nw) w inb_S1024x8960_S1024x512_0_0 inb_S512x1024_S512x512_0_0 q

/-- What the body leaves of the gate branch. -/
theorem out6 (x : Vec Ideal S512x1024 .f32) (nw : Vec Ideal S1x1024 .f32) (w : Vec Ideal S1024x8960 .bf16) : (out0_6 (F := Ideal) x nw w : S512x2048.Idx → EReal) = part 2048 1536 (by omega) (k0_pay6 (F := Ideal) x nw) w := by
  funext y
  unfold out0_6
  refine View.canon_apply_of_pieces (Val := Elt Ideal) (part 2048 1536 (by omega) (k0_pay6 (F := Ideal) x nw) w) _ (fun p hp q => ?_) y (cover0_6 _ _ _ _ y)
  unfold k0_pay21 at hp
  rw [View.ld_unit_zero (by decide), View.ld_unit_zero (by decide)] at hp
  simp only [List.mem_cons, List.not_mem_nil, or_false] at hp
  rcases hp with rfl | rfl | rfl | rfl
  · exact wide_eq 2048 1536 1536 3072 (by omega) (by omega) (k0_pay6 (F := Ideal) x nw) w inb_S1024x8960_S1024x512_0_3072 inb_S512x2048_S512x512_0_1536 q
  · exact wide_eq 2048 1536 1024 2560 (by omega) (by omega) (k0_pay6 (F := Ideal) x nw) w inb_S1024x8960_S1024x512_0_2560 inb_S512x2048_S512x512_0_1024 q
  · exact wide_eq 2048 1536 512 2048 (by omega) (by omega) (k0_pay6 (F := Ideal) x nw) w inb_S1024x8960_S1024x512_0_2048 inb_S512x2048_S512x512_0_512 q
  · exact wide_eq 2048 1536 0 1536 (by omega) (by omega) (k0_pay6 (F := Ideal) x nw) w inb_S1024x8960_S1024x512_0_1536 inb_S512x2048_S512x512_0_0 q

/-- What the body leaves of the state-space branch. -/
theorem out7 (x : Vec Ideal S512x1024 .f32) (nw : Vec Ideal S1x1024 .f32) (w : Vec Ideal S1024x8960 .bf16) : (out0_7 (F := Ideal) x nw w : S512x3072.Idx → EReal) = part 3072 3584 (by omega) (k0_pay6 (F := Ideal) x nw) w := by
  funext y
  unfold out0_7
  refine View.canon_apply_of_pieces (Val := Elt Ideal) (part 3072 3584 (by omega) (k0_pay6 (F := Ideal) x nw) w) _ (fun p hp q => ?_) y (cover0_7 _ _ _ _ _ _ y)
  unfold k0_pay21 at hp
  rw [View.ld_unit_zero (by decide), View.ld_unit_zero (by decide)] at hp
  simp only [List.mem_cons, List.not_mem_nil, or_false] at hp
  rcases hp with rfl | rfl | rfl | rfl | rfl | rfl
  · exact wide_eq 3072 3584 2560 6144 (by omega) (by omega) (k0_pay6 (F := Ideal) x nw) w inb_S1024x8960_S1024x512_0_6144 inb_S512x3072_S512x512_0_2560 q
  · exact wide_eq 3072 3584 2048 5632 (by omega) (by omega) (k0_pay6 (F := Ideal) x nw) w inb_S1024x8960_S1024x512_0_5632 inb_S512x3072_S512x512_0_2048 q
  · exact wide_eq 3072 3584 1536 5120 (by omega) (by omega) (k0_pay6 (F := Ideal) x nw) w inb_S1024x8960_S1024x512_0_5120 inb_S512x3072_S512x512_0_1536 q
  · exact wide_eq 3072 3584 1024 4608 (by omega) (by omega) (k0_pay6 (F := Ideal) x nw) w inb_S1024x8960_S1024x512_0_4608 inb_S512x3072_S512x512_0_1024 q
  · exact wide_eq 3072 3584 512 4096 (by omega) (by omega) (k0_pay6 (F := Ideal) x nw) w inb_S1024x8960_S1024x512_0_4096 inb_S512x3072_S512x512_0_512 q
  · exact wide_eq 3072 3584 0 3584 (by omega) (by omega) (k0_pay6 (F := Ideal) x nw) w inb_S1024x8960_S1024x512_0_3584 inb_S512x3072_S512x512_0_0 q

/-- What the body leaves of the merge gates. -/
theorem out8 (x : Vec Ideal S512x1024 .f32) (nw : Vec Ideal S1x1024 .f32) (w : Vec Ideal S1024x8960 .bf16) : (out0_8 (F := Ideal) x nw w : S512x2048.Idx → EReal) = part 2048 6656 (by omega) (k0_pay6 (F := Ideal) x nw) w := by
  funext y
  unfold out0_8
  refine View.canon_apply_of_pieces (Val := Elt Ideal) (part 2048 6656 (by omega) (k0_pay6 (F := Ideal) x nw) w) _ (fun p hp q => ?_) y (cover0_8 _ _ _ _ y)
  unfold k0_pay21 at hp
  rw [View.ld_unit_zero (by decide), View.ld_unit_zero (by decide)] at hp
  simp only [List.mem_cons, List.not_mem_nil, or_false] at hp
  rcases hp with rfl | rfl | rfl | rfl
  · exact wide_eq 2048 6656 1536 8192 (by omega) (by omega) (k0_pay6 (F := Ideal) x nw) w inb_S1024x8960_S1024x512_0_8192 inb_S512x2048_S512x512_0_1536 q
  · exact wide_eq 2048 6656 1024 7680 (by omega) (by omega) (k0_pay6 (F := Ideal) x nw) w inb_S1024x8960_S1024x512_0_7680 inb_S512x2048_S512x512_0_1024 q
  · exact wide_eq 2048 6656 512 7168 (by omega) (by omega) (k0_pay6 (F := Ideal) x nw) w inb_S1024x8960_S1024x512_0_7168 inb_S512x2048_S512x512_0_512 q
  · exact wide_eq 2048 6656 0 6656 (by omega) (by omega) (k0_pay6 (F := Ideal) x nw) w inb_S1024x8960_S1024x512_0_6656 inb_S512x2048_S512x512_0_0 q

/-- What the body leaves of the keys. -/
theorem out4 (x : Vec Ideal S512x1024 .f32) (nw : Vec Ideal S1x1024 .f32) (w : Vec Ideal S1024x8960 .bf16) : (out0_4 (F := Ideal) x nw w : S512x256.Idx → EReal) = part 256 1024 (by omega) (k0_pay6 (F := Ideal) x nw) w := by
  unfold out0_4
  rw [View.canon_unit_zero (by decide), View.ld_unit_zero (X := x) (by decide), View.ld_unit_zero (X := nw) (by decide)]
  exact narrow_eq 1024 (by omega) (k0_pay6 (F := Ideal) x nw) w inb_S1024x8960_S1024x256_0_1024

/-- What the body leaves of the values. -/
theorem out5 (x : Vec Ideal S512x1024 .f32) (nw : Vec Ideal S1x1024 .f32) (w : Vec Ideal S1024x8960 .bf16) : (out0_5 (F := Ideal) x nw w : S512x256.Idx → EReal) = part 256 1280 (by omega) (k0_pay6 (F := Ideal) x nw) w := by
  unfold out0_5 k0_pay21
  rw [View.canon_unit_zero (by decide), View.ld_unit_zero (X := x) (by decide), View.ld_unit_zero (X := nw) (by decide)]
  exact narrow_eq 1280 (by omega) (k0_pay6 (F := Ideal) x nw) w inb_S1024x8960_S1024x256_0_1280

/-- What the body leaves of the time steps. -/
theorem out9 (x : Vec Ideal S512x1024 .f32) (nw : Vec Ideal S1x1024 .f32) (w : Vec Ideal S1024x8960 .bf16) : (out0_9 (F := Ideal) x nw w : S512x256.Idx → EReal) = part 256 8704 (by omega) (k0_pay6 (F := Ideal) x nw) w := by
  unfold out0_9 k0_pay21
  rw [View.canon_unit_zero (by decide), View.ld_unit_zero (X := x) (by decide), View.ld_unit_zero (X := nw) (by decide)]
  exact narrow_eq 8704 (by omega) (k0_pay6 (F := Ideal) x nw) w inb_S1024x8960_S1024x256_0_8704

/-- Where each window's block lies at each point of the grid. -/
theorem idx : ∀ t : Fin cfg0.N, (win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0]) ∧ t.val < 64 :=
  (by decide +kernel : ∀ t : Fin grid0.N, _)

/-- The norm's weights as the call gets them. -/
theorem V_nw (m : (ℓ : Loc nD τ sig) → Buf (Elt Ideal) ℓ) (c : Dev nD) :
    (show FVec Ideal S1x1024 .f32 from V m c main_v43) = broadcastInDim S1x1024 ![1] bcast_S1024_S1x1024_1 (shapeCast S1024 (show FVec Ideal S1x1024 .f32 from m ((c : Thread nD τ).loc main_arg1)) shapeCasts_S1x1024_S1024) := by
  sl_kernel_rfl

/-- Their elements. -/
theorem nw_at (w : FVec Ideal S1x1024 .f32) (x : Fin 1024) :
    (broadcastInDim S1x1024 ![1] bcast_S1024_S1x1024_1 (shapeCast S1024 w shapeCasts_S1x1024_S1024) (ix2 0 x) : EReal) = w (ix2 0 x) := by
  pointwise

section
variable (m : (ℓ : Loc nD τ sig) → Buf (Elt Ideal) ℓ) (c : Dev nD) (t : Fin cfg0.N)

/-- The rows' block. -/
theorem blk0 (i : Fin 512) (x : Fin 1024) : ((show FVec Ideal S512x1024 .f32 from iblk m c 0 t) (ix2 i x) : EReal)
    = (show FVec Ideal S32768x1024 .f32 from m ((c : Thread nD τ).loc main_arg0)) (ix2 ⟨512 * t.val + i.val, by have := (idx t).2; omega⟩ x) := by
  blk_ext [iblk, V_main_arg0, idx t]

/-- The norm's weights' block. -/
theorem blk1 (x : Fin 1024) : ((show FVec Ideal S1x1024 .f32 from iblk m c 1 t) (ix2 0 x) : EReal)
    = (show FVec Ideal S1x1024 .f32 from m ((c : Thread nD τ).loc main_arg1)) (ix2 0 x) := by
  refine Eq.trans ?_ (nw_at _ x)
  rw [← V_nw m c]
  blk_ext [iblk, idx t]

/-- The weights' block. -/
theorem blk2 (x : Fin 1024) (j : Fin 8960) : ((show FVec Ideal S1024x8960 .bf16 from iblk m c 2 t) (ix2 x j) : EReal)
    = wallT (m ((c : Thread nD τ).loc main_arg2)) (ix2 x j) := by
  rw [← V_w m c]
  blk_ext [iblk, idx t]

end

/-- The reference's projection over the kernel's arguments. -/
def PRJ (m : (ℓ : Loc nD τ sig) → Buf (Elt Ideal) ℓ) (c : Dev nD) : FVec Ideal Cert.Reference2Ideal.S32768x8768 .f32 :=
  prj (m ((c : Thread nD τ).loc main_arg0)) (m ((c : Thread nD τ).loc main_arg1)) (m ((c : Thread nD τ).loc main_arg2))

/-- A place of a point's run of columns holds a place of the projection, when the weights' columns correspond. -/
theorem part_at (m : (ℓ : Loc nD τ sig) → Buf (Elt Ideal) ℓ) (c : Dev nD) (t : Fin cfg0.N) (n off : ℕ) (hn : off + n ≤ 8960) (i : Fin 512) (j : Fin n) (s : Fin 8768)
    (hs : ∀ k : Fin 1024, (wallT (m ((c : Thread nD τ).loc main_arg2)) (ix2 k ⟨off + j.val, by omega⟩) : EReal)
      = (show FVec Ideal S1x1024x8768 .f32 from m ((c : Thread nD τ).loc main_arg2)) (ix3 0 k s)) :
    part n off hn (k0_pay6 (F := Ideal) (iblk m c 0 t) (iblk m c 1 t)) (iblk m c 2 t) (ix2 i j)
      = PRJ m c (ix2 ⟨512 * t.val + i.val, by have := (idx t).2; omega⟩ s) := by
  refine Eq.trans (Finset.sum_congr rfl fun k _ => ?_) (prj_at _ _ _ _ s).symm
  refine congrArg₂ (fun a b : EReal => a * b) ((h_at _ _ i k).trans ?_) ((blk2 m c t k _).trans (hs k))
  exact congrArg₂ (fun a b => rmsf a b k) (funext fun z => blk0 m c t i z) (blk1 m c t k)

/-- The queries of the reference over the kernel's arguments. -/
def REF3 (m : (ℓ : Loc nD τ sig) → Buf (Elt Ideal) ℓ) (c : Dev nD) : FVec Ideal S32768x1024 .bf16 := Cert.Reference2Ideal.In.res_q (PRJ m c)

/-- The array of the queries after the run. -/
theorem final3 (m : (ℓ : Loc nD τ sig) → Buf (Elt Ideal) ℓ) (c : Dev nD) : (dats m 0 c).arrAt 3 (cfgs 0).N = REF3 m c := by
  refine (dats m 0 c).arrAt_eq_of_covers 3 _ (by decide +kernel) fun t _ y => ?_
  blk_simp
  rw [after0_3]
  have h64 := (idx t).2
  obtain ⟨i, j, rfl⟩ : ∃ (i : Fin 512) (j : Fin 1024), y = ix2 i j := ⟨y 0, y 1, eq_ix2 (n0 := 512) (n1 := 1024) y⟩
  have e : ((cfg0.win 3).blk t).view.emb (ix2 i j) = ix2 (⟨512 * t.val + i.val, by omega⟩ : Fin 32768) j := by blk_ext [idx t]
  refine Eq.trans (congrFun (out3 _ _ _) (ix2 i j)) (Eq.trans ?_ (congrArg (REF3 m c) e.symm))
  exact (part_at m c t _ _ _ i j _ fun k => wall_q _ k j).trans (Cert.Reference2Ideal.In.res_q_at _ _ j).symm

/-- The keys of the reference over the kernel's arguments. -/
def REF4 (m : (ℓ : Loc nD τ sig) → Buf (Elt Ideal) ℓ) (c : Dev nD) : FVec Ideal S32768x256 .bf16 := Cert.Reference2Ideal.In.res_k (PRJ m c)

/-- The array of the keys after the run. -/
theorem final4 (m : (ℓ : Loc nD τ sig) → Buf (Elt Ideal) ℓ) (c : Dev nD) : (dats m 0 c).arrAt 4 (cfgs 0).N = REF4 m c := by
  refine (dats m 0 c).arrAt_eq_of_covers 4 _ (by decide +kernel) fun t _ y => ?_
  blk_simp
  rw [after0_4]
  have h64 := (idx t).2
  obtain ⟨i, j, rfl⟩ : ∃ (i : Fin 512) (j : Fin 256), y = ix2 i j := ⟨y 0, y 1, eq_ix2 (n0 := 512) (n1 := 256) y⟩
  have e : ((cfg0.win 4).blk t).view.emb (ix2 i j) = ix2 (⟨512 * t.val + i.val, by omega⟩ : Fin 32768) j := by blk_ext [idx t]
  refine Eq.trans (congrFun (out4 _ _ _) (ix2 i j)) (Eq.trans ?_ (congrArg (REF4 m c) e.symm))
  exact (part_at m c t _ _ _ i j _ fun k => wall_k _ k j).trans (Cert.Reference2Ideal.In.res_k_at _ _ j).symm

/-- The values of the reference over the kernel's arguments. -/
def REF5 (m : (ℓ : Loc nD τ sig) → Buf (Elt Ideal) ℓ) (c : Dev nD) : FVec Ideal S32768x256 .bf16 := Cert.Reference2Ideal.In.res_v (PRJ m c)

/-- The array of the values after the run. -/
theorem final5 (m : (ℓ : Loc nD τ sig) → Buf (Elt Ideal) ℓ) (c : Dev nD) : (dats m 0 c).arrAt 5 (cfgs 0).N = REF5 m c := by
  refine (dats m 0 c).arrAt_eq_of_covers 5 _ (by decide +kernel) fun t _ y => ?_
  blk_simp
  rw [after0_5]
  have h64 := (idx t).2
  obtain ⟨i, j, rfl⟩ : ∃ (i : Fin 512) (j : Fin 256), y = ix2 i j := ⟨y 0, y 1, eq_ix2 (n0 := 512) (n1 := 256) y⟩
  have e : ((cfg0.win 5).blk t).view.emb (ix2 i j) = ix2 (⟨512 * t.val + i.val, by omega⟩ : Fin 32768) j := by blk_ext [idx t]
  refine Eq.trans (congrFun (out5 _ _ _) (ix2 i j)) (Eq.trans ?_ (congrArg (REF5 m c) e.symm))
  exact (part_at m c t _ _ _ i j _ fun k => wall_v _ k j).trans (Cert.Reference2Ideal.In.res_v_at _ _ j).symm

/-- The gate branch of the reference over the kernel's arguments. -/
def REF6 (m : (ℓ : Loc nD τ sig) → Buf (Elt Ideal) ℓ) (c : Dev nD) : FVec Ideal S32768x2048 .bf16 := Cert.Reference2Ideal.In.res_z (PRJ m c)

/-- The array of the gate branch after the run. -/
theorem final6 (m : (ℓ : Loc nD τ sig) → Buf (Elt Ideal) ℓ) (c : Dev nD) : (dats m 0 c).arrAt 6 (cfgs 0).N = REF6 m c := by
  refine (dats m 0 c).arrAt_eq_of_covers 6 _ (by decide +kernel) fun t _ y => ?_
  blk_simp
  rw [after0_6]
  have h64 := (idx t).2
  obtain ⟨i, j, rfl⟩ : ∃ (i : Fin 512) (j : Fin 2048), y = ix2 i j := ⟨y 0, y 1, eq_ix2 (n0 := 512) (n1 := 2048) y⟩
  have e : ((cfg0.win 6).blk t).view.emb (ix2 i j) = ix2 (⟨512 * t.val + i.val, by omega⟩ : Fin 32768) j := by blk_ext [idx t]
  refine Eq.trans (congrFun (out6 _ _ _) (ix2 i j)) (Eq.trans ?_ (congrArg (REF6 m c) e.symm))
  exact (part_at m c t _ _ _ i j _ fun k => wall_z _ k j).trans (Cert.Reference2Ideal.In.res_z_at _ _ j).symm

/-- The state-space branch of the reference over the kernel's arguments. -/
def REF7 (m : (ℓ : Loc nD τ sig) → Buf (Elt Ideal) ℓ) (c : Dev nD) : FVec Ideal S32768x3072 .bf16 := Cert.Reference2Ideal.In.res_x (PRJ m c)

/-- The array of the state-space branch after the run. -/
theorem final7 (m : (ℓ : Loc nD τ sig) → Buf (Elt Ideal) ℓ) (c : Dev nD) : (dats m 0 c).arrAt 7 (cfgs 0).N = REF7 m c := by
  refine (dats m 0 c).arrAt_eq_of_covers 7 _ (by decide +kernel) fun t _ y => ?_
  blk_simp
  rw [after0_7]
  have h64 := (idx t).2
  obtain ⟨i, j, rfl⟩ : ∃ (i : Fin 512) (j : Fin 3072), y = ix2 i j := ⟨y 0, y 1, eq_ix2 (n0 := 512) (n1 := 3072) y⟩
  have e : ((cfg0.win 7).blk t).view.emb (ix2 i j) = ix2 (⟨512 * t.val + i.val, by omega⟩ : Fin 32768) j := by blk_ext [idx t]
  refine Eq.trans (congrFun (out7 _ _ _) (ix2 i j)) (Eq.trans ?_ (congrArg (REF7 m c) e.symm))
  exact (part_at m c t _ _ _ i j _ fun k => wall_x _ k j).trans (Cert.Reference2Ideal.In.res_x_at _ _ j).symm

/-- The merge gates of the reference over the kernel's arguments. -/
def REF8 (m : (ℓ : Loc nD τ sig) → Buf (Elt Ideal) ℓ) (c : Dev nD) : FVec Ideal S32768x2048 .bf16 := Cert.Reference2Ideal.In.res_g (PRJ m c)

/-- The array of the merge gates after the run. -/
theorem final8 (m : (ℓ : Loc nD τ sig) → Buf (Elt Ideal) ℓ) (c : Dev nD) : (dats m 0 c).arrAt 8 (cfgs 0).N = REF8 m c := by
  refine (dats m 0 c).arrAt_eq_of_covers 8 _ (by decide +kernel) fun t _ y => ?_
  blk_simp
  rw [after0_8]
  have h64 := (idx t).2
  obtain ⟨i, j, rfl⟩ : ∃ (i : Fin 512) (j : Fin 2048), y = ix2 i j := ⟨y 0, y 1, eq_ix2 (n0 := 512) (n1 := 2048) y⟩
  have e : ((cfg0.win 8).blk t).view.emb (ix2 i j) = ix2 (⟨512 * t.val + i.val, by omega⟩ : Fin 32768) j := by blk_ext [idx t]
  refine Eq.trans (congrFun (out8 _ _ _) (ix2 i j)) (Eq.trans ?_ (congrArg (REF8 m c) e.symm))
  exact (part_at m c t _ _ _ i j _ fun k => wall_g _ k j).trans (Cert.Reference2Ideal.In.res_g_at _ _ j).symm

/-- The time steps of the reference over the kernel's arguments. -/
def REF9 (m : (ℓ : Loc nD τ sig) → Buf (Elt Ideal) ℓ) (c : Dev nD) : FVec Ideal S32768x256 .f32 := Cert.Reference2Ideal.In.res_t (PRJ m c)

/-- The array of the time steps after the run. -/
theorem final9 (m : (ℓ : Loc nD τ sig) → Buf (Elt Ideal) ℓ) (c : Dev nD) : (dats m 0 c).arrAt 9 (cfgs 0).N = REF9 m c := by
  refine (dats m 0 c).arrAt_eq_of_covers 9 _ (by decide +kernel) fun t _ y => ?_
  blk_simp
  rw [after0_9]
  have h64 := (idx t).2
  obtain ⟨i, j, rfl⟩ : ∃ (i : Fin 512) (j : Fin 256), y = ix2 i j := ⟨y 0, y 1, eq_ix2 (n0 := 512) (n1 := 256) y⟩
  have e : ((cfg0.win 9).blk t).view.emb (ix2 i j) = ix2 (⟨512 * t.val + i.val, by omega⟩ : Fin 32768) j := by blk_ext [idx t]
  refine Eq.trans (congrFun (out9 _ _ _) (ix2 i j)) (Eq.trans ?_ (congrArg (REF9 m c) e.symm))
  exact (part_at m c t _ _ _ i j _ fun k => wall_t _ k j).trans (Cert.Reference2Ideal.In.res_t_at _ _ j).symm

end Cert.Kernel2Ideal.In
end
-- ==== Proof.Merge.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Tactic

/-! The merge of the branches: what the call leaves and what the reference gives, element by element. -/

@[expose] public section

set_option maxRecDepth 16384

noncomputable section

namespace Cert.Kernel3Ideal.Merge

open Idealize.ShloMosaic Idealize.ShloMosaic.TcCoe Idealize.ShloMosaic.Tactic Idealize.SL.Sem
open Cert.Kernel3Ideal Cert.Kernel3Ideal.Gen
open Idealize.ShloMosaic.Pipeline (Dat)

/-- The residual stream after the merge, from one row of the inputs and one column of the weights. -/
def x1f (x : EReal) (gt gb : Fin 2048 → EReal) (a : Fin 1024 → EReal) (wa : Fin 1024 → Fin 1024 → EReal) (s : Fin 2048 → EReal)
    (ws : Fin 2048 → Fin 1024 → EReal) (wo : Fin 1024 → EReal) : EReal :=
  x + ∑ y : Fin 1024, (Ideal.div 1 (1 + Ideal.exp (0 - (gt ⟨y.val, by omega⟩ + gb ⟨y.val, by omega⟩))) * ∑ z, a z * wa z y
    + Ideal.div 1 (1 + Ideal.exp (0 - (gt ⟨1024 + y.val, by omega⟩ + gb ⟨1024 + y.val, by omega⟩))) * ∑ z, s z * ws z y) * wo y

/-- A row's element over the row's root mean square, times a weight. -/
def rmsf (x : Fin 1024 → EReal) (w : EReal) (j : Fin 1024) : EReal :=
  x j * Ideal.rsqrt (Ideal.div (∑ z, x z * x z) (Ideal.ofBits FTy.f32 1149239296#32) + Ideal.ofBits FTy.f32 897988541#32) * w

/-- The body's residual stream, at an element. -/
theorem x1_at (gt : FVec Ideal S512x2048 .bf16) (gb : FVec Ideal S1x2048 .f32) (a : FVec Ideal S512x1024 .bf16) (wa : FVec Ideal S1024x1024 .bf16)
    (s : FVec Ideal S512x2048 .bf16) (ws : FVec Ideal S2048x1024 .bf16) (x : FVec Ideal S512x1024 .f32) (wo : FVec Ideal S1024x1024 .bf16) (i : Fin 512) (j : Fin 1024) :
    ((show FVec Ideal S512x1024 .f32 from k0_pay2 (F := Ideal) gt gb a wa s ws x wo) (ix2 i j) : EReal)
      = x1f (x (ix2 i j)) (fun y => gt (ix2 i y)) (fun y => gb (ix2 0 y)) (fun z => a (ix2 i z)) (fun z y => wa (ix2 z y)) (fun z => s (ix2 i z))
        (fun z y => ws (ix2 z y)) (fun y => wo (ix2 y j)) := by
  pointwise [k0_pay2, x1f]

/-- The body's normed rows, at an element. -/
theorem h2_at (x : FVec Ideal S512x1024 .f32) (w : FVec Ideal S1x1024 .f32) (i : Fin 512) (j : Fin 1024) :
    ((show FVec Ideal S512x1024 .bf16 from k0_pay1 (F := Ideal) x w) (ix2 i j) : EReal) = rmsf (fun z => x (ix2 i z)) (w (ix2 0 j)) j := by
  pointwise [k0_pay1, rmsf]

end Cert.Kernel3Ideal.Merge

namespace Cert.Reference3Ideal.Merge

open Idealize.ShloMosaic Idealize.ShloMosaic.TcCoe Idealize.ShloMosaic.Tactic Idealize.SL.Sem
open Cert.Reference3Ideal Cert.Reference3Ideal.Gen
open Cert.Kernel3Ideal.Merge (x1f rmsf)

/-- The reference's residual stream. -/
def x1 (x0 : FVec Ideal S32768x1024 .f32) (x1 : FVec Ideal S32768x1024 .bf16) (x2 : FVec Ideal S32768x2048 .bf16) (x3 : FVec Ideal S32768x2048 .bf16)
    (x4 : FVec Ideal S1x2048 .f32) (x5 : FVec Ideal S1x1024x1024 .f32) (x6 : FVec Ideal S1x2048x1024 .f32) (x7 : FVec Ideal S1x1024x1024 .f32) : FVec Ideal S32768x1024 .f32 :=
  addf x0 (Host.dotGeneral (F := Ideal) (φ₁ := .f32) (φ₂ := .f32) dot_S32768x1024_S1024x1024_S32768x1024_1_0_0_1_n_n none (addf (mulf (extractStridedSlice S32768x1024 ![0, 0] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (addf (extf (F := Ideal) .f32 x3 bitsLt_bf16_f32) (broadcastInDim S32768x2048 ![0, 1] bcast_S1x2048_S32768x2048_0_1 (broadcastInDim S1x2048 ![1] bcast_S2048_S1x2048_1 (shapeCast S2048 x4 shapeCasts_S1x2048_S2048)))))))) slices_S32768x2048_S32768x1024_0_0) (Host.dotGeneral (F := Ideal) (φ₁ := .f32) (φ₂ := .f32) dot_S32768x1024_S1024x1024_S32768x1024_1_0_0_1_n_n none (extf (F := Ideal) .f32 x1 bitsLt_bf16_f32) (shapeCast S1024x1024 x5 shapeCasts_S1x1024x1024_S1024x1024))) (mulf (extractStridedSlice S32768x1024 ![0, 1024] (Host.divf (broadcastInDim S32768x2048 ![] bcast_S_S32768x2048 (constant S_ .f32 0x3F800000#32)) (addf (broadcastInDim S32768x2048 ![] bcast_S_S32768x2048 (constant S_ .f32 0x3F800000#32)) (Host.exp (Host.negf (addf (extf (F := Ideal) .f32 x3 bitsLt_bf16_f32) (broadcastInDim S32768x2048 ![0, 1] bcast_S1x2048_S32768x2048_0_1 (broadcastInDim S1x2048 ![1] bcast_S2048_S1x2048_1 (shapeCast S2048 x4 shapeCasts_S1x2048_S2048)))))))) slices_S32768x2048_S32768x1024_0_1024) (Host.dotGeneral (F := Ideal) (φ₁ := .f32) (φ₂ := .f32) dot_S32768x2048_S2048x1024_S32768x1024_1_0_0_1_n_n none (extf (F := Ideal) .f32 x2 bitsLt_bf16_f32) (shapeCast S2048x1024 x6 shapeCasts_S1x2048x1024_S2048x1024)))) (shapeCast S1024x1024 x7 shapeCasts_S1x1024x1024_S1024x1024))

/-- The reference's normed rows. -/
def h2 (x1 : FVec Ideal S32768x1024 .f32) (x8 : FVec Ideal S1x1024 .f32) : FVec Ideal S32768x1024 .bf16 :=
  truncf (F := Ideal) .bf16 (mulf (mulf x1 (broadcastInDim S32768x1024 ![0, 1] bcast_S32768x1_S32768x1024_0_1 (Host.rsqrt (addf (Host.divf (broadcastInDim S32768x1 ![0] bcast_S32768_S32768x1_0 (Host.reduceAdd (mulf x1 x1) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast S1024 x8 shapeCasts_S1x1024_S1024)))) bitsLt_bf16_f32

/-- An element of the reference's residual stream. -/
theorem x1_at (x0 : FVec Ideal S32768x1024 .f32) (x1' : FVec Ideal S32768x1024 .bf16) (x2 : FVec Ideal S32768x2048 .bf16) (x3 : FVec Ideal S32768x2048 .bf16)
    (x4 : FVec Ideal S1x2048 .f32) (x5 : FVec Ideal S1x1024x1024 .f32) (x6 : FVec Ideal S1x2048x1024 .f32) (x7 : FVec Ideal S1x1024x1024 .f32) (r : Fin 32768) (j : Fin 1024) :
    (x1 x0 x1' x2 x3 x4 x5 x6 x7 (ix2 r j) : EReal)
      = x1f (x0 (ix2 r j)) (fun y => x3 (ix2 r y)) (fun y => x4 (ix2 0 y)) (fun z => x1' (ix2 r z)) (fun z y => x5 (ix3 0 z y)) (fun z => x2 (ix2 r z))
        (fun z y => x6 (ix3 0 z y)) (fun y => x7 (ix3 0 y j)) := by
  pointwise [x1, x1f]
  simp only [zero_sub]

/-- An element of the reference's normed rows. -/
theorem h2_at (x : FVec Ideal S32768x1024 .f32) (w : FVec Ideal S1x1024 .f32) (r : Fin 32768) (j : Fin 1024) :
    (h2 x w (ix2 r j) : EReal) = rmsf (fun z => x (ix2 r z)) (w (ix2 0 j)) j := by
  pointwise [h2, rmsf]

end Cert.Reference3Ideal.Merge

namespace Cert.Kernel3Ideal.Merge

open Idealize.ShloMosaic Idealize.ShloMosaic.TcCoe Idealize.ShloMosaic.Tactic Idealize.SL.Sem
open Cert.Kernel3Ideal Cert.Kernel3Ideal.Gen
open Idealize.ShloMosaic.Pipeline (Dat)

/-- What the body leaves in the residual stream's buffer. -/
theorem out9 (x0 : Vec Ideal S512x1024 .f32) (x1 : Vec Ideal S512x1024 .bf16) (x2 : Vec Ideal S512x2048 .bf16) (x3 : Vec Ideal S512x2048 .bf16)
    (x4 : Vec Ideal S1x2048 .f32) (x5 : Vec Ideal S1024x1024 .bf16) (x6 : Vec Ideal S2048x1024 .bf16) (x7 : Vec Ideal S1024x1024 .bf16) (x8 : Vec Ideal S1x1024 .f32) :
    out0_9 (F := Ideal) x0 x1 x2 x3 x4 x5 x6 x7 x8 = k0_pay2 x3 x4 x1 x5 x2 x6 x0 x7 := by
  rw [out0_9, View.canon_unit_zero (by decide)]
  repeat rw [View.ld_unit_zero (by decide)]

/-- What the body leaves in the normed rows' buffer. -/
theorem out10 (x0 : Vec Ideal S512x1024 .f32) (x1 : Vec Ideal S512x1024 .bf16) (x2 : Vec Ideal S512x2048 .bf16) (x3 : Vec Ideal S512x2048 .bf16)
    (x4 : Vec Ideal S1x2048 .f32) (x5 : Vec Ideal S1024x1024 .bf16) (x6 : Vec Ideal S2048x1024 .bf16) (x7 : Vec Ideal S1024x1024 .bf16) (x8 : Vec Ideal S1x1024 .f32) :
    out0_10 (F := Ideal) x0 x1 x2 x3 x4 x5 x6 x7 x8 = k0_pay1 (k0_pay2 x3 x4 x1 x5 x2 x6 x0 x7) x8 := by
  rw [out0_10, View.canon_unit_zero (by decide)]
  repeat rw [View.ld_unit_zero (by decide)]

/-- Where each window's block lies at each point of the grid. -/
theorem idx : ∀ t : Fin cfg0.N, (win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![t.val, 0]) ∧ t.val < 64 :=
  (by decide +kernel : ∀ t : Fin grid0.N, _)

/-- A host operand as the call gets it. -/
theorem V_gb (m : (ℓ : Loc nD τ sig) → Buf (Elt Ideal) ℓ) (c : Dev nD) :
    (show FVec Ideal S1x2048 .f32 from V m c main_v1) = broadcastInDim S1x2048 ![1] bcast_S2048_S1x2048_1 (shapeCast S2048 (show FVec Ideal S1x2048 .f32 from m ((c : Thread nD τ).loc main_arg4)) shapeCasts_S1x2048_S2048) := by
  sl_kernel_rfl

/-- Its elements. -/
theorem gb_at (w : FVec Ideal S1x2048 .f32) (x : Fin 2048) :
    (broadcastInDim S1x2048 ![1] bcast_S2048_S1x2048_1 (shapeCast S2048 w shapeCasts_S1x2048_S2048) (ix2 0 x) : EReal) = w (ix2 0 x) := by
  pointwise

/-- A host operand as the call gets it. -/
theorem V_wa (m : (ℓ : Loc nD τ sig) → Buf (Elt Ideal) ℓ) (c : Dev nD) :
    (show FVec Ideal S1024x1024 .bf16 from V m c main_v3) = truncf (F := Ideal) .bf16 (shapeCast S1024x1024 (show FVec Ideal S1x1024x1024 .f32 from m ((c : Thread nD τ).loc main_arg5)) shapeCasts_S1x1024x1024_S1024x1024) bitsLt_bf16_f32 := by
  sl_kernel_rfl

/-- Its elements. -/
theorem wa_at (w : FVec Ideal S1x1024x1024 .f32) (x j : Fin 1024) :
    (truncf (F := Ideal) .bf16 (shapeCast S1024x1024 w shapeCasts_S1x1024x1024_S1024x1024) bitsLt_bf16_f32 (ix2 x j) : EReal) = w (ix3 0 x j) := by
  pointwise

/-- A host operand as the call gets it. -/
theorem V_ws (m : (ℓ : Loc nD τ sig) → Buf (Elt Ideal) ℓ) (c : Dev nD) :
    (show FVec Ideal S2048x1024 .bf16 from V m c main_v5) = truncf (F := Ideal) .bf16 (shapeCast S2048x1024 (show FVec Ideal S1x2048x1024 .f32 from m ((c : Thread nD τ).loc main_arg6)) shapeCasts_S1x2048x1024_S2048x1024) bitsLt_bf16_f32 := by
  sl_kernel_rfl

/-- Its elements. -/
theorem ws_at (w : FVec Ideal S1x2048x1024 .f32) (x : Fin 2048) (j : Fin 1024) :
    (truncf (F := Ideal) .bf16 (shapeCast S2048x1024 w shapeCasts_S1x2048x1024_S2048x1024) bitsLt_bf16_f32 (ix2 x j) : EReal) = w (ix3 0 x j) := by
  pointwise

/-- A host operand as the call gets it. -/
theorem V_wo (m : (ℓ : Loc nD τ sig) → Buf (Elt Ideal) ℓ) (c : Dev nD) :
    (show FVec Ideal S1024x1024 .bf16 from V m c main_v7) = truncf (F := Ideal) .bf16 (shapeCast S1024x1024 (show FVec Ideal S1x1024x1024 .f32 from m ((c : Thread nD τ).loc main_arg7)) shapeCasts_S1x1024x1024_S1024x1024) bitsLt_bf16_f32 := by
  sl_kernel_rfl

/-- Its elements. -/
theorem wo_at (w : FVec Ideal S1x1024x1024 .f32) (x j : Fin 1024) :
    (truncf (F := Ideal) .bf16 (shapeCast S1024x1024 w shapeCasts_S1x1024x1024_S1024x1024) bitsLt_bf16_f32 (ix2 x j) : EReal) = w (ix3 0 x j) := by
  pointwise

/-- A host operand as the call gets it. -/
theorem V_nw (m : (ℓ : Loc nD τ sig) → Buf (Elt Ideal) ℓ) (c : Dev nD) :
    (show FVec Ideal S1x1024 .f32 from V m c main_v9) = broadcastInDim S1x1024 ![1] bcast_S1024_S1x1024_1 (shapeCast S1024 (show FVec Ideal S1x1024 .f32 from m ((c : Thread nD τ).loc main_arg8)) shapeCasts_S1x1024_S1024) := by
  sl_kernel_rfl

/-- Its elements. -/
theorem nw_at (w : FVec Ideal S1x1024 .f32) (x : Fin 1024) :
    (broadcastInDim S1x1024 ![1] bcast_S1024_S1x1024_1 (shapeCast S1024 w shapeCasts_S1x1024_S1024) (ix2 0 x) : EReal) = w (ix2 0 x) := by
  pointwise

section
variable (m : (ℓ : Loc nD τ sig) → Buf (Elt Ideal) ℓ) (c : Dev nD) (t : Fin cfg0.N)

/-- Window 0's block: the point's rows. -/
theorem blk0 (i : Fin 512) (x : Fin 1024) : ((show FVec Ideal S512x1024 .f32 from iblk m c 0 t) (ix2 i x) : EReal)
    = (show FVec Ideal S32768x1024 .f32 from m ((c : Thread nD τ).loc main_arg0)) (ix2 ⟨512 * t.val + i.val, by have := (idx t).2; omega⟩ x) := by
  blk_ext [iblk, V_main_arg0, idx t]

/-- Window 1's block: the point's rows. -/
theorem blk1 (i : Fin 512) (x : Fin 1024) : ((show FVec Ideal S512x1024 .bf16 from iblk m c 1 t) (ix2 i x) : EReal)
    = (show FVec Ideal S32768x1024 .bf16 from m ((c : Thread nD τ).loc main_arg1)) (ix2 ⟨512 * t.val + i.val, by have := (idx t).2; omega⟩ x) := by
  blk_ext [iblk, V_main_arg1, idx t]

/-- Window 2's block: the point's rows. -/
theorem blk2 (i : Fin 512) (x : Fin 2048) : ((show FVec Ideal S512x2048 .bf16 from iblk m c 2 t) (ix2 i x) : EReal)
    = (show FVec Ideal S32768x2048 .bf16 from m ((c : Thread nD τ).loc main_arg2)) (ix2 ⟨512 * t.val + i.val, by have := (idx t).2; omega⟩ x) := by
  blk_ext [iblk, V_main_arg2, idx t]

/-- Window 3's block: the point's rows. -/
theorem blk3 (i : Fin 512) (x : Fin 2048) : ((show FVec Ideal S512x2048 .bf16 from iblk m c 3 t) (ix2 i x) : EReal)
    = (show FVec Ideal S32768x2048 .bf16 from m ((c : Thread nD τ).loc main_arg3)) (ix2 ⟨512 * t.val + i.val, by have := (idx t).2; omega⟩ x) := by
  blk_ext [iblk, V_main_arg3, idx t]

/-- Window 4's block: the whole array. -/
theorem blk4 (x : Fin 2048) : ((show FVec Ideal S1x2048 .f32 from iblk m c 4 t) (ix2 0 x) : EReal)
    = (show FVec Ideal S1x2048 .f32 from m ((c : Thread nD τ).loc main_arg4)) (ix2 0 x) := by
  refine Eq.trans ?_ (gb_at _ x)
  rw [← V_gb m c]
  blk_ext [iblk, idx t]

/-- Window 5's block: the whole array. -/
theorem blk5 (x j : Fin 1024) : ((show FVec Ideal S1024x1024 .bf16 from iblk m c 5 t) (ix2 x j) : EReal)
    = (show FVec Ideal S1x1024x1024 .f32 from m ((c : Thread nD τ).loc main_arg5)) (ix3 0 x j) := by
  refine Eq.trans ?_ (wa_at _ x j)
  rw [← V_wa m c]
  blk_ext [iblk, idx t]

/-- Window 6's block: the whole array. -/
theorem blk6 (x : Fin 2048) (j : Fin 1024) : ((show FVec Ideal S2048x1024 .bf16 from iblk m c 6 t) (ix2 x j) : EReal)
    = (show FVec Ideal S1x2048x1024 .f32 from m ((c : Thread nD τ).loc main_arg6)) (ix3 0 x j) := by
  refine Eq.trans ?_ (ws_at _ x j)
  rw [← V_ws m c]
  blk_ext [iblk, idx t]

/-- Window 7's block: the whole array. -/
theorem blk7 (x j : Fin 1024) : ((show FVec Ideal S1024x1024 .bf16 from iblk m c 7 t) (ix2 x j) : EReal)
    = (show FVec Ideal S1x1024x1024 .f32 from m ((c : Thread nD τ).loc main_arg7)) (ix3 0 x j) := by
  refine Eq.trans ?_ (wo_at _ x j)
  rw [← V_wo m c]
  blk_ext [iblk, idx t]

/-- Window 8's block: the whole array. -/
theorem blk8 (x : Fin 1024) : ((show FVec Ideal S1x1024 .f32 from iblk m c 8 t) (ix2 0 x) : EReal)
    = (show FVec Ideal S1x1024 .f32 from m ((c : Thread nD τ).loc main_arg8)) (ix2 0 x) := by
  refine Eq.trans ?_ (nw_at _ x)
  rw [← V_nw m c]
  blk_ext [iblk, idx t]

end

/-- The reference's residual stream over the kernel's arguments. -/
def REF1 (m : (ℓ : Loc nD τ sig) → Buf (Elt Ideal) ℓ) (c : Dev nD) : FVec Ideal S32768x1024 .f32 :=
  Cert.Reference3Ideal.Merge.x1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7))

/-- The reference's normed rows over the kernel's arguments. -/
def REF2 (m : (ℓ : Loc nD τ sig) → Buf (Elt Ideal) ℓ) (c : Dev nD) : FVec Ideal S32768x1024 .bf16 :=
  Cert.Reference3Ideal.Merge.h2 (REF1 m c) (m ((c : Thread nD τ).loc main_arg8))

/-- The point's residual stream is the reference's, row for row. -/
theorem x1_blk (m : (ℓ : Loc nD τ sig) → Buf (Elt Ideal) ℓ) (c : Dev nD) (t : Fin cfg0.N) (i : Fin 512) (j : Fin 1024) :
    ((show FVec Ideal S512x1024 .f32 from k0_pay2 (F := Ideal) (iblk m c 3 t) (iblk m c 4 t) (iblk m c 1 t) (iblk m c 5 t) (iblk m c 2 t) (iblk m c 6 t) (iblk m c 0 t) (iblk m c 7 t)) (ix2 i j) : EReal)
      = REF1 m c (ix2 ⟨512 * t.val + i.val, by have := (idx t).2; omega⟩ j) := by
  refine (x1_at _ _ _ _ _ _ _ _ i j).trans (Eq.trans ?_ (Cert.Reference3Ideal.Merge.x1_at _ _ _ _ _ _ _ _ _ j).symm)
  congr 1
  · exact blk0 m c t i j
  · exact funext fun y => blk3 m c t i y
  · exact funext fun y => blk4 m c t y
  · exact funext fun y => blk1 m c t i y
  · exact funext fun z => funext fun y => blk5 m c t z y
  · exact funext fun y => blk2 m c t i y
  · exact funext fun z => funext fun y => blk6 m c t z y
  · exact funext fun y => blk7 m c t y j

/-- The residual stream's array after the run. -/
theorem final9 (m : (ℓ : Loc nD τ sig) → Buf (Elt Ideal) ℓ) (c : Dev nD) : (dats m 0 c).arrAt 9 (cfgs 0).N = REF1 m c := by
  refine (dats m 0 c).arrAt_eq_of_covers 9 _ (by decide +kernel) fun t _ y => ?_
  blk_simp
  rw [after0_9, out9]
  have h64 := (idx t).2
  obtain ⟨i, j, rfl⟩ : ∃ (i : Fin 512) (j : Fin 1024), y = ix2 i j := ⟨y 0, y 1, eq_ix2 (n0 := 512) (n1 := 1024) y⟩
  have e : ((cfg0.win 9).blk t).view.emb (ix2 i j) = ix2 (⟨512 * t.val + i.val, by omega⟩ : Fin 32768) j := by blk_ext [idx t]
  exact (x1_blk m c t i j).trans (congrArg (REF1 m c) e.symm)

/-- The normed rows' array after the run. -/
theorem final10 (m : (ℓ : Loc nD τ sig) → Buf (Elt Ideal) ℓ) (c : Dev nD) : (dats m 0 c).arrAt 10 (cfgs 0).N = REF2 m c := by
  refine (dats m 0 c).arrAt_eq_of_covers 10 _ (by decide +kernel) fun t _ y => ?_
  blk_simp
  rw [after0_10, out10]
  have h64 := (idx t).2
  obtain ⟨i, j, rfl⟩ : ∃ (i : Fin 512) (j : Fin 1024), y = ix2 i j := ⟨y 0, y 1, eq_ix2 (n0 := 512) (n1 := 1024) y⟩
  have e : ((cfg0.win 10).blk t).view.emb (ix2 i j) = ix2 (⟨512 * t.val + i.val, by omega⟩ : Fin 32768) j := by blk_ext [idx t]
  refine Eq.trans ?_ (congrArg (REF2 m c) e.symm)
  refine (h2_at _ _ i j).trans (Eq.trans ?_ (Cert.Reference3Ideal.Merge.h2_at _ _ _ j).symm)
  exact congrArg₂ (fun a b => rmsf a b j) (funext fun z => x1_blk m c t i z) (blk8 m c t j)

end Cert.Kernel3Ideal.Merge
end
-- ==== Proof.Up.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Tactic

/-! The up-projection: the call's result array is the product of the rows with the weights. -/

@[expose] public section

set_option maxRecDepth 16384

noncomputable section

namespace Cert.Kernel4Ideal.Up

open Idealize.ShloMosaic Idealize.ShloMosaic.TcCoe Idealize.ShloMosaic.Tactic Idealize.SL.Sem
open Cert.Kernel4Ideal Cert.Kernel4Ideal.Gen
open Idealize.ShloMosaic.Pipeline (Dat)

/-- One column chunk's product, at an element. -/
theorem chunk_at (h : FVec Ideal S512x1024 .bf16) (w : FVec Ideal S1024x512 .bf16) (i j : Fin 512) :
    ((show FVec Ideal S512x512 .bf16 from k0_pay2 (F := Ideal) h w) (ix2 i j) : EReal) = ∑ x, h (ix2 i x) * w (ix2 x j) := by
  pointwise [k0_pay2]

/-- The whole block: each row times each column of the weights. -/
def block (h : FVec Ideal S512x1024 .bf16) (w : FVec Ideal S1024x5632 .bf16) : FVec Ideal S512x5632 .bf16 :=
  fun y => ∑ x : Fin 1024, (h (ix2 (y 0) x) : EReal) * w (ix2 x (y 1))

/-- An element of the block, when its row and column are those of other arrays. -/
theorem block_at (h : FVec Ideal S512x1024 .bf16) (w : FVec Ideal S1024x5632 .bf16) (H : FVec Ideal S32768x1024 .bf16)
    (W : FVec Ideal S1x1024x5632 .f32) (r : Fin 32768) (i : Fin 512) (j : Fin 5632)
    (hh : ∀ x, (h (ix2 i x) : EReal) = H (ix2 r x)) (hw : ∀ x, (w (ix2 x j) : EReal) = W (ix3 0 x j)) :
    (block h w (ix2 i j) : EReal) = ∑ x, (H (ix2 r x) : EReal) * W (ix3 0 x j) :=
  Finset.sum_congr rfl fun x _ => congrArg₂ (fun a b : EReal => a * b) (hh x) (hw x)

/-- The chunk of columns that starts at `off` is that part of the block. -/
theorem chunk_eq (h : FVec Ideal S512x1024 .bf16) (w : FVec Ideal S1024x5632 .bf16) (off : ℕ)
    (hw : ∀ a, (![0, off] : Fin 2 → ℕ) a + S1024x512.size a ≤ S1024x5632.size a)
    (ho : ∀ a, (![0, off] : Fin 2 → ℕ) a + S512x512.size a ≤ S512x5632.size a) (y : S512x512.Idx) :
    k0_pay2 (F := Ideal) h (View.ld (Val := Elt Ideal) (e' := .bf16) w (Rect.unit (s := S1024x5632) ![0, off] S1024x512.size hw)) y
      = block h w ((Rect.unit (s := S512x5632) ![0, off] S512x512.size ho).emb y) := by
  obtain ⟨i, j, rfl⟩ : ∃ (i j : Fin 512), y = ix2 i j := ⟨y 0, y 1, eq_ix2 (n0 := 512) (n1 := 512) y⟩
  refine (chunk_at _ _ i j).trans (Finset.sum_congr rfl fun x _ => ?_)
  refine congrArg₂ (fun a b : EReal => a * b) (congrArg h ?_) (congrArg w ?_)
  · refine congrArg (fun a => ix2 a x) (Fin.ext ?_)
    exact (show i.val = 0 + 1 * i.val by omega)
  · refine funext fun a => Fin.ext ?_
    match a with
    | 0 => exact (show 0 + 1 * x.val = x.val by omega)
    | 1 => rfl

/-- What the body leaves in the result's buffer. -/
theorem out_eq (h : FVec Ideal S512x1024 .bf16) (w : FVec Ideal S1024x5632 .bf16) :
    out0_2 (F := Ideal) h w = block h w := by
  funext y
  unfold out0_2
  refine View.canon_apply_of_pieces (Val := Elt Ideal) (block h w) _ (fun p hp x => ?_) y (cover0_2 _ _ _ _ _ _ _ _ _ _ _ y)
  rw [View.ld_unit_zero (by decide)] at hp
  simp only [List.mem_cons, List.not_mem_nil, or_false] at hp
  rcases hp with rfl | rfl | rfl | rfl | rfl | rfl | rfl | rfl | rfl | rfl | rfl
  · exact chunk_eq h w 5120 inb_S1024x5632_S1024x512_0_5120 inb_S512x5632_S512x512_0_5120 x
  · exact chunk_eq h w 4608 inb_S1024x5632_S1024x512_0_4608 inb_S512x5632_S512x512_0_4608 x
  · exact chunk_eq h w 4096 inb_S1024x5632_S1024x512_0_4096 inb_S512x5632_S512x512_0_4096 x
  · exact chunk_eq h w 3584 inb_S1024x5632_S1024x512_0_3584 inb_S512x5632_S512x512_0_3584 x
  · exact chunk_eq h w 3072 inb_S1024x5632_S1024x512_0_3072 inb_S512x5632_S512x512_0_3072 x
  · exact chunk_eq h w 2560 inb_S1024x5632_S1024x512_0_2560 inb_S512x5632_S512x512_0_2560 x
  · exact chunk_eq h w 2048 inb_S1024x5632_S1024x512_0_2048 inb_S512x5632_S512x512_0_2048 x
  · exact chunk_eq h w 1536 inb_S1024x5632_S1024x512_0_1536 inb_S512x5632_S512x512_0_1536 x
  · exact chunk_eq h w 1024 inb_S1024x5632_S1024x512_0_1024 inb_S512x5632_S512x512_0_1024 x
  · exact chunk_eq h w 512 inb_S1024x5632_S1024x512_0_512 inb_S512x5632_S512x512_0_512 x
  · exact chunk_eq h w 0 inb_S1024x5632_S1024x512_0_0 inb_S512x5632_S512x512_0_0 x

/-- Where each window's block lies at each point of the grid. -/
theorem idx : ∀ t : Fin cfg0.N, win0_0.index t = ![t.val, 0] ∧ win0_1.index t = ![0, 0] ∧ win0_2.index t = ![t.val, 0] ∧ t.val < 64 :=
  (by decide +kernel : ∀ t : Fin grid0.N, _)

/-- The weights as the call gets them. -/
theorem V_w (m : (ℓ : Loc nD τ sig) → Buf (Elt Ideal) ℓ) (c : Dev nD) :
    (show FVec Ideal S1024x5632 .bf16 from V m c main_v1)
      = truncf (F := Ideal) .bf16 (shapeCast S1024x5632 (show FVec Ideal S1x1024x5632 .f32 from m ((c : Thread nD τ).loc main_arg1)) shapeCasts_S1x1024x5632_S1024x5632) bitsLt_bf16_f32 := by
  sl_kernel_rfl

/-- Their elements. -/
theorem w_at (w : FVec Ideal S1x1024x5632 .f32) (x : Fin 1024) (j : Fin 5632) :
    (truncf (F := Ideal) .bf16 (shapeCast S1024x5632 w shapeCasts_S1x1024x5632_S1024x5632) bitsLt_bf16_f32 (ix2 x j) : EReal) = w (ix3 0 x j) := by
  pointwise

section
variable (m : (ℓ : Loc nD τ sig) → Buf (Elt Ideal) ℓ) (c : Dev nD) (t : Fin cfg0.N)

/-- The rows' block. -/
theorem blk0 (i : Fin 512) (x : Fin 1024) : ((show FVec Ideal S512x1024 .bf16 from iblk m c 0 t) (ix2 i x) : EReal)
    = (show FVec Ideal S32768x1024 .bf16 from m ((c : Thread nD τ).loc main_arg0)) (ix2 ⟨512 * t.val + i.val, by have := (idx t).2.2.2; omega⟩ x) := by
  blk_ext [iblk, V_main_arg0, idx t]

/-- The weights' block. -/
theorem blk1 (x : Fin 1024) (j : Fin 5632) : ((show FVec Ideal S1024x5632 .bf16 from iblk m c 1 t) (ix2 x j) : EReal)
    = (show FVec Ideal S1x1024x5632 .f32 from m ((c : Thread nD τ).loc main_arg1)) (ix3 0 x j) := by
  refine Eq.trans ?_ (w_at _ x j)
  rw [← V_w m c]
  blk_ext [iblk, idx t]

end

/-- The reference's result over its arguments. -/
def ref (h : FVec Ideal S32768x1024 .bf16) (w : FVec Ideal S1x1024x5632 .f32) : FVec Ideal S32768x5632 .bf16 :=
  truncf (F := Ideal) .bf16 (Host.dotGeneral (F := Ideal) (φ₁ := .f32) (φ₂ := .f32) Cert.Reference4Ideal.dot_S32768x1024_S1024x5632_S32768x5632_1_0_0_1_n_n none
    (extf (F := Ideal) .f32 h Cert.Reference4Ideal.Gen.bitsLt_bf16_f32)
    (shapeCast S1024x5632 w Cert.Reference4Ideal.Gen.shapeCasts_S1x1024x5632_S1024x5632)) Cert.Reference4Ideal.Gen.bitsLt_bf16_f32

/-- An element of the reference's result. -/
theorem ref_at (h : FVec Ideal S32768x1024 .bf16) (w : FVec Ideal S1x1024x5632 .f32) (r : Fin 32768) (j : Fin 5632) :
    (ref h w (ix2 r j) : EReal) = ∑ x, h (ix2 r x) * w (ix3 0 x j) := by
  pointwise [ref]

/-- The reference's result over the kernel's arguments. -/
def REF (m : (ℓ : Loc nD τ sig) → Buf (Elt Ideal) ℓ) (c : Dev nD) : FVec Ideal S32768x5632 .bf16 :=
  ref (m ((c : Thread nD τ).loc main_arg0)) (m ((c : Thread nD τ).loc main_arg1))

/-- The kernel's result array after the run. -/
theorem final (m : (ℓ : Loc nD τ sig) → Buf (Elt Ideal) ℓ) (c : Dev nD) : (dats m 0 c).arrAt 2 (cfgs 0).N = REF m c := by
  refine (dats m 0 c).arrAt_eq_of_covers 2 _ (by decide +kernel) fun t _ y => ?_
  blk_simp
  rw [after0_2, out_eq]
  have h64 := (idx t).2.2.2
  obtain ⟨i, j, rfl⟩ : ∃ (i : Fin 512) (j : Fin 5632), y = ix2 i j := ⟨y 0, y 1, eq_ix2 (n0 := 512) (n1 := 5632) y⟩
  have e : ((cfg0.win 2).blk t).view.emb (ix2 i j) = ix2 (⟨512 * t.val + i.val, by omega⟩ : Fin 32768) j := by blk_ext [idx t]
  refine Eq.trans ?_ (congrArg (REF m c) e.symm)
  refine Eq.trans ?_ (ref_at _ _ _ j).symm
  exact block_at _ _ _ _ (⟨512 * t.val + i.val, by omega⟩ : Fin 32768) i j (blk0 m c t i) (fun x => blk1 m c t x j)

end Cert.Kernel4Ideal.Up
end
-- ==== Proof.DownBody.lean ====
module

public import proofs.«01_k».proof.Proof.Gen.Kernel5Ideal.Frame

/-! The down-projection's body at one grid point: the 44 pieces of the activations that it stores, and the block it
    writes from them. -/

@[expose] public section

set_option maxRecDepth 16384

noncomputable section

namespace Cert.Kernel5Ideal.Down

open Idealize.ShloMosaic Idealize.ShloMosaic.TcCoe Idealize.ShloMosaic.Tactic Idealize.SL.Sem
open Cert.Kernel5Ideal Cert.Kernel5Ideal.Gen

/-! ### Stores into boxes that lie apart -/

section fill

variable {sig : RefSig} {κ : Kind} {sp : Space} {s : Shape} {e : EltTy} {Val : EltTy → Type}
  (v : View sig κ sp s e) (size : Fin s.rank → Nat) (off : Nat → Fin s.rank → Nat)
  (inb : ∀ u a, off u a + size a ≤ s.size a)

/-- The first `n` stores, last first: store `u` fills box `u`. -/
def fills (pay : Nat → (⟨s.rank, size⟩ : Shape).Idx → Val e) : Nat → List (View.Piece Val s e)
  | 0 => []
  | n + 1 => ⟨Rect.unit (off n) size (inb n), pay n⟩ :: fills pay n

variable {v size off inb}

/-- Each of `n` boxes that lie apart holds what its own store put there. -/
theorem fills_read (pay : Nat → (⟨s.rank, size⟩ : Shape).Idx → Val e) (g : v.ty.Contents Val) (n : Nat)
    (apart : ∀ u w, u < n → w < u → ∀ j, (Rect.unit (off w) size (inb w)).toLoadRect.idx j ∉ (Rect.unit (off u) size (inb u)).set)
    (w : Nat) (hw : w < n) (j : (⟨s.rank, size⟩ : Shape).Idx) :
    v.read Val (v.writes Val g (fills size off inb pay n)) ((Rect.unit (off w) size (inb w)).toLoadRect.idx j) = pay w j := by
  induction n with
  | zero => omega
  | succ n ih =>
    rcases Nat.lt_succ_iff_lt_or_eq.mp hw with h | rfl
    · exact (View.read_writes_cons_miss v g _ _ _ (apart n w (by omega) h j)).trans
        (ih (fun u w hu hwu => apart u w (by omega) hwu) h)
    · exact View.read_writes_cons_emb v g (Rect.unit (off w) size (inb w)) _ _ j

end fill

variable {F : FTy → Type} [FloatOps F]

/-! ### One piece of the activations -/

/-- 128 rows of the up-projection with the 16 rows before and after. -/
def ext (b : FVec F S16x256 .bf16) (mn : FVec F S128x256 .bf16) (a : FVec F S16x256 .bf16) : FVec F S160x256 .bf16 :=
  concatenate S160x256 0 [⟨S16x256, b⟩, ⟨S128x256, mn⟩, ⟨S16x256, a⟩] concatenates_S16x256_S128x256_S16x256_S160x256_d0

/-- A row of weights, on every row. -/
def row (w : Vec F S1x256 .f32) : FVec F S128x256 .f32 :=
  broadcastTo S128x256 (shapeCast S1x256 w shapeCasts_S1x256_S1x256 : FVec F S1x256 .f32) broadcasts_S1x256_S128x256

/-- The convolution of one piece. -/
def cv (sp sn : FVec F S128x160 .bf16) (e : FVec F S160x256 .bf16) (mn : FVec F S128x256 .bf16) (w0 w1 w2 cb : Vec F S1x256 .f32) :
    FVec F S128x256 .f32 :=
  addf (addf (addf
    (mulf (matmul dot_S128x160_S160x256_S128x256_1_0_0_1_n_n none sp e (constant S128x256 .f32 0x00000000#32)) (row w0))
    (mulf (extf .f32 mn bitsLt_bf16_f32) (row w1)))
    (mulf (matmul dot_S128x160_S160x256_S128x256_1_0_0_1_n_n none sn e (constant S128x256 .f32 0x00000000#32)) (row w2)))
    (row cb)

/-- The activations of one piece, from its gates and values. -/
def gl (g v : FVec F S128x256 .f32) : FVec F S128x256 .bf16 :=
  shapeCast S128x256 (truncf .bf16 (mulf (mulf (mulf (broadcast S128x256 (Scalar.ofBits .f32 0x3F000000#32)) g)
    (addf (broadcast S128x256 (Scalar.ofBits .f32 0x3F800000#32))
      (tanh (mulf (broadcast S128x256 (Scalar.ofBits .f32 0x3F4C422A#32))
        (addf g (mulf (broadcast S128x256 (Scalar.ofBits .f32 0x3D372713#32)) (mulf (mulf g g) g))))))) v) bitsLt_bf16_f32
    : FVec F S128x256 .bf16) shapeCasts_S128x256_S128x256

/-! ### Where the pieces lie -/

/-- A piece of 128 rows and 256 columns lies in the block. -/
theorem inbM (r c : Nat) (a : Fin 2) : (![128 * (r % 4), 256 * (c % 22)] : Fin 2 → Nat) a + S128x256.size a ≤ S512x5632.size a := by
  match a with
  | ⟨0, _⟩ => show 128 * (r % 4) + 128 ≤ 512; omega
  | ⟨1, _⟩ => show 256 * (c % 22) + 256 ≤ 5632; omega

/-- The 16 rows before a piece lie in the block. -/
theorem inbB (r c : Nat) (a : Fin 2) : (![128 * (r % 3) + 112, 256 * (c % 22)] : Fin 2 → Nat) a + S16x256.size a ≤ S512x5632.size a := by
  match a with
  | ⟨0, _⟩ => show 128 * (r % 3) + 112 + 16 ≤ 512; omega
  | ⟨1, _⟩ => show 256 * (c % 22) + 256 ≤ 5632; omega

/-- The 16 rows after a piece lie in the block. -/
theorem inbA (r c : Nat) (a : Fin 2) : (![128 * (r % 3) + 128, 256 * (c % 22)] : Fin 2 → Nat) a + S16x256.size a ≤ S512x5632.size a := by
  match a with
  | ⟨0, _⟩ => show 128 * (r % 3) + 128 + 16 ≤ 512; omega
  | ⟨1, _⟩ => show 256 * (c % 22) + 256 ≤ 5632; omega

/-- A neighbour's 16 rows, 256 columns of them. -/
theorem inbN (c : Nat) (a : Fin 2) : (![0, 256 * (c % 22)] : Fin 2 → Nat) a + S16x256.size a ≤ S16x5632.size a := by
  match a with
  | ⟨0, _⟩ => show 0 + 16 ≤ 16; omega
  | ⟨1, _⟩ => show 256 * (c % 22) + 256 ≤ 5632; omega

/-- A row of the convolution's weights, 256 columns of it. -/
theorem inbW (k c : Nat) (a : Fin 2) : (![k % 3, 256 * (c % 22)] : Fin 2 → Nat) a + S1x256.size a ≤ S3x5632.size a := by
  match a with
  | ⟨0, _⟩ => show k % 3 + 1 ≤ 3; omega
  | ⟨1, _⟩ => show 256 * (c % 22) + 256 ≤ 5632; omega

/-- The convolution's bias, 256 columns of it. -/
theorem inbC (c : Nat) (a : Fin 2) : (![0, 256 * (c % 22)] : Fin 2 → Nat) a + S1x256.size a ≤ S1x5632.size a := by
  match a with
  | ⟨0, _⟩ => show 0 + 1 ≤ 1; omega
  | ⟨1, _⟩ => show 256 * (c % 22) + 256 ≤ 5632; omega

/-- A piece of the activations lies in their buffer. -/
theorem inbP (u : Nat) (a : Fin 2) : (![128 * (u / 11 % 4), 256 * (u % 11)] : Fin 2 → Nat) a + S128x256.size a ≤ S512x2816.size a := by
  match a with
  | ⟨0, _⟩ => show 128 * (u / 11 % 4) + 128 ≤ 512; omega
  | ⟨1, _⟩ => show 256 * (u % 11) + 256 ≤ 2816; omega

section body
variable (c : Dev nD) (i : grid0.Coords)
  (arg1 : Memref sig .tc .vmem S512x5632 .bf16) (harg1 : arg1.IsWhole)
  (arg2 : Memref sig .tc .vmem S16x5632 .bf16) (harg2 : arg2.IsWhole)
  (arg3 : Memref sig .tc .vmem S16x5632 .bf16) (harg3 : arg3.IsWhole)
  (arg4 : Memref sig .tc .vmem S512x1024 .f32) (harg4 : arg4.IsWhole)
  (arg5 : Memref sig .tc .vmem S512x256 .f32) (harg5 : arg5.IsWhole)
  (arg6 : Memref sig .tc .vmem S128x160 .bf16) (harg6 : arg6.IsWhole)
  (arg7 : Memref sig .tc .vmem S128x160 .bf16) (harg7 : arg7.IsWhole)
  (arg8 : Memref sig .tc .vmem S3x5632 .f32) (harg8 : arg8.IsWhole)
  (arg9 : Memref sig .tc .vmem S1x5632 .f32) (harg9 : arg9.IsWhole)
  (arg10 : Memref sig .tc .vmem S2816x1024 .bf16) (harg10 : arg10.IsWhole)
  (arg11 : Memref sig .tc .vmem S256x1024 .bf16) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S512x2816 .bf16) (harg16 : arg16.IsWhole)
  (x0 : Vec F S512x5632 .bf16) (x1 : Vec F S16x5632 .bf16) (x2 : Vec F S16x5632 .bf16) (x3 : Vec F S512x1024 .f32) (x4 : Vec F S512x256 .f32) (x5 : Vec F S128x160 .bf16) (x6 : Vec F S128x160 .bf16) (x7 : Vec F S3x5632 .f32) (x8 : Vec F S1x5632 .f32) (x9 : Vec F S2816x1024 .bf16) (x10 : Vec F S256x1024 .bf16) (x11 : Vec F S1024x1024 .bf16) (x12 : Vec F S1x1024 .f32) (x13 : Vec F S1x1024 .f32)

/-- The rows of a piece. -/
def mainP (r k : Nat) : FVec F S128x256 .bf16 :=
  View.readAt (Elt F) arg1.view (Rect.unit (s := S512x5632) ![128 * (r % 4), 256 * (k % 22)] S128x256.size (inbM r k)).toLoadRect (harg1.unread x0)

/-- The 16 rows before a piece: for the first one those of the tile before, or zeros where a sequence begins. -/
def befP : Nat → Nat → FVec F S16x256 .bf16
  | 0, k => mulf (View.readAt (Elt F) arg2.view (Rect.unit (s := S16x5632) ![0, 256 * (k % 22)] S16x256.size (inbN k)).toLoadRect (harg2.unread x1) : FVec F S16x256 .bf16)
      (broadcast S16x256 (k0_pay1 (F := F) i))
  | r + 1, k => View.readAt (Elt F) arg1.view (Rect.unit (s := S512x5632) ![128 * (r % 3) + 112, 256 * (k % 22)] S16x256.size (inbB r k)).toLoadRect (harg1.unread x0)

/-- The 16 rows after a piece: for the last one those of the tile after, or zeros where a sequence ends. -/
def aftP : Nat → Nat → FVec F S16x256 .bf16
  | 3, k => mulf (View.readAt (Elt F) arg3.view (Rect.unit (s := S16x5632) ![0, 256 * (k % 22)] S16x256.size (inbN k)).toLoadRect (harg3.unread x2) : FVec F S16x256 .bf16)
      (broadcast S16x256 (k0_pay2 (F := F) i))
  | r, k => View.readAt (Elt F) arg1.view (Rect.unit (s := S512x5632) ![128 * (r % 3) + 128, 256 * (k % 22)] S16x256.size (inbA r k)).toLoadRect (harg1.unread x0)

/-- A row of the convolution's weights. -/
def wP (j k : Nat) : Vec F S1x256 .f32 :=
  View.readAt (Elt F) arg8.view (Rect.unit (s := S3x5632) ![j % 3, 256 * (k % 22)] S1x256.size (inbW j k)).toLoadRect (harg8.unread x7)

/-- The convolution's bias. -/
def cP (k : Nat) : Vec F S1x256 .f32 :=
  View.readAt (Elt F) arg9.view (Rect.unit (s := S1x5632) ![0, 256 * (k % 22)] S1x256.size (inbC k)).toLoadRect (harg9.unread x8)

/-- The convolution of a piece. -/
def convP (r k : Nat) : FVec F S128x256 .f32 :=
  cv (shapeCast S128x160 (View.readAt (Elt F) arg6.view (Rect.unit (s := S128x160) ![0, 0] S128x160.size inb_S128x160_S128x160_0_0).toLoadRect (harg6.unread x5)) shapeCasts_S128x160_S128x160)
    (shapeCast S128x160 (View.readAt (Elt F) arg7.view (Rect.unit (s := S128x160) ![0, 0] S128x160.size inb_S128x160_S128x160_0_0).toLoadRect (harg7.unread x6)) shapeCasts_S128x160_S128x160)
    (ext (befP i arg1 harg1 arg2 harg2 x0 x1 r k) (mainP arg1 harg1 x0 r k) (aftP i arg1 harg1 arg3 harg3 x0 x2 r k))
    (mainP arg1 harg1 x0 r k) (wP arg8 harg8 x7 0 k) (wP arg8 harg8 x7 1 k) (wP arg8 harg8 x7 2 k) (cP arg9 harg9 x8 k)

/-- What store `u` puts into the activations. -/
def actP (u : Nat) : FVec F S128x256 .bf16 :=
  gl (convP i arg1 harg1 arg2 harg2 arg3 harg3 arg6 harg6 arg7 harg7 arg8 harg8 arg9 harg9 x0 x1 x2 x5 x6 x7 x8 (u / 11) (u % 11))
    (convP i arg1 harg1 arg2 harg2 arg3 harg3 arg6 harg6 arg7 harg7 arg8 harg8 arg9 harg9 x0 x1 x2 x5 x6 x7 x8 (u / 11) (u % 11 + 11))

/-- The stores into the activations, last first. -/
def accP : List (View.Piece (Elt F) S512x2816 .bf16) :=
  fills (s := S512x2816) S128x256.size (fun u => ![128 * (u / 11 % 4), 256 * (u % 11)]) inbP
    (fun u => actP i arg1 harg1 arg2 harg2 arg3 harg3 arg6 harg6 arg7 harg7 arg8 harg8 arg9 harg9 x0 x1 x2 x5 x6 x7 x8 u) 44

/-- The block that the last stretch makes of the activations. -/
def tailP (x3 : Vec F S512x1024 .f32) (act : Vec F S512x2816 .bf16) (x9 : Vec F S2816x1024 .bf16) (x11 : Vec F S1024x1024 .bf16)
    (x12 : Vec F S1x1024 .f32) (x4 : Vec F S512x256 .f32) (x10 : Vec F S256x1024 .bf16) (x13 : Vec F S1x1024 .f32) : FVec F S512x1024 .f32 :=
  k0_pay249 (k0_pay247 x3 act x9) (k0_pay248 x3 act x9 x11 x12) x4 x10 x13

set_option maxHeartbeats 8000000 in
/-- What the body leaves in its output block. -/
theorem body_eq :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 x13).1
    = [⟨Rect.unit ![0, 0] ![512, 1024] inb_S512x1024_S512x1024_0_0,
        tailP (View.readAt (Elt F) arg4.view (Rect.unit (s := S512x1024) ![0, 0] S512x1024.size inb_S512x1024_S512x1024_0_0).toLoadRect (harg4.unread x3))
          (arg16.view.readCov (accP i arg1 harg1 arg2 harg2 arg3 harg3 arg6 harg6 arg7 harg7 arg8 harg8 arg9 harg9 x0 x1 x2 x5 x6 x7 x8)
            (Rect.unit (s := S512x2816) ![0, 0] S512x2816.size inb_S512x2816_S512x2816_0_0).toLoadRect)
          (View.readAt (Elt F) arg10.view (Rect.unit (s := S2816x1024) ![0, 0] S2816x1024.size inb_S2816x1024_S2816x1024_0_0).toLoadRect (harg10.unread x9))
          (View.readAt (Elt F) arg12.view (Rect.unit (s := S1024x1024) ![0, 0] S1024x1024.size inb_S1024x1024_S1024x1024_0_0).toLoadRect (harg12.unread x11))
          (View.readAt (Elt F) arg13.view (Rect.unit (s := S1x1024) ![0, 0] S1x1024.size inb_S1x1024_S1x1024_0_0).toLoadRect (harg13.unread x12))
          (View.readAt (Elt F) arg5.view (Rect.unit (s := S512x256) ![0, 0] S512x256.size inb_S512x256_S512x256_0_0).toLoadRect (harg5.unread x4))
          (View.readAt (Elt F) arg11.view (Rect.unit (s := S256x1024) ![0, 0] S256x1024.size inb_S256x1024_S256x1024_0_0).toLoadRect (harg11.unread x10))
          (View.readAt (Elt F) arg14.view (Rect.unit (s := S1x1024) ![0, 0] S1x1024.size inb_S1x1024_S1x1024_0_0).toLoadRect (harg14.unread x13))⟩] := by
  sl_kernel_rfl

end body

end Cert.Kernel5Ideal.Down

end
-- ==== Proof.DownRef.lean ====
module

public import proofs.«01_k».proof.Proof.Gen.Reference5Ideal.Run
public import Idealize.ShloMosaic.Lib.Pipeline.ValueKit
public import Idealize.ShloMosaic.Lib.Tactic

/-! The down-projection and what follows it: what the reference gives, element by element. -/

@[expose] public section

set_option maxRecDepth 65536

noncomputable section

namespace Cert.Reference5Ideal.Down

open Idealize.ShloMosaic Idealize.ShloMosaic.TcCoe Idealize.ShloMosaic.Tactic Idealize.SL.Sem
open Cert.Reference5Ideal Cert.Reference5Ideal.Gen

/-- A row's element over the row's root mean square, times a weight. -/
def rmsf (x : Fin 1024 → EReal) (w : EReal) (j : Fin 1024) : EReal :=
  x j * Ideal.rsqrt (Ideal.div (∑ z, x z * x z) (Ideal.ofBits FTy.f32 1149239296#32) + Ideal.ofBits FTy.f32 897988541#32) * w

/-- The convolution of three neighbouring rows, at one column. -/
def cvf (b p a w0 w1 w2 c : EReal) : EReal := b * w0 + p * w1 + a * w2 + c

/-- The gate through the tanh form of gelu, times the value. -/
def gelf (g v : EReal) : EReal :=
  Ideal.ofBits FTy.f32 0x3F000000#32 * g * (1 + Ideal.tanh (Ideal.ofBits FTy.f32 0x3F4C422A#32 * (g + Ideal.ofBits FTy.f32 0x3D372713#32 * (g * g * g)))) * v

/-- The residual stream after the down-projection. -/
def x2f (x : EReal) (a w : Fin 2816 → EReal) : EReal := x + ∑ z, a z * w z

/-- The residual stream after the per-layer embedding. -/
def x3f (x : Fin 1024 → EReal) (wg : Fin 1024 → EReal) (b : EReal) (p w : Fin 256 → EReal) (j : Fin 1024) : EReal :=
  x j + Ideal.div 1 (1 + Ideal.exp (0 - (∑ z, x z * wg z + b))) * ∑ z, p z * w z

/-- The row before a row of its sequence, zero before the first. -/
def bef (u : Fin 32768 → EReal) (r : Fin 32768) : EReal := if r.val % 8192 = 0 then 0 else u ⟨r.val - 1, by omega⟩

/-- The row after a row of its sequence, zero after the last. -/
def aft (u : Fin 32768 → EReal) (r : Fin 32768) : EReal := if h : r.val % 8192 = 8191 then 0 else u ⟨r.val + 1, by omega⟩

/-- The convolution, as the reference computes it. -/
def cvT (x0 : FVec Ideal S32768x5632 .bf16) (x3 : FVec Ideal S1x3x5632 .f32) (x4 : FVec Ideal S1x5632 .f32) : FVec Ideal S32768x5632 .f32 :=
  shapeCast S32768x5632 (addf (addf (addf (mulf (concatenate S4x8192x5632 1 [⟨S4x1x5632, (broadcastInDim S4x1x5632 ![] bcast_S_S4x1x5632 (constant (F := Ideal) S_ .f32 0x00000000#32))⟩, ⟨S4x8191x5632, (extractStridedSlice S4x8191x5632 ![0, 0, 0] (shapeCast S4x8192x5632 (extf (F := Ideal) .f32 x0 bitsLt_bf16_f32) shapeCasts_S32768x5632_S4x8192x5632) slices_S4x8192x5632_S4x8191x5632_0_0_0)⟩] concatenates_S4x1x5632_S4x8191x5632_S4x8192x5632_d1) (broadcastInDim S4x8192x5632 ![0, 1, 2] bcast_S1x1x5632_S4x8192x5632_0_1_2 (broadcastInDim S1x1x5632 ![2] bcast_S5632_S1x1x5632_2 (shapeCast S5632 (extractStridedSlice S1x5632 ![0, 0] (shapeCast S3x5632 x3 shapeCasts_S1x3x5632_S3x5632) slices_S3x5632_S1x5632_0_0) shapeCasts_S1x5632_S5632)))) (mulf (shapeCast S4x8192x5632 (extf (F := Ideal) .f32 x0 bitsLt_bf16_f32) shapeCasts_S32768x5632_S4x8192x5632) (broadcastInDim S4x8192x5632 ![0, 1, 2] bcast_S1x1x5632_S4x8192x5632_0_1_2 (broadcastInDim S1x1x5632 ![2] bcast_S5632_S1x1x5632_2 (shapeCast S5632 (extractStridedSlice S1x5632 ![1, 0] (shapeCast S3x5632 x3 shapeCasts_S1x3x5632_S3x5632) slices_S3x5632_S1x5632_1_0) shapeCasts_S1x5632_S5632))))) (mulf (concatenate S4x8192x5632 1 [⟨S4x8191x5632, (extractStridedSlice S4x8191x5632 ![0, 1, 0] (shapeCast S4x8192x5632 (extf (F := Ideal) .f32 x0 bitsLt_bf16_f32) shapeCasts_S32768x5632_S4x8192x5632) slices_S4x8192x5632_S4x8191x5632_0_1_0)⟩, ⟨S4x1x5632, (broadcastInDim S4x1x5632 ![] bcast_S_S4x1x5632 (constant (F := Ideal) S_ .f32 0x00000000#32))⟩] concatenates_S4x8191x5632_S4x1x5632_S4x8192x5632_d1) (broadcastInDim S4x8192x5632 ![0, 1, 2] bcast_S1x1x5632_S4x8192x5632_0_1_2 (broadcastInDim S1x1x5632 ![2] bcast_S5632_S1x1x5632_2 (shapeCast S5632 (extractStridedSlice S1x5632 ![2, 0] (shapeCast S3x5632 x3 shapeCasts_S1x3x5632_S3x5632) slices_S3x5632_S1x5632_2_0) shapeCasts_S1x5632_S5632))))) (broadcastInDim S4x8192x5632 ![0, 1, 2] bcast_S1x1x5632_S4x8192x5632_0_1_2 (broadcastInDim S1x1x5632 ![2] bcast_S5632_S1x1x5632_2 (shapeCast S5632 x4 shapeCasts_S1x5632_S5632)))) shapeCasts_S4x8192x5632_S32768x5632

/-- The activations, as the reference computes them. -/
def actT (c : FVec Ideal S32768x5632 .f32) : FVec Ideal S32768x2816 .f32 :=
  mulf (mulf (extractStridedSlice S32768x2816 ![0, 0] c slices_S32768x5632_S32768x2816_0_0) (mulf (broadcastInDim S32768x2816 ![] bcast_S_S32768x2816 (constant (F := Ideal) S_ .f32 0x3F000000#32)) (addf (broadcastInDim S32768x2816 ![] bcast_S_S32768x2816 (constant (F := Ideal) S_ .f32 0x3F800000#32)) (Host.tanh (mulf (broadcastInDim S32768x2816 ![] bcast_S_S32768x2816 (constant (F := Ideal) S_ .f32 0x3F4C422A#32)) (addf (extractStridedSlice S32768x2816 ![0, 0] c slices_S32768x5632_S32768x2816_0_0) (mulf (broadcastInDim S32768x2816 ![] bcast_S_S32768x2816 (constant (F := Ideal) S_ .f32 0x3D372713#32)) (mulf (mulf (extractStridedSlice S32768x2816 ![0, 0] c slices_S32768x5632_S32768x2816_0_0) (extractStridedSlice S32768x2816 ![0, 0] c slices_S32768x5632_S32768x2816_0_0)) (extractStridedSlice S32768x2816 ![0, 0] c slices_S32768x5632_S32768x2816_0_0))))))))) (extractStridedSlice S32768x2816 ![0, 2816] c slices_S32768x5632_S32768x2816_0_2816)

/-- The residual stream after the down-projection, as the reference computes it. -/
def x2T (x1 : FVec Ideal S32768x1024 .f32) (a : FVec Ideal S32768x2816 .f32) (x5 : FVec Ideal S1x2816x1024 .f32) : FVec Ideal S32768x1024 .f32 :=
  addf x1 (Host.dotGeneral (F := Ideal) (φ₁ := .f32) (φ₂ := .f32) dot_S32768x2816_S2816x1024_S32768x1024_1_0_0_1_n_n none a (shapeCast S2816x1024 x5 shapeCasts_S1x2816x1024_S2816x1024))

/-- The residual stream after the per-layer embedding, as the reference computes it. -/
def x3T (x : FVec Ideal S32768x1024 .f32) (x7 : FVec Ideal S1x1024x1024 .f32) (x8 : FVec Ideal S1x1024 .f32) (x2 : FVec Ideal S32768x256 .f32)
    (x6 : FVec Ideal S1x256x1024 .f32) : FVec Ideal S32768x1024 .f32 :=
  addf x (mulf (Host.divf (broadcastInDim S32768x1024 ![] bcast_S_S32768x1024 (constant (F := Ideal) S_ .f32 0x3F800000#32)) (addf (broadcastInDim S32768x1024 ![] bcast_S_S32768x1024 (constant (F := Ideal) S_ .f32 0x3F800000#32)) (Host.exp (Host.negf (addf (Host.dotGeneral (F := Ideal) (φ₁ := .f32) (φ₂ := .f32) dot_S32768x1024_S1024x1024_S32768x1024_1_0_0_1_n_n none x (shapeCast S1024x1024 x7 shapeCasts_S1x1024x1024_S1024x1024)) (broadcastInDim S32768x1024 ![0, 1] bcast_S1x1024_S32768x1024_0_1 (broadcastInDim S1x1024 ![1] bcast_S1024_S1x1024_1 (shapeCast S1024 x8 shapeCasts_S1x1024_S1024)))))))) (Host.dotGeneral (F := Ideal) (φ₁ := .f32) (φ₂ := .f32) dot_S32768x256_S256x1024_S32768x1024_1_0_0_1_n_n none x2 (shapeCast S256x1024 x6 shapeCasts_S1x256x1024_S256x1024)))

/-- The final norm, as the reference computes it. -/
def nrmT (x : FVec Ideal S32768x1024 .f32) (x9 : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant (F := Ideal) S_ .f32 0x00000000#32) reducesTo_S32768x1024_S32768_d1 h_S_)) (broadcastInDim S32768x1 ![] bcast_S_S32768x1 (constant (F := Ideal) S_ .f32 0x44800000#32))) (broadcastInDim S32768x1 ![] bcast_S_S32768x1 (constant (F := Ideal) S_ .f32 0x358637BD#32)))))) (broadcastInDim S32768x1024 ![0, 1] bcast_S1x1024_S32768x1024_0_1 (broadcastInDim S1x1024 ![1] bcast_S1024_S1x1024_1 x9))

/-- An element of the activations. -/
theorem act_at (c : FVec Ideal S32768x5632 .f32) (r : Fin 32768) (j : Fin 2816) :
    (actT c (ix2 r j) : EReal) = gelf (c (ix2 r ⟨j.val, by omega⟩)) (c (ix2 r ⟨2816 + j.val, by omega⟩)) := by
  pointwise [actT, gelf]
  congr 1
  rw [mul_left_comm, ← mul_assoc]

/-- An element of the residual stream after the down-projection. -/
theorem x2_at (x1 : FVec Ideal S32768x1024 .f32) (a : FVec Ideal S32768x2816 .f32) (x5 : FVec Ideal S1x2816x1024 .f32) (r : Fin 32768) (j : Fin 1024) :
    (x2T x1 a x5 (ix2 r j) : EReal) = x2f (x1 (ix2 r j)) (fun z => a (ix2 r z)) (fun z => x5 (ix3 0 z j)) := by
  pointwise [x2T, x2f]

/-- An element of the residual stream after the per-layer embedding. -/
theorem x3_at (x : FVec Ideal S32768x1024 .f32) (x7 : FVec Ideal S1x1024x1024 .f32) (x8 : FVec Ideal S1x1024 .f32) (x2 : FVec Ideal S32768x256 .f32)
    (x6 : FVec Ideal S1x256x1024 .f32) (r : Fin 32768) (j : Fin 1024) :
    (x3T x x7 x8 x2 x6 (ix2 r j) : EReal)
      = x3f (fun z => x (ix2 r z)) (fun z => x7 (ix3 0 z j)) (x8 (ix2 0 j)) (fun z => x2 (ix2 r z)) (fun z => x6 (ix3 0 z j)) j := by
  pointwise [x3T, x3f]
  simp only [zero_sub]

/-- An element of the final norm. -/
theorem nrm_at (x : FVec Ideal S32768x1024 .f32) (x9 : FVec Ideal S1024 .f32) (r : Fin 32768) (j : Fin 1024) :
    (nrmT x x9 (ix2 r j) : EReal) = rmsf (fun z => x (ix2 r z)) (x9 (ix1 j)) j := by
  pointwise [nrmT, rmsf]

/-- An element of the convolution. -/
theorem cv_at (x0 : FVec Ideal S32768x5632 .bf16) (x3 : FVec Ideal S1x3x5632 .f32) (x4 : FVec Ideal S1x5632 .f32) (r : Fin 32768) (j : Fin 5632) :
    (cvT x0 x3 x4 (ix2 r j) : EReal)
      = cvf (bef (fun r => x0 (ix2 r j)) r) (x0 (ix2 r j)) (aft (fun r => x0 (ix2 r j)) r) (x3 (ix3 0 0 j)) (x3 (ix3 0 1 j)) (x3 (ix3 0 2 j)) (x4 (ix2 0 j)) := by
  have hb : (if h : r.val % 8192 < 1 then (0 : EReal) else x0 (ix2 ⟨r.val / 8192 * 8192 + (r.val % 8192 - 1), by omega⟩ j))
      = bef (fun r => x0 (ix2 r j)) r := by
    unfold bef
    by_cases h : r.val % 8192 = 0
    · rw [dif_pos (by omega), if_pos h]
    · rw [dif_neg (by omega), if_neg h]
      exact congrArg (fun r => x0 (ix2 r j)) (Fin.ext (by show r.val / 8192 * 8192 + (r.val % 8192 - 1) = r.val - 1; omega))
  have ha : (if h : r.val % 8192 < 8191 then x0 (ix2 ⟨r.val / 8192 * 8192 + (1 + r.val % 8192), by omega⟩ j) else (0 : EReal))
      = aft (fun r => x0 (ix2 r j)) r := by
    unfold aft
    by_cases h : r.val % 8192 = 8191
    · rw [dif_neg (by omega), dif_pos h]
    · rw [dif_pos (by omega), dif_neg h]
      exact congrArg (fun r => x0 (ix2 r j)) (Fin.ext (by show r.val / 8192 * 8192 + (1 + r.val % 8192) = r.val + 1; omega))
  rw [← hb, ← ha]
  pointwise [cvT, cvf]

end Cert.Reference5Ideal.Down
end
-- ==== Proof.DownPiece.lean ====
module

public import proofs.«01_k».proof.Proof.DownBody
public import proofs.«01_k».proof.Proof.DownRef
public import Idealize.ShloMosaic.Lib.Pipeline.ValueKit
public import Idealize.ShloMosaic.Lib.Tactic

/-! The down-projection's body, element by element: the convolution of a piece, its activations, and the last stretch. -/

@[expose] public section

set_option maxRecDepth 65536

noncomputable section

namespace Cert.Kernel5Ideal.Down

open Idealize.ShloMosaic Idealize.ShloMosaic.TcCoe Idealize.ShloMosaic.Tactic Idealize.SL.Sem
open Cert.Kernel5Ideal Cert.Kernel5Ideal.Gen
open Cert.Reference5Ideal.Down (rmsf cvf gelf x2f x3f bef aft)

/-- An element of the residual stream after the down-projection. -/
theorem pay247_at (x : FVec Ideal S512x1024 .f32) (a : FVec Ideal S512x2816 .bf16) (w : FVec Ideal S2816x1024 .bf16) (i : Fin 512) (j : Fin 1024) :
    (k0_pay247 (F := Ideal) x a w (ix2 i j) : EReal) = x2f (x (ix2 i j)) (fun z => a (ix2 i z)) (fun z => w (ix2 z j)) := by
  pointwise [k0_pay247, x2f]

/-- An element of the gate's exponent. -/
theorem pay248_at (x : FVec Ideal S512x1024 .f32) (a : FVec Ideal S512x2816 .bf16) (w : FVec Ideal S2816x1024 .bf16) (wg : FVec Ideal S1024x1024 .bf16)
    (b : FVec Ideal S1x1024 .f32) (i : Fin 512) (j : Fin 1024) :
    (k0_pay248 (F := Ideal) x a w wg b (ix2 i j) : EReal)
      = 0 - (∑ z, (k0_pay247 (F := Ideal) x a w (ix2 i z) : EReal) * wg (ix2 z j) + b (ix2 0 j)) := by
  pointwise [k0_pay248]

/-- An element of the block written, from the residual stream and the gate's exponent. -/
theorem pay249_at (x y : FVec Ideal S512x1024 .f32) (p : FVec Ideal S512x256 .f32) (w : FVec Ideal S256x1024 .bf16) (n : FVec Ideal S1x1024 .f32)
    (i : Fin 512) (j : Fin 1024) :
    (k0_pay249 (F := Ideal) x y p w n (ix2 i j) : EReal)
      = rmsf (fun j => x (ix2 i j) + Ideal.div 1 (1 + Ideal.exp (y (ix2 i j))) * ∑ z, (p (ix2 i z) : EReal) * w (ix2 z j)) (n (ix2 0 j)) j := by
  pointwise [k0_pay249, rmsf]

/-- An element of the block written. -/
theorem tail_at (x3 : FVec Ideal S512x1024 .f32) (act : FVec Ideal S512x2816 .bf16) (x9 : FVec Ideal S2816x1024 .bf16) (x11 : FVec Ideal S1024x1024 .bf16)
    (x12 : FVec Ideal S1x1024 .f32) (x4 : FVec Ideal S512x256 .f32) (x10 : FVec Ideal S256x1024 .bf16) (x13 : FVec Ideal S1x1024 .f32)
    (i : Fin 512) (j : Fin 1024) :
    (tailP (F := Ideal) x3 act x9 x11 x12 x4 x10 x13 (ix2 i j) : EReal)
      = rmsf (fun j => x3f (fun z => x2f (x3 (ix2 i z)) (fun y => act (ix2 i y)) (fun y => x9 (ix2 y z))) (fun z => x11 (ix2 z j)) (x12 (ix2 0 j))
          (fun z => x4 (ix2 i z)) (fun z => x10 (ix2 z j)) j) (x13 (ix2 0 j)) j := by
  refine (pay249_at _ _ _ _ _ i j).trans (congrArg (fun f => rmsf f (x13 (ix2 0 j)) j) (funext fun j => ?_))
  simp only [pay248_at, pay247_at, x3f]

/-- The rows around a piece. -/
theorem ext_at (b : FVec Ideal S16x256 .bf16) (mn : FVec Ideal S128x256 .bf16) (a : FVec Ideal S16x256 .bf16) (z : Fin 160) (q : Fin 256) :
    (ext (F := Ideal) b mn a (ix2 z q) : EReal)
      = if h : z.val < 16 then b (ix2 ⟨z.val, h⟩ q) else if h' : z.val - 16 < 128 then mn (ix2 ⟨z.val - 16, h'⟩ q) else a (ix2 ⟨z.val - 16 - 128, by omega⟩ q) := by
  pointwise [ext]

/-- An element of a piece's convolution. -/
theorem cvP_at (sp sn : FVec Ideal S128x160 .bf16) (e : FVec Ideal S160x256 .bf16) (mn : FVec Ideal S128x256 .bf16) (w0 w1 w2 cb : FVec Ideal S1x256 .f32)
    (p : Fin 128) (q : Fin 256) :
    (cv (F := Ideal) sp sn e mn w0 w1 w2 cb (ix2 p q) : EReal)
      = cvf (∑ z, (sp (ix2 p z) : EReal) * e (ix2 z q)) (mn (ix2 p q)) (∑ z, (sn (ix2 p z) : EReal) * e (ix2 z q))
          (w0 (ix2 0 q)) (w1 (ix2 0 q)) (w2 (ix2 0 q)) (cb (ix2 0 q)) := by
  pointwise [cv, row, cvf]

/-- An element of a piece's activations. -/
theorem gl_at (g v : FVec Ideal S128x256 .f32) (p : Fin 128) (q : Fin 256) :
    (gl (F := Ideal) g v (ix2 p q) : EReal) = gelf (g (ix2 p q)) (v (ix2 p q)) := by
  pointwise [gl, gelf]

/-- The first table picks the row before. -/
theorem pick_bef (sp : FVec Ideal S128x160 .bf16) (h : ∀ (p : Fin 128) (z : Fin 160), (sp (ix2 p z) : EReal) = if z.val = p.val + 15 then 1 else 0)
    (b : FVec Ideal S16x256 .bf16) (mn : FVec Ideal S128x256 .bf16) (a : FVec Ideal S16x256 .bf16) (p : Fin 128) (q : Fin 256) :
    (∑ z, (sp (ix2 p z) : EReal) * ext (F := Ideal) b mn a (ix2 z q))
      = if p.val = 0 then (b (ix2 15 q) : EReal) else mn (ix2 ⟨p.val - 1, by omega⟩ q) := by
  have hp := p.isLt
  rw [Finset.sum_eq_single (⟨p.val + 15, by omega⟩ : Fin 160) (fun z _ hz => by
    rw [h, if_neg (fun e => hz (Fin.ext e)), zero_mul]) (fun hn => absurd (Finset.mem_univ _) hn), h, if_pos rfl, one_mul, ext_at]
  by_cases h0 : p.val = 0
  · rw [if_pos h0, dif_pos (show p.val + 15 < 16 by omega)]
    exact congrArg (fun x => b (ix2 x q)) (Fin.ext (by show p.val + 15 = 15; omega))
  · rw [if_neg h0, dif_neg (show ¬ p.val + 15 < 16 by omega), dif_pos (show p.val + 15 - 16 < 128 by omega)]
    exact congrArg (fun x => mn (ix2 x q)) (Fin.ext (by show p.val + 15 - 16 = p.val - 1; omega))

/-- The second table picks the row after. -/
theorem pick_aft (sn : FVec Ideal S128x160 .bf16) (h : ∀ (p : Fin 128) (z : Fin 160), (sn (ix2 p z) : EReal) = if z.val = p.val + 17 then 1 else 0)
    (b : FVec Ideal S16x256 .bf16) (mn : FVec Ideal S128x256 .bf16) (a : FVec Ideal S16x256 .bf16) (p : Fin 128) (q : Fin 256) :
    (∑ z, (sn (ix2 p z) : EReal) * ext (F := Ideal) b mn a (ix2 z q))
      = if h : p.val = 127 then (a (ix2 0 q) : EReal) else mn (ix2 ⟨p.val + 1, by omega⟩ q) := by
  have hp := p.isLt
  rw [Finset.sum_eq_single (⟨p.val + 17, by omega⟩ : Fin 160) (fun z _ hz => by
    rw [h, if_neg (fun e => hz (Fin.ext e)), zero_mul]) (fun hn => absurd (Finset.mem_univ _) hn), h, if_pos rfl, one_mul, ext_at,
    dif_neg (show ¬ p.val + 17 < 16 by omega)]
  by_cases h0 : p.val = 127
  · rw [dif_pos h0, dif_neg (show ¬ p.val + 17 - 16 < 128 by omega)]
    exact congrArg (fun x => a (ix2 x q)) (Fin.ext (by show p.val + 17 - 16 - 128 = 0; omega))
  · rw [dif_neg h0, dif_pos (show p.val + 17 - 16 < 128 by omega)]
    exact congrArg (fun x => mn (ix2 x q)) (Fin.ext (by show p.val + 17 - 16 = p.val + 1; omega))

/-- The factor on the rows before a tile: zero where a sequence begins. -/
theorem pay1_at (i : grid0.Coords) (h : (i 0).val < 64) : (k0_pay1 (F := Ideal) i : EReal) = if (i 0).val % 16 = 0 then 0 else 1 := by
  have e : ∀ n : Fin 64, (Scalar.extui (let v2 : BitVec 32 := Scalar.remsi (BitVec.ofNat 32 n.val) (Scalar.select (Scalar.cmpi .eq 16#32 0#32) 1#32 16#32)
      Scalar.cmpi .sgt (Scalar.select (Scalar.andi (Scalar.xori (Scalar.cmpi .slt v2 0#32) (Scalar.cmpi .slt (Scalar.select (Scalar.cmpi .eq 16#32 0#32) 1#32 16#32) 0#32)) (Scalar.cmpi .ne v2 0#32))
        (Scalar.addi v2 (Scalar.select (Scalar.cmpi .eq 16#32 0#32) 1#32 16#32)) v2) 0#32) : BitVec 32) = if n.val % 16 = 0 then 0#32 else 1#32 := by
    decide +kernel
  refine (congrArg (fun x : BitVec 32 => ((x.toInt : ℝ) : EReal)) (e ⟨(i 0).val, h⟩)).trans ?_
  dsimp only
  split
  · show (((0#32 : BitVec 32).toInt : ℝ) : EReal) = 0
    simp
  · show (((1#32 : BitVec 32).toInt : ℝ) : EReal) = 1
    simp

/-- The factor on the rows after a tile: zero where a sequence ends. -/
theorem pay2_at (i : grid0.Coords) (h : (i 0).val < 64) : (k0_pay2 (F := Ideal) i : EReal) = if (i 0).val % 16 = 15 then 0 else 1 := by
  have e : ∀ n : Fin 64, (Scalar.extui (let v2 : BitVec 32 := Scalar.remsi (BitVec.ofNat 32 n.val) (Scalar.select (Scalar.cmpi .eq 16#32 0#32) 1#32 16#32)
      Scalar.cmpi .slt (Scalar.select (Scalar.andi (Scalar.xori (Scalar.cmpi .slt v2 0#32) (Scalar.cmpi .slt (Scalar.select (Scalar.cmpi .eq 16#32 0#32) 1#32 16#32) 0#32)) (Scalar.cmpi .ne v2 0#32))
        (Scalar.addi v2 (Scalar.select (Scalar.cmpi .eq 16#32 0#32) 1#32 16#32)) v2) 15#32) : BitVec 32) = if n.val % 16 = 15 then 0#32 else 1#32 := by
    decide +kernel
  refine (congrArg (fun x : BitVec 32 => ((x.toInt : ℝ) : EReal)) (e ⟨(i 0).val, h⟩)).trans ?_
  dsimp only
  split
  · show (((0#32 : BitVec 32).toInt : ℝ) : EReal) = 0
    simp
  · show (((1#32 : BitVec 32).toInt : ℝ) : EReal) = 1
    simp

/-- The row before a row of the tile. -/
def befL (x0 : FVec Ideal S512x5632 .bf16) (x1 : FVec Ideal S16x5632 .bf16) (f : EReal) (i : Fin 512) (j : Fin 5632) : EReal :=
  if i.val = 0 then (x1 (ix2 15 j) : EReal) * f else x0 (ix2 ⟨i.val - 1, by omega⟩ j)

/-- The row after a row of the tile. -/
def aftL (x0 : FVec Ideal S512x5632 .bf16) (x2 : FVec Ideal S16x5632 .bf16) (f : EReal) (i : Fin 512) (j : Fin 5632) : EReal :=
  if h : i.val = 511 then (x2 (ix2 0 j) : EReal) * f else x0 (ix2 ⟨i.val + 1, by omega⟩ j)

/-- The convolution of the tile. -/
def convL (x0 : FVec Ideal S512x5632 .bf16) (x1 x2 : FVec Ideal S16x5632 .bf16) (x7 : FVec Ideal S3x5632 .f32) (x8 : FVec Ideal S1x5632 .f32) (f1 f2 : EReal)
    (i : Fin 512) (j : Fin 5632) : EReal :=
  cvf (befL x0 x1 f1 i j) (x0 (ix2 i j)) (aftL x0 x2 f2 i j) (x7 (ix2 0 j)) (x7 (ix2 1 j)) (x7 (ix2 2 j)) (x8 (ix2 0 j))

/-- A load of a whole buffer's box, at one element. -/
theorem ld_at {s : Shape} {e : EltTy} (arg : Memref sig .tc .vmem s e) (harg : arg.IsWhole) (x : Vec Ideal s e) (L : LoadRect s) (j : L.shape.Idx) (y : s.Idx)
    (h : ∀ a, (L.idx j a).val = (y a).val) : View.readAt (Elt Ideal) arg.view L (harg.unread x) j = x y :=
  (congrFun (harg.read_unread x) (L.idx j)).trans (congrArg x (funext fun a => Fin.ext (h a)))

section body
variable (i : grid0.Coords)
  (arg1 : Memref sig .tc .vmem S512x5632 .bf16) (harg1 : arg1.IsWhole)
  (arg2 : Memref sig .tc .vmem S16x5632 .bf16) (harg2 : arg2.IsWhole)
  (arg3 : Memref sig .tc .vmem S16x5632 .bf16) (harg3 : arg3.IsWhole)
  (arg6 : Memref sig .tc .vmem S128x160 .bf16) (harg6 : arg6.IsWhole)
  (arg7 : Memref sig .tc .vmem S128x160 .bf16) (harg7 : arg7.IsWhole)
  (arg8 : Memref sig .tc .vmem S3x5632 .f32) (harg8 : arg8.IsWhole)
  (arg9 : Memref sig .tc .vmem S1x5632 .f32) (harg9 : arg9.IsWhole)
  (arg16 : Memref sig .tc .vmem S512x2816 .bf16)
  (x0 : Vec Ideal S512x5632 .bf16) (x1 : Vec Ideal S16x5632 .bf16) (x2 : Vec Ideal S16x5632 .bf16) (x5 : Vec Ideal S128x160 .bf16) (x6 : Vec Ideal S128x160 .bf16)
  (x7 : Vec Ideal S3x5632 .f32) (x8 : Vec Ideal S1x5632 .f32)

/-- An element of a piece's rows. -/
theorem mainP_at (r k : Nat) (p : Fin 128) (q : Fin 256) (I : Fin 512) (J : Fin 5632) (hI : I.val = 128 * (r % 4) + p.val) (hJ : J.val = 256 * (k % 22) + q.val) :
    mainP (F := Ideal) arg1 harg1 x0 r k (ix2 p q) = x0 (ix2 I J) :=
  ld_at arg1 harg1 x0 _ _ _ fun a => by
    match a with
    | ⟨0, _⟩ => show 128 * (r % 4) + 1 * p.val = I.val; omega
    | ⟨1, _⟩ => show 256 * (k % 22) + 1 * q.val = J.val; omega

/-- An element of a weights' row. -/
theorem wP_at (n k : Nat) (q : Fin 256) (N : Fin 3) (J : Fin 5632) (hN : N.val = n % 3) (hJ : J.val = 256 * (k % 22) + q.val) :
    wP (F := Ideal) arg8 harg8 x7 n k (ix2 0 q) = x7 (ix2 N J) :=
  ld_at arg8 harg8 x7 _ _ _ fun a => by
    match a with
    | ⟨0, _⟩ => show n % 3 + 1 * 0 = N.val; omega
    | ⟨1, _⟩ => show 256 * (k % 22) + 1 * q.val = J.val; omega

/-- An element of the bias. -/
theorem cP_at (k : Nat) (q : Fin 256) (J : Fin 5632) (hJ : J.val = 256 * (k % 22) + q.val) :
    cP (F := Ideal) arg9 harg9 x8 k (ix2 0 q) = x8 (ix2 0 J) :=
  ld_at arg9 harg9 x8 _ _ _ fun a => by
    match a with
    | ⟨0, _⟩ => rfl
    | ⟨1, _⟩ => show 256 * (k % 22) + 1 * q.val = J.val; omega

/-- The last of the 16 rows before a piece. -/
theorem befP_at (r k : Nat) (hr : r < 4) (q : Fin 256) (I : Fin 512) (J : Fin 5632) (hI : I.val = 128 * r) (hJ : J.val = 256 * (k % 22) + q.val) :
    (befP (F := Ideal) i arg1 harg1 arg2 harg2 x0 x1 r k (ix2 15 q) : EReal) = befL x0 x1 (k0_pay1 (F := Ideal) i) I J := by
  match r with
  | 0 =>
    rw [befL, if_pos (by omega)]
    refine congrArg (fun x : EReal => x * (k0_pay1 (F := Ideal) i : EReal)) (ld_at arg2 harg2 x1 _ _ _ fun a => ?_)
    match a with
    | ⟨0, _⟩ => rfl
    | ⟨1, _⟩ => show 256 * (k % 22) + 1 * q.val = J.val; omega
  | r + 1 =>
    rw [befL, if_neg (by omega)]
    refine ld_at arg1 harg1 x0 _ _ _ fun a => ?_
    match a with
    | ⟨0, _⟩ => show 128 * (r % 3) + 112 + 1 * 15 = I.val - 1; omega
    | ⟨1, _⟩ => show 256 * (k % 22) + 1 * q.val = J.val; omega

/-- The first of the 16 rows after a piece. -/
theorem aftP_at (r k : Nat) (hr : r < 4) (q : Fin 256) (I : Fin 512) (J : Fin 5632) (hI : I.val = 128 * r + 127) (hJ : J.val = 256 * (k % 22) + q.val) :
    (aftP (F := Ideal) i arg1 harg1 arg3 harg3 x0 x2 r k (ix2 0 q) : EReal) = aftL x0 x2 (k0_pay2 (F := Ideal) i) I J := by
  by_cases h : r = 3
  · subst h
    rw [aftL, dif_pos (by omega)]
    refine congrArg (fun x : EReal => x * (k0_pay2 (F := Ideal) i : EReal)) (ld_at arg3 harg3 x2 _ _ _ fun a => ?_)
    match a with
    | ⟨0, _⟩ => rfl
    | ⟨1, _⟩ => show 256 * (k % 22) + 1 * q.val = J.val; omega
  · rw [aftL, dif_neg (by omega), aftP.eq_2 _ _ _ _ _ _ _ _ _ h]
    refine ld_at arg1 harg1 x0 _ _ _ fun a => ?_
    match a with
    | ⟨0, _⟩ => show 128 * (r % 3) + 128 + 1 * 0 = I.val + 1; omega
    | ⟨1, _⟩ => show 256 * (k % 22) + 1 * q.val = J.val; omega

/-- A whole table, loaded. -/
theorem tab_at (arg : Memref sig .tc .vmem S128x160 .bf16) (harg : arg.IsWhole) (x : Vec Ideal S128x160 .bf16) (p : Fin 128) (z : Fin 160) :
    (shapeCast S128x160 (View.readAt (Elt Ideal) arg.view (Rect.unit (s := S128x160) ![0, 0] S128x160.size inb_S128x160_S128x160_0_0).toLoadRect (harg.unread x))
      shapeCasts_S128x160_S128x160 : FVec Ideal S128x160 .bf16) (ix2 p z) = x (ix2 p z) := by
  refine Eq.trans (b := View.readAt (Elt Ideal) arg.view (Rect.unit (s := S128x160) ![0, 0] S128x160.size inb_S128x160_S128x160_0_0).toLoadRect (harg.unread x) (ix2 p z))
    (by pointwise []) (ld_at arg harg x _ _ _ fun a => ?_)
  match a with
  | ⟨0, _⟩ => show 0 + 1 * p.val = p.val; omega
  | ⟨1, _⟩ => show 0 + 1 * z.val = z.val; omega

/-- An element of a piece's convolution is the tile's. -/
theorem convP_at (h5 : ∀ (p : Fin 128) (z : Fin 160), (x5 (ix2 p z) : EReal) = if z.val = p.val + 15 then 1 else 0)
    (h6 : ∀ (p : Fin 128) (z : Fin 160), (x6 (ix2 p z) : EReal) = if z.val = p.val + 17 then 1 else 0)
    (r k : Nat) (hr : r < 4) (p : Fin 128) (q : Fin 256) (I : Fin 512) (J : Fin 5632) (hI : I.val = 128 * r + p.val) (hJ : J.val = 256 * (k % 22) + q.val) :
    (convP (F := Ideal) i arg1 harg1 arg2 harg2 arg3 harg3 arg6 harg6 arg7 harg7 arg8 harg8 arg9 harg9 x0 x1 x2 x5 x6 x7 x8 r k (ix2 p q) : EReal)
      = convL x0 x1 x2 x7 x8 (k0_pay1 (F := Ideal) i) (k0_pay2 (F := Ideal) i) I J := by
  have hp := p.isLt
  have hq := q.isLt
  unfold convP
  rw [cvP_at, pick_bef _ (fun p z => (tab_at arg6 harg6 x5 p z).trans (h5 p z)), pick_aft _ (fun p z => (tab_at arg7 harg7 x6 p z).trans (h6 p z)),
    mainP_at arg1 harg1 x0 r k p q I J (by omega) hJ, wP_at arg8 harg8 x7 0 k q 0 J rfl hJ, wP_at arg8 harg8 x7 1 k q 1 J rfl hJ,
    wP_at arg8 harg8 x7 2 k q 2 J rfl hJ, cP_at arg9 harg9 x8 k q J hJ]
  unfold convL
  congr 1
  · by_cases h0 : p.val = 0
    · rw [if_pos h0]
      exact befP_at i arg1 harg1 arg2 harg2 x0 x1 r k hr q I J (by omega) hJ
    · rw [if_neg h0, befL, if_neg (by omega)]
      exact mainP_at arg1 harg1 x0 r k ⟨p.val - 1, by omega⟩ q ⟨I.val - 1, by omega⟩ J (by show I.val - 1 = 128 * (r % 4) + (p.val - 1); omega) hJ
  · by_cases h0 : p.val = 127
    · rw [dif_pos h0]
      exact aftP_at i arg1 harg1 arg3 harg3 x0 x2 r k hr q I J (by omega) hJ
    · rw [dif_neg h0, aftL, dif_neg (by omega)]
      exact mainP_at arg1 harg1 x0 r k ⟨p.val + 1, by omega⟩ q ⟨I.val + 1, by omega⟩ J (by show I.val + 1 = 128 * (r % 4) + (p.val + 1); omega) hJ

/-- An element of the stored activations. -/
theorem acts_at (h5 : ∀ (p : Fin 128) (z : Fin 160), (x5 (ix2 p z) : EReal) = if z.val = p.val + 15 then 1 else 0)
    (h6 : ∀ (p : Fin 128) (z : Fin 160), (x6 (ix2 p z) : EReal) = if z.val = p.val + 17 then 1 else 0) (I : Fin 512) (J : Fin 2816) :
    ((show FVec Ideal S512x2816 .bf16 from arg16.view.readCov
        (accP (F := Ideal) i arg1 harg1 arg2 harg2 arg3 harg3 arg6 harg6 arg7 harg7 arg8 harg8 arg9 harg9 x0 x1 x2 x5 x6 x7 x8)
        (Rect.unit (s := S512x2816) ![0, 0] S512x2816.size inb_S512x2816_S512x2816_0_0).toLoadRect) (ix2 I J) : EReal)
      = gelf (convL x0 x1 x2 x7 x8 (k0_pay1 (F := Ideal) i) (k0_pay2 (F := Ideal) i) I ⟨J.val, by omega⟩)
          (convL x0 x1 x2 x7 x8 (k0_pay1 (F := Ideal) i) (k0_pay2 (F := Ideal) i) I ⟨2816 + J.val, by omega⟩) := by
  have hI := I.isLt
  have hJ := J.isLt
  change arg16.view.read (Elt Ideal) _ ((Rect.unit (s := S512x2816) ![0, 0] S512x2816.size inb_S512x2816_S512x2816_0_0).toLoadRect.idx (ix2 I J)) = _
  unfold accP
  refine Eq.trans (congrArg _ ?_) ((fills_read (s := S512x2816) (size := S128x256.size) (off := fun u => ![128 * (u / 11 % 4), 256 * (u % 11)]) (inb := inbP)
    _ _ 44 (fun u w hu hwu j => ?_) (11 * (I.val / 128) + J.val / 256) (by omega) (ix2 (⟨I.val % 128, by omega⟩ : Fin 128) (⟨J.val % 256, by omega⟩ : Fin 256))).trans ?_)
  · funext a
    refine Fin.ext ?_
    match a with
    | ⟨0, _⟩ => show 0 + 1 * I.val = 128 * ((11 * (I.val / 128) + J.val / 256) / 11 % 4) + 1 * (I.val % 128); omega
    | ⟨1, _⟩ => show 0 + 1 * J.val = 256 * ((11 * (I.val / 128) + J.val / 256) % 11) + 1 * (J.val % 256); omega
  · have hj0 : (j (0 : Fin 2)).val < 128 := (j (0 : Fin 2)).isLt
    have hj1 : (j (1 : Fin 2)).val < 256 := (j (1 : Fin 2)).isLt
    by_cases h : u / 11 = w / 11
    · refine Rect.not_mem_set_of_axis _ _ (1 : Fin 2) (256 * (u % 11)) 256 rfl rfl rfl ?_
      show 256 * (w % 11) + 1 * (j (1 : Fin 2)).val < _ ∨ _ ≤ 256 * (w % 11) + 1 * (j (1 : Fin 2)).val
      omega
    · refine Rect.not_mem_set_of_axis _ _ (0 : Fin 2) (128 * (u / 11 % 4)) 128 rfl rfl rfl ?_
      show 128 * (w / 11 % 4) + 1 * (j (0 : Fin 2)).val < _ ∨ _ ≤ 128 * (w / 11 % 4) + 1 * (j (0 : Fin 2)).val
      omega
  · refine (gl_at _ _ _ _).trans (congrArg₂ gelf ?_ ?_)
    · exact convP_at i arg1 harg1 arg2 harg2 arg3 harg3 arg6 harg6 arg7 harg7 arg8 harg8 arg9 harg9 x0 x1 x2 x5 x6 x7 x8 h5 h6 _ _ (by omega) _ _ _ _
        (by show I.val = 128 * ((11 * (I.val / 128) + J.val / 256) / 11) + I.val % 128; omega)
        (by show J.val = 256 * ((11 * (I.val / 128) + J.val / 256) % 11 % 22) + J.val % 256; omega)
    · exact convP_at i arg1 harg1 arg2 harg2 arg3 harg3 arg6 harg6 arg7 harg7 arg8 harg8 arg9 harg9 x0 x1 x2 x5 x6 x7 x8 h5 h6 _ _ (by omega) _ _ _ _
        (by show I.val = 128 * ((11 * (I.val / 128) + J.val / 256) / 11) + I.val % 128; omega)
        (by show 2816 + J.val = 256 * (((11 * (I.val / 128) + J.val / 256) % 11 + 11) % 22) + J.val % 256; omega)

end body

end Cert.Kernel5Ideal.Down

end
-- ==== Proof.Down.lean ====
module

public import proofs.«01_k».proof.Proof.DownPiece
public import proofs.«01_k».proof.Proof.Gen.Kernel5Ideal.Value
public import Idealize.ShloMosaic.Lib.Pipeline.ValueKit
public import Idealize.ShloMosaic.Lib.Tactic
public import Idealize.ShloMosaic.Lib.VecWindow

/-! The down-projection and what follows it: the kernel's result array is the reference's term over the kernel's arguments. -/

@[expose] public section

set_option maxRecDepth 65536

noncomputable section

namespace Cert.Kernel5Ideal.Down

open Idealize.ShloMosaic Idealize.ShloMosaic.TcCoe Idealize.ShloMosaic.Tactic Idealize.SL.Sem
open Cert.Kernel5Ideal Cert.Kernel5Ideal.Gen
open Cert.Reference5Ideal.Down (rmsf cvf gelf x2f x3f bef aft)
open Idealize.ShloMosaic.Pipeline (Dat)

section body
variable (c : Dev nD) (i : grid0.Coords)
  (arg1 : Memref sig .tc .vmem S512x5632 .bf16) (harg1 : arg1.IsWhole)
  (arg2 : Memref sig .tc .vmem S16x5632 .bf16) (harg2 : arg2.IsWhole)
  (arg3 : Memref sig .tc .vmem S16x5632 .bf16) (harg3 : arg3.IsWhole)
  (arg4 : Memref sig .tc .vmem S512x1024 .f32) (harg4 : arg4.IsWhole)
  (arg5 : Memref sig .tc .vmem S512x256 .f32) (harg5 : arg5.IsWhole)
  (arg6 : Memref sig .tc .vmem S128x160 .bf16) (harg6 : arg6.IsWhole)
  (arg7 : Memref sig .tc .vmem S128x160 .bf16) (harg7 : arg7.IsWhole)
  (arg8 : Memref sig .tc .vmem S3x5632 .f32) (harg8 : arg8.IsWhole)
  (arg9 : Memref sig .tc .vmem S1x5632 .f32) (harg9 : arg9.IsWhole)
  (arg10 : Memref sig .tc .vmem S2816x1024 .bf16) (harg10 : arg10.IsWhole)
  (arg11 : Memref sig .tc .vmem S256x1024 .bf16) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S512x2816 .bf16) (harg16 : arg16.IsWhole)
  (x0 : Vec Ideal S512x5632 .bf16) (x1 : Vec Ideal S16x5632 .bf16) (x2 : Vec Ideal S16x5632 .bf16) (x3 : Vec Ideal S512x1024 .f32) (x4 : Vec Ideal S512x256 .f32)
  (x5 : Vec Ideal S128x160 .bf16) (x6 : Vec Ideal S128x160 .bf16) (x7 : Vec Ideal S3x5632 .f32) (x8 : Vec Ideal S1x5632 .f32) (x9 : Vec Ideal S2816x1024 .bf16)
  (x10 : Vec Ideal S256x1024 .bf16) (x11 : Vec Ideal S1024x1024 .bf16) (x12 : Vec Ideal S1x1024 .f32) (x13 : Vec Ideal S1x1024 .f32)

/-- An element of the block that the body leaves, from the blocks it reads. -/
theorem out_at (h5 : ∀ (p : Fin 128) (z : Fin 160), (x5 (ix2 p z) : EReal) = if z.val = p.val + 15 then 1 else 0)
    (h6 : ∀ (p : Fin 128) (z : Fin 160), (x6 (ix2 p z) : EReal) = if z.val = p.val + 17 then 1 else 0) (I : Fin 512) (J : Fin 1024) :
    ((show FVec Ideal S512x1024 .f32 from out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) (ix2 I J) : EReal)
      = rmsf (fun j => x3f (fun z => x2f (x3 (ix2 I z))
            (fun y => gelf (convL x0 x1 x2 x7 x8 (k0_pay1 (F := Ideal) i) (k0_pay2 (F := Ideal) i) I ⟨y.val, by omega⟩)
              (convL x0 x1 x2 x7 x8 (k0_pay1 (F := Ideal) i) (k0_pay2 (F := Ideal) i) I ⟨2816 + y.val, by omega⟩))
            (fun y => x9 (ix2 y z))) (fun z => x11 (ix2 z j)) (x12 (ix2 0 j))
          (fun z => x4 (ix2 I z)) (fun z => x10 (ix2 z j)) j) (x13 (ix2 0 J)) J := by
  unfold out0_A_14
  rw [body_eq]
  have e4 : View.readAt (Elt Ideal) arg4.view (Rect.unit (s := S512x1024) ![0, 0] S512x1024.size inb_S512x1024_S512x1024_0_0).toLoadRect (harg4.unread x3) = x3 :=
    (View.readAt_full arg4.view _ _).trans (harg4.read_unread x3)
  have e10 : View.readAt (Elt Ideal) arg10.view (Rect.unit (s := S2816x1024) ![0, 0] S2816x1024.size inb_S2816x1024_S2816x1024_0_0).toLoadRect (harg10.unread x9) = x9 :=
    (View.readAt_full arg10.view _ _).trans (harg10.read_unread x9)
  have e12 : View.readAt (Elt Ideal) arg12.view (Rect.unit (s := S1024x1024) ![0, 0] S1024x1024.size inb_S1024x1024_S1024x1024_0_0).toLoadRect (harg12.unread x11) = x11 :=
    (View.readAt_full arg12.view _ _).trans (harg12.read_unread x11)
  have e13 : View.readAt (Elt Ideal) arg13.view (Rect.unit (s := S1x1024) ![0, 0] S1x1024.size inb_S1x1024_S1x1024_0_0).toLoadRect (harg13.unread x12) = x12 :=
    (View.readAt_full arg13.view _ _).trans (harg13.read_unread x12)
  have e5 : View.readAt (Elt Ideal) arg5.view (Rect.unit (s := S512x256) ![0, 0] S512x256.size inb_S512x256_S512x256_0_0).toLoadRect (harg5.unread x4) = x4 :=
    (View.readAt_full arg5.view _ _).trans (harg5.read_unread x4)
  have e11 : View.readAt (Elt Ideal) arg11.view (Rect.unit (s := S256x1024) ![0, 0] S256x1024.size inb_S256x1024_S256x1024_0_0).toLoadRect (harg11.unread x10) = x10 :=
    (View.readAt_full arg11.view _ _).trans (harg11.read_unread x10)
  have e14 : View.readAt (Elt Ideal) arg14.view (Rect.unit (s := S1x1024) ![0, 0] S1x1024.size inb_S1x1024_S1x1024_0_0).toLoadRect (harg14.unread x13) = x13 :=
    (View.readAt_full arg14.view _ _).trans (harg14.read_unread x13)
  rw [e4, e10, e12, e13, e5, e11, e14]
  refine (congrFun (View.read_writes_full VO0_14 _ _ _ _) (ix2 I J)).trans ?_
  refine (tail_at _ _ _ _ _ _ _ _ I J).trans ?_
  have hA : ∀ y, ((show FVec Ideal S512x2816 .bf16 from arg16.view.readCov
        (accP (F := Ideal) i arg1 harg1 arg2 harg2 arg3 harg3 arg6 harg6 arg7 harg7 arg8 harg8 arg9 harg9 x0 x1 x2 x5 x6 x7 x8)
        (Rect.unit (s := S512x2816) ![0, 0] S512x2816.size inb_S512x2816_S512x2816_0_0).toLoadRect) (ix2 I y) : EReal) = _ :=
    fun y => acts_at i arg1 harg1 arg2 harg2 arg3 harg3 arg6 harg6 arg7 harg7 arg8 harg8 arg9 harg9 arg16 x0 x1 x2 x5 x6 x7 x8 h5 h6 I y
  exact congrArg (fun a : Fin 2816 → EReal => rmsf (fun j => x3f (fun z => x2f (x3 (ix2 I z)) a (fun y => x9 (ix2 y z))) (fun z => x11 (ix2 z j)) (x12 (ix2 0 j))
          (fun z => x4 (ix2 I z)) (fun z => x10 (ix2 z j)) j) (x13 (ix2 0 J)) J) (funext hA)

end body

/-- Where each window's block lies at each point of the grid. -/
theorem idx : ∀ t : Fin cfg0.N, (win0_0.index t = ![t.val, 0] ∧ win0_1.index t = ![32 * t.val - 1, 0] ∧ win0_2.index t = ![min (32 * (t.val + 1)) 2047, 0]
    ∧ win0_3.index t = ![t.val, 0] ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![t.val, 0]) ∧ (grid0.coords t 0).val = t.val ∧ t.val < 64 :=
  (by decide +kernel : ∀ t : Fin grid0.N, _)

/-! ### The host's operands -/

/-- The table that picks the row before, as the host makes it. -/
def prevT : FVec Ideal S128x160 .bf16 := uitofp (F := Ideal) .bf16 (cmpi .eq (broadcastInDim S128x160 ![0,1] bcast_S1x160_S128x160_0_1 (broadcastInDim S1x160 ![1] bcast_S160_S1x160_1 (iotaInDim S160 32 0)))
    (broadcastInDim S128x160 ![0,1] bcast_S128x1_S128x160_0_1 (subi (addi (broadcastInDim S128x1 ![0] bcast_S128_S128x1_0 (iotaInDim S128 32 0))
      (broadcastInDim S128x1 ![] bcast_S_S128x1 (constantI S_ 32 16#32))) (broadcastInDim S128x1 ![] bcast_S_S128x1 (constantI S_ 32 1#32)))))

/-- The table that picks the row after, as the host makes it. -/
def nextT : FVec Ideal S128x160 .bf16 := uitofp (F := Ideal) .bf16 (cmpi .eq (broadcastInDim S128x160 ![0,1] bcast_S1x160_S128x160_0_1 (broadcastInDim S1x160 ![1] bcast_S160_S1x160_1 (iotaInDim S160 32 0)))
    (broadcastInDim S128x160 ![0,1] bcast_S128x1_S128x160_0_1 (addi (addi (broadcastInDim S128x1 ![0] bcast_S128_S128x1_0 (iotaInDim S128 32 0))
      (broadcastInDim S128x1 ![] bcast_S_S128x1 (constantI S_ 32 16#32))) (broadcastInDim S128x1 ![] bcast_S_S128x1 (constantI S_ 32 1#32)))))

/-- The first table at an element. -/
theorem prev_at (p : Fin 128) (z : Fin 160) : (prevT (ix2 p z) : EReal) = if z.val = p.val + 15 then 1 else 0 := by
  pointwise [prevT]
  have e : ∀ (p : Fin 128) (z : Fin 160), IntOp.cmpi .eq (BitVec.ofNat 32 z.val) (IntOp.subi (IntOp.addi (BitVec.ofNat 32 p.val) 16#32) 1#32)
      = if z.val = p.val + 15 then 1#1 else 0#1 := by decide +kernel

  rw [e]
  split
  · show (((1#1 : BitVec 1).toNat : ℝ) : EReal) = 1
    simp
  · show (((0#1 : BitVec 1).toNat : ℝ) : EReal) = 0
    simp

/-- The second table at an element. -/
theorem next_at (p : Fin 128) (z : Fin 160) : (nextT (ix2 p z) : EReal) = if z.val = p.val + 17 then 1 else 0 := by
  pointwise [nextT]
  have e : ∀ (p : Fin 128) (z : Fin 160), IntOp.cmpi .eq (BitVec.ofNat 32 z.val) (IntOp.addi (IntOp.addi (BitVec.ofNat 32 p.val) 16#32) 1#32)
      = if z.val = p.val + 17 then 1#1 else 0#1 := by decide +kernel
  rw [e]
  split
  · show (((1#1 : BitVec 1).toNat : ℝ) : EReal) = 1
    simp
  · show (((0#1 : BitVec 1).toNat : ℝ) : EReal) = 0
    simp

/-- A host operand as the call gets it. -/
theorem V_prev (m : (ℓ : Loc nD τ sig) → Buf (Elt Ideal) ℓ) (c : Dev nD) : (show FVec Ideal S128x160 .bf16 from V m c main_v11) = prevT := by
  unfold prevT
  sl_kernel_rfl

/-- A host operand as the call gets it. -/
theorem V_next (m : (ℓ : Loc nD τ sig) → Buf (Elt Ideal) ℓ) (c : Dev nD) : (show FVec Ideal S128x160 .bf16 from V m c main_v21) = nextT := by
  unfold nextT
  sl_kernel_rfl

/-- A host operand as the call gets it. -/
theorem V_cw (m : (ℓ : Loc nD τ sig) → Buf (Elt Ideal) ℓ) (c : Dev nD) :
    (show FVec Ideal S3x5632 .f32 from V m c main_v22) = shapeCast S3x5632 (show FVec Ideal S1x3x5632 .f32 from m ((c : Thread nD τ).loc main_arg3)) shapeCasts_S1x3x5632_S3x5632 := by
  sl_kernel_rfl

/-- Its elements. -/
theorem cw_at (w : FVec Ideal S1x3x5632 .f32) (n : Fin 3) (j : Fin 5632) :
    (shapeCast S3x5632 w shapeCasts_S1x3x5632_S3x5632 (ix2 n j) : EReal) = w (ix3 0 n j) := by
  pointwise

/-- A host operand as the call gets it. -/
theorem V_cb (m : (ℓ : Loc nD τ sig) → Buf (Elt Ideal) ℓ) (c : Dev nD) :
    (show FVec Ideal S1x5632 .f32 from V m c main_v24) = broadcastInDim S1x5632 ![1] bcast_S5632_S1x5632_1 (shapeCast S5632 (show FVec Ideal S1x5632 .f32 from m ((c : Thread nD τ).loc main_arg4)) shapeCasts_S1x5632_S5632) := by
  sl_kernel_rfl

/-- Its elements. -/
theorem cb_at (w : FVec Ideal S1x5632 .f32) (j : Fin 5632) :
    (broadcastInDim S1x5632 ![1] bcast_S5632_S1x5632_1 (shapeCast S5632 w shapeCasts_S1x5632_S5632) (ix2 0 j) : EReal) = w (ix2 0 j) := by
  pointwise

/-- A host operand as the call gets it. -/
theorem V_wd (m : (ℓ : Loc nD τ sig) → Buf (Elt Ideal) ℓ) (c : Dev nD) :
    (show FVec Ideal S2816x1024 .bf16 from V m c main_v26) = truncf (F := Ideal) .bf16 (shapeCast S2816x1024 (show FVec Ideal S1x2816x1024 .f32 from m ((c : Thread nD τ).loc main_arg5)) shapeCasts_S1x2816x1024_S2816x1024) bitsLt_bf16_f32 := by
  sl_kernel_rfl

/-- Its elements. -/
theorem wd_at (w : FVec Ideal S1x2816x1024 .f32) (z : Fin 2816) (j : Fin 1024) :
    (truncf (F := Ideal) .bf16 (shapeCast S2816x1024 w shapeCasts_S1x2816x1024_S2816x1024) bitsLt_bf16_f32 (ix2 z j) : EReal) = w (ix3 0 z j) := by
  pointwise

/-- A host operand as the call gets it. -/
theorem V_wl (m : (ℓ : Loc nD τ sig) → Buf (Elt Ideal) ℓ) (c : Dev nD) :
    (show FVec Ideal S256x1024 .bf16 from V m c main_v28) = truncf (F := Ideal) .bf16 (shapeCast S256x1024 (show FVec Ideal S1x256x1024 .f32 from m ((c : Thread nD τ).loc main_arg6)) shapeCasts_S1x256x1024_S256x1024) bitsLt_bf16_f32 := by
  sl_kernel_rfl

/-- Its elements. -/
theorem wl_at (w : FVec Ideal S1x256x1024 .f32) (z : Fin 256) (j : Fin 1024) :
    (truncf (F := Ideal) .bf16 (shapeCast S256x1024 w shapeCasts_S1x256x1024_S256x1024) bitsLt_bf16_f32 (ix2 z j) : EReal) = w (ix3 0 z j) := by
  pointwise

/-- A host operand as the call gets it. -/
theorem V_wg (m : (ℓ : Loc nD τ sig) → Buf (Elt Ideal) ℓ) (c : Dev nD) :
    (show FVec Ideal S1024x1024 .bf16 from V m c main_v30) = truncf (F := Ideal) .bf16 (shapeCast S1024x1024 (show FVec Ideal S1x1024x1024 .f32 from m ((c : Thread nD τ).loc main_arg7)) shapeCasts_S1x1024x1024_S1024x1024) bitsLt_bf16_f32 := by
  sl_kernel_rfl

/-- Its elements. -/
theorem wg_at (w : FVec Ideal S1x1024x1024 .f32) (z : Fin 1024) (j : Fin 1024) :
    (truncf (F := Ideal) .bf16 (shapeCast S1024x1024 w shapeCasts_S1x1024x1024_S1024x1024) bitsLt_bf16_f32 (ix2 z j) : EReal) = w (ix3 0 z j) := by
  pointwise

/-- A host operand as the call gets it. -/
theorem V_gb (m : (ℓ : Loc nD τ sig) → Buf (Elt Ideal) ℓ) (c : Dev nD) :
    (show FVec Ideal S1x1024 .f32 from V m c main_v32) = broadcastInDim S1x1024 ![1] bcast_S1024_S1x1024_1 (shapeCast S1024 (show FVec Ideal S1x1024 .f32 from m ((c : Thread nD τ).loc main_arg8)) shapeCasts_S1x1024_S1024) := by
  sl_kernel_rfl

/-- Its elements. -/
theorem gb_at (w : FVec Ideal S1x1024 .f32) (j : Fin 1024) :
    (broadcastInDim S1x1024 ![1] bcast_S1024_S1x1024_1 (shapeCast S1024 w shapeCasts_S1x1024_S1024) (ix2 0 j) : EReal) = w (ix2 0 j) := by
  pointwise

/-- A host operand as the call gets it. -/
theorem V_nw (m : (ℓ : Loc nD τ sig) → Buf (Elt Ideal) ℓ) (c : Dev nD) :
    (show FVec Ideal S1x1024 .f32 from V m c main_v33) = broadcastInDim S1x1024 ![1] bcast_S1024_S1x1024_1 (show FVec Ideal S1024 .f32 from m ((c : Thread nD τ).loc main_arg9)) := by
  sl_kernel_rfl

/-- Its elements. -/
theorem nw_at (w : FVec Ideal S1024 .f32) (j : Fin 1024) :
    (broadcastInDim S1x1024 ![1] bcast_S1024_S1x1024_1 w (ix2 0 j) : EReal) = w (ix1 j) := by
  pointwise

section
variable (m : (ℓ : Loc nD τ sig) → Buf (Elt Ideal) ℓ) (c : Dev nD) (t : Fin cfg0.N)

/-- Window 0's block: the point's rows. -/
theorem blk0 (i : Fin 512) (x : Fin 5632) : ((show FVec Ideal S512x5632 .bf16 from iblk m c 0 t) (ix2 i x) : EReal)
    = (show FVec Ideal S32768x5632 .bf16 from m ((c : Thread nD τ).loc main_arg0)) (ix2 ⟨512 * t.val + i.val, by have := (idx t).2; omega⟩ x) := by
  blk_ext [iblk, V_main_arg0, idx t]

/-- Window 1's block: the 16 rows before the point's. -/
theorem blk1 (x : Fin 5632) (r : Fin 32768) (h : 0 < t.val) (hr : r.val = 512 * t.val - 1) : ((show FVec Ideal S16x5632 .bf16 from iblk m c 1 t) (ix2 15 x) : EReal)
    = (show FVec Ideal S32768x5632 .bf16 from m ((c : Thread nD τ).loc main_arg0)) (ix2 r x) := by
  blk_ext [iblk, V_main_arg0, idx t]

/-- Window 2's block: the 16 rows after the point's. -/
theorem blk2 (x : Fin 5632) (r : Fin 32768) (h : t.val < 63) (hr : r.val = 512 * t.val + 512) : ((show FVec Ideal S16x5632 .bf16 from iblk m c 2 t) (ix2 0 x) : EReal)
    = (show FVec Ideal S32768x5632 .bf16 from m ((c : Thread nD τ).loc main_arg0)) (ix2 r x) := by
  blk_ext [iblk, V_main_arg0, idx t]

/-- Window 3's block: the point's rows. -/
theorem blk3 (i : Fin 512) (x : Fin 1024) : ((show FVec Ideal S512x1024 .f32 from iblk m c 3 t) (ix2 i x) : EReal)
    = (show FVec Ideal S32768x1024 .f32 from m ((c : Thread nD τ).loc main_arg1)) (ix2 ⟨512 * t.val + i.val, by have := (idx t).2; omega⟩ x) := by
  blk_ext [iblk, V_main_arg1, idx t]

/-- Window 4's block: the point's rows. -/
theorem blk4 (i : Fin 512) (x : Fin 256) : ((show FVec Ideal S512x256 .f32 from iblk m c 4 t) (ix2 i x) : EReal)
    = (show FVec Ideal S32768x256 .f32 from m ((c : Thread nD τ).loc main_arg2)) (ix2 ⟨512 * t.val + i.val, by have := (idx t).2; omega⟩ x) := by
  blk_ext [iblk, V_main_arg2, idx t]

/-- Window 5's block: the whole table. -/
theorem blk5 (p : Fin 128) (z : Fin 160) : ((show FVec Ideal S128x160 .bf16 from iblk m c 5 t) (ix2 p z) : EReal) = if z.val = p.val + 15 then 1 else 0 := by
  refine Eq.trans ?_ (prev_at p z)
  rw [← V_prev m c]
  blk_ext [iblk, idx t]

/-- Window 6's block: the whole table. -/
theorem blk6 (p : Fin 128) (z : Fin 160) : ((show FVec Ideal S128x160 .bf16 from iblk m c 6 t) (ix2 p z) : EReal) = if z.val = p.val + 17 then 1 else 0 := by
  refine Eq.trans ?_ (next_at p z)
  rw [← V_next m c]
  blk_ext [iblk, idx t]

/-- Window 7's block: the whole array. -/
theorem blk7 (n : Fin 3) (j : Fin 5632) : ((show FVec Ideal S3x5632 .f32 from iblk m c 7 t) (ix2 n j) : EReal)
    = (show FVec Ideal S1x3x5632 .f32 from m ((c : Thread nD τ).loc main_arg3)) (ix3 0 n j) := by
  refine Eq.trans ?_ (cw_at _ n j)
  rw [← V_cw m c]
  blk_ext [iblk, idx t]

/-- Window 8's block: the whole array. -/
theorem blk8 (j : Fin 5632) : ((show FVec Ideal S1x5632 .f32 from iblk m c 8 t) (ix2 0 j) : EReal)
    = (show FVec Ideal S1x5632 .f32 from m ((c : Thread nD τ).loc main_arg4)) (ix2 0 j) := by
  refine Eq.trans ?_ (cb_at _ j)
  rw [← V_cb m c]
  blk_ext [iblk, idx t]

/-- Window 9's block: the whole array. -/
theorem blk9 (z : Fin 2816) (j : Fin 1024) : ((show FVec Ideal S2816x1024 .bf16 from iblk m c 9 t) (ix2 z j) : EReal)
    = (show FVec Ideal S1x2816x1024 .f32 from m ((c : Thread nD τ).loc main_arg5)) (ix3 0 z j) := by
  refine Eq.trans ?_ (wd_at _ z j)
  rw [← V_wd m c]
  blk_ext [iblk, idx t]

/-- Window 10's block: the whole array. -/
theorem blk10 (z : Fin 256) (j : Fin 1024) : ((show FVec Ideal S256x1024 .bf16 from iblk m c 10 t) (ix2 z j) : EReal)
    = (show FVec Ideal S1x256x1024 .f32 from m ((c : Thread nD τ).loc main_arg6)) (ix3 0 z j) := by
  refine Eq.trans ?_ (wl_at _ z j)
  rw [← V_wl m c]
  blk_ext [iblk, idx t]

/-- Window 11's block: the whole array. -/
theorem blk11 (z : Fin 1024) (j : Fin 1024) : ((show FVec Ideal S1024x1024 .bf16 from iblk m c 11 t) (ix2 z j) : EReal)
    = (show FVec Ideal S1x1024x1024 .f32 from m ((c : Thread nD τ).loc main_arg7)) (ix3 0 z j) := by
  refine Eq.trans ?_ (wg_at _ z j)
  rw [← V_wg m c]
  blk_ext [iblk, idx t]

/-- Window 12's block: the whole array. -/
theorem blk12 (j : Fin 1024) : ((show FVec Ideal S1x1024 .f32 from iblk m c 12 t) (ix2 0 j) : EReal)
    = (show FVec Ideal S1x1024 .f32 from m ((c : Thread nD τ).loc main_arg8)) (ix2 0 j) := by
  refine Eq.trans ?_ (gb_at _ j)
  rw [← V_gb m c]
  blk_ext [iblk, idx t]

/-- Window 13's block: the whole array. -/
theorem blk13 (j : Fin 1024) : ((show FVec Ideal S1x1024 .f32 from iblk m c 13 t) (ix2 0 j) : EReal)
    = (show FVec Ideal S1024 .f32 from m ((c : Thread nD τ).loc main_arg9)) (ix1 j) := by
  refine Eq.trans ?_ (nw_at _ j)
  rw [← V_nw m c]
  blk_ext [iblk, idx t]

end

/-- The reference's convolution over the kernel's arguments. -/
def CV (m : (ℓ : Loc nD τ sig) → Buf (Elt Ideal) ℓ) (c : Dev nD) : FVec Ideal S32768x5632 .f32 :=
  Cert.Reference5Ideal.Down.cvT (m ((c : Thread nD τ).loc main_arg0)) (m ((c : Thread nD τ).loc main_arg3)) (m ((c : Thread nD τ).loc main_arg4))

/-- The reference's residual stream after the down-projection over the kernel's arguments. -/
def RX2 (m : (ℓ : Loc nD τ sig) → Buf (Elt Ideal) ℓ) (c : Dev nD) : FVec Ideal S32768x1024 .f32 :=
  Cert.Reference5Ideal.Down.x2T (m ((c : Thread nD τ).loc main_arg1)) (Cert.Reference5Ideal.Down.actT (CV m c)) (m ((c : Thread nD τ).loc main_arg5))

/-- The reference's residual stream after the per-layer embedding over the kernel's arguments. -/
def RX3 (m : (ℓ : Loc nD τ sig) → Buf (Elt Ideal) ℓ) (c : Dev nD) : FVec Ideal S32768x1024 .f32 :=
  Cert.Reference5Ideal.Down.x3T (RX2 m c) (m ((c : Thread nD τ).loc main_arg7)) (m ((c : Thread nD τ).loc main_arg8)) (m ((c : Thread nD τ).loc main_arg2))
    (m ((c : Thread nD τ).loc main_arg6))

/-- The reference's result over the kernel's arguments. -/
def REF (m : (ℓ : Loc nD τ sig) → Buf (Elt Ideal) ℓ) (c : Dev nD) : FVec Ideal S32768x1024 .f32 :=
  Cert.Reference5Ideal.Down.nrmT (RX3 m c) (m ((c : Thread nD τ).loc main_arg9))

section
variable (m : (ℓ : Loc nD τ sig) → Buf (Elt Ideal) ℓ) (c : Dev nD) (t : Fin cfg0.N)

/-- The row before a row of the tile is the row before it in its sequence. -/
theorem bef_blk (i : Fin 512) (j : Fin 5632) (r : Fin 32768) (hr : r.val = 512 * t.val + i.val) :
    befL (iblk m c 0 t) (iblk m c 1 t) (k0_pay1 (F := Ideal) (grid0.coords t)) i j
      = bef (fun r => (show FVec Ideal S32768x5632 .bf16 from m ((c : Thread nD τ).loc main_arg0)) (ix2 r j)) r := by
  have h64 := (idx t).2
  unfold befL bef
  by_cases h0 : i.val = 0
  · rw [if_pos h0, pay1_at _ (by omega), h64.1]
    by_cases ht : t.val % 16 = 0
    · rw [if_pos ht, if_pos (by omega), mul_zero]
    · rw [if_neg ht, if_neg (by omega), mul_one]
      exact blk1 m c t j _ (by omega) (by show r.val - 1 = _; omega)
  · rw [if_neg h0, if_neg (by omega)]
    refine (blk0 m c t _ j).trans ?_
    exact congrArg (fun r => (show FVec Ideal S32768x5632 .bf16 from m ((c : Thread nD τ).loc main_arg0)) (ix2 r j))
      (Fin.ext (by show 512 * t.val + (i.val - 1) = r.val - 1; omega))

/-- The row after a row of the tile is the row after it in its sequence. -/
theorem aft_blk (i : Fin 512) (j : Fin 5632) (r : Fin 32768) (hr : r.val = 512 * t.val + i.val) :
    aftL (iblk m c 0 t) (iblk m c 2 t) (k0_pay2 (F := Ideal) (grid0.coords t)) i j
      = aft (fun r => (show FVec Ideal S32768x5632 .bf16 from m ((c : Thread nD τ).loc main_arg0)) (ix2 r j)) r := by
  have h64 := (idx t).2
  have hi := i.isLt
  unfold aftL aft
  by_cases h0 : i.val = 511
  · rw [dif_pos h0, pay2_at _ (by omega), h64.1]
    by_cases ht : t.val % 16 = 15
    · rw [if_pos ht, dif_pos (by omega), mul_zero]
    · rw [if_neg ht, dif_neg (by omega), mul_one]
      exact blk2 m c t j _ (by omega) (by show r.val + 1 = _; omega)
  · rw [dif_neg h0, dif_neg (by omega)]
    refine (blk0 m c t _ j).trans ?_
    exact congrArg (fun r => (show FVec Ideal S32768x5632 .bf16 from m ((c : Thread nD τ).loc main_arg0)) (ix2 r j))
      (Fin.ext (by show 512 * t.val + (i.val + 1) = r.val + 1; omega))

/-- The tile's convolution is the reference's, row for row. -/
theorem conv_blk (i : Fin 512) (j : Fin 5632) (r : Fin 32768) (hr : r.val = 512 * t.val + i.val) :
    convL (iblk m c 0 t) (iblk m c 1 t) (iblk m c 2 t) (iblk m c 7 t) (iblk m c 8 t) (k0_pay1 (F := Ideal) (grid0.coords t)) (k0_pay2 (F := Ideal) (grid0.coords t)) i j
      = CV m c (ix2 r j) := by
  have h64 := (idx t).2
  refine Eq.trans ?_ (Cert.Reference5Ideal.Down.cv_at _ _ _ r j).symm
  unfold convL
  congr 1
  · exact bef_blk m c t i j r hr
  · exact (blk0 m c t i j).trans (congrArg (fun r => (show FVec Ideal S32768x5632 .bf16 from m ((c : Thread nD τ).loc main_arg0)) (ix2 r j)) (Fin.ext hr.symm))
  · exact aft_blk m c t i j r hr
  · exact blk7 m c t 0 j
  · exact blk7 m c t 1 j
  · exact blk7 m c t 2 j
  · exact blk8 m c t j

/-- The point's residual stream after the down-projection is the reference's. -/
theorem x2_blk (i : Fin 512) (j : Fin 1024) (r : Fin 32768) (hr : r.val = 512 * t.val + i.val) :
    x2f ((show FVec Ideal S512x1024 .f32 from iblk m c 3 t) (ix2 i j))
      (fun y : Fin 2816 => gelf (convL (iblk m c 0 t) (iblk m c 1 t) (iblk m c 2 t) (iblk m c 7 t) (iblk m c 8 t) (k0_pay1 (F := Ideal) (grid0.coords t)) (k0_pay2 (F := Ideal) (grid0.coords t)) i ⟨y.val, by omega⟩)
        (convL (iblk m c 0 t) (iblk m c 1 t) (iblk m c 2 t) (iblk m c 7 t) (iblk m c 8 t) (k0_pay1 (F := Ideal) (grid0.coords t)) (k0_pay2 (F := Ideal) (grid0.coords t)) i ⟨2816 + y.val, by omega⟩))
      (fun y => (show FVec Ideal S2816x1024 .bf16 from iblk m c 9 t) (ix2 y j)) = RX2 m c (ix2 r j) := by
  have h64 := (idx t).2
  refine Eq.trans ?_ (Cert.Reference5Ideal.Down.x2_at _ _ _ r j).symm
  congr 1
  · exact (blk3 m c t i j).trans (congrArg (fun r => (show FVec Ideal S32768x1024 .f32 from m ((c : Thread nD τ).loc main_arg1)) (ix2 r j)) (Fin.ext hr.symm))
  · funext y
    refine Eq.trans ?_ (Cert.Reference5Ideal.Down.act_at _ r y).symm
    exact congrArg₂ gelf (conv_blk m c t i _ r hr) (conv_blk m c t i _ r hr)
  · exact funext fun y => blk9 m c t y j

end

/-- The result's array after the run. -/
theorem final (m : (ℓ : Loc nD τ sig) → Buf (Elt Ideal) ℓ) (c : Dev nD) : (dats m 0 c).arrAt 14 (cfgs 0).N = REF m c := by
  refine (dats m 0 c).arrAt_eq_of_covers 14 _ (by decide +kernel) fun t _ y => ?_
  blk_simp
  rw [after0_14]
  have h64 := (idx t).2
  obtain ⟨i, j, rfl⟩ : ∃ (i : Fin 512) (j : Fin 1024), y = ix2 i j := ⟨y 0, y 1, eq_ix2 (n0 := 512) (n1 := 1024) y⟩
  have e : ((cfg0.win 14).blk t).view.emb (ix2 i j) = ix2 (⟨512 * t.val + i.val, by omega⟩ : Fin 32768) j := by blk_ext [idx t]
  refine Eq.trans ?_ (congrArg (REF m c) e.symm)
  refine (out_at c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (blk5 m c t) (blk6 m c t) i j).trans ?_
  refine Eq.trans ?_ (Cert.Reference5Ideal.Down.nrm_at _ _ _ j).symm
  refine congrArg₂ (fun a b => rmsf a b j) (funext fun z => ?_) (blk13 m c t j)
  refine Eq.trans ?_ (Cert.Reference5Ideal.Down.x3_at _ _ _ _ _ _ z).symm
  congr 1
  · exact funext fun x => x2_blk m c t i x _ rfl
  · exact funext fun x => blk11 m c t x z
  · exact blk12 m c t z
  · exact funext fun x => blk4 m c t i x
  · exact funext fun x => blk10 m c t x z

end Cert.Kernel5Ideal.Down

end
-- ==== Proof.XbcRef.lean ====
module

public import proofs.«01_k».proof.Proof.Gen.Reference6Ideal.Run
public import Idealize.ShloMosaic.Lib.Pipeline.ValueKit
public import Idealize.ShloMosaic.Lib.Tactic

/-! The state-space branch's convolution: what the reference gives, element by element. -/

@[expose] public section

set_option maxRecDepth 65536

noncomputable section

namespace Cert.Reference6Ideal.Xbc

open Idealize.ShloMosaic Idealize.ShloMosaic.TcCoe Idealize.ShloMosaic.Tactic Idealize.SL.Sem
open Cert.Reference6Ideal Cert.Reference6Ideal.Gen

/-- The convolution of three neighbouring tokens, at one channel. -/
def cvf (b p a w0 w1 w2 c : EReal) : EReal := b * w0 + p * w1 + a * w2 + c

/-- A number times its logistic. -/
def silf (x : EReal) : EReal := x * Ideal.div 1 (1 + Ideal.exp (-x))

/-- The token before a token, zero before the first. -/
def bef (u : Fin 8192 → EReal) (r : Fin 8192) : EReal := if r.val = 0 then 0 else u ⟨r.val - 1, by omega⟩

/-- The token after a token, zero after the last. -/
def aft (u : Fin 8192 → EReal) (r : Fin 8192) : EReal := if h : r.val = 8191 then 0 else u ⟨r.val + 1, by omega⟩

/-- The convolution, as the reference computes it. -/
def cvT (x : FVec Ideal S4x8192x3072 .bf16) (w : FVec Ideal S1x3x3072 .f32) (b : FVec Ideal S1x3072 .f32) : FVec Ideal S4x8192x3072 .f32 :=
  addf (addf (addf (mulf (concatenate S4x8192x3072 1 [⟨S4x1x3072, (broadcastInDim S4x1x3072 ![] bcast_S_S4x1x3072 (constant (F := Ideal) S_ .f32 0x00000000#32))⟩, ⟨S4x8191x3072, (extractStridedSlice S4x8191x3072 ![0, 0, 0] (extf (F := Ideal) .f32 x bitsLt_bf16_f32) slices_S4x8192x3072_S4x8191x3072_0_0_0)⟩] concatenates_S4x1x3072_S4x8191x3072_S4x8192x3072_d1) (broadcastInDim S4x8192x3072 ![0, 1, 2] bcast_S1x1x3072_S4x8192x3072_0_1_2 (broadcastInDim S1x1x3072 ![2] bcast_S3072_S1x1x3072_2 (shapeCast S3072 (extractStridedSlice S1x3072 ![0, 0] (shapeCast S3x3072 w shapeCasts_S1x3x3072_S3x3072) slices_S3x3072_S1x3072_0_0) shapeCasts_S1x3072_S3072)))) (mulf (extf (F := Ideal) .f32 x bitsLt_bf16_f32) (broadcastInDim S4x8192x3072 ![0, 1, 2] bcast_S1x1x3072_S4x8192x3072_0_1_2 (broadcastInDim S1x1x3072 ![2] bcast_S3072_S1x1x3072_2 (shapeCast S3072 (extractStridedSlice S1x3072 ![1, 0] (shapeCast S3x3072 w shapeCasts_S1x3x3072_S3x3072) slices_S3x3072_S1x3072_1_0) shapeCasts_S1x3072_S3072))))) (mulf (concatenate S4x8192x3072 1 [⟨S4x8191x3072, (extractStridedSlice S4x8191x3072 ![0, 1, 0] (extf (F := Ideal) .f32 x bitsLt_bf16_f32) slices_S4x8192x3072_S4x8191x3072_0_1_0)⟩, ⟨S4x1x3072, (broadcastInDim S4x1x3072 ![] bcast_S_S4x1x3072 (constant (F := Ideal) S_ .f32 0x00000000#32))⟩] concatenates_S4x8191x3072_S4x1x3072_S4x8192x3072_d1) (broadcastInDim S4x8192x3072 ![0, 1, 2] bcast_S1x1x3072_S4x8192x3072_0_1_2 (broadcastInDim S1x1x3072 ![2] bcast_S3072_S1x1x3072_2 (shapeCast S3072 (extractStridedSlice S1x3072 ![2, 0] (shapeCast S3x3072 w shapeCasts_S1x3x3072_S3x3072) slices_S3x3072_S1x3072_2_0) shapeCasts_S1x3072_S3072))))) (broadcastInDim S4x8192x3072 ![0, 1, 2] bcast_S1x1x3072_S4x8192x3072_0_1_2 (broadcastInDim S1x1x3072 ![2] bcast_S3072_S1x1x3072_2 (shapeCast S3072 b shapeCasts_S1x3072_S3072)))

/-- The result, from the convolution. -/
def outT (c : FVec Ideal S4x8192x3072 .f32) : FVec Ideal S4x8192x3072 .bf16 :=
  truncf (F := Ideal) .bf16 (mulf c (Host.divf (broadcastInDim S4x8192x3072 ![] bcast_S_S4x8192x3072 (constant (F := Ideal) S_ .f32 0x3F800000#32)) (addf (broadcastInDim S4x8192x3072 ![] bcast_S_S4x8192x3072 (constant (F := Ideal) S_ .f32 0x3F800000#32)) (Host.exp (Host.negf c))))) bitsLt_bf16_f32

/-- An element of the result. -/
theorem out_at (c : FVec Ideal S4x8192x3072 .f32) (s : Fin 4) (r : Fin 8192) (j : Fin 3072) : (outT c (ix3 s r j) : EReal) = silf (c (ix3 s r j)) := by
  pointwise [outT, silf]

/-- An element of the convolution. -/
theorem cv_at (x : FVec Ideal S4x8192x3072 .bf16) (w : FVec Ideal S1x3x3072 .f32) (b : FVec Ideal S1x3072 .f32) (s : Fin 4) (r : Fin 8192) (j : Fin 3072) :
    (cvT x w b (ix3 s r j) : EReal)
      = cvf (bef (fun r => x (ix3 s r j)) r) (x (ix3 s r j)) (aft (fun r => x (ix3 s r j)) r) (w (ix3 0 0 j)) (w (ix3 0 1 j)) (w (ix3 0 2 j)) (b (ix2 0 j)) := by
  have hb : (if h : r.val < 1 then (0 : EReal) else x (ix3 s ⟨r.val - 1, by omega⟩ j)) = bef (fun r => x (ix3 s r j)) r := by
    unfold bef
    by_cases h : r.val = 0
    · rw [dif_pos (by omega), if_pos h]
    · rw [dif_neg (by omega), if_neg h]
  have ha : (if h : r.val < 8191 then x (ix3 s ⟨1 + r.val, by omega⟩ j) else (0 : EReal)) = aft (fun r => x (ix3 s r j)) r := by
    unfold aft
    by_cases h : r.val = 8191
    · rw [dif_neg (by omega), dif_pos h]
    · rw [dif_pos (by omega), dif_neg h]
      exact congrArg (fun r => x (ix3 s r j)) (Fin.ext (by show 1 + r.val = r.val + 1; omega))
  rw [← hb, ← ha]
  pointwise [cvT, cvf]

end Cert.Reference6Ideal.Xbc
end
-- ==== Proof.Xbc.lean ====
module

public import proofs.«01_k».proof.Proof.Gen.Kernel6Ideal.Value
public import proofs.«01_k».proof.Proof.XbcRef
public import Idealize.ShloMosaic.Lib.Pipeline.ValueKit
public import Idealize.ShloMosaic.Lib.Tactic

/-! The state-space branch's convolution: the result's array after the run is what the reference gives. -/

@[expose] public section

set_option maxRecDepth 65536

noncomputable section

namespace Cert.Kernel6Ideal.Xbc

open Idealize.ShloMosaic Idealize.ShloMosaic.TcCoe Idealize.ShloMosaic.Tactic Idealize.SL.Sem
open Cert.Kernel6Ideal Cert.Kernel6Ideal.Gen
open Idealize.ShloMosaic.Pipeline (Dat)
open Cert.Reference6Ideal.Xbc (cvf silf bef aft)

/-- The rows around a tile's chunk of columns. -/
def ext (f1 f2 : Ideal .bf16) (mn : FVec Ideal S1x128x512 .bf16) (b a : FVec Ideal S1x16x512 .bf16) : FVec Ideal S160x512 .bf16 :=
  concatenate S160x512 0 [⟨S16x512, mulf (shapeCast S16x512 b shapeCasts_S1x16x512_S16x512) (broadcast S16x512 f1)⟩,
    ⟨S128x512, shapeCast S128x512 mn shapeCasts_S1x128x512_S128x512⟩,
    ⟨S16x512, mulf (shapeCast S16x512 a shapeCasts_S1x16x512_S16x512) (broadcast S16x512 f2)⟩] concatenates_S16x512_S128x512_S16x512_S160x512_d0

/-- A row of weights for every row of a chunk. -/
def row (w : FVec Ideal S1x512 .f32) : FVec Ideal S128x512 .f32 :=
  broadcastTo S128x512 (shapeCast S1x512 w shapeCasts_S1x512_S1x512) broadcasts_S1x512_S128x512

/-- A chunk's convolution. -/
def cv (sp sn : FVec Ideal S128x160 .bf16) (e : FVec Ideal S160x512 .bf16) (mn : FVec Ideal S1x128x512 .bf16) (w0 w1 w2 cb : FVec Ideal S1x512 .f32) : FVec Ideal S128x512 .f32 :=
  addf (addf (addf (mulf (matmul dot_S128x160_S160x512_S128x512_1_0_0_1_n_n none (shapeCast S128x160 sp shapeCasts_S128x160_S128x160) e (constant S128x512 .f32 0x00000000#32)) (row w0))
    (mulf (extf .f32 (shapeCast S128x512 mn shapeCasts_S1x128x512_S128x512 : FVec Ideal S128x512 .bf16) bitsLt_bf16_f32) (row w1)))
    (mulf (matmul dot_S128x160_S160x512_S128x512_1_0_0_1_n_n none (shapeCast S128x160 sn shapeCasts_S128x160_S128x160) e (constant S128x512 .f32 0x00000000#32)) (row w2))) (row cb)

/-- A chunk's result, from its convolution. -/
def silT (x : FVec Ideal S128x512 .f32) : FVec Ideal S1x128x512 .bf16 :=
  shapeCast S1x128x512 (truncf .bf16 (mulf x (divf (broadcast S128x512 (Scalar.ofBits .f32 0x3F800000#32 : Ideal .f32))
    (addf (broadcast S128x512 (Scalar.ofBits .f32 0x3F800000#32 : Ideal .f32)) (exp2 (mulf x (broadcast S128x512 (Named.named κ "log2e_neg" 0xBFB8AA3B#32 : Ideal .f32))))))) bitsLt_bf16_f32)
    shapeCasts_S128x512_S1x128x512

/-- A chunk's result. -/
def chunk (f1 f2 : Ideal .bf16) (mn : FVec Ideal S1x128x512 .bf16) (b a : FVec Ideal S1x16x512 .bf16) (sp sn : FVec Ideal S128x160 .bf16)
    (w0 w1 w2 cb : FVec Ideal S1x512 .f32) : FVec Ideal S1x128x512 .bf16 :=
  silT (cv sp sn (ext f1 f2 mn b a) mn w0 w1 w2 cb)

/-- The named constant's value. -/
theorem neg_coe : (Named.named κ "log2e_neg" 0xBFB8AA3B#32 : Ideal .f32) = ((-((Real.log 2)⁻¹) : ℝ) : EReal) := rfl

/-- The exponential with base two of a multiple of the named constant. -/
theorem exp2_neg (x : EReal) : Ideal.exp2 (x * (Named.named κ "log2e_neg" 0xBFB8AA3B#32 : Ideal .f32)) = Ideal.exp (-x) := by
  have hl : 0 < Real.log 2 := Real.log_pos (by norm_num)
  have hn : -((Real.log 2)⁻¹) < 0 := neg_lt_zero.mpr (inv_pos.mpr hl)
  rw [neg_coe]
  induction x with
  | bot => rw [EReal.bot_mul_coe_of_neg hn]; rfl
  | top => rw [EReal.top_mul_coe_of_neg hn]; rfl
  | coe r =>
    rw [← EReal.coe_mul, ← EReal.coe_neg]
    refine congrArg (fun y : ℝ => (y : EReal)) ?_
    show (2 : ℝ) ^ (r * -((Real.log 2)⁻¹)) = Real.exp (-r)
    rw [Real.rpow_def_of_pos (by norm_num)]
    congr 1
    field_simp

/-- A chunk's result at an element. -/
theorem sil_at (x : FVec Ideal S128x512 .f32) (p : Fin 128) (q : Fin 512) : (silT x (ix3 0 p q) : EReal) = silf (x (ix2 p q)) := by
  have e : (silT x (ix3 0 p q) : EReal) = x (ix2 p q) * Ideal.div 1 (1 + Ideal.exp2 (x (ix2 p q) * (Named.named κ "log2e_neg" 0xBFB8AA3B#32 : Ideal .f32))) := by
    pointwise [silT]
    rfl
  rw [e, exp2_neg, silf]

/-- The rows around a tile's chunk, at an element. -/
theorem ext_at (f1 f2 : Ideal .bf16) (mn : FVec Ideal S1x128x512 .bf16) (b a : FVec Ideal S1x16x512 .bf16) (z : Fin 160) (q : Fin 512) :
    (ext f1 f2 mn b a (ix2 z q) : EReal)
      = if h : z.val < 16 then (b (ix3 0 ⟨z.val, h⟩ q) : EReal) * f1 else if h' : z.val - 16 < 128 then mn (ix3 0 ⟨z.val - 16, h'⟩ q) else (a (ix3 0 ⟨z.val - 16 - 128, by omega⟩ q) : EReal) * f2 := by
  pointwise [ext]

/-- An element of a chunk's convolution. -/
theorem cv_at (sp sn : FVec Ideal S128x160 .bf16) (e : FVec Ideal S160x512 .bf16) (mn : FVec Ideal S1x128x512 .bf16) (w0 w1 w2 cb : FVec Ideal S1x512 .f32)
    (p : Fin 128) (q : Fin 512) :
    (cv sp sn e mn w0 w1 w2 cb (ix2 p q) : EReal)
      = cvf (∑ z, (sp (ix2 p z) : EReal) * e (ix2 z q)) (mn (ix3 0 p q)) (∑ z, (sn (ix2 p z) : EReal) * e (ix2 z q))
          (w0 (ix2 0 q)) (w1 (ix2 0 q)) (w2 (ix2 0 q)) (cb (ix2 0 q)) := by
  pointwise [cv, row, cvf]

/-- The first table picks the row before. -/
theorem pick_bef (sp : FVec Ideal S128x160 .bf16) (h : ∀ (p : Fin 128) (z : Fin 160), (sp (ix2 p z) : EReal) = if z.val = p.val + 15 then 1 else 0)
    (f1 f2 : Ideal .bf16) (mn : FVec Ideal S1x128x512 .bf16) (b a : FVec Ideal S1x16x512 .bf16) (p : Fin 128) (q : Fin 512) :
    (∑ z, (sp (ix2 p z) : EReal) * ext f1 f2 mn b a (ix2 z q))
      = if p.val = 0 then (b (ix3 0 15 q) : EReal) * f1 else mn (ix3 0 ⟨p.val - 1, by omega⟩ q) := by
  have hp := p.isLt
  rw [Finset.sum_eq_single (⟨p.val + 15, by omega⟩ : Fin 160) (fun z _ hz => by
    rw [h, if_neg (fun e => hz (Fin.ext e)), zero_mul]) (fun hn => absurd (Finset.mem_univ _) hn), h, if_pos rfl, one_mul, ext_at]
  by_cases h0 : p.val = 0
  · rw [if_pos h0, dif_pos (show p.val + 15 < 16 by omega)]
    exact congrArg (fun x => (b (ix3 0 x q) : EReal) * f1) (Fin.ext (by show p.val + 15 = 15; omega))
  · rw [if_neg h0, dif_neg (show ¬ p.val + 15 < 16 by omega), dif_pos (show p.val + 15 - 16 < 128 by omega)]
    exact congrArg (fun x => mn (ix3 0 x q)) (Fin.ext (by show p.val + 15 - 16 = p.val - 1; omega))

/-- The second table picks the row after. -/
theorem pick_aft (sn : FVec Ideal S128x160 .bf16) (h : ∀ (p : Fin 128) (z : Fin 160), (sn (ix2 p z) : EReal) = if z.val = p.val + 17 then 1 else 0)
    (f1 f2 : Ideal .bf16) (mn : FVec Ideal S1x128x512 .bf16) (b a : FVec Ideal S1x16x512 .bf16) (p : Fin 128) (q : Fin 512) :
    (∑ z, (sn (ix2 p z) : EReal) * ext f1 f2 mn b a (ix2 z q))
      = if h : p.val = 127 then (a (ix3 0 0 q) : EReal) * f2 else mn (ix3 0 ⟨p.val + 1, by omega⟩ q) := by
  have hp := p.isLt
  rw [Finset.sum_eq_single (⟨p.val + 17, by omega⟩ : Fin 160) (fun z _ hz => by
    rw [h, if_neg (fun e => hz (Fin.ext e)), zero_mul]) (fun hn => absurd (Finset.mem_univ _) hn), h, if_pos rfl, one_mul, ext_at,
    dif_neg (show ¬ p.val + 17 < 16 by omega)]
  by_cases h0 : p.val = 127
  · rw [dif_pos h0, dif_neg (show ¬ p.val + 17 - 16 < 128 by omega)]
    exact congrArg (fun x => (a (ix3 0 x q) : EReal) * f2) (Fin.ext (by show p.val + 17 - 16 - 128 = 0; omega))
  · rw [dif_neg h0, dif_pos (show p.val + 17 - 16 < 128 by omega)]
    exact congrArg (fun x => mn (ix3 0 x q)) (Fin.ext (by show p.val + 17 - 16 = p.val + 1; omega))

/-- The factor on the rows before a tile: zero where a sequence begins. -/
theorem pay1_at (i : grid0.Coords) (h : (i 1).val < 64) : (k0_pay1 (F := Ideal) i : EReal) = if (i 1).val = 0 then 0 else 1 := by
  have e : ∀ n : Fin 64, (Scalar.extui (Scalar.cmpi .sgt (BitVec.ofNat 32 n.val) 0#32) : BitVec 32) = if n.val = 0 then 0#32 else 1#32 := by
    decide +kernel
  refine (congrArg (fun x : BitVec 32 => ((x.toInt : ℝ) : EReal)) (e ⟨(i 1).val, h⟩)).trans ?_
  dsimp only
  split
  · show (((0#32 : BitVec 32).toInt : ℝ) : EReal) = 0
    simp
  · show (((1#32 : BitVec 32).toInt : ℝ) : EReal) = 1
    simp

/-- The factor on the rows after a tile: zero where a sequence ends. -/
theorem pay2_at (i : grid0.Coords) (h : (i 1).val < 64) : (k0_pay2 (F := Ideal) i : EReal) = if (i 1).val = 63 then 0 else 1 := by
  have e : ∀ n : Fin 64, (Scalar.extui (Scalar.cmpi .slt (BitVec.ofNat 32 n.val) 63#32) : BitVec 32) = if n.val = 63 then 0#32 else 1#32 := by
    decide +kernel
  refine (congrArg (fun x : BitVec 32 => ((x.toInt : ℝ) : EReal)) (e ⟨(i 1).val, h⟩)).trans ?_
  dsimp only
  split
  · show (((0#32 : BitVec 32).toInt : ℝ) : EReal) = 0
    simp
  · show (((1#32 : BitVec 32).toInt : ℝ) : EReal) = 1
    simp

/-- The row before a row of the tile. -/
def befL (x0 : FVec Ideal S1x128x3072 .bf16) (x1 : FVec Ideal S1x16x3072 .bf16) (f : EReal) (i : Fin 128) (j : Fin 3072) : EReal :=
  if i.val = 0 then (x1 (ix3 0 15 j) : EReal) * f else x0 (ix3 0 ⟨i.val - 1, by omega⟩ j)

/-- The row after a row of the tile. -/
def aftL (x0 : FVec Ideal S1x128x3072 .bf16) (x2 : FVec Ideal S1x16x3072 .bf16) (f : EReal) (i : Fin 128) (j : Fin 3072) : EReal :=
  if h : i.val = 127 then (x2 (ix3 0 0 j) : EReal) * f else x0 (ix3 0 ⟨i.val + 1, by omega⟩ j)

/-- The convolution of the tile. -/
def convL (x0 : FVec Ideal S1x128x3072 .bf16) (x1 x2 : FVec Ideal S1x16x3072 .bf16) (x5 : FVec Ideal S3x3072 .f32) (x6 : FVec Ideal S1x3072 .f32) (f1 f2 : EReal)
    (i : Fin 128) (j : Fin 3072) : EReal :=
  cvf (befL x0 x1 f1 i j) (x0 (ix3 0 i j)) (aftL x0 x2 f2 i j) (x5 (ix2 0 j)) (x5 (ix2 1 j)) (x5 (ix2 2 j)) (x6 (ix2 0 j))

/-- The tile's result. -/
def block (x0 : FVec Ideal S1x128x3072 .bf16) (x1 x2 : FVec Ideal S1x16x3072 .bf16) (x5 : FVec Ideal S3x3072 .f32) (x6 : FVec Ideal S1x3072 .f32) (f1 f2 : EReal) :
    FVec Ideal S1x128x3072 .bf16 :=
  fun y => silf (convL x0 x1 x2 x5 x6 f1 f2 (y 1) (y 2))

/-- The convolution of equal numbers. -/
theorem cvf_congr {b p a w0 w1 w2 c b' p' a' w0' w1' w2' c' : EReal} (hb : b = b') (hp : p = p') (ha : a = a') (h0 : w0 = w0') (h1 : w1 = w1') (h2 : w2 = w2') (hc : c = c') :
    cvf b p a w0 w1 w2 c = cvf b' p' a' w0' w1' w2' c' := by
  rw [hb, hp, ha, h0, h1, h2, hc]

/-- A load of a box with three axes, at an element. -/
theorem ld3 {n0 n1 n2 : Nat} {e : EltTy} (x : Vec Ideal ⟨3, ![n0, n1, n2]⟩ e) (R : Rect ⟨3, ![n0, n1, n2]⟩) (j : R.shape.Idx) (y : (⟨3, ![n0, n1, n2]⟩ : Shape).Idx)
    (h : ∀ a, (R.emb j a).val = (y a).val) : View.ld (Val := Elt Ideal) (e' := e) x R j = x y :=
  congrArg x (funext fun a => Fin.ext (h a))

/-- A load of a box with two axes, at an element. -/
theorem ld2 {n0 n1 : Nat} {e : EltTy} (x : Vec Ideal ⟨2, ![n0, n1]⟩ e) (R : Rect ⟨2, ![n0, n1]⟩) (j : R.shape.Idx) (y : (⟨2, ![n0, n1]⟩ : Shape).Idx)
    (h : ∀ a, (R.emb j a).val = (y a).val) : View.ld (Val := Elt Ideal) (e' := e) x R j = x y :=
  congrArg x (funext fun a => Fin.ext (h a))

section tile
variable (f1 f2 : Ideal .bf16) (x0 : Vec Ideal S1x128x3072 .bf16) (x1 x2 : Vec Ideal S1x16x3072 .bf16) (x3 x4 : Vec Ideal S128x160 .bf16)
  (x5 : Vec Ideal S3x3072 .f32) (x6 : Vec Ideal S1x3072 .f32)
  (h3 : ∀ (p : Fin 128) (z : Fin 160), (x3 (ix2 p z) : EReal) = if z.val = p.val + 15 then 1 else 0)
  (h4 : ∀ (p : Fin 128) (z : Fin 160), (x4 (ix2 p z) : EReal) = if z.val = p.val + 17 then 1 else 0)

include h3 h4 in
/-- The chunk of columns that starts at `off` is that part of the tile. -/
theorem chunk_eq (off : ℕ)
    (b0 : ∀ a, (![0, 0, off] : Fin 3 → ℕ) a + S1x128x512.size a ≤ S1x128x3072.size a)
    (b1 : ∀ a, (![0, 0, off] : Fin 3 → ℕ) a + S1x16x512.size a ≤ S1x16x3072.size a)
    (c0 : ∀ a, (![0, off] : Fin 2 → ℕ) a + S1x512.size a ≤ S3x3072.size a)
    (c1 : ∀ a, (![1, off] : Fin 2 → ℕ) a + S1x512.size a ≤ S3x3072.size a)
    (c2 : ∀ a, (![2, off] : Fin 2 → ℕ) a + S1x512.size a ≤ S3x3072.size a)
    (c3 : ∀ a, (![0, off] : Fin 2 → ℕ) a + S1x512.size a ≤ S1x3072.size a) (y : S1x128x512.Idx) :
    chunk f1 f2 (View.ld (Val := Elt Ideal) (e' := .bf16) x0 (Rect.unit (s := S1x128x3072) ![0, 0, off] S1x128x512.size b0))
        (View.ld (Val := Elt Ideal) (e' := .bf16) x1 (Rect.unit (s := S1x16x3072) ![0, 0, off] S1x16x512.size b1))
        (View.ld (Val := Elt Ideal) (e' := .bf16) x2 (Rect.unit (s := S1x16x3072) ![0, 0, off] S1x16x512.size b1)) x3 x4
        (View.ld (Val := Elt Ideal) (e' := .f32) x5 (Rect.unit (s := S3x3072) ![0, off] S1x512.size c0))
        (View.ld (Val := Elt Ideal) (e' := .f32) x5 (Rect.unit (s := S3x3072) ![1, off] S1x512.size c1))
        (View.ld (Val := Elt Ideal) (e' := .f32) x5 (Rect.unit (s := S3x3072) ![2, off] S1x512.size c2))
        (View.ld (Val := Elt Ideal) (e' := .f32) x6 (Rect.unit (s := S1x3072) ![0, off] S1x512.size c3)) y
      = block x0 x1 x2 x5 x6 f1 f2 ((Rect.unit (s := S1x128x3072) ![0, 0, off] S1x128x512.size b0).emb y) := by
  obtain ⟨p, q, rfl⟩ : ∃ (p : Fin 128) (q : Fin 512), y = ix3 0 p q := ⟨y 1, y 2, (eq_ix3 (n0 := 1) (n1 := 128) (n2 := 512) y).trans (congrArg (fun a => ix3 a (y 1) (y 2)) (Subsingleton.elim _ _))⟩
  have hp := p.isLt
  have hq := q.isLt
  have ho : off + 512 ≤ 3072 := b0 2
  have eb : (Rect.unit (s := S1x128x3072) ![0, 0, off] S1x128x512.size b0).emb (ix3 0 p q) = ix3 0 p (⟨off + q.val, by omega⟩ : Fin 3072) := by
    refine funext fun a => Fin.ext ?_
    match a with
    | ⟨0, _⟩ => rfl
    | ⟨1, _⟩ => show 0 + 1 * p.val = p.val; omega
    | ⟨2, _⟩ => show off + 1 * q.val = off + q.val; omega
  have em : ∀ r : Fin 128, View.ld (Val := Elt Ideal) (e' := .bf16) x0 (Rect.unit (s := S1x128x3072) ![0, 0, off] S1x128x512.size b0) (ix3 0 r q)
      = x0 (ix3 0 r (⟨off + q.val, by omega⟩ : Fin 3072)) := fun r => by
    refine ld3 x0 _ _ _ fun a => ?_
    match a with
    | ⟨0, _⟩ => rfl
    | ⟨1, _⟩ => show 0 + 1 * r.val = r.val; omega
    | ⟨2, _⟩ => show off + 1 * q.val = off + q.val; omega
  have eh : ∀ (x : Vec Ideal S1x16x3072 .bf16) (r : Fin 16), View.ld (Val := Elt Ideal) (e' := .bf16) x (Rect.unit (s := S1x16x3072) ![0, 0, off] S1x16x512.size b1) (ix3 0 r q)
      = x (ix3 0 r (⟨off + q.val, by omega⟩ : Fin 3072)) := fun x r => by
    refine ld3 x _ _ _ fun a => ?_
    match a with
    | ⟨0, _⟩ => rfl
    | ⟨1, _⟩ => show 0 + 1 * r.val = r.val; omega
    | ⟨2, _⟩ => show off + 1 * q.val = off + q.val; omega
  rw [eb]
  unfold chunk
  refine (sil_at _ p q).trans (congrArg silf ?_)
  rw [cv_at, pick_bef x3 h3, pick_aft x4 h4]
  refine cvf_congr ?_ (em p) ?_ ?_ ?_ ?_ ?_
  · show _ = befL x0 x1 f1 p (⟨off + q.val, by omega⟩ : Fin 3072)
    unfold befL
    by_cases h : p.val = 0
    · rw [if_pos h, if_pos h]
      exact congrArg (fun x : EReal => x * f1) (eh x1 15)
    · rw [if_neg h, if_neg h]
      exact em _
  · show _ = aftL x0 x2 f2 p (⟨off + q.val, by omega⟩ : Fin 3072)
    unfold aftL
    by_cases h : p.val = 127
    · rw [dif_pos h, dif_pos h]
      exact congrArg (fun x : EReal => x * f2) (eh x2 0)
    · rw [dif_neg h, dif_neg h]
      exact em _
  · refine ld2 x5 _ _ _ fun a => ?_
    match a with
    | ⟨0, _⟩ => rfl
    | ⟨1, _⟩ => show off + 1 * q.val = off + q.val; omega
  · refine ld2 x5 _ _ _ fun a => ?_
    match a with
    | ⟨0, _⟩ => rfl
    | ⟨1, _⟩ => show off + 1 * q.val = off + q.val; omega
  · refine ld2 x5 _ _ _ fun a => ?_
    match a with
    | ⟨0, _⟩ => rfl
    | ⟨1, _⟩ => show off + 1 * q.val = off + q.val; omega
  · refine ld2 x6 _ _ _ fun a => ?_
    match a with
    | ⟨0, _⟩ => rfl
    | ⟨1, _⟩ => show off + 1 * q.val = off + q.val; omega

include h3 h4 in
/-- What the body leaves in the result's buffer. -/
theorem out_eq (i : grid0.Coords) : out0_7 (F := Ideal) i x0 x1 x2 x3 x4 x5 x6 = block x0 x1 x2 x5 x6 (k0_pay1 (F := Ideal) i) (k0_pay2 (F := Ideal) i) := by
  funext y
  unfold out0_7
  refine View.canon_apply_of_pieces (Val := Elt Ideal) (block x0 x1 x2 x5 x6 (k0_pay1 (F := Ideal) i) (k0_pay2 (F := Ideal) i)) _ (fun p hp z => ?_) y (cover0_7 _ _ _ _ _ _ y)
  simp only [List.mem_cons, List.not_mem_nil, or_false] at hp
  rw [View.ld_unit_zero (by decide), View.ld_unit_zero (by decide)] at hp
  rcases hp with rfl | rfl | rfl | rfl | rfl | rfl
  · exact chunk_eq (k0_pay1 (F := Ideal) i) (k0_pay2 (F := Ideal) i) x0 x1 x2 x3 x4 x5 x6 h3 h4 2560 inb_S1x128x3072_S1x128x512_0_0_2560 inb_S1x16x3072_S1x16x512_0_0_2560 inb_S3x3072_S1x512_0_2560 inb_S3x3072_S1x512_1_2560 inb_S3x3072_S1x512_2_2560 inb_S1x3072_S1x512_0_2560 z
  · exact chunk_eq (k0_pay1 (F := Ideal) i) (k0_pay2 (F := Ideal) i) x0 x1 x2 x3 x4 x5 x6 h3 h4 2048 inb_S1x128x3072_S1x128x512_0_0_2048 inb_S1x16x3072_S1x16x512_0_0_2048 inb_S3x3072_S1x512_0_2048 inb_S3x3072_S1x512_1_2048 inb_S3x3072_S1x512_2_2048 inb_S1x3072_S1x512_0_2048 z
  · exact chunk_eq (k0_pay1 (F := Ideal) i) (k0_pay2 (F := Ideal) i) x0 x1 x2 x3 x4 x5 x6 h3 h4 1536 inb_S1x128x3072_S1x128x512_0_0_1536 inb_S1x16x3072_S1x16x512_0_0_1536 inb_S3x3072_S1x512_0_1536 inb_S3x3072_S1x512_1_1536 inb_S3x3072_S1x512_2_1536 inb_S1x3072_S1x512_0_1536 z
  · exact chunk_eq (k0_pay1 (F := Ideal) i) (k0_pay2 (F := Ideal) i) x0 x1 x2 x3 x4 x5 x6 h3 h4 1024 inb_S1x128x3072_S1x128x512_0_0_1024 inb_S1x16x3072_S1x16x512_0_0_1024 inb_S3x3072_S1x512_0_1024 inb_S3x3072_S1x512_1_1024 inb_S3x3072_S1x512_2_1024 inb_S1x3072_S1x512_0_1024 z
  · exact chunk_eq (k0_pay1 (F := Ideal) i) (k0_pay2 (F := Ideal) i) x0 x1 x2 x3 x4 x5 x6 h3 h4 512 inb_S1x128x3072_S1x128x512_0_0_512 inb_S1x16x3072_S1x16x512_0_0_512 inb_S3x3072_S1x512_0_512 inb_S3x3072_S1x512_1_512 inb_S3x3072_S1x512_2_512 inb_S1x3072_S1x512_0_512 z
  · exact chunk_eq (k0_pay1 (F := Ideal) i) (k0_pay2 (F := Ideal) i) x0 x1 x2 x3 x4 x5 x6 h3 h4 0 inb_S1x128x3072_S1x128x512_0_0_0 inb_S1x16x3072_S1x16x512_0_0_0 inb_S3x3072_S1x512_0_0 inb_S3x3072_S1x512_1_0 inb_S3x3072_S1x512_2_0 inb_S1x3072_S1x512_0_0 z

end tile

/-- Where each window's block lies at each point of the grid. -/
theorem idx : ∀ t : Fin cfg0.N, win0_0.index t = ![t.val / 64, t.val % 64, 0] ∧ win0_1.index t = ![t.val / 64, 8 * (t.val % 64) - 1, 0]
    ∧ win0_2.index t = ![t.val / 64, min (8 * (t.val % 64 + 1)) 511, 0] ∧ win0_3.index t = ![0, 0] ∧ win0_4.index t = ![0, 0] ∧ win0_5.index t = ![0, 0]
    ∧ win0_6.index t = ![0, 0] ∧ win0_7.index t = ![t.val / 64, t.val % 64, 0] :=
  (by decide +kernel : ∀ t : Fin grid0.N, _)

/-- The second coordinate of a point, and the number of points. -/
theorem pt : ∀ t : Fin cfg0.N, (grid0.coords t 1).val = t.val % 64 ∧ t.val < 256 := (by decide +kernel : ∀ t : Fin grid0.N, _)

/-- The table that picks the row before, as the host makes it. -/
def prevT : FVec Ideal S128x160 .bf16 := uitofp (F := Ideal) .bf16 (cmpi .eq (broadcastInDim S128x160 ![0,1] bcast_S1x160_S128x160_0_1 (broadcastInDim S1x160 ![1] bcast_S160_S1x160_1 (iotaInDim S160 32 0)))
    (broadcastInDim S128x160 ![0,1] bcast_S128x1_S128x160_0_1 (subi (addi (broadcastInDim S128x1 ![0] bcast_S128_S128x1_0 (iotaInDim S128 32 0))
      (broadcastInDim S128x1 ![] bcast_S_S128x1 (constantI S_ 32 16#32))) (broadcastInDim S128x1 ![] bcast_S_S128x1 (constantI S_ 32 1#32)))))

/-- The table that picks the row after, as the host makes it. -/
def nextT : FVec Ideal S128x160 .bf16 := uitofp (F := Ideal) .bf16 (cmpi .eq (broadcastInDim S128x160 ![0,1] bcast_S1x160_S128x160_0_1 (broadcastInDim S1x160 ![1] bcast_S160_S1x160_1 (iotaInDim S160 32 0)))
    (broadcastInDim S128x160 ![0,1] bcast_S128x1_S128x160_0_1 (addi (addi (broadcastInDim S128x1 ![0] bcast_S128_S128x1_0 (iotaInDim S128 32 0))
      (broadcastInDim S128x1 ![] bcast_S_S128x1 (constantI S_ 32 16#32))) (broadcastInDim S128x1 ![] bcast_S_S128x1 (constantI S_ 32 1#32)))))

/-- The first table at an element. -/
theorem prev_at (p : Fin 128) (z : Fin 160) : (prevT (ix2 p z) : EReal) = if z.val = p.val + 15 then 1 else 0 := by
  pointwise [prevT]
  have e : ∀ (p : Fin 128) (z : Fin 160), IntOp.cmpi .eq (BitVec.ofNat 32 z.val) (IntOp.subi (IntOp.addi (BitVec.ofNat 32 p.val) 16#32) 1#32)
      = if z.val = p.val + 15 then 1#1 else 0#1 := by decide +kernel

  rw [e]
  split
  · show (((1#1 : BitVec 1).toNat : ℝ) : EReal) = 1
    simp
  · show (((0#1 : BitVec 1).toNat : ℝ) : EReal) = 0
    simp

/-- The second table at an element. -/
theorem next_at (p : Fin 128) (z : Fin 160) : (nextT (ix2 p z) : EReal) = if z.val = p.val + 17 then 1 else 0 := by
  pointwise [nextT]
  have e : ∀ (p : Fin 128) (z : Fin 160), IntOp.cmpi .eq (BitVec.ofNat 32 z.val) (IntOp.addi (IntOp.addi (BitVec.ofNat 32 p.val) 16#32) 1#32)
      = if z.val = p.val + 17 then 1#1 else 0#1 := by decide +kernel
  rw [e]
  split
  · show (((1#1 : BitVec 1).toNat : ℝ) : EReal) = 1
    simp
  · show (((0#1 : BitVec 1).toNat : ℝ) : EReal) = 0
    simp

/-- A host operand as the call gets it. -/
theorem V_prev (m : (ℓ : Loc nD τ sig) → Buf (Elt Ideal) ℓ) (c : Dev nD) : (show FVec Ideal S128x160 .bf16 from V m c main_v11) = prevT := by
  unfold prevT
  sl_kernel_rfl

/-- A host operand as the call gets it. -/
theorem V_next (m : (ℓ : Loc nD τ sig) → Buf (Elt Ideal) ℓ) (c : Dev nD) : (show FVec Ideal S128x160 .bf16 from V m c main_v21) = nextT := by
  unfold nextT
  sl_kernel_rfl

/-- The convolution's weights as the call gets them. -/
theorem V_cw (m : (ℓ : Loc nD τ sig) → Buf (Elt Ideal) ℓ) (c : Dev nD) :
    (show FVec Ideal S3x3072 .f32 from V m c main_v22) = shapeCast S3x3072 (show FVec Ideal S1x3x3072 .f32 from m ((c : Thread nD τ).loc main_arg1)) shapeCasts_S1x3x3072_S3x3072 := by
  sl_kernel_rfl

/-- Their elements. -/
theorem cw_at (w : FVec Ideal S1x3x3072 .f32) (n : Fin 3) (j : Fin 3072) :
    (shapeCast S3x3072 w shapeCasts_S1x3x3072_S3x3072 (ix2 n j) : EReal) = w (ix3 0 n j) := by
  pointwise

/-- The bias as the call gets it. -/
theorem V_cb (m : (ℓ : Loc nD τ sig) → Buf (Elt Ideal) ℓ) (c : Dev nD) :
    (show FVec Ideal S1x3072 .f32 from V m c main_v24) = broadcastInDim S1x3072 ![1] bcast_S3072_S1x3072_1 (shapeCast S3072 (show FVec Ideal S1x3072 .f32 from m ((c : Thread nD τ).loc main_arg2)) shapeCasts_S1x3072_S3072) := by
  sl_kernel_rfl

/-- Its elements. -/
theorem cb_at (w : FVec Ideal S1x3072 .f32) (j : Fin 3072) :
    (broadcastInDim S1x3072 ![1] bcast_S3072_S1x3072_1 (shapeCast S3072 w shapeCasts_S1x3072_S3072) (ix2 0 j) : EReal) = w (ix2 0 j) := by
  pointwise

section
variable (m : (ℓ : Loc nD τ sig) → Buf (Elt Ideal) ℓ) (c : Dev nD) (t : Fin cfg0.N)

/-- The channels the call gets. -/
def X : FVec Ideal S4x8192x3072 .bf16 := m ((c : Thread nD τ).loc main_arg0)

/-- The point's rows. -/
theorem blk0 (i : Fin 128) (j : Fin 3072) (s : Fin 4) (r : Fin 8192) (hs : s.val = t.val / 64) (hr : r.val = 128 * (t.val % 64) + i.val) :
    ((show FVec Ideal S1x128x3072 .bf16 from iblk m c 0 t) (ix3 0 i j) : EReal) = X m c (ix3 s r j) := by
  unfold X
  blk_ext [iblk, V_main_arg0, idx t]

/-- The row before the point's. -/
theorem blk1 (j : Fin 3072) (s : Fin 4) (r : Fin 8192) (h : 0 < t.val % 64) (hs : s.val = t.val / 64) (hr : r.val = 128 * (t.val % 64) - 1) :
    ((show FVec Ideal S1x16x3072 .bf16 from iblk m c 1 t) (ix3 0 15 j) : EReal) = X m c (ix3 s r j) := by
  unfold X
  blk_ext [iblk, V_main_arg0, idx t]

/-- The row after the point's. -/
theorem blk2 (j : Fin 3072) (s : Fin 4) (r : Fin 8192) (h : t.val % 64 < 63) (hs : s.val = t.val / 64) (hr : r.val = 128 * (t.val % 64) + 128) :
    ((show FVec Ideal S1x16x3072 .bf16 from iblk m c 2 t) (ix3 0 0 j) : EReal) = X m c (ix3 s r j) := by
  unfold X
  blk_ext [iblk, V_main_arg0, idx t]

/-- The first table's block: the whole table. -/
theorem blk3 (p : Fin 128) (z : Fin 160) : ((show FVec Ideal S128x160 .bf16 from iblk m c 3 t) (ix2 p z) : EReal) = if z.val = p.val + 15 then 1 else 0 := by
  refine Eq.trans ?_ (prev_at p z)
  rw [← V_prev m c]
  blk_ext [iblk, idx t]

/-- The second table's block: the whole table. -/
theorem blk4 (p : Fin 128) (z : Fin 160) : ((show FVec Ideal S128x160 .bf16 from iblk m c 4 t) (ix2 p z) : EReal) = if z.val = p.val + 17 then 1 else 0 := by
  refine Eq.trans ?_ (next_at p z)
  rw [← V_next m c]
  blk_ext [iblk, idx t]

/-- The weights' block: the whole array. -/
theorem blk5 (n : Fin 3) (j : Fin 3072) : ((show FVec Ideal S3x3072 .f32 from iblk m c 5 t) (ix2 n j) : EReal)
    = (show FVec Ideal S1x3x3072 .f32 from m ((c : Thread nD τ).loc main_arg1)) (ix3 0 n j) := by
  refine Eq.trans ?_ (cw_at _ n j)
  rw [← V_cw m c]
  blk_ext [iblk, idx t]

/-- The bias's block: the whole array. -/
theorem blk6 (j : Fin 3072) : ((show FVec Ideal S1x3072 .f32 from iblk m c 6 t) (ix2 0 j) : EReal)
    = (show FVec Ideal S1x3072 .f32 from m ((c : Thread nD τ).loc main_arg2)) (ix2 0 j) := by
  refine Eq.trans ?_ (cb_at _ j)
  rw [← V_cb m c]
  blk_ext [iblk, idx t]

/-- The reference's convolution over the kernel's arguments. -/
def CV (m : (ℓ : Loc nD τ sig) → Buf (Elt Ideal) ℓ) (c : Dev nD) : FVec Ideal S4x8192x3072 .f32 :=
  Cert.Reference6Ideal.Xbc.cvT (m ((c : Thread nD τ).loc main_arg0)) (m ((c : Thread nD τ).loc main_arg1)) (m ((c : Thread nD τ).loc main_arg2))

/-- The reference's result over the kernel's arguments. -/
def REF (m : (ℓ : Loc nD τ sig) → Buf (Elt Ideal) ℓ) (c : Dev nD) : FVec Ideal S4x8192x3072 .bf16 := Cert.Reference6Ideal.Xbc.outT (CV m c)

/-- The row before, over the whole sequence. -/
theorem bef_blk (i : Fin 128) (j : Fin 3072) (s : Fin 4) (r : Fin 8192) (hs : s.val = t.val / 64) (hr : r.val = 128 * (t.val % 64) + i.val) :
    befL (iblk m c 0 t) (iblk m c 1 t) (k0_pay1 (F := Ideal) (grid0.coords t)) i j = bef (fun r => X m c (ix3 s r j)) r := by
  have h64 := pt t
  have hi := i.isLt
  unfold befL bef
  by_cases h0 : i.val = 0
  · rw [if_pos h0, pay1_at _ (by omega), h64.1]
    by_cases ht : t.val % 64 = 0
    · rw [if_pos ht, if_pos (by omega), mul_zero]
    · rw [if_neg ht, if_neg (by omega), mul_one]
      exact blk1 m c t j s _ (by omega) hs (by show r.val - 1 = _; omega)
  · rw [if_neg h0, if_neg (by omega)]
    exact blk0 m c t _ j s _ hs (by show r.val - 1 = 128 * (t.val % 64) + (i.val - 1); omega)

/-- The row after, over the whole sequence. -/
theorem aft_blk (i : Fin 128) (j : Fin 3072) (s : Fin 4) (r : Fin 8192) (hs : s.val = t.val / 64) (hr : r.val = 128 * (t.val % 64) + i.val) :
    aftL (iblk m c 0 t) (iblk m c 2 t) (k0_pay2 (F := Ideal) (grid0.coords t)) i j = aft (fun r => X m c (ix3 s r j)) r := by
  have h64 := pt t
  have hi := i.isLt
  unfold aftL aft
  by_cases h0 : i.val = 127
  · rw [dif_pos h0, pay2_at _ (by omega), h64.1]
    by_cases ht : t.val % 64 = 63
    · rw [if_pos ht, dif_pos (by omega), mul_zero]
    · rw [if_neg ht, dif_neg (by omega), mul_one]
      exact blk2 m c t j s _ (by omega) hs (by show r.val + 1 = _; omega)
  · rw [dif_neg h0, dif_neg (by omega)]
    exact blk0 m c t _ j s _ hs (by show r.val + 1 = 128 * (t.val % 64) + (i.val + 1); omega)

/-- The tile's convolution is the reference's, row for row. -/
theorem conv_blk (i : Fin 128) (j : Fin 3072) (s : Fin 4) (r : Fin 8192) (hs : s.val = t.val / 64) (hr : r.val = 128 * (t.val % 64) + i.val) :
    convL (iblk m c 0 t) (iblk m c 1 t) (iblk m c 2 t) (iblk m c 5 t) (iblk m c 6 t) (k0_pay1 (F := Ideal) (grid0.coords t)) (k0_pay2 (F := Ideal) (grid0.coords t)) i j
      = CV m c (ix3 s r j) := by
  refine Eq.trans ?_ (Cert.Reference6Ideal.Xbc.cv_at _ _ _ s r j).symm
  unfold convL
  congr 1
  · exact bef_blk m c t i j s r hs hr
  · exact blk0 m c t i j s r hs hr
  · exact aft_blk m c t i j s r hs hr
  · exact blk5 m c t 0 j
  · exact blk5 m c t 1 j
  · exact blk5 m c t 2 j
  · exact blk6 m c t j

end

/-- The result's array after the run. -/
theorem final (m : (ℓ : Loc nD τ sig) → Buf (Elt Ideal) ℓ) (c : Dev nD) : (dats m 0 c).arrAt 7 (cfgs 0).N = REF m c := by
  refine (dats m 0 c).arrAt_eq_of_covers 7 _ (by decide +kernel) fun t _ y => ?_
  blk_simp
  rw [after0_7, out_eq _ _ _ _ _ _ _ (blk3 m c t) (blk4 m c t)]
  have h64 := (pt t).2
  obtain ⟨i, j, rfl⟩ : ∃ (i : Fin 128) (j : Fin 3072), y = ix3 0 i j := ⟨y 1, y 2, (eq_ix3 (n0 := 1) (n1 := 128) (n2 := 3072) y).trans (congrArg (fun a => ix3 a (y 1) (y 2)) (Subsingleton.elim _ _))⟩
  have e : ((cfg0.win 7).blk t).view.emb (ix3 0 i j) = ix3 (⟨t.val / 64, by omega⟩ : Fin 4) (⟨128 * (t.val % 64) + i.val, by omega⟩ : Fin 8192) j := by blk_ext [idx t]
  refine Eq.trans ?_ (congrArg (REF m c) e.symm)
  refine Eq.trans ?_ (Cert.Reference6Ideal.Xbc.out_at _ _ _ j).symm
  exact congrArg silf (conv_blk m c t i j _ _ rfl rfl)

end Cert.Kernel6Ideal.Xbc
end
-- ==== Proof.Ref.lean ====
module

public import proofs.«01_k».proof.Proof.Gen.ReferenceIdeal.Run
public import Idealize.ShloMosaic.Lib.Pointwise
public import Idealize.ShloMosaic.Lib.Tactic

/-! The reference's result in stages, and each stage at an index. -/

@[expose] public section

set_option maxRecDepth 65536

noncomputable section

namespace Cert.ReferenceIdeal.Stage

open Idealize.ShloMosaic Idealize.ShloMosaic.TcCoe Idealize.ShloMosaic.Tactic Idealize.SL.Sem
open Cert.ReferenceIdeal Cert.ReferenceIdeal.Gen Cert.ReferenceIdeal.Value

/-- The rotation's frequencies. -/
def freq : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The angle of each token and channel pair. -/
def ang : FVec Ideal S8192x32 .f32 :=
  concatenate S8192x32 1
    [⟨S8192x16, mulf
        (broadcastInDim S8192x16 ![0, 1] bcast_S8192x1_S8192x16_0_1 (broadcastInDim S8192x1 ![0] bcast_S8192_S8192x1_0
          (shapeCast S8192 (broadcastInDim S128x64 ![0] bcast_S128_S128x64_0 (sitofp .f32 (iotaInDim S128 32 0))) shapeCasts_S128x64_S8192)))
        (broadcastInDim S8192x16 ![0, 1] bcast_S1x16_S8192x16_0_1 (broadcastInDim S1x16 ![1] bcast_S16_S1x16_1 freq))⟩,
     ⟨S8192x16, mulf
        (broadcastInDim S8192x16 ![0, 1] bcast_S8192x1_S8192x16_0_1 (broadcastInDim S8192x1 ![0] bcast_S8192_S8192x1_0
          (shapeCast S8192 (broadcastInDim S128x64 ![0, 1] bcast_S1x64_S128x64_0_1 (shapeCast S1x64 (sitofp .f32 (iotaInDim S64 32 0)) shapeCasts_S64_S1x64)) shapeCasts_S128x64_S8192)))
        (broadcastInDim S8192x16 ![0, 1] bcast_S1x16_S8192x16_0_1 (broadcastInDim S1x16 ![1] bcast_S16_S1x16_1 freq))⟩]
    concatenates_S8192x16_S8192x16_S8192x32_d1

/-- The norm's weights in the permuted order. -/
def wts (w : FVec Ideal S1x64 .f32) : FVec Ideal S64 .f32 :=
  concatenate S64 0
    [⟨S32, shapeCast S32 (Host.slice S1x32 ![0, 0] ![1, 2] w slicesBy_S1x64_S1x32_0s1_0s2) shapeCasts_S1x32_S32⟩,
     ⟨S32, shapeCast S32 (Host.slice S1x32 ![0, 1] ![1, 2] w slicesBy_S1x64_S1x32_0s1_1s2) shapeCasts_S1x32_S32⟩] concatenates_S32_S32_S64_d0

/-- The queries by head. -/
def qh (q : FVec Ideal S4x8192x1024 .bf16) : FVec Ideal S4x8192x4x4x64 .f32 :=
  shapeCast S4x8192x4x4x64 (extf .f32 q bitsLt_bf16_f32) shapeCasts_S4x8192x1024_S4x8192x4x4x64

/-- One over the root of the mean square of each head's query. -/
def inv (x : FVec Ideal S4x8192x4x4x64 .f32) : FVec Ideal S4x8192x4x4x1 .f32 :=
  Host.rsqrt (addf (Host.divf (broadcastInDim S4x8192x4x4x1 ![0, 1, 2, 3] bcast_S4x8192x4x4_S4x8192x4x4x1_0_1_2_3
      (Host.reduceAdd (mulf x x) (constant S_ .f32 0x00000000#32) reducesTo_S4x8192x4x4x64_S4x8192x4x4_d4 h_S_))
      (broadcastInDim S4x8192x4x4x1 ![] bcast_S_S4x8192x4x4x1 (constant S_ .f32 0x42800000#32)))
    (broadcastInDim S4x8192x4x4x1 ![] bcast_S_S4x8192x4x4x1 (constant S_ .f32 0x358637BD#32)))

/-- The normed queries. -/
def qn (x : FVec Ideal S4x8192x4x4x64 .f32) (w : FVec Ideal S64 .f32) : FVec Ideal S4x8192x4x4x64 .f32 :=
  mulf (mulf x (broadcastInDim S4x8192x4x4x64 ![0, 1, 2, 3, 4] bcast_S4x8192x4x4x1_S4x8192x4x4x64_0_1_2_3_4 (inv x)))
    (broadcastInDim S4x8192x4x4x64 ![0, 1, 2, 3, 4] bcast_S1x1x1x1x64_S4x8192x4x4x64_0_1_2_3_4 (broadcastInDim S1x1x1x1x64 ![4] bcast_S64_S1x1x1x1x64_4 w))

/-- A table of the tokens' channel pairs at every head. -/
def tab (t : FVec Ideal S8192x32 .f32) : FVec Ideal S4x8192x4x4x32 .f32 :=
  broadcastInDim S4x8192x4x4x32 ![0, 1, 2, 3, 4] bcast_S1x8192x1x1x32_S4x8192x4x4x32_0_1_2_3_4 (shapeCast S1x8192x1x1x32 t shapeCasts_S8192x32_S1x8192x1x1x32)

/-- The rotated queries. -/
def qr (x : FVec Ideal S4x8192x4x4x64 .f32) (c s : FVec Ideal S8192x32 .f32) : FVec Ideal S4x8192x4x4x64 .f32 :=
  concatenate S4x8192x4x4x64 4
    [⟨S4x8192x4x4x32, subf
        (mulf (extractStridedSlice S4x8192x4x4x32 ![0, 0, 0, 0, 0] x slices_S4x8192x4x4x64_S4x8192x4x4x32_0_0_0_0_0) (tab c))
        (mulf (extractStridedSlice S4x8192x4x4x32 ![0, 0, 0, 0, 32] x slices_S4x8192x4x4x64_S4x8192x4x4x32_0_0_0_0_32) (tab s))⟩,
     ⟨S4x8192x4x4x32, addf
        (mulf (extractStridedSlice S4x8192x4x4x32 ![0, 0, 0, 0, 0] x slices_S4x8192x4x4x64_S4x8192x4x4x32_0_0_0_0_0) (tab s))
        (mulf (extractStridedSlice S4x8192x4x4x32 ![0, 0, 0, 0, 32] x slices_S4x8192x4x4x64_S4x8192x4x4x32_0_0_0_0_32) (tab c))⟩]
    concatenates_S4x8192x4x4x32_S4x8192x4x4x32_S4x8192x4x4x64_d4

/-- The scores. -/
def sco (k : FVec Ideal S4x4x8192x64 .bf16) (x : FVec Ideal S4x8192x4x4x64 .f32) : FVec Ideal S4x4x4x8192x8192 .f32 :=
  mulf (transpose S4x4x4x8192x8192 [0, 1, 4, 3, 2] (Host.dotGeneral dot_S4x4x8192x64_S4x8192x4x4x64_S4x4x8192x8192x4_3_4_2_13_01_02 none
      (extf .f32 k bitsLt_bf16_f32) x) transposes_S4x4x8192x8192x4_S4x4x4x8192x8192_0_1_4_3_2)
    (broadcastInDim S4x4x4x8192x8192 ![] bcast_S_S4x4x4x8192x8192 (constant S_ .f32 0x3E000000#32))

/-- The largest score of each query. -/
def mx (s : FVec Ideal S4x4x4x8192x8192 .f32) : FVec Ideal S4x4x4x8192 .f32 :=
  maximumf (broadcastInDim S4x4x4x8192 ![] bcast_S_S4x4x4x8192 (constant S_ .f32 0xFF800000#32))
    (Host.reduce FloatOps.maximumf s (constant S_ .f32 0xFF800000#32) reducesTo_S4x4x4x8192x8192_S4x4x4x8192_d4 h_S_)

/-- The exponentials of the scores less a number for each query. -/
def ex (s : FVec Ideal S4x4x4x8192x8192 .f32) (M : FVec Ideal S4x4x4x8192 .f32) : FVec Ideal S4x4x4x8192x8192 .f32 :=
  Host.exp (subf s (broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3 M)))

/-- The exponentials over their sums. -/
def pr (e : FVec Ideal S4x4x4x8192x8192 .f32) : FVec Ideal S4x4x4x8192x8192 .f32 :=
  Host.divf e (broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3
      (Host.reduceAdd e (constant S_ .f32 0x00000000#32) reducesTo_S4x4x4x8192x8192_S4x4x4x8192_d4 h_S_)))

/-- The weighted values, back in the layer's layout. -/
def out (v : FVec Ideal S4x8192x256 .bf16) (p : FVec Ideal S4x4x4x8192x8192 .f32) : FVec Ideal S4x8192x1024 .bf16 :=
  truncf .bf16 (shapeCast S4x8192x1024 (transpose S4x8192x4x4x64 [0, 4, 1, 3, 2]
    (Host.dotGeneral dot_S4x8192x4x64_S4x4x4x8192x8192_S4x4x64x4x8192_1_4_3_23_02_01 none
      (shapeCast S4x8192x4x64 (extf .f32 v bitsLt_bf16_f32) shapeCasts_S4x8192x256_S4x8192x4x64) p)
    transposes_S4x4x64x4x8192_S4x8192x4x4x64_0_4_1_3_2) shapeCasts_S4x8192x4x4x64_S4x8192x1024) bitsLt_bf16_f32

/-- The scores of the arguments. -/
def scores (q : FVec Ideal S4x8192x1024 .bf16) (k : FVec Ideal S4x4x8192x64 .bf16) (w : FVec Ideal S1x64 .f32) : FVec Ideal S4x4x4x8192x8192 .f32 :=
  sco k (qr (qn (qh q) (wts w)) (Host.cos ang) (Host.sin ang))

/-- The reference ends with its stages applied to its arguments. -/
theorem res_eq (m : (ℓ : Loc nD τ sig) → Buf (Elt Ideal) ℓ) (c : Dev nD) : res_out0 m c
    = out (m ((c.tc : Thread nD τ).loc main_arg2))
        (pr (ex (scores (m ((c.tc : Thread nD τ).loc main_arg0)) (m ((c.tc : Thread nD τ).loc main_arg1)) (m ((c.tc : Thread nD τ).loc main_arg3)))
          (mx (scores (m ((c.tc : Thread nD τ).loc main_arg0)) (m ((c.tc : Thread nD τ).loc main_arg1)) (m ((c.tc : Thread nD τ).loc main_arg3)))))) := by
  sl_kernel_rfl

end Cert.ReferenceIdeal.Stage

end
-- ==== Proof.KvRef.lean ====
module

public import proofs.«01_k».proof.Proof.Gen.Reference7Ideal.Run
public import proofs.«01_k».proof.Proof.Ref

/-! The reference of the keys and values in stages, and each stage at an index. -/

@[expose] public section

set_option maxRecDepth 65536

noncomputable section

namespace Cert.Reference7Ideal.Kv

open Idealize.ShloMosaic Idealize.ShloMosaic.TcCoe Idealize.ShloMosaic.Tactic Idealize.SL.Sem
open Cert.Reference7Ideal Cert.Reference7Ideal.Gen Cert.Reference7Ideal.Value
open Cert.ReferenceIdeal.Stage (wts ang)

/-- The keys by head. -/
def kh (k : FVec Ideal S4x8192x256 .bf16) : FVec Ideal S4x8192x4x64 .f32 :=
  shapeCast S4x8192x4x64 (extf .f32 k bitsLt_bf16_f32) shapeCasts_S4x8192x256_S4x8192x4x64

/-- One over the root of the mean square of each head's key. -/
def inv (x : FVec Ideal S4x8192x4x64 .f32) : FVec Ideal S4x8192x4x1 .f32 :=
  Host.rsqrt (addf (Host.divf (broadcastInDim S4x8192x4x1 ![0, 1, 2] bcast_S4x8192x4_S4x8192x4x1_0_1_2
      (Host.reduceAdd (mulf x x) (constant S_ .f32 0x00000000#32) reducesTo_S4x8192x4x64_S4x8192x4_d3 h_S_))
      (broadcastInDim S4x8192x4x1 ![] bcast_S_S4x8192x4x1 (constant S_ .f32 0x42800000#32)))
    (broadcastInDim S4x8192x4x1 ![] bcast_S_S4x8192x4x1 (constant S_ .f32 0x358637BD#32)))

/-- The normed keys. -/
def kn (x : FVec Ideal S4x8192x4x64 .f32) (w : FVec Ideal S64 .f32) : FVec Ideal S4x8192x4x64 .f32 :=
  mulf (mulf x (broadcastInDim S4x8192x4x64 ![0, 1, 2, 3] bcast_S4x8192x4x1_S4x8192x4x64_0_1_2_3 (inv x)))
    (broadcastInDim S4x8192x4x64 ![0, 1, 2, 3] bcast_S1x1x1x64_S4x8192x4x64_0_1_2_3 (broadcastInDim S1x1x1x64 ![3] bcast_S64_S1x1x1x64_3 w))

/-- A table of the tokens' channel pairs at every head. -/
def tab (t : FVec Ideal S8192x32 .f32) : FVec Ideal S4x8192x4x32 .f32 :=
  broadcastInDim S4x8192x4x32 ![0, 1, 2, 3] bcast_S1x8192x1x32_S4x8192x4x32_0_1_2_3 (shapeCast S1x8192x1x32 t shapeCasts_S8192x32_S1x8192x1x32)

/-- The rotated keys. -/
def kr (x : FVec Ideal S4x8192x4x64 .f32) (c s : FVec Ideal S8192x32 .f32) : FVec Ideal S4x8192x4x64 .f32 :=
  concatenate S4x8192x4x64 3
    [⟨S4x8192x4x32, subf
        (mulf (extractStridedSlice S4x8192x4x32 ![0, 0, 0, 0] x slices_S4x8192x4x64_S4x8192x4x32_0_0_0_0) (tab c))
        (mulf (extractStridedSlice S4x8192x4x32 ![0, 0, 0, 32] x slices_S4x8192x4x64_S4x8192x4x32_0_0_0_32) (tab s))⟩,
     ⟨S4x8192x4x32, addf
        (mulf (extractStridedSlice S4x8192x4x32 ![0, 0, 0, 0] x slices_S4x8192x4x64_S4x8192x4x32_0_0_0_0) (tab s))
        (mulf (extractStridedSlice S4x8192x4x32 ![0, 0, 0, 32] x slices_S4x8192x4x64_S4x8192x4x32_0_0_0_32) (tab c))⟩]
    concatenates_S4x8192x4x32_S4x8192x4x32_S4x8192x4x64_d3

/-- The keys' result: heads before tokens. -/
def keysT (k : FVec Ideal S4x8192x256 .bf16) (w : FVec Ideal S1x64 .f32) : FVec Ideal S4x4x8192x64 .bf16 :=
  truncf .bf16 (transpose S4x4x8192x64 [0, 2, 1, 3] (kr (kn (kh k) (wts w)) (Host.cos ang) (Host.sin ang)) transposes_S4x8192x4x64_S4x4x8192x64_0_2_1_3) bitsLt_bf16_f32

/-- The values' result: channels before tokens, a row of ones and fifteen of zeros below each head. -/
def valsT (v : FVec Ideal S4x8192x256 .bf16) : FVec Ideal S4x4x2x80x4096 .bf16 :=
  truncf .bf16 (concatenate S4x4x2x80x4096 3
    [⟨S4x4x2x64x4096, transpose S4x4x2x64x4096 [0, 3, 1, 4, 2] (shapeCast S4x2x4096x4x64 (extf .f32 v bitsLt_bf16_f32) shapeCasts_S4x8192x256_S4x2x4096x4x64) transposes_S4x2x4096x4x64_S4x4x2x64x4096_0_3_1_4_2⟩,
     ⟨S4x4x2x1x4096, broadcastInDim S4x4x2x1x4096 ![] bcast_S_S4x4x2x1x4096 (constant S_ .f32 0x3F800000#32)⟩,
     ⟨S4x4x2x15x4096, broadcastInDim S4x4x2x15x4096 ![] bcast_S_S4x4x2x15x4096 (constant S_ .f32 0x00000000#32)⟩]
    concatenates_S4x4x2x64x4096_S4x4x2x1x4096_S4x4x2x15x4096_S4x4x2x80x4096_d3 : FVec Ideal S4x4x2x80x4096 .f32) bitsLt_bf16_f32

/-- The reference's first result is the keys' stages applied to its arguments. -/
theorem res_eq (m : (ℓ : Loc nD τ sig) → Buf (Elt Ideal) ℓ) (c : Dev nD) :
    res_out0 m c = keysT (m ((c.tc : Thread nD τ).loc main_arg0)) (m ((c.tc : Thread nD τ).loc main_arg2)) := by
  sl_kernel_rfl

/-- The keys by head. -/
theorem kh_at (k : FVec Ideal S4x8192x256 .bf16) (b : Fin 4) (s : Fin 8192) (h : Fin 4) (d : Fin 64) :
    (kh k (ix4 b s h d) : EReal) = k (ix3 b s ⟨h.val * 64 + d.val, by omega⟩) := by
  pointwise [kh]

/-- The norm's factor. -/
theorem inv_at (k : FVec Ideal S4x8192x4x64 .f32) (b : Fin 4) (s : Fin 8192) (h : Fin 4) :
    (inv k (ix4 b s h 0) : EReal) = Ideal.rsqrt (Ideal.div (∑ x, k (ix4 b s h x) * k (ix4 b s h x)) (Ideal.ofBits FTy.f32 1115684864#32) +
        Ideal.ofBits FTy.f32 897988541#32) := by
  pointwise [inv]

/-- The normed keys. -/
theorem kn_at (k : FVec Ideal S4x8192x4x64 .f32) (w : FVec Ideal S64 .f32) (b : Fin 4) (s : Fin 8192) (h : Fin 4) (d : Fin 64) :
    (kn k w (ix4 b s h d) : EReal) = k (ix4 b s h d) * inv k (ix4 b s h 0) * w (ix1 d) := by
  pointwise [kn]

/-- The rotated keys. -/
theorem kr_at (k : FVec Ideal S4x8192x4x64 .f32) (c z : FVec Ideal S8192x32 .f32) (b : Fin 4) (s : Fin 8192) (h : Fin 4) (d : Fin 64) :
    (kr k c z (ix4 b s h d) : EReal) = if h_1 : d.val < 32 then k (ix4 b s h d) * c (ix2 s ⟨d.val, h_1⟩) - k (ix4 b s h ⟨32 + d.val, by omega⟩) * z (ix2 s ⟨d.val, h_1⟩)
    else
      k (ix4 b s h ⟨d.val - 32, by omega⟩) * z (ix2 s ⟨d.val - 32, by omega⟩) +
        k (ix4 b s h ⟨32 + (d.val - 32), by omega⟩) * c (ix2 s ⟨d.val - 32, by omega⟩) := by
  pointwise [kr, tab]

/-- The keys' result. -/
theorem keys_at (k : FVec Ideal S4x8192x256 .bf16) (w : FVec Ideal S1x64 .f32) (b h : Fin 4) (s : Fin 8192) (d : Fin 64) :
    (keysT k w (ix4 b h s d) : EReal) = kr (kn (kh k) (wts w)) (Host.cos ang) (Host.sin ang) (ix4 b s h d) := by
  pointwise [keysT]

/-- The values' result. -/
theorem vals_at (v : FVec Ideal S4x8192x256 .bf16) (b h : Fin 4) (t : Fin 2) (r : Fin 80) (n : Fin 4096) :
    (valsT v (ix5 b h t r n) : EReal) = if hr : r.val < 64 then v (ix3 b ⟨t.val * 4096 + n.val, by omega⟩ ⟨h.val * 64 + r.val, by omega⟩)
      else if r.val = 64 then 1 else 0 := by
  pointwise [valsT]
  split
  · rfl
  · rename_i hr
    by_cases h4 : r.val = 64
    · rw [if_pos h4, dif_pos (by omega)]
    · rw [if_neg h4, dif_neg (by omega)]

end Cert.Reference7Ideal.Kv

end
-- ==== Proof.Trip.lean ====
module

public import proofs.«01_k».proof.Proof.Gen.KernelIdeal.Loops

/-! One trip of the key loop as 64 equal steps, one for each block of 256 keys and each slab of 512 query columns. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

variable {F : FTy → Type} [FloatOps F] [Named F]

/-! ### What a step computes -/

/-- The scores of a block of keys against a slab of query columns. -/
def scoreOf (kb : Vec F S1x1x256x64 .bf16) (q : Vec F S64x512 .bf16) : FVec F S256x512 .f32 :=
  matmul dot_S256x64_S64x512_S256x512_1_0_0_1_n_n none (shapeCast S256x64 kb shapeCasts_S1x1x256x64_S256x64) q
    (constant S256x512 .f32 0x00000000#32)

/-- The columns' running maximum after a block of scores. -/
def maxNew (m : FVec F S1x512 .f32) (s : FVec F S256x512 .f32) : FVec F S1x512 .f32 :=
  maximumf m (extf .f32 (shapeCast S1x512 (multiReduction .maximumf [0] S512 (truncf .bf16 s bitsLt_bf16_f32) 0xFF80#16
    reduces_S256x512_S512 (.inr rfl) rfl) shapeCasts_S512_S1x512) bitsLt_bf16_f32)

/-- The accumulator after a block: the old one rescaled, plus the block's values weighted. -/
def accNew (m : FVec F S1x512 .f32) (acc : FVec F S80x512 .f32) (s : FVec F S256x512 .f32)
    (vb : FVec F S80x256 .bf16) : FVec F S80x512 .f32 :=
  addf (mulf (broadcastTo S80x512 (exp2 (subf m (maxNew m s))) broadcasts_S1x512_S80x512) acc)
    (matmul dot_S80x256_S256x512_S80x512_1_0_0_1_n_n none vb
      (exp2 (subf (truncf .bf16 s bitsLt_bf16_f32)
        (broadcastTo S256x512 (truncf .bf16 (maxNew m s) bitsLt_bf16_f32) broadcasts_S1x512_S256x512)))
      (constant S80x512 .f32 0x00000000#32))

/-! ### Where a step reads and writes -/

/-- A slab of the running maxima lies in its buffer. -/
theorem inb12 (n : Nat) (h : n < 4) : ∀ a, (![0, 512 * n] : Fin 2 → Nat) a + S1x512.size a ≤ S1x2048.size a := by
  intro a; match a with
  | ⟨0, _⟩ => exact Nat.le_refl _
  | ⟨1, _⟩ => show 512 * n + 512 ≤ 2048; omega

/-- A slab of the accumulators lies in its buffer. -/
theorem inb13 (n : Nat) (h : n < 4) : ∀ a, (![0, 512 * n] : Fin 2 → Nat) a + S80x512.size a ≤ S80x2048.size a := by
  intro a; match a with
  | ⟨0, _⟩ => exact Nat.le_refl _
  | ⟨1, _⟩ => show 512 * n + 512 ≤ 2048; omega

/-- A slab of the queries lies in its buffer. -/
theorem inb11 (n : Nat) (h : n < 4) : ∀ a, (![0, 512 * n] : Fin 2 → Nat) a + S64x512.size a ≤ S64x2048.size a := by
  intro a; match a with
  | ⟨0, _⟩ => exact Nat.le_refl _
  | ⟨1, _⟩ => show 512 * n + 512 ≤ 2048; omega

/-- A slab of the scores lies in its buffer. -/
theorem inb14 (n : Nat) (h : n < 4) : ∀ a, (![n, 0, 0] : Fin 3 → Nat) a + S1x256x512.size a ≤ S4x256x512.size a := by
  intro a; match a with
  | ⟨0, _⟩ => show n + 1 ≤ 4; omega
  | ⟨1, _⟩ => exact Nat.le_refl _
  | ⟨2, _⟩ => exact Nat.le_refl _

/-- A remainder by four is below four. -/
theorem mod4 (u : Nat) : u % 4 < 4 := Nat.mod_lt _ (by decide)

/-- Slab `u % 4` of the running maxima. -/
abbrev r12 (u : Nat) : Rect S1x2048 := Rect.unit (s := S1x2048) ![0, 512 * (u % 4)] S1x512.size (inb12 _ (mod4 u))
/-- Slab `u % 4` of the accumulators. -/
abbrev r13 (u : Nat) : Rect S80x2048 := Rect.unit (s := S80x2048) ![0, 512 * (u % 4)] S80x512.size (inb13 _ (mod4 u))
/-- Slab `u % 4` of the queries. -/
abbrev r11 (u : Nat) : Rect S64x2048 := Rect.unit (s := S64x2048) ![0, 512 * (u % 4)] S64x512.size (inb11 _ (mod4 u))
/-- Slab `u % 4` of the scores carried from trip to trip. -/
abbrev r14 (u : Nat) : Rect S4x256x512 := Rect.unit (s := S4x256x512) ![u % 4, 0, 0] S1x256x512.size (inb14 _ (mod4 u))

/-- Where block `i` of a trip's values begins. -/
def valOff (k : Fin k0_t1_loop.trips) : Nat → Fin 5 → Nat
  | 0 => k0_off2 k
  | 1 => k0_off3 k
  | 2 => k0_off4 k
  | 3 => k0_off5 k
  | 4 => k0_off6 k
  | 5 => k0_off7 k
  | 6 => k0_off8 k
  | 7 => k0_off9 k
  | 8 => k0_off10 k
  | 9 => k0_off11 k
  | 10 => k0_off12 k
  | 11 => k0_off13 k
  | 12 => k0_off14 k
  | 13 => k0_off15 k
  | 14 => k0_off16 k
  | _ => k0_off17 k

/-- The values loaded lie in their block. -/
theorem valOff_inb (k : Fin k0_t1_loop.trips) (i : Nat) :
    ∀ a, valOff k i a + S1x1x1x80x256.size a ≤ S1x1x2x80x4096.size a := by
  unfold valOff
  split
  · exact k0_off2_inb k
  · exact k0_off3_inb k
  · exact k0_off4_inb k
  · exact k0_off5_inb k
  · exact k0_off6_inb k
  · exact k0_off7_inb k
  · exact k0_off8_inb k
  · exact k0_off9_inb k
  · exact k0_off10_inb k
  · exact k0_off11_inb k
  · exact k0_off12_inb k
  · exact k0_off13_inb k
  · exact k0_off14_inb k
  · exact k0_off15_inb k
  · exact k0_off16_inb k
  · exact k0_off17_inb k

/-- Block `i` of a trip's values: where it begins, spelt out. -/
theorem valOff_eq (k : Fin k0_t1_loop.trips) (i : Nat) (h : i < 16) : valOff k i = ![0, 0, k.val, 0, 256 * i] := by
  match i, h with
  | 0, _ => exact k0_off2_eq k
  | 1, _ => exact k0_off3_eq k
  | 2, _ => exact k0_off4_eq k
  | 3, _ => exact k0_off5_eq k
  | 4, _ => exact k0_off6_eq k
  | 5, _ => exact k0_off7_eq k
  | 6, _ => exact k0_off8_eq k
  | 7, _ => exact k0_off9_eq k
  | 8, _ => exact k0_off10_eq k
  | 9, _ => exact k0_off11_eq k
  | 10, _ => exact k0_off12_eq k
  | 11, _ => exact k0_off13_eq k
  | 12, _ => exact k0_off14_eq k
  | 13, _ => exact k0_off15_eq k
  | 14, _ => exact k0_off16_eq k
  | 15, _ => exact k0_off17_eq k
  | n + 16, h => omega

section chains

variable (arg4 : Memref sig .tc .vmem S1x1x8192x64 .bf16) (arg5 : Memref sig .tc .vmem S1x1x2x80x4096 .bf16)
  (arg11 : Memref sig .tc .vmem S64x2048 .bf16) (arg12 : Memref sig .tc .vmem S1x2048 .f32)
  (arg13 : Memref sig .tc .vmem S80x2048 .f32) (arg14 : Memref sig .tc .vmem S4x256x512 .f32)
  (X4 : BufTy.Contents (Elt F) arg4.view.ty) (X5 : BufTy.Contents (Elt F) arg5.view.ty)
  (X11 : BufTy.Contents (Elt F) arg11.view.ty) (k : Fin k0_t1_loop.trips)
  (f12 : BufTy.Contents (Elt F) arg12.view.ty) (f13 : BufTy.Contents (Elt F) arg13.view.ty)
  (f14 : BufTy.Contents (Elt F) arg14.view.ty)

/-- Slab `u % 4` of the queries, loaded. -/
def qLoad (u : Nat) : Vec F S64x512 .bf16 := View.readAt (Elt F) arg11.view (r11 u).toLoadRect X11

/-- The scores of step `u`: the first four were computed by the trip before. -/
def scoreAt (u : Nat) : FVec F S256x512 .f32 :=
  if u < 4 then
    shapeCast S256x512 (View.readAt (Elt F) arg14.view (r14 u).toLoadRect f14 : Vec F S1x256x512 .f32) shapeCasts_S1x256x512_S256x512
  else
    scoreOf (View.readAt (Elt F) arg4.view (Rect.unit (s := S1x1x8192x64)
      (k0_off1 k (BitVec.ofNat 32 (256 + 256 * ((u / 4 - 1) % 15)))) S1x1x256x64.size
      (k0_off1_inb k ⟨(u / 4 - 1) % 15, Nat.mod_lt _ (by decide)⟩)).toLoadRect X4) (qLoad arg11 X11 u)

/-- The values of step `u`. -/
def valAt (u : Nat) : FVec F S80x256 .bf16 :=
  shapeCast S80x256 (View.readAt (Elt F) arg5.view (Rect.unit (s := S1x1x2x80x4096)
    (valOff k (u / 4)) S1x1x1x80x256.size (valOff_inb k (u / 4))).toLoadRect X5 : Vec F S1x1x1x80x256 .bf16)
    shapeCasts_S1x1x1x80x256_S80x256

/-- The running maxima step `u` finds, `L` being written before. -/
def maxLoad (L : List (View.Piece (Elt F) S1x2048 .f32)) (u : Nat) : Vec F S1x512 .f32 :=
  if u < 4 then View.readAt (Elt F) arg12.view (r12 u).toLoadRect f12 else arg12.view.readCov L (r12 u).toLoadRect

/-- The accumulators step `u` finds, `L` being written before. -/
def accLoad (L : List (View.Piece (Elt F) S80x2048 .f32)) (u : Nat) : Vec F S80x512 .f32 :=
  if u < 4 then View.readAt (Elt F) arg13.view (r13 u).toLoadRect f13 else arg13.view.readCov L (r13 u).toLoadRect

/-- What the first `u` steps write to the running maxima, last first, the scores of step `j` being `sc j`. -/
def chain12 (sc : Nat → FVec F S256x512 .f32) (u : Nat) : List (View.Piece (Elt F) S1x2048 .f32) :=
  Nat.rec [] (fun j L => ⟨r12 j, shapeCast S1x512 (maxNew (maxLoad arg12 f12 L j) (sc j)) shapeCasts_S1x512_S1x512⟩ :: L) u

/-- What the first `u` steps write to the accumulators, last first. -/
def chain13 (sc : Nat → FVec F S256x512 .f32) (vb : Nat → FVec F S80x256 .bf16) (u : Nat) :
    List (View.Piece (Elt F) S80x2048 .f32) :=
  Nat.rec [] (fun j L => ⟨r13 j, shapeCast S80x512 (accNew (maxLoad arg12 f12 (chain12 arg12 f12 sc j) j)
    (accLoad arg13 f13 L j) (sc j) (vb j)) shapeCasts_S80x512_S80x512⟩ :: L) u

/-- What a trip leaves for the next one: the scores of the next trip's first block. -/
def chain14 (u : Nat) : List (View.Piece (Elt F) S4x256x512 .f32) :=
  Nat.rec [] (fun j L => ⟨r14 j, shapeCast S1x256x512 (scoreOf (View.readAt (Elt F) arg4.view
    (Rect.unit (s := S1x1x8192x64) (k0_off18 k) S1x1x256x64.size (k0_off18_inb k)).toLoadRect X4) (qLoad arg11 X11 j))
    shapeCasts_S256x512_S1x256x512⟩ :: L) u

end chains

set_option maxHeartbeats 4000000

section trip
variable (c : Dev nD) (i : grid0.Coords) (arg3 : Memref sig .tc .vmem S1x512x256 .bf16) (harg3 : arg3.IsWhole)
  (arg4 : Memref sig .tc .vmem S1x1x8192x64 .bf16) (harg4 : arg4.IsWhole)
  (arg5 : Memref sig .tc .vmem S1x1x2x80x4096 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S256x256 .bf16) (harg8 : arg8.IsWhole)
  (arg9 : Memref sig .tc .vmem S1x256 .f32) (harg9 : arg9.IsWhole)
  (arg10 : Memref sig .tc .vmem S1x512x256 .bf16) (harg10 : arg10.IsWhole)
  (arg11 : Memref sig .tc .vmem S64x2048 .bf16) (harg11 : arg11.IsWhole)
  (arg12 : Memref sig .tc .vmem S1x2048 .f32) (harg12 : arg12.IsWhole)
  (arg13 : Memref sig .tc .vmem S80x2048 .f32) (harg13 : arg13.IsWhole)
  (arg14 : Memref sig .tc .vmem S4x256x512 .f32) (harg14 : arg14.IsWhole)
  (X4 : BufTy.Contents (Elt F) arg4.view.ty) (X5 : BufTy.Contents (Elt F) arg5.view.ty)
  (X11 : BufTy.Contents (Elt F) arg11.view.ty) (k : Fin k0_t1_loop.trips)
  (f12 : BufTy.Contents (Elt F) arg12.view.ty) (f13 : BufTy.Contents (Elt F) arg13.view.ty)
  (f14 : BufTy.Contents (Elt F) arg14.view.ty)

/-- What a trip writes to the running maxima. -/
theorem trip12 : (trip_k0_t1 (F := F) Variants.none c none i arg3 harg3 arg4 harg4 arg5 harg5 arg6 harg6 arg7 harg7
      arg8 harg8 arg9 harg9 arg10 harg10 arg11 harg11 arg12 harg12 arg13 harg13 arg14 harg14 X4 X5 X11 k).1 f12 f13 f14
    = chain12 arg12 f12 (scoreAt arg4 arg11 arg14 X4 X11 k f14) 64 := by
  sl_kernel_rfl

/-- What a trip writes to the accumulators. -/
theorem trip13 : (trip_k0_t1 (F := F) Variants.none c none i arg3 harg3 arg4 harg4 arg5 harg5 arg6 harg6 arg7 harg7
      arg8 harg8 arg9 harg9 arg10 harg10 arg11 harg11 arg12 harg12 arg13 harg13 arg14 harg14 X4 X5 X11 k).2.1 f12 f13 f14
    = chain13 arg12 arg13 f12 f13 (scoreAt arg4 arg11 arg14 X4 X11 k f14) (valAt arg5 X5 k) 64 := by
  sl_kernel_rfl

/-- What a trip leaves in the scores carried to the next. -/
theorem trip14 : (trip_k0_t1 (F := F) Variants.none c none i arg3 harg3 arg4 harg4 arg5 harg5 arg6 harg6 arg7 harg7
      arg8 harg8 arg9 harg9 arg10 harg10 arg11 harg11 arg12 harg12 arg13 harg13 arg14 harg14 X4 X5 X11 k).2.2.1 f12 f13 f14
    = chain14 arg4 arg11 X4 X11 k 4 := by
  sl_kernel_rfl

end trip

end Cert.KernelIdeal.Trip

end
-- ==== Proof.Slab.lean ====
module

public import proofs.«01_k».proof.Proof.Trip
public import Idealize.ShloMosaic.Lib.Pointwise.Reshape

/-! What the running maxima and the accumulators hold after a trip, one slab of 512 query columns at a time: the steps of
    the other slabs do not touch it, so each slab sees a recursion over the trip's 16 blocks of keys. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

/-! ### Steps that write one of four disjoint boxes in turn -/

section turn

variable {sig : RefSig} {κ : Kind} {sp : Space} {s : Shape} {e : EltTy} {Val : EltTy → Type}
  (v : View sig κ sp s e) (size : Fin s.rank → Nat) (off : Nat → Fin s.rank → Nat)
  (inb : ∀ u a, off u a + size a ≤ s.size a)

/-- The writes of the first `u` steps, last first: step `j` writes its box with what `pay` makes of the writes before. -/
def turns (pay : Nat → List (View.Piece Val s e) → (⟨s.rank, size⟩ : Shape).Idx → Val e) (u : Nat) :
    List (View.Piece Val s e) :=
  Nat.rec [] (fun j L => ⟨Rect.unit (off j) size (inb j), pay j L⟩ :: L) u

/-- The boxes: the same one every fourth step, disjoint otherwise. -/
structure Four : Prop where
  same : ∀ u w, u % 4 = w % 4 → off u = off w
  apart : ∀ u w, u % 4 ≠ w % 4 → ∀ j, (Rect.unit (off w) size (inb w)).toLoadRect.idx j ∉ (Rect.unit (off u) size (inb u)).set

variable {v size off inb}

/-- Steps of other boxes leave a box as it was. -/
theorem turns_skip (h : Four size off inb) (pay : Nat → List (View.Piece Val s e) → (⟨s.rank, size⟩ : Shape).Idx → Val e)
    (g : v.ty.Contents Val) (w u d : Nat) (hd : ∀ x, x < d → (u + x) % 4 ≠ w % 4) :
    v.readAt Val (Rect.unit (off w) size (inb w)).toLoadRect (v.writes Val g (turns size off inb pay (u + d)))
      = v.readAt Val (Rect.unit (off w) size (inb w)).toLoadRect (v.writes Val g (turns size off inb pay u)) := by
  induction d with
  | zero => rfl
  | succ d ih =>
    rw [← ih (fun x hx => hd x (by omega))]
    funext j
    exact View.read_writes_cons_miss v g _ _ _ (h.apart _ _ (hd d (by omega)) j)

/-- A step leaves in its box what it wrote. -/
theorem turns_hit (h : Four size off inb) (pay : Nat → List (View.Piece Val s e) → (⟨s.rank, size⟩ : Shape).Idx → Val e)
    (g : v.ty.Contents Val) (w u : Nat) (hw : u % 4 = w % 4) :
    v.readAt Val (Rect.unit (off w) size (inb w)).toLoadRect (v.writes Val g (turns size off inb pay (u + 1)))
      = pay u (turns size off inb pay u) := by
  rw [View.readAt_unit_eq_of_eq v (inb w) (h.same w u hw.symm)]
  funext j
  exact View.read_writes_cons_emb v g _ _ _ j

/-- After a step and fewer than four more its box still holds what it wrote. -/
theorem turns_last (h : Four size off inb) (pay : Nat → List (View.Piece Val s e) → (⟨s.rank, size⟩ : Shape).Idx → Val e)
    (g : v.ty.Contents Val) (w u d : Nat) (hw : u % 4 = w % 4) (hd : d < 4) :
    v.readAt Val (Rect.unit (off w) size (inb w)).toLoadRect (v.writes Val g (turns size off inb pay (u + 1 + d)))
      = pay u (turns size off inb pay u) := by
  rw [turns_skip h pay g w (u + 1) d (fun x hx => by omega), turns_hit h pay g w u hw]

end turn

variable {F : FTy → Type} [FloatOps F] [Named F]

/-- The four slabs of the running maxima are apart. -/
theorem four12 : Four (s := S1x2048) S1x512.size (fun u => ![0, 512 * (u % 4)]) (fun u => inb12 _ (mod4 u)) where
  same u w h := by simp only [h]
  apart u w h j := by
    refine Rect.not_mem_set_of_axis _ _ (1 : Fin 2) (512 * (u % 4)) 512 rfl rfl rfl ?_
    have hj : (j (1 : Fin 2)).val < 512 := (j (1 : Fin 2)).isLt
    show 512 * (w % 4) + 1 * (j (1 : Fin 2)).val < _ ∨ _ ≤ 512 * (w % 4) + 1 * (j (1 : Fin 2)).val
    omega

/-- The four slabs of the accumulators are apart. -/
theorem four13 : Four (s := S80x2048) S80x512.size (fun u => ![0, 512 * (u % 4)]) (fun u => inb13 _ (mod4 u)) where
  same u w h := by simp only [h]
  apart u w h j := by
    refine Rect.not_mem_set_of_axis _ _ (1 : Fin 2) (512 * (u % 4)) 512 rfl rfl rfl ?_
    have hj : (j (1 : Fin 2)).val < 512 := (j (1 : Fin 2)).isLt
    show 512 * (w % 4) + 1 * (j (1 : Fin 2)).val < _ ∨ _ ≤ 512 * (w % 4) + 1 * (j (1 : Fin 2)).val
    omega

/-- The four slabs of the queries are apart. -/
theorem four11 : Four (s := S64x2048) S64x512.size (fun u => ![0, 512 * (u % 4)]) (fun u => inb11 _ (mod4 u)) where
  same u w h := by simp only [h]
  apart u w h j := by
    refine Rect.not_mem_set_of_axis _ _ (1 : Fin 2) (512 * (u % 4)) 512 rfl rfl rfl ?_
    have hj : (j (1 : Fin 2)).val < 512 := (j (1 : Fin 2)).isLt
    show 512 * (w % 4) + 1 * (j (1 : Fin 2)).val < _ ∨ _ ≤ 512 * (w % 4) + 1 * (j (1 : Fin 2)).val
    omega

/-- The four slabs of the scores are apart. -/
theorem four14 : Four (s := S4x256x512) S1x256x512.size (fun u => ![u % 4, 0, 0]) (fun u => inb14 _ (mod4 u)) where
  same u w h := by simp only [h]
  apart u w h j := by
    refine Rect.not_mem_set_of_axis _ _ (0 : Fin 3) (u % 4) 1 rfl rfl rfl ?_
    have hj : (j (0 : Fin 3)).val < 1 := (j (0 : Fin 3)).isLt
    show w % 4 + 1 * (j (0 : Fin 3)).val < _ ∨ _ ≤ w % 4 + 1 * (j (0 : Fin 3)).val
    omega

/-! ### A slab's recursion -/

/-- A slab's running maximum after `i` blocks of scores. -/
def mS (m : FVec F S1x512 .f32) (sc : Nat → FVec F S256x512 .f32) : Nat → FVec F S1x512 .f32
  | 0 => m
  | i + 1 => maxNew (mS m sc i) (sc i)

/-- A slab's accumulator after `i` blocks. -/
def aS (m : FVec F S1x512 .f32) (a : FVec F S80x512 .f32) (sc : Nat → FVec F S256x512 .f32)
    (vb : Nat → FVec F S80x256 .bf16) : Nat → FVec F S80x512 .f32
  | 0 => a
  | i + 1 => accNew (mS m sc i) (aS m a sc vb i) (sc i) (vb i)

section chains

variable (arg12 : Memref sig .tc .vmem S1x2048 .f32) (arg13 : Memref sig .tc .vmem S80x2048 .f32)
  (f12 g12 : BufTy.Contents (Elt F) arg12.view.ty) (f13 g13 : BufTy.Contents (Elt F) arg13.view.ty)
  (sc : Nat → FVec F S256x512 .f32) (vb : Nat → FVec F S80x256 .bf16)

/-- What step `u` writes to the running maxima. -/
def pay12 (u : Nat) (L : List (View.Piece (Elt F) S1x2048 .f32)) : FVec F S1x512 .f32 :=
  shapeCast S1x512 (maxNew (maxLoad arg12 f12 L u) (sc u)) shapeCasts_S1x512_S1x512

/-- What step `u` writes to the accumulators. -/
def pay13 (u : Nat) (L : List (View.Piece (Elt F) S80x2048 .f32)) : FVec F S80x512 .f32 :=
  shapeCast S80x512 (accNew (maxLoad arg12 f12 (chain12 arg12 f12 sc u) u)
    (accLoad arg13 f13 L u) (sc u) (vb u)) shapeCasts_S80x512_S80x512

/-- The running maximum a turn stores. -/
theorem pay12_eq (u : Nat) (L : List (View.Piece (Elt F) S1x2048 .f32)) :
    pay12 arg12 f12 sc u L = maxNew (maxLoad arg12 f12 L u) (sc u) := shapeCast_id _ _

/-- The accumulator a turn stores. -/
theorem pay13_eq (u : Nat) (L : List (View.Piece (Elt F) S80x2048 .f32)) : pay13 arg12 arg13 f12 f13 sc vb u L
    = accNew (maxLoad arg12 f12 (chain12 arg12 f12 sc u) u) (accLoad arg13 f13 L u) (sc u) (vb u) := shapeCast_id _ _

/-- The stores of running maxima, turn by turn. -/
theorem chain12_turns (u : Nat) : chain12 arg12 f12 sc u
    = turns (s := S1x2048) S1x512.size (fun u => ![0, 512 * (u % 4)]) (fun u => inb12 _ (mod4 u)) (pay12 arg12 f12 sc) u := rfl

/-- The stores of accumulators, turn by turn. -/
theorem chain13_turns (u : Nat) : chain13 arg12 arg13 f12 f13 sc vb u
    = turns (s := S80x2048) S80x512.size (fun u => ![0, 512 * (u % 4)]) (fun u => inb13 _ (mod4 u))
      (pay13 arg12 arg13 f12 f13 sc vb) u := rfl

/-- The maxima step `4 i + n` finds are the slab's recursion. -/
theorem maxLoad_eq (n i : Nat) (hn : n < 4) :
    maxLoad arg12 f12 (chain12 arg12 f12 sc (4 * i + n)) (4 * i + n)
      = mS (View.readAt (Elt F) arg12.view (r12 n).toLoadRect f12) (fun i => sc (4 * i + n)) i := by
  induction i with
  | zero =>
    unfold maxLoad
    rw [if_pos (by omega)]
    exact View.readAt_unit_eq_of_eq arg12.view _ (four12.same (4 * 0 + n) n (by omega)) f12
  | succ i ih =>
    unfold maxLoad
    rw [if_neg (by omega)]
    have e := turns_last (v := arg12.view) four12 (pay12 arg12 f12 sc) arg12.view.junk (4 * (i + 1) + n) (4 * i + n) 3
      (by omega) (by omega)
    rw [← chain12_turns] at e
    rw [show 4 * i + n + 1 + 3 = 4 * (i + 1) + n by omega] at e
    refine e.trans ?_
    rw [pay12_eq, ← chain12_turns, ih]
    rfl

/-- The accumulators step `4 i + n` finds are the slab's recursion. -/
theorem accLoad_eq (n i : Nat) (hn : n < 4) :
    accLoad arg13 f13 (chain13 arg12 arg13 f12 f13 sc vb (4 * i + n)) (4 * i + n)
      = aS (View.readAt (Elt F) arg12.view (r12 n).toLoadRect f12) (View.readAt (Elt F) arg13.view (r13 n).toLoadRect f13)
          (fun i => sc (4 * i + n)) (fun i => vb (4 * i + n)) i := by
  induction i with
  | zero =>
    unfold accLoad
    rw [if_pos (by omega)]
    exact View.readAt_unit_eq_of_eq arg13.view _ (four13.same (4 * 0 + n) n (by omega)) f13
  | succ i ih =>
    unfold accLoad
    rw [if_neg (by omega)]
    have e := turns_last (v := arg13.view) four13 (pay13 arg12 arg13 f12 f13 sc vb) arg13.view.junk (4 * (i + 1) + n) (4 * i + n) 3
      (by omega) (by omega)
    rw [← chain13_turns] at e
    rw [show 4 * i + n + 1 + 3 = 4 * (i + 1) + n by omega] at e
    refine e.trans ?_
    rw [pay13_eq, ← chain13_turns, ih, maxLoad_eq _ _ _ _ _ hn]
    rfl

/-- What a trip leaves in a slab of the running maxima. -/
theorem chain12_read (n : Nat) (hn : n < 4) :
    View.readAt (Elt F) arg12.view (r12 n).toLoadRect (arg12.view.writes (Elt F) g12 (chain12 arg12 f12 sc 64))
      = mS (View.readAt (Elt F) arg12.view (r12 n).toLoadRect f12) (fun i => sc (4 * i + n)) 16 := by
  have e := turns_last (v := arg12.view) four12 (pay12 arg12 f12 sc) g12 n (4 * 15 + n) (3 - n) (by omega) (by omega)
  rw [← chain12_turns, show 4 * 15 + n + 1 + (3 - n) = 64 by omega] at e
  refine e.trans ?_
  rw [pay12_eq, ← chain12_turns, maxLoad_eq _ _ _ _ _ hn]
  rfl

/-- What a trip leaves in a slab of the accumulators. -/
theorem chain13_read (n : Nat) (hn : n < 4) :
    View.readAt (Elt F) arg13.view (r13 n).toLoadRect (arg13.view.writes (Elt F) g13 (chain13 arg12 arg13 f12 f13 sc vb 64))
      = aS (View.readAt (Elt F) arg12.view (r12 n).toLoadRect f12) (View.readAt (Elt F) arg13.view (r13 n).toLoadRect f13)
          (fun i => sc (4 * i + n)) (fun i => vb (4 * i + n)) 16 := by
  have e := turns_last (v := arg13.view) four13 (pay13 arg12 arg13 f12 f13 sc vb) g13 n (4 * 15 + n) (3 - n) (by omega) (by omega)
  rw [← chain13_turns, show 4 * 15 + n + 1 + (3 - n) = 64 by omega] at e
  refine e.trans ?_
  rw [pay13_eq, ← chain13_turns, accLoad_eq _ _ _ _ _ _ _ _ hn, maxLoad_eq _ _ _ _ _ hn]
  rfl

end chains

end Cert.KernelIdeal.Trip

end
-- ==== Proof.Body.lean ====
module

public import proofs.«01_k».proof.Proof.Gen.KernelIdeal.Frame.RunA
public import proofs.«01_k».proof.Proof.Slab

/-! The kernel's body at one grid point: the queries' slabs it prepares, the two trips over the keys, the block it writes. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

variable {F : FTy → Type} [FloatOps F] [Named F]

/-! ### The queries the body prepares -/

/-- Slab `u % 4` of the prepared queries: head `u % 4` of the group, one query per column. -/
def qPay (cos sin qn : FVec F S512x256 .f32) (u : Nat) : FVec F S64x512 .bf16 :=
  match u % 4 with
  | 0 => k0_pay394 cos sin qn k0_pay390 k0_pay391 k0_pay392
  | 1 => k0_pay395 cos sin qn k0_pay390 k0_pay391 k0_pay392
  | 2 => k0_pay396 cos sin qn k0_pay390 k0_pay391 k0_pay392
  | _ => k0_pay397 cos sin qn k0_pay390 k0_pay391 k0_pay392

/-- The four stores of the prepared queries, last first. -/
def init11 (qp : Nat → FVec F S64x512 .bf16) : List (View.Piece (Elt F) S64x2048 .bf16) :=
  turns (s := S64x2048) S64x512.size (fun u => ![0, 512 * (u % 4)]) (fun u => inb11 _ (mod4 u)) (fun u _ => qp u) 4

/-- The store that empties the running maxima. -/
def init12 : List (View.Piece (Elt F) S1x2048 .f32) :=
  [⟨Rect.unit ![0, 0] ![1, 2048] inb_S1x2048_S1x2048_0_0, k0_pay398⟩]

/-- The store that empties the accumulators. -/
def init13 : List (View.Piece (Elt F) S80x2048 .f32) :=
  [⟨Rect.unit ![0, 0] ![80, 2048] inb_S80x2048_S80x2048_0_0, k0_pay400 k0_pay399⟩]

/-- The four stores of the first block's scores, last first. -/
def init14 (kb : Vec F S1x1x256x64 .bf16) (q : Nat → Vec F S64x512 .bf16) : List (View.Piece (Elt F) S4x256x512 .f32) :=
  turns (s := S4x256x512) S1x256x512.size (fun u => ![u % 4, 0, 0]) (fun u => inb14 _ (mod4 u))
    (fun u _ => shapeCast S1x256x512 (scoreOf kb (q u)) shapeCasts_S256x512_S1x256x512) 4

section body
variable (c : Dev nD) (i : grid0.Coords)
  (arg3 : Memref sig .tc .vmem S1x512x256 .bf16) (harg3 : arg3.IsWhole)
  (arg4 : Memref sig .tc .vmem S1x1x8192x64 .bf16) (harg4 : arg4.IsWhole)
  (arg5 : Memref sig .tc .vmem S1x1x2x80x4096 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S256x256 .bf16) (harg8 : arg8.IsWhole)
  (arg9 : Memref sig .tc .vmem S1x256 .f32) (harg9 : arg9.IsWhole)
  (arg10 : Memref sig .tc .vmem S1x512x256 .bf16) (harg10 : arg10.IsWhole)
  (arg11 : Memref sig .tc .vmem S64x2048 .bf16) (harg11 : arg11.IsWhole)
  (arg12 : Memref sig .tc .vmem S1x2048 .f32) (harg12 : arg12.IsWhole)
  (arg13 : Memref sig .tc .vmem S80x2048 .f32) (harg13 : arg13.IsWhole)
  (arg14 : Memref sig .tc .vmem S4x256x512 .f32) (harg14 : arg14.IsWhole)
  (x0 : Vec F S1x512x256 .bf16) (x1 : Vec F S1x1x8192x64 .bf16) (x2 : Vec F S1x1x2x80x4096 .bf16) (x3 : Vec F S512x256 .f32) (x4 : Vec F S512x256 .f32) (x5 : Vec F S256x256 .bf16) (x6 : Vec F S1x256 .f32)

/-- The prepared queries' slabs, from the blocks the body loads. -/
def qp (arg3 : Memref sig .tc .vmem S1x512x256 .bf16) (harg3 : arg3.IsWhole) (arg6 : Memref sig .tc .vmem S512x256 .f32) (harg6 : arg6.IsWhole)
    (arg7 : Memref sig .tc .vmem S512x256 .f32) (harg7 : arg7.IsWhole) (arg8 : Memref sig .tc .vmem S256x256 .bf16) (harg8 : arg8.IsWhole)
    (arg9 : Memref sig .tc .vmem S1x256 .f32) (harg9 : arg9.IsWhole)
    (x0 : Vec F S1x512x256 .bf16) (x3 : Vec F S512x256 .f32) (x4 : Vec F S512x256 .f32) (x5 : Vec F S256x256 .bf16) (x6 : Vec F S1x256 .f32) :
    Nat → FVec F S64x512 .bf16 :=
  qPay
    (k0_pay387 (View.readAt (Elt F) arg6.view (Rect.unit (s := S512x256) ![0, 0] S512x256.size inb_S512x256_S512x256_0_0).toLoadRect (harg6.unread x3)))
    (k0_pay388 (View.readAt (Elt F) arg7.view (Rect.unit (s := S512x256) ![0, 0] S512x256.size inb_S512x256_S512x256_0_0).toLoadRect (harg7.unread x4)))
    (k0_pay389 (View.readAt (Elt F) arg3.view (Rect.unit (s := S1x512x256) ![0, 0, 0] S1x512x256.size inb_S1x512x256_S1x512x256_0_0_0).toLoadRect (harg3.unread x0))
      (View.readAt (Elt F) arg8.view (Rect.unit (s := S256x256) ![0, 0] S256x256.size inb_S256x256_S256x256_0_0).toLoadRect (harg8.unread x5))
      (View.readAt (Elt F) arg9.view (Rect.unit (s := S1x256) ![0, 0] S1x256.size inb_S1x256_S1x256_0_0).toLoadRect (harg9.unread x6)))

/-- The queries' buffer when the trips begin. -/
def X11 (arg11 : Memref sig .tc .vmem S64x2048 .bf16) (qp : Nat → FVec F S64x512 .bf16) : BufTy.Contents (Elt F) arg11.view.ty :=
  arg11.view.writes (Elt F) arg11.view.junk (init11 qp)

/-- The first block's keys. -/
def kb0 (arg4 : Memref sig .tc .vmem S1x1x8192x64 .bf16) (X4 : BufTy.Contents (Elt F) arg4.view.ty) : Vec F S1x1x256x64 .bf16 :=
  View.readAt (Elt F) arg4.view (Rect.unit (s := S1x1x8192x64) ![0, 0, 0, 0] S1x1x256x64.size inb_S1x1x8192x64_S1x1x256x64_0_0_0_0).toLoadRect X4

/-- The carried scores' buffer when the trips begin. -/
def X14 (arg4 : Memref sig .tc .vmem S1x1x8192x64 .bf16) (arg11 : Memref sig .tc .vmem S64x2048 .bf16)
    (arg14 : Memref sig .tc .vmem S4x256x512 .f32) (X4 : BufTy.Contents (Elt F) arg4.view.ty) (qp : Nat → FVec F S64x512 .bf16) :
    BufTy.Contents (Elt F) arg14.view.ty :=
  arg14.view.writes (Elt F) arg14.view.junk (init14 (kb0 arg4 X4) (qLoad arg11 (X11 arg11 qp)))

set_option maxHeartbeats 4000000 in
/-- What the body leaves in its output block. -/
theorem body_eq :
    (kernelRun0_A c i arg3 harg3 arg4 harg4 arg5 harg5 arg6 harg6 arg7 harg7 arg8 harg8 arg9 harg9 arg10 harg10 arg11 harg11 arg12 harg12 arg13 harg13 arg14 harg14
      x0 x1 x2 x3 x4 x5 x6).1
    = [⟨Rect.unit ![0, 0, 0] ![1, 512, 256] inb_S1x512x256_S1x512x256_0_0_0,
        (let L := (pb_k0_t1 (F := F) Variants.none c none i arg3 harg3 arg4 harg4 arg5 harg5 arg6 harg6 arg7 harg7 arg8 harg8 arg9 harg9 arg10 harg10 arg11 harg11 arg12 harg12 arg13 harg13 arg14 harg14
              (harg4.unread x1) (harg5.unread x2) (X11 arg11 (qp arg3 harg3 arg6 harg6 arg7 harg7 arg8 harg8 arg9 harg9 x0 x3 x4 x5 x6))
              (arg12.view.writes (Elt F) arg12.view.junk init12) (arg13.view.writes (Elt F) arg13.view.junk init13)
              (X14 arg4 arg11 arg14 (harg4.unread x1) (qp arg3 harg3 arg6 harg6 arg7 harg7 arg8 harg8 arg9 harg9 x0 x3 x4 x5 x6))
              (Scf.trips k0_t1_loop.lb k0_t1_loop.ub k0_t1_loop.st)).2.1 ++ init13
         k0_pay6 (arg13.view.readCov L (Rect.unit (s := S80x2048) ![0, 0] ![64, 2048] inb_S80x2048_S64x2048_0_0).toLoadRect)
            (arg13.view.readCov L (Rect.unit (s := S80x2048) ![64, 0] ![1, 2048] inb_S80x2048_S1x2048_64_0).toLoadRect))⟩] := by
  sl_kernel_rfl

end body

end Cert.KernelIdeal.Trip

end
-- ==== Proof.Trips.lean ====
module

public import proofs.«01_k».proof.Proof.Slab
public import Idealize.ShloMosaic.Lib.Pointwise
public import Idealize.ShloMosaic.Lib.WholeRead

/-! The two trips over the keys, slab by slab: what the accumulators hold when the loop ends. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

variable {F : FTy → Type} [FloatOps F] [Named F]

/-- The number of the loop's trips. -/
theorem trips_two : Scf.trips k0_t1_loop.lb k0_t1_loop.ub k0_t1_loop.st = 2 := by decide +kernel

/-- The first trip. -/
def k₀ : Fin k0_t1_loop.trips := ⟨0, by decide +kernel⟩
/-- The second trip. -/
def k₁ : Fin k0_t1_loop.trips := ⟨1, by decide +kernel⟩

/-! ### The blocks the steps read, of the whole arrays -/

/-- Block `t` of 256 keys. -/
def kBlk (x1 : Vec F S1x1x8192x64 .bf16) (t : Nat) : Vec F S1x1x256x64 .bf16 := fun j =>
  x1 (ix4 (0 : Fin 1) (0 : Fin 1) (⟨(256 * t + (j 2).val) % 8192, Nat.mod_lt _ (by decide)⟩ : Fin 8192) (j 3 : Fin 64))

/-- Block `t` of 256 keys' values, transposed: 4096 keys lie in one piece of the array. -/
def vBlk (x2 : Vec F S1x1x2x80x4096 .bf16) (t : Nat) : FVec F S80x256 .bf16 := fun j =>
  x2 (ix5 (0 : Fin 1) (0 : Fin 1) (⟨t / 16 % 2, Nat.mod_lt _ (by decide)⟩ : Fin 2) (j 0 : Fin 80)
    (⟨(256 * t + (j 1).val) % 4096, Nat.mod_lt _ (by decide)⟩ : Fin 4096))

/-- What a load of a block of keys reads. -/
theorem kBlk_read (arg4 : Memref sig .tc .vmem S1x1x8192x64 .bf16) (harg4 : arg4.IsWhole) (x1 : Vec F S1x1x8192x64 .bf16)
    (off : Fin 4 → Nat) (inb : ∀ a, off a + S1x1x256x64.size a ≤ S1x1x8192x64.size a) (t : Nat) (ht : t < 32)
    (h : off = ![0, 0, 256 * t, 0]) :
    View.readAt (Elt F) arg4.view (Rect.unit (s := S1x1x8192x64) off S1x1x256x64.size inb).toLoadRect (harg4.unread x1)
      = kBlk x1 t := by
  subst h
  funext j
  rw [Memref.IsWhole.readAt_unread]
  unfold kBlk
  refine congrArg x1 (funext fun a => Fin.ext ?_)
  match a with
  | ⟨0, _⟩ =>
    show 0 + 1 * (j 0).val = 0
    have : (j 0).val < 1 := (j 0).isLt
    omega
  | ⟨1, _⟩ =>
    show 0 + 1 * (j 1).val = 0
    have : (j 1).val < 1 := (j 1).isLt
    omega
  | ⟨2, _⟩ =>
    show 256 * t + 1 * (j 2).val = (256 * t + (j 2).val) % 8192
    have : (j 2).val < 256 := (j 2).isLt
    omega
  | ⟨3, _⟩ =>
    show 0 + 1 * (j 3).val = (j 3).val
    omega

/-- What a load of a block of values reads, piece by piece. -/
theorem vBlk_read' (arg5 : Memref sig .tc .vmem S1x1x2x80x4096 .bf16) (harg5 : arg5.IsWhole) (x2 : Vec F S1x1x2x80x4096 .bf16)
    (off : Fin 5 → Nat) (inb : ∀ a, off a + S1x1x1x80x256.size a ≤ S1x1x2x80x4096.size a)
    (k i : Nat) (hk : k < 2) (hi : i < 16) (h : off = ![0, 0, k, 0, 256 * i]) :
    View.readAt (Elt F) arg5.view (Rect.unit (s := S1x1x2x80x4096) off S1x1x1x80x256.size inb).toLoadRect (harg5.unread x2)
      = (fun z => x2 (ix5 (0 : Fin 1) (0 : Fin 1) (⟨k, hk⟩ : Fin 2) (z 3 : Fin 80)
        (⟨256 * i + (z 4).val, by have h4 : (z 4).val < 256 := (z 4).isLt; omega⟩ : Fin 4096)) : Vec F S1x1x1x80x256 .bf16) := by
  subst h
  funext z
  rw [Memref.IsWhole.readAt_unread]
  refine congrArg x2 (funext fun a => Fin.ext ?_)
  match a with
  | ⟨0, _⟩ =>
    show 0 + 1 * (z 0).val = 0
    have : (z 0).val < 1 := (z 0).isLt
    omega
  | ⟨1, _⟩ =>
    show 0 + 1 * (z 1).val = 0
    have : (z 1).val < 1 := (z 1).isLt
    omega
  | ⟨2, _⟩ =>
    show k + 1 * (z 2).val = k
    have : (z 2).val < 1 := (z 2).isLt
    omega
  | ⟨3, _⟩ =>
    show 0 + 1 * (z 3).val = (z 3).val
    omega
  | ⟨4, _⟩ =>
    show 256 * i + 1 * (z 4).val = 256 * i + (z 4).val
    omega

/-- The loaded block without its unit axes. -/
theorem vBlk_cast (x2 : Vec F S1x1x2x80x4096 .bf16) (k i : Nat) (hk : k < 2) (hi : i < 16) :
    shapeCast S80x256 (fun z => x2 (ix5 (0 : Fin 1) (0 : Fin 1) (⟨k, hk⟩ : Fin 2) (z 3 : Fin 80)
        (⟨256 * i + (z 4).val, by have h4 : (z 4).val < 256 := (z 4).isLt; omega⟩ : Fin 4096)) : Vec F S1x1x1x80x256 .bf16)
      shapeCasts_S1x1x1x80x256_S80x256 = vBlk x2 (16 * k + i) := by
  unfold vBlk
  funext j
  idx_vars j
  pointwise
  refine congrArg x2 ?_
  idx_ext

/-- What a load of a block of values reads. -/
theorem vBlk_read (arg5 : Memref sig .tc .vmem S1x1x2x80x4096 .bf16) (harg5 : arg5.IsWhole) (x2 : Vec F S1x1x2x80x4096 .bf16)
    (k : Fin k0_t1_loop.trips) (hk : k.val < 2) (n i : Nat) (hn : n < 4) (hi : i < 16) :
    valAt arg5 (harg5.unread x2) k (4 * i + n) = vBlk x2 (16 * k.val + i) := by
  have hd : (4 * i + n) / 4 = i := by omega
  unfold valAt
  rw [vBlk_read' arg5 harg5 x2 (valOff k ((4 * i + n) / 4)) _ k.val i hk hi (by rw [hd]; exact valOff_eq k i hi)]
  exact vBlk_cast x2 k.val i hk hi

/-- A block of scores stored with a unit axis and read back. -/
theorem cast14 (v : FVec F S256x512 .f32) : shapeCast S256x512 (shapeCast S1x256x512 v shapeCasts_S256x512_S1x256x512)
    shapeCasts_S1x256x512_S256x512 = v := by
  funext j
  pointwise

/-! ### Recursions that read the same blocks agree -/

/-- The running maxima depend on the scores before them only. -/
theorem mS_congr (m : FVec F S1x512 .f32) (sc sc' : Nat → FVec F S256x512 .f32) (i : Nat) (h : ∀ j, j < i → sc j = sc' j) :
    mS m sc i = mS m sc' i := by
  induction i with
  | zero => rfl
  | succ i ih => unfold mS; rw [ih (fun j hj => h j (by omega)), h i (by omega)]

/-- The accumulators depend on the scores and values before them only. -/
theorem aS_congr (m : FVec F S1x512 .f32) (a : FVec F S80x512 .f32) (sc sc' : Nat → FVec F S256x512 .f32)
    (vb vb' : Nat → FVec F S80x256 .bf16) (i : Nat) (h : ∀ j, j < i → sc j = sc' j) (h' : ∀ j, j < i → vb j = vb' j) :
    aS m a sc vb i = aS m a sc' vb' i := by
  induction i with
  | zero => rfl
  | succ i ih =>
    unfold aS
    rw [ih (fun j hj => h j (by omega)) (fun j hj => h' j (by omega)), mS_congr m sc sc' i (fun j hj => h j (by omega)),
      h i (by omega), h' i (by omega)]

/-- The running maxima after two runs of blocks. -/
theorem mS_add (m : FVec F S1x512 .f32) (sc : Nat → FVec F S256x512 .f32) (a b : Nat) :
    mS (mS m sc a) (fun i => sc (a + i)) b = mS m sc (a + b) := by
  induction b with
  | zero => rfl
  | succ b ih => rw [mS, ih]; rfl

/-- The accumulators after two runs of blocks. -/
theorem aS_add (m : FVec F S1x512 .f32) (x : FVec F S80x512 .f32) (sc : Nat → FVec F S256x512 .f32)
    (vb : Nat → FVec F S80x256 .bf16) (a b : Nat) :
    aS (mS m sc a) (aS m x sc vb a) (fun i => sc (a + i)) (fun i => vb (a + i)) b = aS m x sc vb (a + b) := by
  induction b with
  | zero => rfl
  | succ b ih => rw [aS, ih, mS_add]; rfl

section scores

variable (arg4 : Memref sig .tc .vmem S1x1x8192x64 .bf16) (harg4 : arg4.IsWhole) (arg11 : Memref sig .tc .vmem S64x2048 .bf16)
  (arg14 : Memref sig .tc .vmem S4x256x512 .f32) (x1 : Vec F S1x1x8192x64 .bf16)
  (X11 : BufTy.Contents (Elt F) arg11.view.ty) (k : Fin k0_t1_loop.trips) (f14 g14 : BufTy.Contents (Elt F) arg14.view.ty)

/-- The slab loaded depends on its number modulo four only. -/
theorem qLoad_mod (u n : Nat) (h : u % 4 = n % 4) : qLoad arg11 X11 u = qLoad arg11 X11 n :=
  View.readAt_unit_eq_of_eq arg11.view _ (four11.same u n h) X11

/-- The scores of step `4 i + n` of trip `k`, the carried ones being those of the trip's first block. -/
theorem scoreAt_eq (hk : k.val < 2) (n i : Nat) (hn : n < 4) (hi : i < 16)
    (h14 : (shapeCast S256x512 (View.readAt (Elt F) arg14.view (r14 n).toLoadRect f14 : Vec F S1x256x512 .f32)
      shapeCasts_S1x256x512_S256x512) = scoreOf (kBlk x1 (16 * k.val)) (qLoad arg11 X11 n)) :
    scoreAt arg4 arg11 arg14 (harg4.unread x1) X11 k f14 (4 * i + n)
      = scoreOf (kBlk x1 (16 * k.val + i)) (qLoad arg11 X11 n) := by
  unfold scoreAt
  by_cases h0 : 4 * i + n < 4
  · obtain rfl : i = 0 := by omega
    rw [if_pos h0]
    rw [View.readAt_unit_eq_of_eq arg14.view _ (four14.same (4 * 0 + n) n (by omega)) f14]
    exact h14
  · rw [if_neg h0, qLoad_mod arg11 X11 (4 * i + n) n (by omega)]
    refine congrArg (fun b => scoreOf b (qLoad arg11 X11 n)) ?_
    refine kBlk_read arg4 harg4 x1 _ _ _ (by omega) ?_
    refine (k0_off1_eq k ⟨((4 * i + n) / 4 - 1) % 15, Nat.mod_lt _ (by decide)⟩).trans ?_
    have e : 4096 * k.val + 256 * (((4 * i + n) / 4 - 1) % 15) + 256 = 256 * (16 * k.val + i) := by omega
    show ![0, 0, 4096 * k.val + 256 * (((4 * i + n) / 4 - 1) % 15) + 256, 0] = _
    rw [e]

/-- What step `j` leaves for the next trip. -/
def pay14 (j : Nat) (_ : List (View.Piece (Elt F) S4x256x512 .f32)) : FVec F S1x256x512 .f32 :=
  shapeCast S1x256x512 (scoreOf (View.readAt (Elt F) arg4.view
    (Rect.unit (s := S1x1x8192x64) (k0_off18 k) S1x1x256x64.size (k0_off18_inb k)).toLoadRect (harg4.unread x1)) (qLoad arg11 X11 j))
    shapeCasts_S256x512_S1x256x512

/-- The stores of scores, turn by turn. -/
theorem chain14_turns (u : Nat) : chain14 arg4 arg11 (harg4.unread x1) X11 k u
    = turns (s := S4x256x512) S1x256x512.size (fun u => ![u % 4, 0, 0]) (fun u => inb14 _ (mod4 u))
      (pay14 arg4 harg4 arg11 x1 X11 k) u := rfl

/-- What a trip carries to the next: the scores of the next trip's first block. -/
theorem chain14_read (t : Nat) (ht : t < 32) (hoff : k0_off18 k = ![0, 0, 256 * t, 0]) (n : Nat) (hn : n < 4) :
    (shapeCast S256x512 (View.readAt (Elt F) arg14.view (r14 n).toLoadRect
        (arg14.view.writes (Elt F) g14 (chain14 arg4 arg11 (harg4.unread x1) X11 k 4)) : Vec F S1x256x512 .f32)
      shapeCasts_S1x256x512_S256x512) = scoreOf (kBlk x1 t) (qLoad arg11 X11 n) := by
  have e := turns_last (v := arg14.view) four14 (pay14 arg4 harg4 arg11 x1 X11 k) g14 n n (3 - n) rfl (by omega)
  rw [show n + 1 + (3 - n) = 4 by omega, ← chain14_turns] at e
  unfold pay14 at e
  rw [kBlk_read arg4 harg4 x1 _ _ t ht hoff] at e
  rw [e]
  exact cast14 _

end scores

section two
variable (c : Dev nD) (i : grid0.Coords)
  (arg3 : Memref sig .tc .vmem S1x512x256 .bf16) (harg3 : arg3.IsWhole)
  (arg4 : Memref sig .tc .vmem S1x1x8192x64 .bf16) (harg4 : arg4.IsWhole)
  (arg5 : Memref sig .tc .vmem S1x1x2x80x4096 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S256x256 .bf16) (harg8 : arg8.IsWhole)
  (arg9 : Memref sig .tc .vmem S1x256 .f32) (harg9 : arg9.IsWhole)
  (arg10 : Memref sig .tc .vmem S1x512x256 .bf16) (harg10 : arg10.IsWhole)
  (arg11 : Memref sig .tc .vmem S64x2048 .bf16) (harg11 : arg11.IsWhole)
  (arg12 : Memref sig .tc .vmem S1x2048 .f32) (harg12 : arg12.IsWhole)
  (arg13 : Memref sig .tc .vmem S80x2048 .f32) (harg13 : arg13.IsWhole)
  (arg14 : Memref sig .tc .vmem S4x256x512 .f32) (harg14 : arg14.IsWhole)
  (X4 : BufTy.Contents (Elt F) arg4.view.ty) (X5 : BufTy.Contents (Elt F) arg5.view.ty)
  (X11 : BufTy.Contents (Elt F) arg11.view.ty)
  (f12 : BufTy.Contents (Elt F) arg12.view.ty) (f13 : BufTy.Contents (Elt F) arg13.view.ty)
  (f14 : BufTy.Contents (Elt F) arg14.view.ty)

set_option maxHeartbeats 4000000 in
/-- The stores of both trips to the accumulators. -/
theorem two13 : (pb_k0_t1 (F := F) Variants.none c none i arg3 harg3 arg4 harg4 arg5 harg5 arg6 harg6 arg7 harg7 arg8 harg8 arg9 harg9 arg10 harg10 arg11 harg11 arg12 harg12 arg13 harg13 arg14 harg14 X4 X5 X11 f12 f13 f14
      (Scf.trips k0_t1_loop.lb k0_t1_loop.ub k0_t1_loop.st)).2.1
    = chain13 arg12 arg13
        (arg12.view.writes (Elt F) f12 (chain12 arg12 f12 (scoreAt arg4 arg11 arg14 X4 X11 k₀ f14) 64 ++ []))
        (arg13.view.writes (Elt F) f13 (chain13 arg12 arg13 f12 f13 (scoreAt arg4 arg11 arg14 X4 X11 k₀ f14) (valAt arg5 X5 k₀) 64 ++ []))
        (scoreAt arg4 arg11 arg14 X4 X11 k₁ (arg14.view.writes (Elt F) f14 (chain14 arg4 arg11 X4 X11 k₀ 4 ++ [])))
        (valAt arg5 X5 k₁) 64
      ++ (chain13 arg12 arg13 f12 f13 (scoreAt arg4 arg11 arg14 X4 X11 k₀ f14) (valAt arg5 X5 k₀) 64 ++ []) := by
  rw [← trip12 (F := F) c i arg3 harg3 arg4 harg4 arg5 harg5 arg6 harg6 arg7 harg7 arg8 harg8 arg9 harg9 arg10 harg10 arg11 harg11 arg12 harg12 arg13 harg13 arg14 harg14, ← trip13 (F := F) c i arg3 harg3 arg4 harg4 arg5 harg5 arg6 harg6 arg7 harg7 arg8 harg8 arg9 harg9 arg10 harg10 arg11 harg11 arg12 harg12 arg13 harg13 arg14 harg14, ← trip13 (F := F) c i arg3 harg3 arg4 harg4 arg5 harg5 arg6 harg6 arg7 harg7 arg8 harg8 arg9 harg9 arg10 harg10 arg11 harg11 arg12 harg12 arg13 harg13 arg14 harg14, ← trip14 (F := F) c i arg3 harg3 arg4 harg4 arg5 harg5 arg6 harg6 arg7 harg7 arg8 harg8 arg9 harg9 arg10 harg10 arg11 harg11 arg12 harg12 arg13 harg13 arg14 harg14, trips_two]
  refine (congrArg (fun z => z.2.1) (pb_k0_t1_succ (F := F) Variants.none c none i arg3 harg3 arg4 harg4 arg5 harg5 arg6 harg6 arg7 harg7 arg8 harg8 arg9 harg9 arg10 harg10 arg11 harg11 arg12 harg12 arg13 harg13 arg14 harg14 X4 X5 X11 f12 f13 f14 k₁)).trans ?_
  have h := pb_k0_t1_succ (F := F) Variants.none c none i arg3 harg3 arg4 harg4 arg5 harg5 arg6 harg6 arg7 harg7 arg8 harg8 arg9 harg9 arg10 harg10 arg11 harg11 arg12 harg12 arg13 harg13 arg14 harg14 X4 X5 X11 f12 f13 f14 k₀
  rw [show k₁.val = k₀.val + 1 from rfl, h]
  rfl

end two

section loop
variable (c : Dev nD) (i : grid0.Coords)
  (arg3 : Memref sig .tc .vmem S1x512x256 .bf16) (harg3 : arg3.IsWhole)
  (arg4 : Memref sig .tc .vmem S1x1x8192x64 .bf16) (harg4 : arg4.IsWhole)
  (arg5 : Memref sig .tc .vmem S1x1x2x80x4096 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S256x256 .bf16) (harg8 : arg8.IsWhole)
  (arg9 : Memref sig .tc .vmem S1x256 .f32) (harg9 : arg9.IsWhole)
  (arg10 : Memref sig .tc .vmem S1x512x256 .bf16) (harg10 : arg10.IsWhole)
  (arg11 : Memref sig .tc .vmem S64x2048 .bf16) (harg11 : arg11.IsWhole)
  (arg12 : Memref sig .tc .vmem S1x2048 .f32) (harg12 : arg12.IsWhole)
  (arg13 : Memref sig .tc .vmem S80x2048 .f32) (harg13 : arg13.IsWhole)
  (arg14 : Memref sig .tc .vmem S4x256x512 .f32) (harg14 : arg14.IsWhole)
  (x1 : Vec F S1x1x8192x64 .bf16) (x2 : Vec F S1x1x2x80x4096 .bf16)
  (X11 : BufTy.Contents (Elt F) arg11.view.ty)
  (f12 : BufTy.Contents (Elt F) arg12.view.ty) (f13 : BufTy.Contents (Elt F) arg13.view.ty)
  (f14 : BufTy.Contents (Elt F) arg14.view.ty) (g13 : BufTy.Contents (Elt F) arg13.view.ty)

/-- The scores of block `t` of the keys against a slab of queries. -/
def scB (x1 : Vec F S1x1x8192x64 .bf16) (q : Vec F S64x512 .bf16) (t : Nat) : FVec F S256x512 .f32 := scoreOf (kBlk x1 t) q

set_option maxHeartbeats 1000000 in
/-- What the loop leaves in a slab of the accumulators: the slab's recursion over the 32 blocks of keys. -/
theorem loop_acc (n : Nat) (hn : n < 4) (I : List (View.Piece (Elt F) S80x2048 .f32))
    (h14 : (shapeCast S256x512 (View.readAt (Elt F) arg14.view (r14 n).toLoadRect f14 : Vec F S1x256x512 .f32)
      shapeCasts_S1x256x512_S256x512) = scB x1 (qLoad arg11 X11 n) 0) :
    View.readAt (Elt F) arg13.view (r13 n).toLoadRect (arg13.view.writes (Elt F) g13
      ((pb_k0_t1 (F := F) Variants.none c none i arg3 harg3 arg4 harg4 arg5 harg5 arg6 harg6 arg7 harg7 arg8 harg8 arg9 harg9 arg10 harg10 arg11 harg11 arg12 harg12 arg13 harg13 arg14 harg14 (harg4.unread x1) (harg5.unread x2) X11 f12 f13 f14
      (Scf.trips k0_t1_loop.lb k0_t1_loop.ub k0_t1_loop.st)).2.1 ++ I))
    = aS (View.readAt (Elt F) arg12.view (r12 n).toLoadRect f12) (View.readAt (Elt F) arg13.view (r13 n).toLoadRect f13)
        (scB x1 (qLoad arg11 X11 n)) (vBlk x2) 32 := by
  have s0 : ∀ j, j < 16 → scoreAt arg4 arg11 arg14 (harg4.unread x1) X11 k₀ f14 (4 * j + n) = scB x1 (qLoad arg11 X11 n) j := by
    intro j hj
    have := scoreAt_eq arg4 harg4 arg11 arg14 x1 X11 k₀ f14 (by decide +kernel) n j hn hj h14
    rw [this]; unfold scB; rw [show 16 * k₀.val + j = j by show 16 * 0 + j = j; omega]
  have s1 : ∀ j, j < 16 → scoreAt arg4 arg11 arg14 (harg4.unread x1) X11 k₁
      (arg14.view.writes (Elt F) f14 (chain14 arg4 arg11 (harg4.unread x1) X11 k₀ 4 ++ [])) (4 * j + n)
      = scB x1 (qLoad arg11 X11 n) (16 + j) := by
    intro j hj
    rw [List.append_nil]
    exact scoreAt_eq arg4 harg4 arg11 arg14 x1 X11 k₁ _ (by decide +kernel) n j hn hj
      (chain14_read arg4 harg4 arg11 arg14 x1 X11 k₀ f14 16 (by decide) (by decide +kernel) n hn)
  have v0 : ∀ j, j < 16 → valAt arg5 (harg5.unread x2) k₀ (4 * j + n) = vBlk x2 j := by
    intro j hj
    rw [vBlk_read arg5 harg5 x2 k₀ (by decide +kernel) n j hn hj, show 16 * k₀.val + j = j by show 16 * 0 + j = j; omega]
  have v1 : ∀ j, j < 16 → valAt arg5 (harg5.unread x2) k₁ (4 * j + n) = vBlk x2 (16 + j) := by
    intro j hj
    exact vBlk_read arg5 harg5 x2 k₁ (by decide +kernel) n j hn hj
  rw [two13, List.append_assoc, View.writes_append, chain13_read _ _ _ _ _ _ _ n hn, List.append_nil, List.append_nil,
    chain12_read _ _ _ _ n hn, chain13_read _ _ _ _ _ _ _ n hn]
  rw [aS_congr _ _ _ _ _ _ 16 s1 v1, aS_congr _ _ _ _ _ _ 16 s0 v0, mS_congr _ _ _ 16 s0]
  exact aS_add _ _ _ _ 16 16

end loop

end Cert.KernelIdeal.Trip

end
-- ==== Proof.BodyValue.lean ====
module

public import proofs.«01_k».proof.Proof.Body
public import proofs.«01_k».proof.Proof.Trips
public import proofs.«01_k».proof.Proof.Gen.KernelIdeal.Frame
public import Idealize.ShloMosaic.Lib.VecWindow

/-! The block the body writes, from the blocks it reads: each head's accumulator after 32 blocks of keys, over its own
    row of sums, transposed. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

variable {F : FTy → Type} [FloatOps F] [Named F]

/-- A slab of queries loaded after the four stores is the slab stored. -/
theorem qLoad_init (arg11 : Memref sig .tc .vmem S64x2048 .bf16) (qs : Nat → FVec F S64x512 .bf16) (n : Nat) (hn : n < 4) :
    qLoad arg11 (X11 arg11 qs) n = qs n := by
  have e := turns_last (v := arg11.view) four11 (fun u (_ : List (View.Piece (Elt F) S64x2048 .bf16)) => qs u) arg11.view.junk
    n n (3 - n) rfl (by omega)
  rw [show n + 1 + (3 - n) = 4 by omega] at e
  exact e

/-- The first block of keys the body loads. -/
theorem kb0_eq (arg4 : Memref sig .tc .vmem S1x1x8192x64 .bf16) (harg4 : arg4.IsWhole) (x1 : Vec F S1x1x8192x64 .bf16) :
    kb0 arg4 (harg4.unread x1) = kBlk x1 0 :=
  kBlk_read arg4 harg4 x1 _ _ 0 (by decide) rfl

/-- Before the loop the pipelined scores are those of the first block. -/
theorem carried_init (arg4 : Memref sig .tc .vmem S1x1x8192x64 .bf16) (harg4 : arg4.IsWhole) (arg11 : Memref sig .tc .vmem S64x2048 .bf16)
    (arg14 : Memref sig .tc .vmem S4x256x512 .f32) (x1 : Vec F S1x1x8192x64 .bf16) (qs : Nat → FVec F S64x512 .bf16)
    (n : Nat) (hn : n < 4) :
    (shapeCast S256x512 (View.readAt (Elt F) arg14.view (r14 n).toLoadRect (X14 arg4 arg11 arg14 (harg4.unread x1) qs) : Vec F S1x256x512 .f32)
      shapeCasts_S1x256x512_S256x512) = scB x1 (qLoad arg11 (X11 arg11 qs) n) 0 := by
  have e := turns_last (v := arg14.view) four14 (fun u (_ : List (View.Piece (Elt F) S4x256x512 .f32)) =>
    (shapeCast S1x256x512 (scoreOf (kb0 arg4 (harg4.unread x1)) (qLoad arg11 (X11 arg11 qs) u)) shapeCasts_S256x512_S1x256x512 : Vec F S1x256x512 .f32))
    arg14.view.junk n n (3 - n) rfl (by omega)
  rw [show n + 1 + (3 - n) = 4 by omega, kb0_eq] at e
  have e' : (View.readAt (Elt F) arg14.view (r14 n).toLoadRect (X14 arg4 arg11 arg14 (harg4.unread x1) qs) : Vec F S1x256x512 .f32)
      = shapeCast S1x256x512 (scoreOf (kBlk x1 0) (qLoad arg11 (X11 arg11 qs) n)) shapeCasts_S256x512_S1x256x512 := by
    unfold X14 init14
    rw [kb0_eq]
    exact e
  rw [e']
  exact cast14 _

/-- Before the loop the running maxima are empty. -/
theorem max_init (arg12 : Memref sig .tc .vmem S1x2048 .f32) (n : Nat) (hn : n < 4) :
    (View.readAt (Elt F) arg12.view (r12 n).toLoadRect (arg12.view.writes (Elt F) arg12.view.junk init12) : FVec F S1x512 .f32)
      = fun _ => Scalar.ofBits .f32 0xFF800000#32 := by
  funext j
  refine (View.read_writes_cons_hit_of_coords arg12.view _ _ _ _ ((r12 n).toLoadRect.idx j) _ (fun a => ?_)).trans ?_
  · match a with
    | ⟨0, _⟩ => show _ = 0 + 1 * _; omega
    | ⟨1, _⟩ => show _ = 0 + 1 * _; omega
  · generalize (r12 n).toLoadRect.idx j = y
    pointwise [k0_pay398]

/-- Before the loop the accumulators are zero. -/
theorem acc_init (arg13 : Memref sig .tc .vmem S80x2048 .f32) (n : Nat) (hn : n < 4) :
    (View.readAt (Elt F) arg13.view (r13 n).toLoadRect (arg13.view.writes (Elt F) arg13.view.junk init13) : FVec F S80x512 .f32)
      = fun _ => Scalar.ofBits .f32 0x00000000#32 := by
  funext j
  refine (View.read_writes_cons_hit_of_coords arg13.view _ _ _ _ ((r13 n).toLoadRect.idx j) _ (fun a => ?_)).trans ?_
  · match a with
    | ⟨0, _⟩ => show _ = 0 + 1 * _; omega
    | ⟨1, _⟩ => show _ = 0 + 1 * _; omega
  · generalize (r13 n).toLoadRect.idx j = y
    pointwise [k0_pay400, k0_pay399]

/-- A slab's accumulator after all the keys. -/
def accF (x1 : Vec F S1x1x8192x64 .bf16) (x2 : Vec F S1x1x2x80x4096 .bf16) (q : FVec F S64x512 .bf16) : FVec F S80x512 .f32 :=
  aS (fun _ => Scalar.ofBits .f32 0xFF800000#32) (fun _ => Scalar.ofBits .f32 0x00000000#32) (scB x1 q) (vBlk x2) 32

/-- The heads' accumulators side by side: the rows that hold weighted values. -/
def topV (x1 : Vec F S1x1x8192x64 .bf16) (x2 : Vec F S1x1x2x80x4096 .bf16) (qs : Nat → FVec F S64x512 .bf16) : Vec F S64x2048 .f32 :=
  fun j => accF x1 x2 (qs ((j 1).val / 512)) (ix2 (⟨(j 0).val, Nat.lt_of_lt_of_le (show (j 0).val < 64 from (j 0).isLt) (by decide)⟩ : Fin 80)
    (⟨(j 1).val % 512, Nat.mod_lt _ (by decide)⟩ : Fin 512))

/-- The heads' accumulators side by side: the row of sums. -/
def rowV (x1 : Vec F S1x1x8192x64 .bf16) (x2 : Vec F S1x1x2x80x4096 .bf16) (qs : Nat → FVec F S64x512 .bf16) : Vec F S1x2048 .f32 :=
  fun j => accF x1 x2 (qs ((j 1).val / 512)) (ix2 (⟨64, by decide⟩ : Fin 80) (⟨(j 1).val % 512, Nat.mod_lt _ (by decide)⟩ : Fin 512))

/-- The prepared queries' slabs, from the blocks. -/
def qV (x0 : Vec F S1x512x256 .bf16) (x3 : Vec F S512x256 .f32) (x4 : Vec F S512x256 .f32) (x5 : Vec F S256x256 .bf16) (x6 : Vec F S1x256 .f32) :
    Nat → FVec F S64x512 .bf16 :=
  qPay (k0_pay387 x3) (k0_pay388 x4) (k0_pay389 x0 x5 x6)

section body
variable (c : Dev nD) (i : grid0.Coords)
  (arg3 : Memref sig .tc .vmem S1x512x256 .bf16) (harg3 : arg3.IsWhole)
  (arg4 : Memref sig .tc .vmem S1x1x8192x64 .bf16) (harg4 : arg4.IsWhole)
  (arg5 : Memref sig .tc .vmem S1x1x2x80x4096 .bf16) (harg5 : arg5.IsWhole)
  (arg6 : Memref sig .tc .vmem S512x256 .f32) (harg6 : arg6.IsWhole)
  (arg7 : Memref sig .tc .vmem S512x256 .f32) (harg7 : arg7.IsWhole)
  (arg8 : Memref sig .tc .vmem S256x256 .bf16) (harg8 : arg8.IsWhole)
  (arg9 : Memref sig .tc .vmem S1x256 .f32) (harg9 : arg9.IsWhole)
  (arg10 : Memref sig .tc .vmem S1x512x256 .bf16) (harg10 : arg10.IsWhole)
  (arg11 : Memref sig .tc .vmem S64x2048 .bf16) (harg11 : arg11.IsWhole)
  (arg12 : Memref sig .tc .vmem S1x2048 .f32) (harg12 : arg12.IsWhole)
  (arg13 : Memref sig .tc .vmem S80x2048 .f32) (harg13 : arg13.IsWhole)
  (arg14 : Memref sig .tc .vmem S4x256x512 .f32) (harg14 : arg14.IsWhole)
  (x0 : Vec F S1x512x256 .bf16) (x1 : Vec F S1x1x8192x64 .bf16) (x2 : Vec F S1x1x2x80x4096 .bf16) (x3 : Vec F S512x256 .f32) (x4 : Vec F S512x256 .f32) (x5 : Vec F S256x256 .bf16) (x6 : Vec F S1x256 .f32)

/-- The queries the body stores are the blocks' prepared queries. -/
theorem qp_eq : qp arg3 harg3 arg6 harg6 arg7 harg7 arg8 harg8 arg9 harg9 x0 x3 x4 x5 x6 = qV x0 x3 x4 x5 x6 := by
  have e3 : View.readAt (Elt F) arg3.view (Rect.unit (s := S1x512x256) ![0, 0, 0] S1x512x256.size inb_S1x512x256_S1x512x256_0_0_0).toLoadRect (harg3.unread x0) = x0 :=
    (View.readAt_full arg3.view _ _).trans (harg3.read_unread x0)
  have e6 : View.readAt (Elt F) arg6.view (Rect.unit (s := S512x256) ![0, 0] S512x256.size inb_S512x256_S512x256_0_0).toLoadRect (harg6.unread x3) = x3 :=
    (View.readAt_full arg6.view _ _).trans (harg6.read_unread x3)
  have e7 : View.readAt (Elt F) arg7.view (Rect.unit (s := S512x256) ![0, 0] S512x256.size inb_S512x256_S512x256_0_0).toLoadRect (harg7.unread x4) = x4 :=
    (View.readAt_full arg7.view _ _).trans (harg7.read_unread x4)
  have e8 : View.readAt (Elt F) arg8.view (Rect.unit (s := S256x256) ![0, 0] S256x256.size inb_S256x256_S256x256_0_0).toLoadRect (harg8.unread x5) = x5 :=
    (View.readAt_full arg8.view _ _).trans (harg8.read_unread x5)
  have e9 : View.readAt (Elt F) arg9.view (Rect.unit (s := S1x256) ![0, 0] S1x256.size inb_S1x256_S1x256_0_0).toLoadRect (harg9.unread x6) = x6 :=
    (View.readAt_full arg9.view _ _).trans (harg9.read_unread x6)
  unfold qp qV
  rw [e3, e6, e7, e8, e9]

/-- One element of the accumulators when the loop ends. -/
theorem acc_at (qs : Nat → FVec F S64x512 .bf16) (n : Nat) (hn : n < 4) (j : S80x512.Idx) :
    arg13.view.read (Elt F) (arg13.view.writes (Elt F) arg13.view.junk
      ((pb_k0_t1 (F := F) Variants.none c none i arg3 harg3 arg4 harg4 arg5 harg5 arg6 harg6 arg7 harg7 arg8 harg8 arg9 harg9 arg10 harg10 arg11 harg11 arg12 harg12 arg13 harg13 arg14 harg14 (harg4.unread x1) (harg5.unread x2) (X11 arg11 qs)
        (arg12.view.writes (Elt F) arg12.view.junk init12) (arg13.view.writes (Elt F) arg13.view.junk init13)
        (X14 arg4 arg11 arg14 (harg4.unread x1) qs)
      (Scf.trips k0_t1_loop.lb k0_t1_loop.ub k0_t1_loop.st)).2.1 ++ init13)) ((r13 n).toLoadRect.idx j)
    = accF x1 x2 (qs n) j := by
  have e := loop_acc (F := F) c i arg3 harg3 arg4 harg4 arg5 harg5 arg6 harg6 arg7 harg7 arg8 harg8 arg9 harg9 arg10 harg10 arg11 harg11 arg12 harg12 arg13 harg13 arg14 harg14 x1 x2 (X11 arg11 qs)
    (arg12.view.writes (Elt F) arg12.view.junk init12) (arg13.view.writes (Elt F) arg13.view.junk init13)
    (X14 arg4 arg11 arg14 (harg4.unread x1) qs) arg13.view.junk n hn init13 (carried_init arg4 harg4 arg11 arg14 x1 qs n hn)
  rw [max_init arg12 n hn, acc_init arg13 n hn, qLoad_init arg11 qs n hn] at e
  exact congrFun e j

/-- The block the body writes. -/
theorem out_eq : out0_A_7 c i arg3 harg3 arg4 harg4 arg5 harg5 arg6 harg6 arg7 harg7 arg8 harg8 arg9 harg9 arg10 harg10 arg11 harg11 arg12 harg12 arg13 harg13 arg14 harg14 x0 x1 x2 x3 x4 x5 x6
    = k0_pay6 (topV x1 x2 (qV x0 x3 x4 x5 x6)) (rowV x1 x2 (qV x0 x3 x4 x5 x6)) := by
  unfold out0_A_7
  rw [body_eq, qp_eq]
  refine (View.read_writes_full VO0_7 _ _ _ _).trans ?_
  dsimp only
  refine congrArg₂ k0_pay6 ?_ ?_
  · funext j
    have h1 : (j 1).val < 2048 := (j 1).isLt
    change arg13.view.read (Elt F) _ (LoadRect.idx _ j) = _
    refine Eq.trans (congrArg _ ?_) (acc_at c i arg3 harg3 arg4 harg4 arg5 harg5 arg6 harg6 arg7 harg7 arg8 harg8 arg9 harg9 arg10 harg10 arg11 harg11 arg12 harg12 arg13 harg13 arg14 harg14 x1 x2 (qV x0 x3 x4 x5 x6) ((j 1).val / 512) (by omega) _)
    funext a
    refine Fin.ext ?_
    match a with
    | ⟨0, _⟩ => show 0 + 1 * (j 0).val = 0 + 1 * (j 0).val; rfl
    | ⟨1, _⟩ => show 0 + 1 * (j 1).val = 512 * ((j 1).val / 512 % 4) + 1 * ((j 1).val % 512); omega
  · funext j
    have h0 : (j 0).val < 1 := (j 0).isLt
    have h1 : (j 1).val < 2048 := (j 1).isLt
    change arg13.view.read (Elt F) _ (LoadRect.idx _ j) = _
    refine Eq.trans (congrArg _ ?_) (acc_at c i arg3 harg3 arg4 harg4 arg5 harg5 arg6 harg6 arg7 harg7 arg8 harg8 arg9 harg9 arg10 harg10 arg11 harg11 arg12 harg12 arg13 harg13 arg14 harg14 x1 x2 (qV x0 x3 x4 x5 x6) ((j 1).val / 512) (by omega) _)
    funext a
    refine Fin.ext ?_
    match a with
    | ⟨0, _⟩ => show 64 + 1 * (j 0).val = 0 + 1 * 64; omega
    | ⟨1, _⟩ => show 0 + 1 * (j 1).val = 512 * ((j 1).val / 512 % 4) + 1 * ((j 1).val % 512); omega

end body

end Cert.KernelIdeal.Trip

end
-- ==== Proof.Soft.lean ====
module

public import proofs.«01_k».proof.Proof.BodyValue
public import Idealize.ShloMosaic.Lib.Pointwise

/-! The streaming softmax over the extended reals: when the scores are real numbers, the accumulators after all the
blocks of keys are sums of values weighted by powers of two, and their quotient is the softmax-weighted sum. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

/-! ### Extended reals -/

/-- A real factor that is not negative distributes over any sum of extended reals. -/
theorem mul_sum_coe {ι : Type} (S : Finset ι) (f : ι → EReal) (c : ℝ) (hc : 0 ≤ c) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A finite sum of real numbers, read as extended reals. -/
theorem sum_coe {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- The word of minus infinity. -/
theorem bits_bot : Ideal.ofBits .f32 0xFF800000#32 = ⊥ := by
  simp [Ideal.ofBits, Ideal.ieee]

/-- The short word of minus infinity. -/
theorem bits_bot16 : Ideal.ofBits .bf16 0xFF80#16 = ⊥ := by
  simp [Ideal.ofBits, Ideal.ieee]

/-- The word of infinity. -/
theorem bits_top : Ideal.ofBits .f32 0x7F800000#32 = ⊤ := by
  simp [Ideal.ofBits, Ideal.ieee]

/-- The short word of infinity. -/
theorem bits_top16 : Ideal.ofBits .bf16 0x7F80#16 = ⊤ := by
  simp [Ideal.ofBits, Ideal.ieee]

/-- The word of zero. -/
theorem bits_zero : Ideal.ofBits .f32 0x00000000#32 = 0 := by
  simp [Ideal.ofBits, Ideal.ieee]

/-- The largest of a bound that is not `⊤` and finitely many real numbers is `⊥` only where both are missing. -/
theorem fold_max_real {ι : Type} (b : EReal) (hb : b ≠ ⊤) (S : Finset ι) (f : ι → ℝ) :
    Finset.fold max b (fun k => ((f k : ℝ) : EReal)) S ≠ ⊤ ∧ ∀ i ∈ S, ((f i : ℝ) : EReal) ≤ Finset.fold max b (fun k => ((f k : ℝ) : EReal)) S := by
  classical
  induction S using Finset.induction_on with
  | empty => exact ⟨by simpa using hb, by simp⟩
  | insert a S ha ih =>
    rw [Finset.fold_insert ha]
    refine ⟨?_, fun i hi => ?_⟩
    · rcases max_choice ((f a : ℝ) : EReal) (Finset.fold max b (fun k => ((f k : ℝ) : EReal)) S) with h | h <;> rw [h]
      · exact EReal.coe_ne_top _
      · exact ih.1
    · rcases Finset.mem_insert.mp hi with rfl | hi
      · exact le_max_left _ _
      · exact (ih.2 i hi).trans (le_max_right _ _)

/-- The largest of a bound below `⊤` and a nonempty family of reals is real. -/
theorem max_fold_real {ι : Type} (a b : EReal) (ha : a ≠ ⊤) (hb : b ≠ ⊤) (S : Finset ι) (f : ι → ℝ) (i : ι) (hi : i ∈ S) :
    ∃ M : ℝ, max a (Finset.fold max b (fun k => ((f k : ℝ) : EReal)) S) = (M : EReal) := by
  obtain ⟨h1, h2⟩ := fold_max_real b hb S f
  have ht : max a (Finset.fold max b (fun k => ((f k : ℝ) : EReal)) S) ≠ ⊤ := by
    rcases max_choice a (Finset.fold max b (fun k => ((f k : ℝ) : EReal)) S) with h | h <;> rw [h] <;> assumption
  have hbt : max a (Finset.fold max b (fun k => ((f k : ℝ) : EReal)) S) ≠ ⊥ := by
    intro e
    have := ((h2 i hi).trans (le_max_right a _))
    rw [e] at this
    exact EReal.coe_ne_bot _ (le_bot_iff.mp this)
  exact ⟨_, (EReal.coe_toReal ht hbt).symm⟩

/-! ### The two recursions at one column -/

/-- The new running maximum of a column. -/
theorem maxNew_at (m : FVec Ideal S1x512 .f32) (s : FVec Ideal S256x512 .f32) (c : Fin 512) :
    maxNew m s (ix2 0 c) = max (m (ix2 0 c)) (Finset.fold max (⊥ : EReal) (fun x => s (ix2 x c)) Finset.univ) := by
  rw [← bits_bot16]
  pointwise [maxNew]

/-- The new accumulator of a column. -/
theorem accNew_at (m : FVec Ideal S1x512 .f32) (a : FVec Ideal S80x512 .f32) (s : FVec Ideal S256x512 .f32) (vb : FVec Ideal S80x256 .bf16)
    (x : Fin 80) (c : Fin 512) : accNew m a s vb (ix2 x c) = (Ideal.exp2 (m (ix2 0 c) - maxNew m s (ix2 0 c)) * a (ix2 x c)
      + ∑ k, vb (ix2 x k) * Ideal.exp2 (s (ix2 k c) - maxNew m s (ix2 0 c)) : EReal) := by
  pointwise [accNew]
  rfl

/-- A power of two of a difference of reals. -/
theorem exp2_sub (a b : ℝ) : Ideal.exp2 ((a : EReal) - (b : EReal)) = (((2 : ℝ) ^ (a - b) : ℝ) : EReal) := by
  rw [← EReal.coe_sub]; rfl

/-- The accumulators of a column whose scores are real: after some blocks the running maximum is a real number, and every
row holds its values weighted by the powers of two of the scores above that maximum. -/
theorem acc_closed (sc : Nat → FVec Ideal S256x512 .f32) (vb : Nat → FVec Ideal S80x256 .bf16) (c : Fin 512) (r : Nat → Fin 256 → ℝ)
    (hr : ∀ t k, sc t (ix2 k c) = ((r t k : ℝ) : EReal)) (i : Nat) :
    ∃ M : ℝ, mS (fun _ => Scalar.ofBits .f32 0xFF800000#32) sc (i + 1) (ix2 0 c) = (M : EReal)
      ∧ ∀ x, aS (fun _ => Scalar.ofBits .f32 0xFF800000#32) (fun _ => Scalar.ofBits .f32 0x00000000#32) sc vb (i + 1) (ix2 x c)
        = (∑ t ∈ Finset.range (i + 1), ∑ k, vb t (ix2 x k) * (((2 : ℝ) ^ (r t k - M) : ℝ) : EReal) : EReal) := by
  have key : ∀ (m : FVec Ideal S1x512 .f32) (t : Nat), m (ix2 0 c) ≠ (⊤ : EReal) → ∃ M : ℝ, maxNew m (sc t) (ix2 0 c) = (M : EReal) := by
    intro m t hm
    obtain ⟨M, h⟩ := max_fold_real (m (ix2 0 c)) ⊥ hm (by decide) Finset.univ (r t) 0 (Finset.mem_univ _)
    exact ⟨M, (maxNew_at m (sc t) c).trans (by simp only [hr]; exact h)⟩
  induction i with
  | zero =>
    have h0 : (Scalar.ofBits .f32 0xFF800000#32 : Ideal .f32) = (⊥ : EReal) := bits_bot
    have h1 : (Scalar.ofBits .f32 0x00000000#32 : Ideal .f32) = (0 : EReal) := bits_zero
    obtain ⟨M, hM⟩ := key (fun _ => Scalar.ofBits .f32 0xFF800000#32) 0 (by rw [h0]; decide)
    refine ⟨M, hM, fun x => ?_⟩
    refine (accNew_at _ _ _ _ x c).trans ?_
    simp only [mS, aS]
    rw [hM]
    have h2 : (Ideal.exp2 ((Scalar.ofBits .f32 0xFF800000#32 : Ideal .f32) - (M : EReal)) : EReal) = 0 := by
      rw [h0]; show Ideal.exp2 ((⊥ : EReal) - (M : EReal)) = 0; rw [EReal.bot_sub]; rfl
    refine (congrArg₂ (fun a b : EReal => a + b) (show _ = (0 : EReal) from ?_) ?_).trans (zero_add _)
    · rw [h2]; exact zero_mul _
    · rw [Finset.sum_range_one]
      exact Finset.sum_congr rfl fun k _ => by rw [hr, exp2_sub]
  | succ i ih =>
    obtain ⟨M, hM, hA⟩ := ih
    obtain ⟨M', hM'⟩ := key (mS (fun _ => Scalar.ofBits .f32 0xFF800000#32) sc (i + 1)) (i + 1) (by rw [hM]; exact EReal.coe_ne_top _)
    refine ⟨M', hM', fun x => ?_⟩
    refine (accNew_at _ _ _ _ x c).trans ?_
    rw [hM', hM, hA x, exp2_sub, Finset.sum_range_succ _ (i + 1)]
    refine congrArg₂ (fun a b : EReal => a + b) ?_ (Finset.sum_congr rfl fun k _ => by rw [hr, exp2_sub])
    have hp : (0 : ℝ) ≤ (2 : ℝ) ^ (M - M') := Real.rpow_nonneg (by norm_num) _
    rw [mul_sum_coe _ _ _ hp]
    refine Finset.sum_congr rfl fun t _ => ?_
    rw [mul_sum_coe _ _ _ hp]
    refine Finset.sum_congr rfl fun k _ => ?_
    rw [mul_left_comm, ← EReal.coe_mul, ← Real.rpow_add (by norm_num : (0 : ℝ) < 2)]
    exact congrArg (fun e : ℝ => vb t (ix2 x k) * (((2 : ℝ) ^ e : ℝ) : EReal)) (by ring)

/-! ### The quotient -/

/-- Weighted sums over the sum of the weights do not depend on what was subtracted from the exponents, nor on the base. -/
theorem quotient {N : Type} [Fintype N] [Nonempty N] (r s : N → ℝ) (hrs : ∀ n, s n = r n * Real.log 2) (V : N → EReal) (M M' : ℝ) :
    (∑ n, V n * (((2 : ℝ) ^ (r n - M) : ℝ) : EReal)) * Ideal.div 1 (∑ n, (1 : EReal) * (((2 : ℝ) ^ (r n - M) : ℝ) : EReal))
      = ∑ n, V n * Ideal.div (Ideal.exp ((s n : EReal) - (M' : EReal))) (∑ n, Ideal.exp ((s n : EReal) - (M' : EReal))) := by
  have e1 : ∀ n, (2 : ℝ) ^ (r n - M) = Real.exp (s n) * Real.exp (-(M * Real.log 2)) := fun n => by
    rw [← Real.exp_add, Real.rpow_def_of_pos (by norm_num), hrs]; congr 1; ring
  have e2 : ∀ n, Ideal.exp ((s n : EReal) - (M' : EReal)) = ((Real.exp (s n) * Real.exp (-M') : ℝ) : EReal) := fun n => by
    rw [← EReal.coe_sub, Ideal.exp_coe, ← Real.exp_add]; rfl
  have hE : 0 < ∑ n, Real.exp (s n) := Finset.sum_pos (fun n _ => Real.exp_pos _) Finset.univ_nonempty
  have hL : ∑ n, Real.exp (s n) * Real.exp (-(M * Real.log 2)) ≠ 0 := by
    rw [← Finset.sum_mul]; exact (mul_pos hE (Real.exp_pos _)).ne'
  have hL' : ∑ n, Real.exp (s n) * Real.exp (-M') ≠ 0 := by
    rw [← Finset.sum_mul]; exact (mul_pos hE (Real.exp_pos _)).ne'
  simp only [e1, e2, one_mul, sum_coe, Ideal.div_coe hL, Ideal.div_coe hL']
  have hc : (0 : ℝ) ≤ 1 / ∑ n, Real.exp (s n) * Real.exp (-(M * Real.log 2)) :=
    div_nonneg zero_le_one (Finset.sum_nonneg fun n _ => (mul_pos (Real.exp_pos _) (Real.exp_pos _)).le)
  rw [mul_comm, mul_sum_coe _ _ _ hc]
  refine Finset.sum_congr rfl fun n _ => ?_
  rw [mul_left_comm, ← EReal.coe_mul, ← EReal.coe_mul]
  congr 2
  rw [← Finset.sum_mul, ← Finset.sum_mul]
  have := (Real.exp_pos (-(M * Real.log 2))).ne'
  have := (Real.exp_pos (-M')).ne'
  field_simp

end Cert.KernelIdeal.Trip

end
-- ==== Proof.Pays.lean ====
module

public import proofs.«01_k».proof.Proof.BodyValue
public import proofs.«01_k».proof.Proof.Soft
public import Idealize.ShloMosaic.Lib.Pointwise

/-! The body's payloads read at one index. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

/-- A score is the sum of the products of a key and a prepared query. -/
theorem score_at (kb : Vec Ideal S1x1x256x64 .bf16) (q : Vec Ideal S64x512 .bf16) (n : Fin 256) (c : Fin 512) :
    ((show FVec Ideal S256x512 .f32 from scoreOf (F := Ideal) kb q) (ix2 n c) : EReal) = ∑ x, kb (ix4 0 0 n x) * q (ix2 x c) := by
  pointwise [scoreOf]

/-- The output: each head's rows of weighted values over its row of sums, heads side by side. -/
theorem pay6_at (a : Vec Ideal S64x2048 .f32) (r : Vec Ideal S1x2048 .f32) (s : Fin 512) (l : Fin 256) :
    ((show FVec Ideal S1x512x256 .bf16 from k0_pay6 (F := Ideal) a r) (ix3 0 s l) : EReal)
      = a (ix2 ⟨l.val % 64, by omega⟩ ⟨512 * (l.val / 64) + s.val, by omega⟩) * Ideal.div 1 (r (ix2 0 ⟨512 * (l.val / 64) + s.val, by omega⟩)) := by
  have key : ∀ (d e : Fin 64) (c f : Fin 2048), d = e → c = f →
      ((a (ix2 d c) : EReal) * Ideal.div 1 (r (ix2 0 c)) : EReal) = a (ix2 e f) * Ideal.div 1 (r (ix2 0 f)) := fun d e c f h1 h2 => by
    rw [h1, h2]
  pointwise [k0_pay6]
  split
  · exact key _ _ _ _ (Fin.ext (by simp only; omega)) (Fin.ext (by simp only; omega))
  · split
    · exact key _ _ _ _ (Fin.ext (by simp only; omega)) (Fin.ext (by simp only; omega))
    · split
      · exact key _ _ _ _ (Fin.ext (by simp only; omega)) (Fin.ext (by simp only; omega))
      · exact key _ _ _ _ (Fin.ext (by simp only; omega)) (Fin.ext (by simp only; omega))

/-- The lanes whose partner lies 32 lanes above. -/
theorem mask_at (l : Fin 256) : (IntOp.cmpi CmpIPredicate.slt
              (Scalar.select
                (IntOp.andi
                  (IntOp.xori
                    (IntOp.cmpi CmpIPredicate.slt
                      (IntOp.remsi ArithUnit.vector (BitVec.ofNat 32 l.val)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 l.val)
                      (Scalar.select (Scalar.cmpi CmpIPredicate.eq 64#32 0#32) 1#32 64#32))
                    0#32))
                (IntOp.addi
                  (IntOp.remsi ArithUnit.vector (BitVec.ofNat 32 l.val)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 l.val)
                  (Scalar.select (Scalar.cmpi CmpIPredicate.eq 64#32 0#32) 1#32 64#32)))
              32#32) = if l.val % 64 < 32 then 1#1 else 0#1 := by
  revert l
  decide +kernel

/-- The factor of the rotated queries. -/
theorem scale_coe : (Named.named κ "scale_log2e" 1043900987#32 : Ideal .f32) = (((1 / 8) * (Real.log 2)⁻¹ : ℝ) : EReal) := rfl

/-- The rotation of a query: the lane and its partner, turned by the tables, times the factor. -/
theorem rope_at (cos sin qn : FVec Ideal S512x256 .f32) (s : Fin 512) (l : Fin 256) :
    (k0_pay393 cos sin qn k0_pay390 k0_pay391 k0_pay392 (ix2 l s) : EReal)
      = (qn (ix2 s l) * cos (ix2 s l) + (if h : l.val % 64 < 32 then qn (ix2 s ⟨l.val + 32, by omega⟩) else qn (ix2 s ⟨l.val - 32, by omega⟩)) * sin (ix2 s l))
        * (((1 / 8) * (Real.log 2)⁻¹ : ℝ) : EReal) := by
  have key : ∀ (x y : Fin 256), x = y → (qn (ix2 s x) : EReal) = qn (ix2 s y) := fun x y h => by rw [h]
  rw [← scale_coe]
  pointwise [k0_pay393, k0_pay390, k0_pay391, k0_pay392]
  rw [mask_at]
  by_cases h : l.val % 64 < 32
  · rw [if_pos h, dif_pos h]
    show ((qn (ix2 s l) * cos (ix2 s l) + qn (ix2 s ⟨(l.val + 256 - 224) % 256, _⟩) * sin (ix2 s l)) * _ : EReal) = _
    rw [key ⟨(l.val + 256 - 224) % 256, Nat.mod_lt _ (by decide)⟩ ⟨l.val + 32, by omega⟩ (Fin.ext (show (l.val + 256 - 224) % 256 = l.val + 32 by omega))]
  · rw [if_neg h, dif_neg h]
    show ((qn (ix2 s l) * cos (ix2 s l) + qn (ix2 s ⟨(l.val + 256 - 32) % 256, _⟩) * sin (ix2 s l)) * _ : EReal) = _
    rw [key ⟨(l.val + 256 - 32) % 256, Nat.mod_lt _ (by decide)⟩ ⟨l.val - 32, by omega⟩ (Fin.ext (show (l.val + 256 - 32) % 256 = l.val - 32 by omega))]

/-- A slab of the prepared queries is a head's rows of them. -/
theorem qPay_at (cos sin qn : FVec Ideal S512x256 .f32) (h : Fin 4) (d : Fin 64) (s : Fin 512) :
    (qPay cos sin qn h.val (ix2 d s) : EReal) = k0_pay393 cos sin qn k0_pay390 k0_pay391 k0_pay392 (ix2 ⟨64 * h.val + d.val, by omega⟩ s) := by
  have key : ∀ (x y : Fin 256), x = y → (k0_pay393 cos sin qn k0_pay390 k0_pay391 k0_pay392 (ix2 x s) : EReal) = k0_pay393 cos sin qn k0_pay390 k0_pay391 k0_pay392 (ix2 y s) := fun x y h => by rw [h]
  have h0 : (k0_pay394 cos sin qn k0_pay390 k0_pay391 k0_pay392 (ix2 d s) : EReal) = k0_pay393 cos sin qn k0_pay390 k0_pay391 k0_pay392 (ix2 ⟨d.val, by omega⟩ s) := by
    pointwise [k0_pay394]
  have h1 : (k0_pay395 cos sin qn k0_pay390 k0_pay391 k0_pay392 (ix2 d s) : EReal) = k0_pay393 cos sin qn k0_pay390 k0_pay391 k0_pay392 (ix2 ⟨64 + d.val, by omega⟩ s) := by
    pointwise [k0_pay395]
  have h2 : (k0_pay396 cos sin qn k0_pay390 k0_pay391 k0_pay392 (ix2 d s) : EReal) = k0_pay393 cos sin qn k0_pay390 k0_pay391 k0_pay392 (ix2 ⟨128 + d.val, by omega⟩ s) := by
    pointwise [k0_pay396]
  have h3 : (k0_pay397 cos sin qn k0_pay390 k0_pay391 k0_pay392 (ix2 d s) : EReal) = k0_pay393 cos sin qn k0_pay390 k0_pay391 k0_pay392 (ix2 ⟨192 + d.val, by omega⟩ s) := by
    pointwise [k0_pay397]
  match h with
  | ⟨0, _⟩ => exact h0.trans (key _ _ (Fin.ext (by simp only; omega)))
  | ⟨1, _⟩ => exact h1.trans (key _ _ (Fin.ext rfl))
  | ⟨2, _⟩ => exact h2.trans (key _ _ (Fin.ext rfl))
  | ⟨3, _⟩ => exact h3.trans (key _ _ (Fin.ext rfl))

/-- The normed queries: the mean square is over the lanes of one head. -/
theorem norm_at (x0 : Vec Ideal S1x512x256 .bf16) (x5 : Vec Ideal S256x256 .bf16) (x6 : Vec Ideal S1x256 .f32) (s : Fin 512) (l : Fin 256) :
    ((show FVec Ideal S512x256 .f32 from k0_pay389 (F := Ideal) x0 x5 x6) (ix2 s l) : EReal)
      = x0 (ix3 0 s l) * Ideal.rsqrt ((∑ x, x0 (ix3 0 s x) * x0 (ix3 0 s x) * x5 (ix2 x l)) * Ideal.ofBits .f32 1015021568#32 + Ideal.ofBits .f32 897988541#32) * x6 (ix2 0 l) := by
  pointwise [k0_pay389]

/-- The cosines' block as the body reads it. -/
theorem pay387_at (x : Vec Ideal S512x256 .f32) (s : Fin 512) (l : Fin 256) :
    ((show FVec Ideal S512x256 .f32 from k0_pay387 (F := Ideal) x) (ix2 s l) : EReal) = x (ix2 s l) := by
  pointwise [k0_pay387]

/-- The sines' block as the body reads it. -/
theorem pay388_at (x : Vec Ideal S512x256 .f32) (s : Fin 512) (l : Fin 256) :
    ((show FVec Ideal S512x256 .f32 from k0_pay388 (F := Ideal) x) (ix2 s l) : EReal) = x (ix2 s l) := by
  pointwise [k0_pay388]

end Cert.KernelIdeal.Trip
end
-- ==== Proof.KvBody.lean ====
module

public import proofs.«01_k».proof.Proof.Gen.Kernel7Ideal.Value
public import proofs.«01_k».proof.Proof.Pays
public import Idealize.ShloMosaic.Lib.Pointwise
public import Idealize.ShloMosaic.Lib.VecWindow

/-! The keys and values: what the body leaves in its two output blocks, element by element. -/

@[expose] public section

set_option maxRecDepth 65536

noncomputable section

namespace Cert.Kernel7Ideal.Kv

open Idealize.ShloMosaic Idealize.ShloMosaic.TcCoe Idealize.ShloMosaic.Tactic Idealize.SL.Sem
open Cert.Kernel7Ideal Cert.Kernel7Ideal.Gen

/-- The normed keys of a tile: the mean square is over the lanes of one head. -/
theorem norm_at (x0 : Vec Ideal S1x4096x256 .bf16) (x4 : Vec Ideal S256x256 .bf16) (x5 : Vec Ideal S1x256 .f32) (s : Fin 4096) (l : Fin 256) :
    ((show FVec Ideal S4096x256 .f32 from k0_pay6 (F := Ideal) x0 x4 x5) (ix2 s l) : EReal)
      = x0 (ix3 0 s l) * Ideal.rsqrt ((∑ x, x0 (ix3 0 s x) * x0 (ix3 0 s x) * x4 (ix2 x l)) * Ideal.ofBits .f32 1015021568#32 + Ideal.ofBits .f32 897988541#32) * x5 (ix2 0 l) := by
  pointwise [k0_pay6]

/-- The cosines' block as the body reads it. -/
theorem pay4_at (x : Vec Ideal S4096x256 .f32) (s : Fin 4096) (l : Fin 256) :
    ((show FVec Ideal S4096x256 .f32 from k0_pay4 (F := Ideal) x) (ix2 s l) : EReal) = x (ix2 s l) := by
  pointwise [k0_pay4]

/-- The sines' block as the body reads it. -/
theorem pay5_at (x : Vec Ideal S4096x256 .f32) (s : Fin 4096) (l : Fin 256) :
    ((show FVec Ideal S4096x256 .f32 from k0_pay5 (F := Ideal) x) (ix2 s l) : EReal) = x (ix2 s l) := by
  pointwise [k0_pay5]

/-- The rotation of a tile: a lane of the first half of a head pairs with the lane 32 above it, one of the second half with the lane 32 below. -/
theorem rope_at (cos sin k : FVec Ideal S4096x256 .f32) (s : Fin 4096) (l : Fin 256) :
    (k0_pay10 cos sin k k0_pay7 k0_pay8 k0_pay9 (ix2 s l) : EReal)
      = k (ix2 s l) * cos (ix2 s l) + (if h : l.val % 64 < 32 then k (ix2 s ⟨l.val + 32, by omega⟩) else k (ix2 s ⟨l.val - 32, by omega⟩)) * sin (ix2 s l) := by
  have key : ∀ (x y : Fin 256), x = y → (k (ix2 s x) : EReal) = k (ix2 s y) := fun x y h => by rw [h]
  pointwise [k0_pay10, k0_pay7, k0_pay8, k0_pay9]
  rw [Cert.KernelIdeal.Trip.mask_at]
  by_cases h : l.val % 64 < 32
  · rw [if_pos h, dif_pos h]
    show (k (ix2 s l) * cos (ix2 s l) + k (ix2 s ⟨(l.val + 256 - 224) % 256, _⟩) * sin (ix2 s l) : EReal) = _
    rw [key ⟨(l.val + 256 - 224) % 256, Nat.mod_lt _ (by decide)⟩ ⟨l.val + 32, by omega⟩ (Fin.ext (show (l.val + 256 - 224) % 256 = l.val + 32 by omega))]
  · rw [if_neg h, dif_neg h]
    show (k (ix2 s l) * cos (ix2 s l) + k (ix2 s ⟨(l.val + 256 - 32) % 256, _⟩) * sin (ix2 s l) : EReal) = _
    rw [key ⟨(l.val + 256 - 32) % 256, Nat.mod_lt _ (by decide)⟩ ⟨l.val - 32, by omega⟩ (Fin.ext (show (l.val + 256 - 32) % 256 = l.val - 32 by omega))]

section pieces
variable (cos sin k r : FVec Ideal S4096x256 .f32) (x1 : Vec Ideal S1x4096x256 .bf16)

/-- The first head's keys. -/
theorem key0 (n : Fin 4096) (d : Fin 64) : (k0_pay13 cos sin k k0_pay7 k0_pay8 k0_pay9 (ix4 0 0 n d) : EReal) = k0_pay10 cos sin k k0_pay7 k0_pay8 k0_pay9 (ix2 n ⟨d.val, by omega⟩) := by
  pointwise [k0_pay13]

/-- The second head's keys. -/
theorem key1 (n : Fin 4096) (d : Fin 64) : (k0_pay17 (k0_pay16 cos sin k k0_pay7 k0_pay8 k0_pay9) (ix4 0 0 n d) : EReal) = k0_pay10 cos sin k k0_pay7 k0_pay8 k0_pay9 (ix2 n ⟨64 + d.val, by omega⟩) := by
  pointwise [k0_pay17, k0_pay16]

/-- The third head's keys. -/
theorem key2 (n : Fin 4096) (d : Fin 64) : (k0_pay20 r (ix4 0 0 n d) : EReal) = r (ix2 n ⟨128 + d.val, by omega⟩) := by
  pointwise [k0_pay20]

/-- The fourth head's keys. -/
theorem key3 (n : Fin 4096) (d : Fin 64) : (k0_pay1 (k0_pay23 r) (ix4 0 0 n d) : EReal) = r (ix2 n ⟨192 + d.val, by omega⟩) := by
  pointwise [k0_pay1, k0_pay23]

/-- The first head's values. -/
theorem val0 (d : Fin 64) (n : Fin 4096) : (k0_pay14 (F := Ideal) x1 (ix5 0 0 0 d n) : EReal) = x1 (ix3 0 n ⟨d.val, by omega⟩) := by
  pointwise [k0_pay14, k0_pay11]

/-- The second head's values. -/
theorem val1 (d : Fin 64) (n : Fin 4096) : (k0_pay18 (k0_pay11 (F := Ideal) x1) (ix5 0 0 0 d n) : EReal) = x1 (ix3 0 n ⟨64 + d.val, by omega⟩) := by
  pointwise [k0_pay18, k0_pay11]

/-- The third head's values. -/
theorem val2 (d : Fin 64) (n : Fin 4096) : (k0_pay21 (k0_pay11 (F := Ideal) x1) (ix5 0 0 0 d n) : EReal) = x1 (ix3 0 n ⟨128 + d.val, by omega⟩) := by
  pointwise [k0_pay21, k0_pay11]

/-- The fourth head's values. -/
theorem val3 (d : Fin 64) (n : Fin 4096) : (k0_pay2 (k0_pay11 (F := Ideal) x1) (ix5 0 0 0 d n) : EReal) = x1 (ix3 0 n ⟨192 + d.val, by omega⟩) := by
  pointwise [k0_pay2, k0_pay11]

/-- The rows below a head: ones, then zeros. -/
theorem tail_at (r : Fin 16) (n : Fin 4096) : (k0_pay15 (F := Ideal) (ix5 0 0 0 r n) : EReal) = if r.val = 0 then 1 else 0 := by
  pointwise [k0_pay15, k0_pay12]
  have e : ∀ x : Fin 16, IntOp.cmpi .eq (BitVec.ofNat 32 x.val) 0#32 = if x.val = 0 then 1#1 else 0#1 := by decide +kernel
  rw [e]
  by_cases h : r.val = 0
  · rw [if_pos h, if_pos h]
    rfl
  · rw [if_neg h, if_neg h]
    rfl

end pieces

section body
variable (c : Dev nD) (i : grid0.Coords)
  (arg2 : Memref sig .tc .vmem S1x4096x256 .bf16) (harg2 : arg2.IsWhole) (arg3 : Memref sig .tc .vmem S1x4096x256 .bf16) (harg3 : arg3.IsWhole)
  (arg4 : Memref sig .tc .vmem S4096x256 .f32) (harg4 : arg4.IsWhole) (arg5 : Memref sig .tc .vmem S4096x256 .f32) (harg5 : arg5.IsWhole)
  (arg6 : Memref sig .tc .vmem S256x256 .bf16) (harg6 : arg6.IsWhole) (arg7 : Memref sig .tc .vmem S1x256 .f32) (harg7 : arg7.IsWhole)
  (arg8 : Memref sig .tc .vmem S1x4x4096x64 .bf16) (harg8 : arg8.IsWhole) (arg9 : Memref sig .tc .vmem S1x4x1x80x4096 .bf16) (harg9 : arg9.IsWhole)
  (x0 x1 : Vec Ideal S1x4096x256 .bf16) (x2 x3 : Vec Ideal S4096x256 .f32) (x4 : Vec Ideal S256x256 .bf16) (x5 : Vec Ideal S1x256 .f32)

/-- The keys' stores, last first. -/
theorem body6 : (kernelRun0_A (F := Ideal) c i arg2 harg2 arg3 harg3 arg4 harg4 arg5 harg5 arg6 harg6 arg7 harg7 arg8 harg8 arg9 harg9 x0 x1 x2 x3 x4 x5).1 = [⟨Rect.unit (s := S1x4x4096x64) ![0, 3, 0, 0] S1x1x4096x64.size inb_S1x4x4096x64_S1x1x4096x64_0_3_0_0, k0_pay1 (k0_pay23 (k0_pay10 (k0_pay4 (F := Ideal) (View.readAt (Elt Ideal) arg4.view (Rect.unit (s := S4096x256) ![0, 0] S4096x256.size inb_S4096x256_S4096x256_0_0).toLoadRect (harg4.unread x2))) (k0_pay5 (F := Ideal) (View.readAt (Elt Ideal) arg5.view (Rect.unit (s := S4096x256) ![0, 0] S4096x256.size inb_S4096x256_S4096x256_0_0).toLoadRect (harg5.unread x3))) (k0_pay6 (F := Ideal) (View.readAt (Elt Ideal) arg2.view (Rect.unit (s := S1x4096x256) ![0, 0, 0] S1x4096x256.size inb_S1x4096x256_S1x4096x256_0_0_0).toLoadRect (harg2.unread x0)) (View.readAt (Elt Ideal) arg6.view (Rect.unit (s := S256x256) ![0, 0] S256x256.size inb_S256x256_S256x256_0_0).toLoadRect (harg6.unread x4)) (View.readAt (Elt Ideal) arg7.view (Rect.unit (s := S1x256) ![0, 0] S1x256.size inb_S1x256_S1x256_0_0).toLoadRect (harg7.unread x5))) k0_pay7 k0_pay8 k0_pay9))⟩,
      ⟨Rect.unit (s := S1x4x4096x64) ![0, 2, 0, 0] S1x1x4096x64.size inb_S1x4x4096x64_S1x1x4096x64_0_2_0_0, k0_pay20 (k0_pay10 (k0_pay4 (F := Ideal) (View.readAt (Elt Ideal) arg4.view (Rect.unit (s := S4096x256) ![0, 0] S4096x256.size inb_S4096x256_S4096x256_0_0).toLoadRect (harg4.unread x2))) (k0_pay5 (F := Ideal) (View.readAt (Elt Ideal) arg5.view (Rect.unit (s := S4096x256) ![0, 0] S4096x256.size inb_S4096x256_S4096x256_0_0).toLoadRect (harg5.unread x3))) (k0_pay6 (F := Ideal) (View.readAt (Elt Ideal) arg2.view (Rect.unit (s := S1x4096x256) ![0, 0, 0] S1x4096x256.size inb_S1x4096x256_S1x4096x256_0_0_0).toLoadRect (harg2.unread x0)) (View.readAt (Elt Ideal) arg6.view (Rect.unit (s := S256x256) ![0, 0] S256x256.size inb_S256x256_S256x256_0_0).toLoadRect (harg6.unread x4)) (View.readAt (Elt Ideal) arg7.view (Rect.unit (s := S1x256) ![0, 0] S1x256.size inb_S1x256_S1x256_0_0).toLoadRect (harg7.unread x5))) k0_pay7 k0_pay8 k0_pay9)⟩,
      ⟨Rect.unit (s := S1x4x4096x64) ![0, 1, 0, 0] S1x1x4096x64.size inb_S1x4x4096x64_S1x1x4096x64_0_1_0_0, k0_pay17 (k0_pay16 (k0_pay4 (F := Ideal) (View.readAt (Elt Ideal) arg4.view (Rect.unit (s := S4096x256) ![0, 0] S4096x256.size inb_S4096x256_S4096x256_0_0).toLoadRect (harg4.unread x2))) (k0_pay5 (F := Ideal) (View.readAt (Elt Ideal) arg5.view (Rect.unit (s := S4096x256) ![0, 0] S4096x256.size inb_S4096x256_S4096x256_0_0).toLoadRect (harg5.unread x3))) (k0_pay6 (F := Ideal) (View.readAt (Elt Ideal) arg2.view (Rect.unit (s := S1x4096x256) ![0, 0, 0] S1x4096x256.size inb_S1x4096x256_S1x4096x256_0_0_0).toLoadRect (harg2.unread x0)) (View.readAt (Elt Ideal) arg6.view (Rect.unit (s := S256x256) ![0, 0] S256x256.size inb_S256x256_S256x256_0_0).toLoadRect (harg6.unread x4)) (View.readAt (Elt Ideal) arg7.view (Rect.unit (s := S1x256) ![0, 0] S1x256.size inb_S1x256_S1x256_0_0).toLoadRect (harg7.unread x5))) k0_pay7 k0_pay8 k0_pay9)⟩,
      ⟨Rect.unit (s := S1x4x4096x64) ![0, 0, 0, 0] S1x1x4096x64.size inb_S1x4x4096x64_S1x1x4096x64_0_0_0_0, k0_pay13 (k0_pay4 (F := Ideal) (View.readAt (Elt Ideal) arg4.view (Rect.unit (s := S4096x256) ![0, 0] S4096x256.size inb_S4096x256_S4096x256_0_0).toLoadRect (harg4.unread x2))) (k0_pay5 (F := Ideal) (View.readAt (Elt Ideal) arg5.view (Rect.unit (s := S4096x256) ![0, 0] S4096x256.size inb_S4096x256_S4096x256_0_0).toLoadRect (harg5.unread x3))) (k0_pay6 (F := Ideal) (View.readAt (Elt Ideal) arg2.view (Rect.unit (s := S1x4096x256) ![0, 0, 0] S1x4096x256.size inb_S1x4096x256_S1x4096x256_0_0_0).toLoadRect (harg2.unread x0)) (View.readAt (Elt Ideal) arg6.view (Rect.unit (s := S256x256) ![0, 0] S256x256.size inb_S256x256_S256x256_0_0).toLoadRect (harg6.unread x4)) (View.readAt (Elt Ideal) arg7.view (Rect.unit (s := S1x256) ![0, 0] S1x256.size inb_S1x256_S1x256_0_0).toLoadRect (harg7.unread x5))) k0_pay7 k0_pay8 k0_pay9⟩] := by
  sl_kernel_rfl

/-- The values' stores, last first. -/
theorem body7 : (kernelRun0_A (F := Ideal) c i arg2 harg2 arg3 harg3 arg4 harg4 arg5 harg5 arg6 harg6 arg7 harg7 arg8 harg8 arg9 harg9 x0 x1 x2 x3 x4 x5).2.1 = [⟨Rect.unit (s := S1x4x1x80x4096) ![0, 3, 0, 64, 0] S1x1x1x16x4096.size inb_S1x4x1x80x4096_S1x1x1x16x4096_0_3_0_64_0, k0_pay3 (k0_pay12 (F := Ideal))⟩,
      ⟨Rect.unit (s := S1x4x1x80x4096) ![0, 3, 0, 0, 0] S1x1x1x64x4096.size inb_S1x4x1x80x4096_S1x1x1x64x4096_0_3_0_0_0, k0_pay2 (k0_pay11 (F := Ideal) (View.readAt (Elt Ideal) arg3.view (Rect.unit (s := S1x4096x256) ![0, 0, 0] S1x4096x256.size inb_S1x4096x256_S1x4096x256_0_0_0).toLoadRect (harg3.unread x1)))⟩,
      ⟨Rect.unit (s := S1x4x1x80x4096) ![0, 2, 0, 64, 0] S1x1x1x16x4096.size inb_S1x4x1x80x4096_S1x1x1x16x4096_0_2_0_64_0, k0_pay22 (k0_pay12 (F := Ideal))⟩,
      ⟨Rect.unit (s := S1x4x1x80x4096) ![0, 2, 0, 0, 0] S1x1x1x64x4096.size inb_S1x4x1x80x4096_S1x1x1x64x4096_0_2_0_0_0, k0_pay21 (k0_pay11 (F := Ideal) (View.readAt (Elt Ideal) arg3.view (Rect.unit (s := S1x4096x256) ![0, 0, 0] S1x4096x256.size inb_S1x4096x256_S1x4096x256_0_0_0).toLoadRect (harg3.unread x1)))⟩,
      ⟨Rect.unit (s := S1x4x1x80x4096) ![0, 1, 0, 64, 0] S1x1x1x16x4096.size inb_S1x4x1x80x4096_S1x1x1x16x4096_0_1_0_64_0, k0_pay19 (k0_pay12 (F := Ideal))⟩,
      ⟨Rect.unit (s := S1x4x1x80x4096) ![0, 1, 0, 0, 0] S1x1x1x64x4096.size inb_S1x4x1x80x4096_S1x1x1x64x4096_0_1_0_0_0, k0_pay18 (k0_pay11 (F := Ideal) (View.readAt (Elt Ideal) arg3.view (Rect.unit (s := S1x4096x256) ![0, 0, 0] S1x4096x256.size inb_S1x4096x256_S1x4096x256_0_0_0).toLoadRect (harg3.unread x1)))⟩,
      ⟨Rect.unit (s := S1x4x1x80x4096) ![0, 0, 0, 64, 0] S1x1x1x16x4096.size inb_S1x4x1x80x4096_S1x1x1x16x4096_0_0_0_64_0, k0_pay15 (F := Ideal)⟩,
      ⟨Rect.unit (s := S1x4x1x80x4096) ![0, 0, 0, 0, 0] S1x1x1x64x4096.size inb_S1x4x1x80x4096_S1x1x1x64x4096_0_0_0_0_0, k0_pay14 (F := Ideal) (View.readAt (Elt Ideal) arg3.view (Rect.unit (s := S1x4096x256) ![0, 0, 0] S1x4096x256.size inb_S1x4096x256_S1x4096x256_0_0_0).toLoadRect (harg3.unread x1))⟩] := by
  sl_kernel_rfl

/-- The rotated keys of a tile. -/
def rot (x0 : Vec Ideal S1x4096x256 .bf16) (x2 x3 : Vec Ideal S4096x256 .f32) (x4 : Vec Ideal S256x256 .bf16) (x5 : Vec Ideal S1x256 .f32) : FVec Ideal S4096x256 .f32 :=
  k0_pay10 (k0_pay4 (F := Ideal) x2) (k0_pay5 (F := Ideal) x3) (k0_pay6 (F := Ideal) x0 x4 x5) k0_pay7 k0_pay8 k0_pay9

/-- A table of 256 lanes by head. -/
def byHead (r : FVec Ideal S4096x256 .f32) : S1x4x4096x64.Idx → EReal := fun y =>
  r (ix2 (y 2) ⟨64 * (y 1).val + (y 3).val, by have h1 : (y 1).val < 4 := (y 1).isLt; have h2 : (y 3).val < 64 := (y 3).isLt; omega⟩)

/-- The values of a tile, channels first, with the rows below each head. -/
def chanRows (x : Vec Ideal S1x4096x256 .bf16) : S1x4x1x80x4096.Idx → EReal := fun y =>
  if h : (y 3).val < 64 then x (ix3 0 (y 4) ⟨64 * (y 1).val + (y 3).val, by have h1 : (y 1).val < 4 := (y 1).isLt; omega⟩)
  else if (y 3).val = 64 then 1 else 0

/-- A head's store of the keys is that head of the table. -/
theorem keyPiece (r : FVec Ideal S4096x256 .f32) (h : Fin 4) (inb : ∀ a, (![0, h.val, 0, 0] : Fin 4 → ℕ) a + S1x1x4096x64.size a ≤ S1x4x4096x64.size a)
    (p : FVec Ideal S1x1x4096x64 .bf16) (hp : ∀ (n : Fin 4096) (d : Fin 64), (p (ix4 0 0 n d) : EReal) = r (ix2 n ⟨64 * h.val + d.val, by omega⟩)) (z : S1x1x4096x64.Idx) :
    (p z : EReal) = byHead r ((Rect.unit (s := S1x4x4096x64) ![0, h.val, 0, 0] S1x1x4096x64.size inb).emb z) := by
  obtain ⟨n, d, rfl⟩ : ∃ (n : Fin 4096) (d : Fin 64), z = ix4 0 0 n d :=
    ⟨z 2, z 3, (eq_ix4 (n0 := 1) (n1 := 1) (n2 := 4096) (n3 := 64) z).trans (congrArg₂ (fun a b => ix4 a b (z 2) (z 3)) (Subsingleton.elim _ _) (Subsingleton.elim _ _))⟩
  refine (hp n d).trans (congrArg₂ (fun a b => r (ix2 a b)) (Fin.ext ?_) (Fin.ext ?_))
  · exact (show n.val = 0 + 1 * n.val by omega)
  · exact (show 64 * h.val + d.val = 64 * (h.val + 1 * 0) + (0 + 1 * d.val) by omega)

/-- A head's store of the values is that head's channels. -/
theorem valPiece (x : Vec Ideal S1x4096x256 .bf16) (h : Fin 4) (inb : ∀ a, (![0, h.val, 0, 0, 0] : Fin 5 → ℕ) a + S1x1x1x64x4096.size a ≤ S1x4x1x80x4096.size a)
    (p : FVec Ideal S1x1x1x64x4096 .bf16) (hp : ∀ (d : Fin 64) (n : Fin 4096), (p (ix5 0 0 0 d n) : EReal) = x (ix3 0 n ⟨64 * h.val + d.val, by omega⟩)) (z : S1x1x1x64x4096.Idx) :
    (p z : EReal) = chanRows x ((Rect.unit (s := S1x4x1x80x4096) ![0, h.val, 0, 0, 0] S1x1x1x64x4096.size inb).emb z) := by
  obtain ⟨d, n, rfl⟩ : ∃ (d : Fin 64) (n : Fin 4096), z = ix5 0 0 0 d n :=
    ⟨z 3, z 4, (eq_ix5 (n0 := 1) (n1 := 1) (n2 := 1) (n3 := 64) (n4 := 4096) z).trans (by
      have e0 : z 0 = (0 : Fin 1) := Subsingleton.elim (α := Fin 1) _ _
      have e1 : z 1 = (0 : Fin 1) := Subsingleton.elim (α := Fin 1) _ _
      have e2 : z 2 = (0 : Fin 1) := Subsingleton.elim (α := Fin 1) _ _
      rw [e0, e1, e2])⟩
  refine (hp d n).trans (Eq.trans ?_ (dif_pos (show 0 + 1 * d.val < 64 by omega)).symm)
  refine congrArg₂ (fun a b => x (ix3 0 a b)) (Fin.ext ?_) (Fin.ext ?_)
  · exact (show n.val = 0 + 1 * n.val by omega)
  · exact (show 64 * h.val + d.val = 64 * (h.val + 1 * 0) + (0 + 1 * d.val) by omega)

/-- The store below a head is its row of ones and its rows of zeros. -/
theorem tailPiece (x : Vec Ideal S1x4096x256 .bf16) (h : ℕ) (inb : ∀ a, (![0, h, 0, 64, 0] : Fin 5 → ℕ) a + S1x1x1x16x4096.size a ≤ S1x4x1x80x4096.size a)
    (p : FVec Ideal S1x1x1x16x4096 .bf16) (hp : p = k0_pay15 (F := Ideal)) (z : S1x1x1x16x4096.Idx) :
    (p z : EReal) = chanRows x ((Rect.unit (s := S1x4x1x80x4096) ![0, h, 0, 64, 0] S1x1x1x16x4096.size inb).emb z) := by
  subst hp
  obtain ⟨d, n, rfl⟩ : ∃ (d : Fin 16) (n : Fin 4096), z = ix5 0 0 0 d n :=
    ⟨z 3, z 4, (eq_ix5 (n0 := 1) (n1 := 1) (n2 := 1) (n3 := 16) (n4 := 4096) z).trans (by
      have e0 : z 0 = (0 : Fin 1) := Subsingleton.elim (α := Fin 1) _ _
      have e1 : z 1 = (0 : Fin 1) := Subsingleton.elim (α := Fin 1) _ _
      have e2 : z 2 = (0 : Fin 1) := Subsingleton.elim (α := Fin 1) _ _
      rw [e0, e1, e2])⟩
  refine (tail_at d n).trans (Eq.trans ?_ (dif_neg (show ¬ 64 + 1 * d.val < 64 by omega)).symm)
  by_cases h0 : d.val = 0
  · exact (if_pos h0).trans (if_pos (show 64 + 1 * d.val = 64 by omega)).symm
  · exact (if_neg h0).trans (if_neg (show ¬ 64 + 1 * d.val = 64 by omega)).symm

/-- What the body leaves of the keys. -/
theorem out6 : (out0_A_6 (F := Ideal) c i arg2 harg2 arg3 harg3 arg4 harg4 arg5 harg5 arg6 harg6 arg7 harg7 arg8 harg8 arg9 harg9 x0 x1 x2 x3 x4 x5 : S1x4x4096x64.Idx → EReal) = byHead (rot x0 x2 x3 x4 x5) := by
  funext y
  have hc := cover0_A_6 (F := Ideal) c i arg2 harg2 arg3 harg3 arg4 harg4 arg5 harg5 arg6 harg6 arg7 harg7 arg8 harg8 arg9 harg9 x0 x1 x2 x3 x4 x5 y
  unfold out0_A_6
  have e0 : View.readAt (Elt Ideal) arg2.view (Rect.unit (s := S1x4096x256) ![0, 0, 0] S1x4096x256.size inb_S1x4096x256_S1x4096x256_0_0_0).toLoadRect (harg2.unread x0) = x0 := (View.readAt_full arg2.view _ _).trans (harg2.read_unread x0)
  have e1 : View.readAt (Elt Ideal) arg3.view (Rect.unit (s := S1x4096x256) ![0, 0, 0] S1x4096x256.size inb_S1x4096x256_S1x4096x256_0_0_0).toLoadRect (harg3.unread x1) = x1 := (View.readAt_full arg3.view _ _).trans (harg3.read_unread x1)
  have e2 : View.readAt (Elt Ideal) arg4.view (Rect.unit (s := S4096x256) ![0, 0] S4096x256.size inb_S4096x256_S4096x256_0_0).toLoadRect (harg4.unread x2) = x2 := (View.readAt_full arg4.view _ _).trans (harg4.read_unread x2)
  have e3 : View.readAt (Elt Ideal) arg5.view (Rect.unit (s := S4096x256) ![0, 0] S4096x256.size inb_S4096x256_S4096x256_0_0).toLoadRect (harg5.unread x3) = x3 := (View.readAt_full arg5.view _ _).trans (harg5.read_unread x3)
  have e4 : View.readAt (Elt Ideal) arg6.view (Rect.unit (s := S256x256) ![0, 0] S256x256.size inb_S256x256_S256x256_0_0).toLoadRect (harg6.unread x4) = x4 := (View.readAt_full arg6.view _ _).trans (harg6.read_unread x4)
  have e5 : View.readAt (Elt Ideal) arg7.view (Rect.unit (s := S1x256) ![0, 0] S1x256.size inb_S1x256_S1x256_0_0).toLoadRect (harg7.unread x5) = x5 := (View.readAt_full arg7.view _ _).trans (harg7.read_unread x5)
  rw [body6] at hc ⊢
  rw [e0, e2, e3, e4, e5] at hc ⊢
  refine View.read_writes_apply_of_pieces (Val := Elt Ideal) VO0_6 _ (byHead (rot x0 x2 x3 x4 x5)) _ (fun p hp z => ?_) y hc
  simp only [List.mem_cons, List.not_mem_nil, or_false] at hp
  rcases hp with rfl | rfl | rfl | rfl
  · exact keyPiece _ 3 inb_S1x4x4096x64_S1x1x4096x64_0_3_0_0 _ (fun n d => key3 _ n d) z
  · exact keyPiece _ 2 inb_S1x4x4096x64_S1x1x4096x64_0_2_0_0 _ (fun n d => key2 _ n d) z
  · exact keyPiece _ 1 inb_S1x4x4096x64_S1x1x4096x64_0_1_0_0 _ (fun n d => key1 _ _ _ n d) z
  · exact keyPiece _ 0 inb_S1x4x4096x64_S1x1x4096x64_0_0_0_0 _ (fun n d => (key0 _ _ _ n d).trans (congrArg (fun a => rot x0 x2 x3 x4 x5 (ix2 n a)) (Fin.ext (show d.val = 64 * 0 + d.val by omega)))) z

/-- What the body leaves of the values. -/
theorem out7 : (out0_A_7 (F := Ideal) c i arg2 harg2 arg3 harg3 arg4 harg4 arg5 harg5 arg6 harg6 arg7 harg7 arg8 harg8 arg9 harg9 x0 x1 x2 x3 x4 x5 : S1x4x1x80x4096.Idx → EReal) = chanRows x1 := by
  funext y
  have hc := cover0_A_7 (F := Ideal) c i arg2 harg2 arg3 harg3 arg4 harg4 arg5 harg5 arg6 harg6 arg7 harg7 arg8 harg8 arg9 harg9 x0 x1 x2 x3 x4 x5 y
  unfold out0_A_7
  have e0 : View.readAt (Elt Ideal) arg2.view (Rect.unit (s := S1x4096x256) ![0, 0, 0] S1x4096x256.size inb_S1x4096x256_S1x4096x256_0_0_0).toLoadRect (harg2.unread x0) = x0 := (View.readAt_full arg2.view _ _).trans (harg2.read_unread x0)
  have e1 : View.readAt (Elt Ideal) arg3.view (Rect.unit (s := S1x4096x256) ![0, 0, 0] S1x4096x256.size inb_S1x4096x256_S1x4096x256_0_0_0).toLoadRect (harg3.unread x1) = x1 := (View.readAt_full arg3.view _ _).trans (harg3.read_unread x1)
  have e2 : View.readAt (Elt Ideal) arg4.view (Rect.unit (s := S4096x256) ![0, 0] S4096x256.size inb_S4096x256_S4096x256_0_0).toLoadRect (harg4.unread x2) = x2 := (View.readAt_full arg4.view _ _).trans (harg4.read_unread x2)
  have e3 : View.readAt (Elt Ideal) arg5.view (Rect.unit (s := S4096x256) ![0, 0] S4096x256.size inb_S4096x256_S4096x256_0_0).toLoadRect (harg5.unread x3) = x3 := (View.readAt_full arg5.view _ _).trans (harg5.read_unread x3)
  have e4 : View.readAt (Elt Ideal) arg6.view (Rect.unit (s := S256x256) ![0, 0] S256x256.size inb_S256x256_S256x256_0_0).toLoadRect (harg6.unread x4) = x4 := (View.readAt_full arg6.view _ _).trans (harg6.read_unread x4)
  have e5 : View.readAt (Elt Ideal) arg7.view (Rect.unit (s := S1x256) ![0, 0] S1x256.size inb_S1x256_S1x256_0_0).toLoadRect (harg7.unread x5) = x5 := (View.readAt_full arg7.view _ _).trans (harg7.read_unread x5)
  rw [body7] at hc ⊢
  rw [e1] at hc ⊢
  refine View.read_writes_apply_of_pieces (Val := Elt Ideal) VO0_7 _ (chanRows x1) _ (fun p hp z => ?_) y hc
  simp only [List.mem_cons, List.not_mem_nil, or_false] at hp
  rcases hp with rfl | rfl | rfl | rfl | rfl | rfl | rfl | rfl
  · exact tailPiece _ 3 inb_S1x4x1x80x4096_S1x1x1x16x4096_0_3_0_64_0 _ rfl z
  · exact valPiece _ 3 inb_S1x4x1x80x4096_S1x1x1x64x4096_0_3_0_0_0 _ (fun d n => val3 _ d n) z
  · exact tailPiece _ 2 inb_S1x4x1x80x4096_S1x1x1x16x4096_0_2_0_64_0 _ rfl z
  · exact valPiece _ 2 inb_S1x4x1x80x4096_S1x1x1x64x4096_0_2_0_0_0 _ (fun d n => val2 _ d n) z
  · exact tailPiece _ 1 inb_S1x4x1x80x4096_S1x1x1x16x4096_0_1_0_64_0 _ rfl z
  · exact valPiece _ 1 inb_S1x4x1x80x4096_S1x1x1x64x4096_0_1_0_0_0 _ (fun d n => val1 _ d n) z
  · exact tailPiece _ 0 inb_S1x4x1x80x4096_S1x1x1x16x4096_0_0_0_64_0 _ rfl z
  · exact valPiece _ 0 inb_S1x4x1x80x4096_S1x1x1x64x4096_0_0_0_0_0 _ (fun d n => (val0 _ d n).trans (congrArg (fun a => x1 (ix3 0 n a)) (Fin.ext (show d.val = 64 * 0 + d.val by omega)))) z

end body

end Cert.Kernel7Ideal.Kv
end
-- ==== Proof.RefAt.lean ====
module

public import proofs.«01_k».proof.Proof.Ref
public import proofs.«01_k».proof.Proof.Soft

/-! Each stage of the reference read at one index. -/

@[expose] public section

set_option maxRecDepth 16384

noncomputable section

namespace Cert.ReferenceIdeal.Stage

open Idealize.ShloMosaic Idealize.ShloMosaic.TcCoe Idealize.ShloMosaic.Tactic Idealize.SL.Sem
open Cert.ReferenceIdeal Cert.ReferenceIdeal.Gen

/-- The permuted weights: the even channels, then the odd ones. -/
theorem wts_at (w : FVec Ideal S1x64 .f32) (e : Fin 64) :
    wts w (ix1 e) = if h : e.val < 32 then w (ix2 0 ⟨2 * e.val, by omega⟩) else w (ix2 0 ⟨1 + 2 * (e.val - 32), by omega⟩) := by
  pointwise [wts]

/-- The queries by head. -/
theorem qh_at (q : FVec Ideal S4x8192x1024 .bf16) (b : Fin 4) (s : Fin 8192) (g h : Fin 4) (d : Fin 64) :
    (qh q (ix5 b s g h d) : EReal) = q (ix3 b s ⟨g.val * 256 + h.val * 64 + d.val, by omega⟩) := by
  pointwise [qh]

/-- The norm's factor. -/
theorem inv_at (q : FVec Ideal S4x8192x4x4x64 .f32) (b : Fin 4) (s : Fin 8192) (g h : Fin 4) :
    (inv q (ix5 b s g h 0) : EReal) = Ideal.rsqrt (Ideal.div (∑ x, q (ix5 b s g h x) * q (ix5 b s g h x)) (Ideal.ofBits FTy.f32 1115684864#32) +
        Ideal.ofBits FTy.f32 897988541#32) := by
  pointwise [inv]

/-- The normed queries. -/
theorem qn_at (q : FVec Ideal S4x8192x4x4x64 .f32) (w : FVec Ideal S64 .f32) (b : Fin 4) (s : Fin 8192) (g h : Fin 4) (d : Fin 64) :
    (qn q w (ix5 b s g h d) : EReal) = q (ix5 b s g h d) * inv q (ix5 b s g h 0) * w (ix1 d) := by
  pointwise [qn]

/-- The rotated queries. -/
theorem qr_at (q : FVec Ideal S4x8192x4x4x64 .f32) (c z : FVec Ideal S8192x32 .f32) (b : Fin 4) (s : Fin 8192) (g h : Fin 4) (d : Fin 64) :
    (qr q c z (ix5 b s g h d) : EReal) = if h_1 : d.val < 32 then q (ix5 b s g h d) * c (ix2 s ⟨d.val, h_1⟩) - q (ix5 b s g h ⟨32 + d.val, by omega⟩) * z (ix2 s ⟨d.val, h_1⟩)
    else
      q (ix5 b s g h ⟨d.val - 32, by omega⟩) * z (ix2 s ⟨d.val - 32, by omega⟩) +
        q (ix5 b s g h ⟨32 + (d.val - 32), by omega⟩) * c (ix2 s ⟨d.val - 32, by omega⟩) := by
  pointwise [qr, tab]

/-- The scores. -/
theorem sco_at (k : FVec Ideal S4x4x8192x64 .bf16) (q : FVec Ideal S4x8192x4x4x64 .f32) (b : Fin 4) (s : Fin 8192) (g h : Fin 4) (n : Fin 8192) :
    (sco k q (ix5 b g h s n) : EReal) = (∑ x, k (ix4 b g n x) * q (ix5 b s g h x)) * Ideal.ofBits FTy.f32 1040187392#32 := by
  pointwise [sco]

/-- The exponentials. -/
theorem ex_at (q : FVec Ideal S4x4x4x8192x8192 .f32) (M : FVec Ideal S4x4x4x8192 .f32) (b : Fin 4) (s : Fin 8192) (g h : Fin 4) (n : Fin 8192) :
    (ex q M (ix5 b g h s n) : EReal) = Ideal.exp (q (ix5 b g h s n) - M (ix4 b g h s)) := by
  pointwise [ex]

/-- The probabilities. -/
theorem pr_at (q : FVec Ideal S4x4x4x8192x8192 .f32) (b : Fin 4) (s : Fin 8192) (g h : Fin 4) (n : Fin 8192) :
    (pr q (ix5 b g h s n) : EReal) = Ideal.div (q (ix5 b g h s n)) (∑ x, q (ix5 b g h s x)) := by
  pointwise [pr]

/-- The result. -/
theorem out_at (v : FVec Ideal S4x8192x256 .bf16) (p : FVec Ideal S4x4x4x8192x8192 .f32) (b : Fin 4) (s : Fin 8192) (l : Fin 1024) :
    (out v p (ix3 b s l) : EReal) = ∑ x, v (ix3 b x ⟨l.val / 256 * 64 + l.val % 64, by omega⟩) * p (ix5 b ⟨l.val / 256, by omega⟩ ⟨l.val / 64 % 4, by omega⟩ s x) := by
  pointwise [out]

/-- Real scores have a real maximum. -/
theorem mx_real (q : FVec Ideal S4x4x4x8192x8192 .f32) (r : S4x4x4x8192x8192.Idx → ℝ) (hr : ∀ i, (q i : EReal) = (r i : EReal)) (b : Fin 4) (s : Fin 8192) (g h : Fin 4) :
    ∃ M : ℝ, (mx q (ix4 b g h s) : EReal) = (M : EReal) := by
  have hq : q = fun i => ((r i : ℝ) : EReal) := funext hr
  subst hq
  have hb : Ideal.ofBits .f32 0xFF800000#32 ≠ ⊤ := by rw [Cert.KernelIdeal.Trip.bits_bot]; exact bot_ne_top
  obtain ⟨M, hM⟩ := Cert.KernelIdeal.Trip.max_fold_real _ _ hb hb
    (Finset.univ.filter fun i => reducesTo_S4x4x4x8192x8192_S4x4x4x8192_d4.drop i = ix4 b g h s) r (ix5 b g h s 0) (by
      refine Finset.mem_filter.mpr ⟨Finset.mem_univ _, funext fun a => ?_⟩
      apply Fin.ext
      rw [Shape.ReducesTo.drop_apply_val]
      match a with
      | ⟨0, _⟩ => rfl
      | ⟨1, _⟩ => rfl
      | ⟨2, _⟩ => rfl
      | ⟨3, _⟩ => rfl)
  refine ⟨M, Eq.trans ?_ hM⟩
  unfold mx
  rw [show ∀ (x y : FVec Ideal S4x4x4x8192 .f32) i, (maximumf x y i : EReal) = max (x i) (y i) from fun _ _ _ => rfl, Host.reduce_eq_fold]
  rfl

end Cert.ReferenceIdeal.Stage
end
-- ==== Proof.Tables.lean ====
module

public import proofs.«01_k».proof.Proof.BodyValue
public import Idealize.ShloMosaic.Lib.Pointwise

/-! The operands the kernel's host code prepares, each as one term of the arguments. -/

@[expose] public section

set_option maxRecDepth 65536

noncomputable section

namespace Cert.KernelIdeal.Trip

open Idealize.ShloMosaic Idealize.ShloMosaic.TcCoe Idealize.ShloMosaic.Tactic Idealize.SL.Sem
open Cert.KernelIdeal Cert.KernelIdeal.Gen

/-- The channels in the order the weights are taken: even ones, then odd ones. -/
def permT : IVec S64 32 :=
  concatenate S64 0
    [⟨S32, addi (broadcastInDim S32 ![] bcast_S_S32 (constantI S_ 32 0#32)) (muli (broadcastInDim S32 ![] bcast_S_S32 (constantI S_ 32 2#32)) (iotaInDim S32 32 0))⟩,
     ⟨S32, addi (broadcastInDim S32 ![] bcast_S_S32 (constantI S_ 32 1#32)) (muli (broadcastInDim S32 ![] bcast_S_S32 (constantI S_ 32 2#32)) (iotaInDim S32 32 0))⟩]
    concatenates_S32_S32_S64_d0

/-- The head of each of the 256 channels of a group. -/
def headT : IVec S256 32 :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

/-- One where two channels belong to the same head. -/
def onesT : FVec Ideal S256x256 .bf16 :=
  uitofp .bf16 (cmpi .eq (broadcastInDim S256x256 ![0, 1] bcast_S256x1_S256x256_0_1 (broadcastInDim S256x1 ![0] bcast_S256_S256x1_0 headT))
    (broadcastInDim S256x256 ![0, 1] bcast_S1x256_S256x256_0_1 (broadcastInDim S1x256 ![1] bcast_S256_S1x256_1 headT)))

/-- The norm's weights in the permuted order, once for each head of a group. -/
def qwT (w : FVec Ideal S1x64 .f32) : FVec Ideal S1x256 .f32 :=
  broadcastInDim S1x256 ![1] bcast_S256_S1x256_1 (shapeCast S256 (broadcastInDim S4x64 ![0, 1] bcast_S1x64_S4x64_0_1
    (shapeCast S1x64 (Host.gather gather_S64_S64x1_S64_n_0_n_n_0_1_1 (shapeCast S64 w shapeCasts_S1x64_S64)
      (broadcastInDim S64x1 ![0] bcast_S64_S64x1_0
        (select (cmpi .slt permT (broadcastInDim S64 ![] bcast_S_S64 (constantI S_ 32 0#32)))
          (addi permT (broadcastInDim S64 ![] bcast_S_S64 (constantI S_ 32 64#32))) permT))) shapeCasts_S64_S1x64)) shapeCasts_S4x64_S256)

/-- The rotation's frequencies. -/
def freqT : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))

/-- The angle of each token and channel pair: by the token's row, then by its column. -/
def angT : FVec Ideal S8192x32 .f32 :=
  concatenate S8192x32 1
    [⟨S8192x16, mulf
        (broadcastInDim S8192x16 ![0, 1] bcast_S8192x1_S8192x16_0_1 (broadcastInDim S8192x1 ![0] bcast_S8192_S8192x1_0
          (shapeCast S8192 (broadcastInDim S128x64 ![0] bcast_S128_S128x64_0 (sitofp .f32 (iotaInDim S128 32 0))) shapeCasts_S128x64_S8192)))
        (broadcastInDim S8192x16 ![0, 1] bcast_S1x16_S8192x16_0_1 (broadcastInDim S1x16 ![1] bcast_S16_S1x16_1 freqT))⟩,
     ⟨S8192x16, mulf
        (broadcastInDim S8192x16 ![0, 1] bcast_S8192x1_S8192x16_0_1 (broadcastInDim S8192x1 ![0] bcast_S8192_S8192x1_0
          (shapeCast S8192 (broadcastInDim S128x64 ![0, 1] bcast_S1x64_S128x64_0_1 (shapeCast S1x64 (sitofp .f32 (iotaInDim S64 32 0)) shapeCasts_S64_S1x64)) shapeCasts_S128x64_S8192)))
        (broadcastInDim S8192x16 ![0, 1] bcast_S1x16_S8192x16_0_1 (broadcastInDim S1x16 ![1] bcast_S16_S1x16_1 freqT))⟩]
    concatenates_S8192x16_S8192x16_S8192x32_d1

/-- A table of one head's channels repeated for the four heads of a group. -/
def tileT (x : FVec Ideal S8192x64 .f32) : FVec Ideal S8192x256 .f32 :=
  shapeCast S8192x256 (broadcastInDim S1x8192x4x64 ![0, 1, 2, 3] bcast_S1x8192x1x64_S1x8192x4x64_0_1_2_3
    (shapeCast S1x8192x1x64 x shapeCasts_S8192x64_S1x8192x1x64)) shapeCasts_S1x8192x4x64_S8192x256

/-- The cosines at the lanes of a group. -/
def cosT : FVec Ideal S8192x256 .f32 :=
  tileT (concatenate S8192x64 1 [⟨S8192x32, Host.cos angT⟩, ⟨S8192x32, Host.cos angT⟩] concatenates_S8192x32_S8192x32_S8192x64_d1)

/-- The sines at the lanes of a group, the first half of each head negated. -/
def sinT : FVec Ideal S8192x256 .f32 :=
  tileT (concatenate S8192x64 1 [⟨S8192x32, Host.negf (Host.sin angT)⟩, ⟨S8192x32, Host.sin angT⟩] concatenates_S8192x32_S8192x32_S8192x64_d1)

/-- The values, channels first, with a row of ones and fifteen of zeros below. -/
def vtT (v : FVec Ideal S4x8192x256 .bf16) : FVec Ideal S4x4x2x80x4096 .bf16 :=
  concatenate S4x4x2x80x4096 3
    [⟨S4x4x2x64x4096, transpose S4x4x2x64x4096 [0, 3, 1, 4, 2] (shapeCast S4x2x4096x4x64 v shapeCasts_S4x8192x256_S4x2x4096x4x64) transposes_S4x2x4096x4x64_S4x4x2x64x4096_0_3_1_4_2⟩,
     ⟨S4x4x2x16x4096, truncf .bf16 (select (cmpi .eq (iotaInDim S4x4x2x16x4096 32 3) (broadcastInDim S4x4x2x16x4096 ![] bcast_S_S4x4x2x16x4096 (constantI S_ 32 0#32)))
        (broadcastInDim S4x4x2x16x4096 ![] bcast_S_S4x4x2x16x4096 (constant S_ .f32 0x3F800000#32 : FVec Ideal S_ .f32))
        (broadcastInDim S4x4x2x16x4096 ![] bcast_S_S4x4x2x16x4096 (constant S_ .f32 0x00000000#32 : FVec Ideal S_ .f32))) bitsLt_bf16_f32⟩]
    concatenates_S4x4x2x64x4096_S4x4x2x16x4096_S4x4x2x80x4096_d3

variable (m : (ℓ : Loc nD τ sig) → Buf (Elt Ideal) ℓ) (c : Dev nD)

/-- The table of ones the host prepares. -/
theorem V_ones : V m c main_v18 = onesT := by sl_kernel_rfl
/-- The weights the host prepares. -/
theorem V_qw : V m c main_v30 = qwT (m ((c : Thread nD τ).loc main_arg3)) := by sl_kernel_rfl
/-- The cosines the host prepares. -/
theorem V_cos : V m c main_v66 = cosT := by sl_kernel_rfl
/-- The sines the host prepares. -/
theorem V_sin : V m c main_v69 = sinT := by sl_kernel_rfl
/-- The values the host prepares. -/
theorem V_vt : V m c main_v77 = vtT (m ((c : Thread nD τ).loc main_arg2)) := by sl_kernel_rfl

end Cert.KernelIdeal.Trip

end
-- ==== Proof.TableAt.lean ====
module

public import proofs.«01_k».proof.Proof.Tables
public import proofs.«01_k».proof.Proof.Soft
public import Idealize.ShloMosaic.Lib.StableHlo.Predicate

/-! The host's tables read at one index. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen

/-- The head of a lane. -/
theorem head_at (i : Fin 256) : headT (ix1 i) = BitVec.ofNat 32 (i.val / 64) := by
  pointwise [headT]
  revert i
  decide +kernel

/-- The table of ones: one between the lanes of one head. -/
theorem ones_at (a b : Fin 256) : (onesT (ix2 a b) : EReal) = if a.val / 64 = b.val / 64 then (1 : EReal) else 0 := by
  pointwise [onesT]
  rw [head_at, head_at]
  have e : ∀ x y : Fin 4, (IntOp.cmpi .eq (BitVec.ofNat 32 x.val) (BitVec.ofNat 32 y.val)) = if x = y then 1#1 else 0#1 := by decide +kernel
  have e2 := e ⟨a.val / 64, by omega⟩ ⟨b.val / 64, by omega⟩
  simp only [Fin.mk.injEq] at e2
  rw [e2]
  split
  · show (((1#1 : BitVec 1).toNat : ℝ) : EReal) = 1
    simp
  · show (((0#1 : BitVec 1).toNat : ℝ) : EReal) = 0
    simp

/-- The channel order: the even channels, then the odd ones. -/
theorem perm_at (e : Fin 64) : permT (ix1 e) = BitVec.ofNat 32 (if e.val < 32 then 2 * e.val else 1 + 2 * (e.val - 32)) := by
  pointwise [permT]
  revert e
  decide +kernel

/-- The channel order as start indices. -/
theorem start_at (e : Fin 64) : (broadcastInDim S64x1 ![0] bcast_S64_S64x1_0
        (select (cmpi .slt permT (broadcastInDim S64 ![] bcast_S_S64 (constantI S_ 32 0#32)))
          (addi permT (broadcastInDim S64 ![] bcast_S_S64 (constantI S_ 32 64#32))) permT)) (ix2 e 0)
      = BitVec.ofNat 32 (if e.val < 32 then 2 * e.val else 1 + 2 * (e.val - 32)) := by
  pointwise []
  rw [perm_at]
  revert e
  decide +kernel

/-- The permuted weights at a lane. -/
theorem qw_at (w : FVec Ideal S1x64 .f32) (b : Fin 256) :
    (qwT w (ix2 0 b) : EReal) = if h : b.val % 64 < 32 then w (ix2 0 ⟨2 * (b.val % 64), by omega⟩) else w (ix2 0 ⟨1 + 2 * (b.val % 64 - 32), by omega⟩) := by
  pointwise [qwT]
  have hg := StableHlo.Predicate.gather_take gather_S64_S64x1_S64_n_0_n_n_0_1_1 rfl rfl rfl rfl (shapeCast S64 w shapeCasts_S1x64_S64)
      (broadcastInDim S64x1 ![0] bcast_S64_S64x1_0
        (select (cmpi CmpIPredicate.slt permT (broadcastInDim S64 ![] bcast_S_S64 (constantI S_ 32 0#32)))
          (addi permT (broadcastInDim S64 ![] bcast_S_S64 (constantI S_ 32 64#32))) permT)) ⟨b.val % 64, by omega⟩ (by omega)
  have hi : (StableHlo.Predicate.ixP ⟨b.val % 64, by omega⟩ : S64x1.Idx) = ix2 ⟨b.val % 64, by omega⟩ 0 := by
    funext a
    match a with
    | ⟨0, _⟩ => rfl
    | ⟨1, _⟩ => rfl
  have ho : ∀ x : Fin 64, (Shape.Idx.ofFin x : S64.Idx) = ix1 x := fun x => by
    funext a
    match a with
    | ⟨0, _⟩ => rfl
  have hn : ∀ e : Fin 64, min (BitVec.ofNat 32 (if e.val < 32 then 2 * e.val else 1 + 2 * (e.val - 32))).toInt.toNat (64 - 1)
      = (if e.val < 32 then 2 * e.val else 1 + 2 * (e.val - 32)) := by decide +kernel
  refine (congrArg (Host.gather _ _ _) (ho _).symm).trans (hg.trans ?_)
  have hx : ∀ j : Fin 64, (shapeCast S64 w shapeCasts_S1x64_S64 (Shape.Idx.ofFin j) : EReal) = w (ix2 0 j) := fun j =>
    (congrArg (shapeCast S64 w shapeCasts_S1x64_S64) (ho j)).trans (by pointwise [])
  refine (hx _).trans ?_
  have hv := (congrArg (fun n : BitVec 32 => min n.toInt.toNat (64 - 1)) ((congrArg _ hi).trans (start_at ⟨b.val % 64, by omega⟩))).trans (hn ⟨b.val % 64, by omega⟩)
  by_cases hlt : b.val % 64 < 32
  · rw [dif_pos hlt]
    exact congrArg (fun x => w (ix2 0 x)) (Fin.ext (hv.trans (if_pos hlt)))
  · rw [dif_neg hlt]
    exact congrArg (fun x => w (ix2 0 x)) (Fin.ext (hv.trans (if_neg hlt)))

/-- The cosines at a lane. -/
theorem cos_at (s : Fin 8192) (b : Fin 256) :
    (cosT (ix2 s b) : EReal) = if h : b.val % 64 < 32 then Ideal.cos (angT (ix2 s ⟨b.val % 64, by omega⟩)) else Ideal.cos (angT (ix2 s ⟨b.val % 64 - 32, by omega⟩)) := by
  pointwise [cosT, tileT]

/-- The sines at a lane, the first half negated. -/
theorem sin_at (s : Fin 8192) (b : Fin 256) :
    (sinT (ix2 s b) : EReal) = if h : b.val % 64 < 32 then - Ideal.sin (angT (ix2 s ⟨b.val % 64, by omega⟩)) else Ideal.sin (angT (ix2 s ⟨b.val % 64 - 32, by omega⟩)) := by
  pointwise [sinT, tileT]

/-- The frequencies are real. -/
theorem freq_real (s : Fin 16) : ∃ r : ℝ, (freqT (ix1 s) : EReal) = (r : EReal) := by
  pointwise [freqT]
  have h1 : Ideal.ofBits FTy.f32 1176256512#32 = ((10000 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have h3 : Ideal.ofBits FTy.f32 1107296256#32 = ((32 : ℝ) : EReal) := by
    simp [Ideal.ofBits, Ideal.ieee, -EReal.coe_mul]; norm_num
  have h4 : (FloatOps.sitofp (F := Ideal) FTy.f32 (BitVec.ofNat 32 s.val) : EReal) = (((BitVec.ofNat 32 s.val).toInt : ℝ) : EReal) := rfl
  rw [h1, h2, h3, h4, Ideal.div_coe (by norm_num), ← EReal.coe_mul, ← EReal.coe_neg, ← EReal.coe_mul, Ideal.pow_coe_coe]
  exact ⟨_, rfl⟩

/-- The angles are real. -/
theorem ang_real (s : Fin 8192) (b : Fin 32) : ∃ r : ℝ, (angT (ix2 s b) : EReal) = (r : EReal) := by
  have h : ∀ (n : BitVec 32) (i : Fin 16), ∃ r : ℝ, (FloatOps.sitofp (F := Ideal) .f32 n : EReal) * freqT (ix1 i) = (r : EReal) := fun n i => by
    obtain ⟨r, e⟩ := freq_real i
    exact ⟨(n.toInt : ℝ) * r, by rw [e, EReal.coe_mul]; rfl⟩
  pointwise [angT]
  split
  · exact h _ _
  · exact h _ _

/-- The values, with a row of ones below them. -/
theorem vt_at (v : FVec Ideal S4x8192x256 .bf16) (b h : Fin 4) (t : Fin 2) (r : Fin 80) (n : Fin 4096) :
    (vtT v (ix5 b h t r n) : EReal) = if hr : r.val < 64 then v (ix3 b ⟨t.val * 4096 + n.val, by omega⟩ ⟨h.val * 64 + r.val, by omega⟩) else if r.val = 64 then 1 else 0 := by
  pointwise [vtT]
  split
  · rfl
  · rename_i hr
    have e : ∀ x : Fin 16, IntOp.cmpi .eq (BitVec.ofNat 32 x.val) 0#32 = if x.val = 0 then 1#1 else 0#1 := by decide +kernel
    have e2 := e ⟨r.val - 64, by omega⟩
    simp only at e2
    rw [e2]
    by_cases h4 : r.val = 64
    · rw [if_pos h4, if_pos (by omega)]
      rfl
    · rw [if_neg h4, if_neg (by omega)]
      rfl

end Cert.KernelIdeal.Trip
end
-- ==== Proof.Norm.lean ====
module

public import proofs.«01_k».proof.Proof.RefAt
public import proofs.«01_k».proof.Proof.TableAt

/-! The norm and the rotation on extended reals. -/

@[expose] public section

set_option maxRecDepth 16384

noncomputable section

namespace Cert.ReferenceIdeal.Stage

open Idealize.ShloMosaic Idealize.ShloMosaic.TcCoe Idealize.ShloMosaic.Tactic Idealize.SL.Sem
open Cert.ReferenceIdeal Cert.ReferenceIdeal.Gen

/-- The word of 64. -/
theorem bits_64 : Ideal.ofBits .f32 1115684864#32 = ((64 : ℝ) : EReal) := by
  simp [Ideal.ofBits, Ideal.ieee, -EReal.coe_mul]; norm_num

/-- The word of 1/64. -/
theorem bits_64th : Ideal.ofBits .f32 1015021568#32 = ((1 / 64 : ℝ) : EReal) := by
  simp [Ideal.ofBits, Ideal.ieee, -EReal.coe_mul]; norm_num

/-- The word of 1/8. -/
theorem bits_8th : Ideal.ofBits .f32 1040187392#32 = ((1 / 8 : ℝ) : EReal) := by
  simp [Ideal.ofBits, Ideal.ieee, -EReal.coe_mul]; norm_num

/-- The norm's small constant is a positive real. -/
theorem bits_eps : ∃ e : ℝ, 0 < e ∧ Ideal.ofBits .f32 897988541#32 = (e : EReal) := by
  refine ⟨_, ?_, by simp [Ideal.ofBits, Ideal.ieee, -EReal.coe_mul]; rfl⟩
  norm_num

/-- A square is not negative. -/
theorem sq_nonneg' (x : EReal) : 0 ≤ x * x := by
  induction x with
  | bot => simp
  | top => simp
  | coe r => rw [← EReal.coe_mul]; exact EReal.coe_nonneg.mpr (mul_self_nonneg r)

/-- A normed channel is real whatever the channels are: with an infinite channel the factor is zero. -/
theorem norm_real (y : Fin 64 → EReal) (d : Fin 64) :
    ∃ r : ℝ, y d * Ideal.rsqrt (Ideal.div (∑ x, y x * y x) (Ideal.ofBits .f32 1115684864#32) + Ideal.ofBits .f32 897988541#32) = (r : EReal) := by
  obtain ⟨e, he, hb⟩ := bits_eps
  rw [bits_64, hb, Ideal.div_coe (by norm_num)]
  have hle : y d * y d ≤ ∑ x, y x * y x := Finset.single_le_sum (f := fun x => y x * y x) (fun i _ => sq_nonneg' (y i)) (Finset.mem_univ d)
  have h0 : (0 : EReal) ≤ ∑ x, y x * y x := Finset.sum_nonneg fun i _ => sq_nonneg' (y i)
  generalize (∑ x, y x * y x) = S at hle h0 ⊢
  induction S with
  | bot => exact absurd h0 (by simp)
  | top =>
    refine ⟨0, ?_⟩
    rw [EReal.top_mul_coe_of_pos (by norm_num), EReal.top_add_coe, Ideal.rsqrt_top, mul_zero, EReal.coe_zero]
  | coe t =>
    have ht : 0 ≤ t := EReal.coe_nonneg.mp h0
    rw [← EReal.coe_mul, ← EReal.coe_add, Ideal.rsqrt_coe]
    have hp : 0 < t * (1 / 64) + e := by positivity
    rw [if_neg (not_lt.mpr hp.le), if_neg hp.ne']
    generalize y d = z at hle ⊢
    induction z with
    | bot => exact absurd hle (by simp)
    | top => exact absurd hle (by simp)
    | coe z => exact ⟨_, (EReal.coe_mul _ _).symm⟩

/-- The normed queries are real for real weights. -/
theorem qn_real (q : FVec Ideal S4x8192x4x4x64 .f32) (w : FVec Ideal S64 .f32) (hw : ∀ e, ∃ r : ℝ, (w (ix1 e) : EReal) = (r : EReal))
    (b : Fin 4) (s : Fin 8192) (g h : Fin 4) (d : Fin 64) : ∃ r : ℝ, (qn q w (ix5 b s g h d) : EReal) = (r : EReal) := by
  rw [qn_at, inv_at]
  obtain ⟨x, hx⟩ := norm_real (fun x => q (ix5 b s g h x)) d
  obtain ⟨y, hy⟩ := hw d
  exact ⟨x * y, by rw [hy, EReal.coe_mul]; exact congrArg (· * (y : EReal)) hx⟩

/-- The rotated queries are real for real tables and real normed queries. -/
theorem qr_real (q : FVec Ideal S4x8192x4x4x64 .f32) (c z : FVec Ideal S8192x32 .f32)
    (hq : ∀ b s g h d, ∃ r : ℝ, (q (ix5 b s g h d) : EReal) = (r : EReal))
    (hc : ∀ s e, ∃ r : ℝ, (c (ix2 s e) : EReal) = (r : EReal)) (hz : ∀ s e, ∃ r : ℝ, (z (ix2 s e) : EReal) = (r : EReal))
    (b : Fin 4) (s : Fin 8192) (g h : Fin 4) (d : Fin 64) : ∃ r : ℝ, (qr q c z (ix5 b s g h d) : EReal) = (r : EReal) := by
  rw [qr_at]
  split
  · rename_i hd
    obtain ⟨x, hx⟩ := hq b s g h d
    obtain ⟨y, hy⟩ := hq b s g h ⟨32 + d.val, by omega⟩
    obtain ⟨u, hu⟩ := hc s ⟨d.val, hd⟩
    obtain ⟨v, hv⟩ := hz s ⟨d.val, hd⟩
    exact ⟨x * u - y * v, by rw [hx, hy, hu, hv, EReal.coe_sub, EReal.coe_mul, EReal.coe_mul]⟩
  · rename_i hd
    obtain ⟨x, hx⟩ := hq b s g h ⟨d.val - 32, by omega⟩
    obtain ⟨y, hy⟩ := hq b s g h ⟨32 + (d.val - 32), by omega⟩
    obtain ⟨u, hu⟩ := hc s ⟨d.val - 32, by omega⟩
    obtain ⟨v, hv⟩ := hz s ⟨d.val - 32, by omega⟩
    exact ⟨x * v + y * u, by rw [hx, hy, hu, hv, EReal.coe_add, EReal.coe_mul, EReal.coe_mul]⟩

/-- A sum over a group's lanes that keeps one head's lanes is a sum over that head. -/
theorem sum_head (f : Fin 256 → EReal) (h : Fin 4) :
    (∑ x : Fin 256, f x * (if x.val / 64 = h.val then (1 : EReal) else 0)) = ∑ d : Fin 64, f ⟨64 * h.val + d.val, by omega⟩ := by
  rw [Fin.sum_univ_tiles 4 64 rfl, Finset.sum_eq_single h]
  · refine Finset.sum_congr rfl fun d _ => ?_
    rw [if_pos (by simp only; omega), mul_one]
    exact congrArg f (Fin.ext (by simp only; omega))
  · intro t _ ht
    refine Finset.sum_eq_zero fun d _ => ?_
    rw [if_neg (fun e => ht (Fin.ext (by simp only at e; omega))), mul_zero]
  · exact fun e => absurd (Finset.mem_univ _) e

end Cert.ReferenceIdeal.Stage
end
-- ==== Proof.Point.lean ====
module

public import proofs.«01_k».proof.Proof.Norm
public import proofs.«01_k».proof.Proof.Pays

/-! A block of the kernel's output is the same block of the reference's. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen
open Cert.ReferenceIdeal.Stage (qh wts qn qr ang scores sco mx ex pr out)

/-- Both programs compute the same angles. -/
theorem ang_eq : (ang : FVec Ideal S8192x32 .f32) = angT := by rfl

/-- The weights of the reference are the kernel's, at a lane. -/
theorem wts_eq (w : FVec Ideal S1x64 .f32) (h : Fin 4) (d : Fin 64) :
    (qwT w (ix2 0 ⟨64 * h.val + d.val, by omega⟩) : EReal) = wts w (ix1 d) := by
  rw [qw_at, Cert.ReferenceIdeal.Stage.wts_at]
  have key : ∀ (x y : Fin 64), x = y → (w (ix2 0 x) : EReal) = w (ix2 0 y) := fun x y h => by rw [h]
  by_cases hd : d.val < 32
  · rw [dif_pos (show (64 * h.val + d.val) % 64 < 32 by omega), dif_pos hd]
    exact key _ _ (Fin.ext (by simp only; omega))
  · rw [dif_neg (show ¬ (64 * h.val + d.val) % 64 < 32 by omega), dif_neg hd]
    exact key _ _ (Fin.ext (by simp only; omega))

section
variable (Q : FVec Ideal S4x8192x1024 .bf16) (K : FVec Ideal S4x4x8192x64 .bf16) (V : FVec Ideal S4x8192x256 .bf16) (w : FVec Ideal S1x64 .f32)
  (x0 : Vec Ideal S1x512x256 .bf16) (x1 : Vec Ideal S1x1x8192x64 .bf16) (x2 : Vec Ideal S1x1x2x80x4096 .bf16)
  (x3 x4 : Vec Ideal S512x256 .f32) (x5 : Vec Ideal S256x256 .bf16) (x6 : Vec Ideal S1x256 .f32)
  (b g : Fin 4) (J : Fin 16)

/-- The block's normed queries are the reference's. -/
theorem norm_eq (h0 : ∀ (s : Fin 512) (l : Fin 256), (x0 (ix3 0 s l) : EReal) = Q (ix3 b ⟨512 * J.val + s.val, by omega⟩ ⟨256 * g.val + l.val, by omega⟩))
    (h5 : ∀ x y, (x5 (ix2 x y) : EReal) = onesT (ix2 x y)) (h6 : ∀ l, (x6 (ix2 0 l) : EReal) = qwT w (ix2 0 l))
    (s : Fin 512) (h : Fin 4) (d : Fin 64) :
    ((show FVec Ideal S512x256 .f32 from k0_pay389 (F := Ideal) x0 x5 x6) (ix2 s ⟨64 * h.val + d.val, by omega⟩) : EReal)
      = qn (qh Q) (wts w) (ix5 b ⟨512 * J.val + s.val, by omega⟩ g h d) := by
  have key : ∀ (d : Fin 64), (x0 (ix3 0 s ⟨64 * h.val + d.val, by omega⟩) : EReal) = qh Q (ix5 b ⟨512 * J.val + s.val, by omega⟩ g h d) := fun d => by
    rw [h0, Cert.ReferenceIdeal.Stage.qh_at]
    exact congrArg (fun y => Q (ix3 b ⟨512 * J.val + s.val, by omega⟩ y)) (Fin.ext (by simp only; omega))
  rw [norm_at, Cert.ReferenceIdeal.Stage.qn_at, Cert.ReferenceIdeal.Stage.inv_at, h6, wts_eq, key]
  have hs : (∑ x, x0 (ix3 0 s x) * x0 (ix3 0 s x) * x5 (ix2 x ⟨64 * h.val + d.val, by omega⟩) : EReal)
      = ∑ e, qh Q (ix5 b ⟨512 * J.val + s.val, by omega⟩ g h e) * qh Q (ix5 b ⟨512 * J.val + s.val, by omega⟩ g h e) := by
    refine Eq.trans (Finset.sum_congr rfl fun x _ => ?_)
      ((Cert.ReferenceIdeal.Stage.sum_head (fun x => x0 (ix3 0 s x) * x0 (ix3 0 s x)) h).trans (Finset.sum_congr rfl fun e _ => ?_))
    · rw [h5, ones_at]
      have e1 : (64 * h.val + d.val) / 64 = h.val := by omega
      simp only [e1]
    · simp only [key]
  rw [hs, Cert.ReferenceIdeal.Stage.bits_64, Cert.ReferenceIdeal.Stage.bits_64th, Ideal.div_coe (by norm_num)]

/-- The block's prepared queries are the reference's rotated ones times the factor. -/
theorem query_eq (h0 : ∀ (s : Fin 512) (l : Fin 256), (x0 (ix3 0 s l) : EReal) = Q (ix3 b ⟨512 * J.val + s.val, by omega⟩ ⟨256 * g.val + l.val, by omega⟩))
    (h3 : ∀ (s : Fin 512) (l : Fin 256), (x3 (ix2 s l) : EReal) = cosT (ix2 ⟨512 * J.val + s.val, by omega⟩ l))
    (h4 : ∀ (s : Fin 512) (l : Fin 256), (x4 (ix2 s l) : EReal) = sinT (ix2 ⟨512 * J.val + s.val, by omega⟩ l))
    (h5 : ∀ x y, (x5 (ix2 x y) : EReal) = onesT (ix2 x y)) (h6 : ∀ l, (x6 (ix2 0 l) : EReal) = qwT w (ix2 0 l))
    (s : Fin 512) (h : Fin 4) (d : Fin 64) :
    (qV x0 x3 x4 x5 x6 h.val (ix2 d s) : EReal)
      = qr (qn (qh Q) (wts w)) (Host.cos ang) (Host.sin ang) (ix5 b ⟨512 * J.val + s.val, by omega⟩ g h d) * (((1 / 8) * (Real.log 2)⁻¹ : ℝ) : EReal) := by
  have hn := norm_eq Q w x0 x5 x6 b g J h0 h5 h6 s h
  have hn' : ∀ (l : Fin 256) (e : Fin 64), l.val = 64 * h.val + e.val →
      ((show FVec Ideal S512x256 .f32 from k0_pay389 (F := Ideal) x0 x5 x6) (ix2 s l) : EReal) = qn (qh Q) (wts w) (ix5 b ⟨512 * J.val + s.val, by omega⟩ g h e) := fun l e hl => by
    rw [← hn e]
    exact congrArg (fun y => (show FVec Ideal S512x256 .f32 from k0_pay389 (F := Ideal) x0 x5 x6) (ix2 s y)) (Fin.ext hl)
  have hcos : ∀ e : Fin 32, (Host.cos (ang : FVec Ideal S8192x32 .f32) (ix2 ⟨512 * J.val + s.val, by omega⟩ e) : EReal) = Ideal.cos (angT (ix2 ⟨512 * J.val + s.val, by omega⟩ e)) := fun e => by
    rw [ang_eq]; rfl
  have hsin : ∀ e : Fin 32, (Host.sin (ang : FVec Ideal S8192x32 .f32) (ix2 ⟨512 * J.val + s.val, by omega⟩ e) : EReal) = Ideal.sin (angT (ix2 ⟨512 * J.val + s.val, by omega⟩ e)) := fun e => by
    rw [ang_eq]; rfl
  have key : ∀ (x y : Fin 32), x = y → (angT (ix2 ⟨512 * J.val + s.val, by omega⟩ x) : EReal) = angT (ix2 ⟨512 * J.val + s.val, by omega⟩ y) := fun x y h => by rw [h]
  refine (qPay_at _ _ _ h d s).trans ((rope_at _ _ _ s _).trans ?_)
  refine congrArg (· * (((1 / 8) * (Real.log 2)⁻¹ : ℝ) : EReal)) ?_
  refine Eq.trans ?_ (Cert.ReferenceIdeal.Stage.qr_at _ _ _ b _ g h d).symm
  have el : (64 * h.val + d.val) % 64 = d.val := by omega
  have hC : ((show FVec Ideal S512x256 .f32 from k0_pay387 (F := Ideal) x3) (ix2 s ⟨64 * h.val + d.val, by omega⟩) : EReal)
      = cosT (ix2 ⟨512 * J.val + s.val, by omega⟩ ⟨64 * h.val + d.val, by omega⟩) := (pay387_at x3 s _).trans (h3 s _)
  have hS : ((show FVec Ideal S512x256 .f32 from k0_pay388 (F := Ideal) x4) (ix2 s ⟨64 * h.val + d.val, by omega⟩) : EReal)
      = sinT (ix2 ⟨512 * J.val + s.val, by omega⟩ ⟨64 * h.val + d.val, by omega⟩) := (pay388_at x4 s _).trans (h4 s _)
  rw [cos_at] at hC
  rw [sin_at] at hS
  by_cases hd : d.val < 32
  · have h32 : (64 * h.val + d.val) % 64 < 32 := el.symm ▸ hd
    rw [dif_pos h32] at hC hS
    rw [key _ ⟨d.val, hd⟩ (Fin.ext el)] at hC hS
    refine (congrArg₂ (fun x y : EReal => x + y) (congrArg₂ (fun x y : EReal => x * y) (hn d) (hC.trans (hcos _).symm))
      (congrArg₂ (fun x y : EReal => x * y) ((dif_pos h32).trans (hn' _ ⟨32 + d.val, by omega⟩ (by simp only; omega))) (hS.trans (congrArg (fun x : EReal => -x) (hsin _).symm)))).trans ?_
    rw [dif_pos hd]
    simp only [mul_neg, sub_eq_add_neg]
  · have h32 : ¬ (64 * h.val + d.val) % 64 < 32 := el.symm ▸ hd
    rw [dif_neg h32] at hC hS
    rw [key _ ⟨d.val - 32, by omega⟩ (Fin.ext (congrArg (· - 32) el))] at hC hS
    refine (congrArg₂ (fun x y : EReal => x + y) (congrArg₂ (fun x y : EReal => x * y) (hn' _ ⟨32 + (d.val - 32), by omega⟩ (by simp only; omega)) (hC.trans (hcos _).symm))
      (congrArg₂ (fun x y : EReal => x * y) ((dif_neg h32).trans (hn' _ ⟨d.val - 32, by omega⟩ (by simp only; omega))) (hS.trans (hsin _).symm))).trans ?_
    rw [dif_neg hd]
    exact add_comm _ _

/-- The reference's rotated queries are real for real weights. -/
theorem rotated_real (hw : ∀ i, ∃ r : ℝ, (w i : EReal) = (r : EReal)) (b : Fin 4) (s : Fin 8192) (g h : Fin 4) (d : Fin 64) :
    ∃ r : ℝ, (qr (qn (qh Q) (wts w)) (Host.cos ang) (Host.sin ang) (ix5 b s g h d) : EReal) = (r : EReal) := by
  refine Cert.ReferenceIdeal.Stage.qr_real _ _ _ (fun b s g h d => Cert.ReferenceIdeal.Stage.qn_real _ _ (fun e => ?_) b s g h d) (fun s e => ?_) (fun s e => ?_) b s g h d
  · rw [Cert.ReferenceIdeal.Stage.wts_at]
    split
    · exact hw _
    · exact hw _
  · obtain ⟨r, hr⟩ := ang_real s e
    exact ⟨Real.cos r, (congrArg Ideal.cos ((congrFun ang_eq _).trans hr)).trans (Ideal.cos_coe r)⟩
  · obtain ⟨r, hr⟩ := ang_real s e
    exact ⟨Real.sin r, (congrArg Ideal.sin ((congrFun ang_eq _).trans hr)).trans (Ideal.sin_coe r)⟩

/-- A sum over the 32 blocks of 256 keys is a sum over the keys. -/
theorem sum_blocks (f : Fin 8192 → EReal) :
    (∑ t ∈ Finset.range 32, ∑ k : Fin 256, f ⟨(256 * t + k.val) % 8192, Nat.mod_lt _ (by decide)⟩) = ∑ n, f n := by
  rw [Finset.sum_range, Fin.sum_univ_tiles 32 256 rfl]
  refine Finset.sum_congr rfl fun t _ => Finset.sum_congr rfl fun k _ => congrArg f (Fin.ext ?_)
  simp only
  omega

/-- A row of the block of values is a row of the layer's values, the row below them is ones. -/
theorem vBlk_at (h2 : ∀ (t : Fin 2) (r : Fin 80) (n : Fin 4096), (x2 (ix5 0 0 t r n) : EReal) = vtT V (ix5 b g t r n))
    (t : Nat) (ht : t < 32) (x : Fin 80) (k : Fin 256) :
    (vBlk x2 t (ix2 x k) : EReal) = if hx : x.val < 64 then V (ix3 b ⟨(256 * t + k.val) % 8192, Nat.mod_lt _ (by decide)⟩ ⟨g.val * 64 + x.val, by omega⟩) else if x.val = 64 then 1 else 0 := by
  refine (h2 ⟨t / 16 % 2, Nat.mod_lt _ (by decide)⟩ x ⟨(256 * t + k.val) % 4096, Nat.mod_lt _ (by decide)⟩).trans ?_
  rw [vt_at]
  have key : ∀ (p q : Fin 8192) (y : Fin 256), p = q → (V (ix3 b p y) : EReal) = V (ix3 b q y) := fun p q y h => by rw [h]
  by_cases hx : x.val < 64
  · rw [dif_pos hx, dif_pos hx]
    exact key _ _ _ (Fin.ext (by simp only; omega))
  · rw [dif_neg hx, dif_neg hx]

/-- One channel of one query of the block: the kernel's weighted values over its sums are the reference's softmax. -/
theorem chan_eq (hK : ∀ i, ∃ r : ℝ, (K i : EReal) = (r : EReal)) (hw : ∀ i, ∃ r : ℝ, (w i : EReal) = (r : EReal))
    (h0 : ∀ (s : Fin 512) (l : Fin 256), (x0 (ix3 0 s l) : EReal) = Q (ix3 b ⟨512 * J.val + s.val, by omega⟩ ⟨256 * g.val + l.val, by omega⟩))
    (h1 : ∀ (n : Fin 8192) (d : Fin 64), (x1 (ix4 0 0 n d) : EReal) = K (ix4 b g n d))
    (h2 : ∀ (t : Fin 2) (r : Fin 80) (n : Fin 4096), (x2 (ix5 0 0 t r n) : EReal) = vtT V (ix5 b g t r n))
    (h3 : ∀ (s : Fin 512) (l : Fin 256), (x3 (ix2 s l) : EReal) = cosT (ix2 ⟨512 * J.val + s.val, by omega⟩ l))
    (h4 : ∀ (s : Fin 512) (l : Fin 256), (x4 (ix2 s l) : EReal) = sinT (ix2 ⟨512 * J.val + s.val, by omega⟩ l))
    (h5 : ∀ x y, (x5 (ix2 x y) : EReal) = onesT (ix2 x y)) (h6 : ∀ l, (x6 (ix2 0 l) : EReal) = qwT w (ix2 0 l))
    (s : Fin 512) (h : Fin 4) (d : Fin 64) :
    (accF x1 x2 (qV x0 x3 x4 x5 x6 h.val) (ix2 ⟨d.val, by omega⟩ s) * Ideal.div 1 (accF x1 x2 (qV x0 x3 x4 x5 x6 h.val) (ix2 ⟨64, by decide⟩ s)) : EReal)
      = ∑ n, V (ix3 b n ⟨g.val * 64 + d.val, by omega⟩) * pr (ex (scores Q K w) (mx (scores Q K w))) (ix5 b g h ⟨512 * J.val + s.val, by omega⟩ n) := by
  choose kr hkr using hK
  choose qq hqq using rotated_real Q w hw
  have hs : ∀ b g h s n, (scores Q K w (ix5 b g h s n) : EReal) = (((∑ d, kr (ix4 b g n d) * qq b s g h d) * (1 / 8) : ℝ) : EReal) := fun b g h s n => by
    refine (Cert.ReferenceIdeal.Stage.sco_at _ _ b s g h n).trans ?_
    simp only [hkr, hqq, ← EReal.coe_mul, sum_coe, Cert.ReferenceIdeal.Stage.bits_8th]
  have hS : ∀ i, ∃ r : ℝ, (scores Q K w i : EReal) = (r : EReal) := fun i => by
    rw [eq_ix5 i]
    exact ⟨_, hs _ _ _ _ _⟩
  choose sR hsR using hS
  obtain ⟨M', hM'⟩ := Cert.ReferenceIdeal.Stage.mx_real (scores Q K w) sR hsR b ⟨512 * J.val + s.val, by omega⟩ g h
  have hq := query_eq Q w x0 x3 x4 x5 x6 b g J h0 h3 h4 h5 h6 s h
  have hr : ∀ t (k : Fin 256), (scB x1 (qV x0 x3 x4 x5 x6 h.val) t (ix2 k s) : EReal)
      = (((fun n : Fin 8192 => ∑ d, kr (ix4 b g n d) * (qq b ⟨512 * J.val + s.val, by omega⟩ g h d * ((1 / 8) * (Real.log 2)⁻¹)))
        ⟨(256 * t + k.val) % 8192, Nat.mod_lt _ (by decide)⟩ : ℝ) : EReal) := fun t k => by
    refine (score_at _ _ k s).trans ?_
    dsimp only
    rw [← sum_coe]
    refine Finset.sum_congr rfl fun d _ => ?_
    rw [EReal.coe_mul, EReal.coe_mul, ← hqq, ← hkr]
    exact congrArg₂ (fun x y : EReal => x * y) (h1 _ d) (hq d)
  obtain ⟨M, -, hA⟩ := acc_closed (scB x1 (qV x0 x3 x4 x5 x6 h.val)) (vBlk x2) s _ hr 31
  have hA' : ∀ x, (accF x1 x2 (qV x0 x3 x4 x5 x6 h.val) (ix2 x s) : EReal) = _ := hA
  rw [hA', hA']
  have hn : (∑ t ∈ Finset.range (31 + 1), ∑ k, vBlk x2 t (ix2 (⟨d.val, by omega⟩ : Fin 80) k) * (((2 : ℝ) ^ ((fun n : Fin 8192 => ∑ d, kr (ix4 b g n d) * (qq b ⟨512 * J.val + s.val, by omega⟩ g h d * ((1 / 8) * (Real.log 2)⁻¹)))
        ⟨(256 * t + k.val) % 8192, Nat.mod_lt _ (by decide)⟩ - M) : ℝ) : EReal) : EReal)
      = ∑ n, V (ix3 b n ⟨g.val * 64 + d.val, by omega⟩) * (((2 : ℝ) ^ ((fun n : Fin 8192 => ∑ d, kr (ix4 b g n d) * (qq b ⟨512 * J.val + s.val, by omega⟩ g h d * ((1 / 8) * (Real.log 2)⁻¹))) n - M) : ℝ) : EReal) := by
    refine Eq.trans (Finset.sum_congr rfl fun t ht => Finset.sum_congr rfl fun k _ => ?_) (sum_blocks _)
    rw [vBlk_at V x2 b g h2 t (Finset.mem_range.mp ht), dif_pos d.isLt]
  have hd : (∑ t ∈ Finset.range (31 + 1), ∑ k, vBlk x2 t (ix2 (⟨64, by decide⟩ : Fin 80) k) * (((2 : ℝ) ^ ((fun n : Fin 8192 => ∑ d, kr (ix4 b g n d) * (qq b ⟨512 * J.val + s.val, by omega⟩ g h d * ((1 / 8) * (Real.log 2)⁻¹)))
        ⟨(256 * t + k.val) % 8192, Nat.mod_lt _ (by decide)⟩ - M) : ℝ) : EReal) : EReal)
      = ∑ n, (1 : EReal) * (((2 : ℝ) ^ ((fun n : Fin 8192 => ∑ d, kr (ix4 b g n d) * (qq b ⟨512 * J.val + s.val, by omega⟩ g h d * ((1 / 8) * (Real.log 2)⁻¹))) n - M) : ℝ) : EReal) := by
    refine Eq.trans (Finset.sum_congr rfl fun t ht => Finset.sum_congr rfl fun k _ => ?_) (sum_blocks _)
    rw [vBlk_at V x2 b g h2 t (Finset.mem_range.mp ht), dif_neg (by decide), if_pos rfl]
  rw [hn, hd]
  haveI : Nonempty (Fin 8192) := ⟨0⟩
  rw [quotient _ (fun n => (∑ d, kr (ix4 b g n d) * qq b ⟨512 * J.val + s.val, by omega⟩ g h d) * (1 / 8)) (fun n => ?_) _ M M']
  · have he : ∀ n, (ex (scores Q K w) (mx (scores Q K w)) (ix5 b g h ⟨512 * J.val + s.val, by omega⟩ n) : EReal)
        = Ideal.exp ((((∑ d, kr (ix4 b g n d) * qq b ⟨512 * J.val + s.val, by omega⟩ g h d) * (1 / 8) : ℝ) : EReal) - (M' : EReal)) := fun n => by
      rw [Cert.ReferenceIdeal.Stage.ex_at, hs, hM']
    refine Finset.sum_congr rfl fun n _ => ?_
    rw [Cert.ReferenceIdeal.Stage.pr_at, he]
    simp only [he]
  · have hl : Real.log 2 ≠ 0 := (Real.log_pos (by norm_num)).ne'
    rw [Finset.sum_mul, Finset.sum_mul]
    refine Finset.sum_congr rfl fun d _ => ?_
    field_simp

/-- The block of the kernel's output is the reference's result there. -/
theorem block_eq (hK : ∀ i, ∃ r : ℝ, (K i : EReal) = (r : EReal)) (hw : ∀ i, ∃ r : ℝ, (w i : EReal) = (r : EReal))
    (h0 : ∀ (s : Fin 512) (l : Fin 256), (x0 (ix3 0 s l) : EReal) = Q (ix3 b ⟨512 * J.val + s.val, by omega⟩ ⟨256 * g.val + l.val, by omega⟩))
    (h1 : ∀ (n : Fin 8192) (d : Fin 64), (x1 (ix4 0 0 n d) : EReal) = K (ix4 b g n d))
    (h2 : ∀ (t : Fin 2) (r : Fin 80) (n : Fin 4096), (x2 (ix5 0 0 t r n) : EReal) = vtT V (ix5 b g t r n))
    (h3 : ∀ (s : Fin 512) (l : Fin 256), (x3 (ix2 s l) : EReal) = cosT (ix2 ⟨512 * J.val + s.val, by omega⟩ l))
    (h4 : ∀ (s : Fin 512) (l : Fin 256), (x4 (ix2 s l) : EReal) = sinT (ix2 ⟨512 * J.val + s.val, by omega⟩ l))
    (h5 : ∀ x y, (x5 (ix2 x y) : EReal) = onesT (ix2 x y)) (h6 : ∀ l, (x6 (ix2 0 l) : EReal) = qwT w (ix2 0 l))
    (s : Fin 512) (l : Fin 256) :
    ((show FVec Ideal S1x512x256 .bf16 from k0_pay6 (F := Ideal) (topV x1 x2 (qV x0 x3 x4 x5 x6)) (rowV x1 x2 (qV x0 x3 x4 x5 x6))) (ix3 0 s l) : EReal)
      = out V (pr (ex (scores Q K w) (mx (scores Q K w)))) (ix3 b ⟨512 * J.val + s.val, by omega⟩ ⟨256 * g.val + l.val, by omega⟩) := by
  have ht : ∀ d : Fin 64, (topV x1 x2 (qV x0 x3 x4 x5 x6) (ix2 d ⟨512 * (l.val / 64) + s.val, by omega⟩) : EReal)
      = accF x1 x2 (qV x0 x3 x4 x5 x6 (l.val / 64)) (ix2 ⟨d.val, by omega⟩ s) := fun d => by
    show (accF x1 x2 (qV x0 x3 x4 x5 x6 ((512 * (l.val / 64) + s.val) / 512)) (ix2 ⟨d.val, _⟩ ⟨(512 * (l.val / 64) + s.val) % 512, _⟩) : EReal) = _
    have e1 : (512 * (l.val / 64) + s.val) / 512 = l.val / 64 := by omega
    have e2 : (⟨(512 * (l.val / 64) + s.val) % 512, Nat.mod_lt _ (by decide)⟩ : Fin 512) = s := Fin.ext (by simp only; omega)
    rw [e1, e2]
  have hr : (rowV x1 x2 (qV x0 x3 x4 x5 x6) (ix2 0 ⟨512 * (l.val / 64) + s.val, by omega⟩) : EReal)
      = accF x1 x2 (qV x0 x3 x4 x5 x6 (l.val / 64)) (ix2 ⟨64, by decide⟩ s) := by
    show (accF x1 x2 (qV x0 x3 x4 x5 x6 ((512 * (l.val / 64) + s.val) / 512)) (ix2 ⟨64, _⟩ ⟨(512 * (l.val / 64) + s.val) % 512, _⟩) : EReal) = _
    have e1 : (512 * (l.val / 64) + s.val) / 512 = l.val / 64 := by omega
    have e2 : (⟨(512 * (l.val / 64) + s.val) % 512, Nat.mod_lt _ (by decide)⟩ : Fin 512) = s := Fin.ext (by simp only; omega)
    rw [e1, e2]
  rw [pay6_at, ht, hr, Cert.ReferenceIdeal.Stage.out_at]
  refine (chan_eq Q K V w x0 x1 x2 x3 x4 x5 x6 b g J hK hw h0 h1 h2 h3 h4 h5 h6 s ⟨l.val / 64, by omega⟩ ⟨l.val % 64, by omega⟩).trans ?_
  have kv : ∀ (x y : Fin 256) (n : Fin 8192), x = y → (V (ix3 b n x) : EReal) = V (ix3 b n y) := fun x y n h => by rw [h]
  have kp : ∀ (g g' h h' : Fin 4) (n : Fin 8192), g = g' → h = h' → (pr (ex (scores Q K w) (mx (scores Q K w))) (ix5 b g h ⟨512 * J.val + s.val, by omega⟩ n) : EReal)
      = pr (ex (scores Q K w) (mx (scores Q K w))) (ix5 b g' h' ⟨512 * J.val + s.val, by omega⟩ n) := fun g g' h h' n e1 e2 => by rw [e1, e2]
  refine Finset.sum_congr rfl fun n _ => congrArg₂ (fun x y : EReal => x * y) (kv _ _ n (Fin.ext ?_)) (kp _ _ _ _ n (Fin.ext ?_) (Fin.ext ?_))
  · simp only; omega
  · simp only; omega
  · simp only; omega

end

end Cert.KernelIdeal.Trip
end
-- ==== Proof.Kv.lean ====
module

public import proofs.«01_k».proof.Proof.KvRef
public import proofs.«01_k».proof.Proof.KvBody
public import proofs.«01_k».proof.Proof.Point
public import Idealize.ShloMosaic.Lib.Pipeline.ValueKit
public import Idealize.ShloMosaic.Lib.Tactic

/-! The keys and values: what the call leaves is what the reference computes. -/

@[expose] public section

set_option maxRecDepth 65536

noncomputable section

namespace Cert.Kernel7Ideal.Kv

open Idealize.ShloMosaic Idealize.ShloMosaic.TcCoe Idealize.ShloMosaic.Tactic Idealize.SL.Sem
open Cert.Kernel7Ideal Cert.Kernel7Ideal.Gen
open Cert.KernelIdeal.Trip (onesT qwT cosT sinT angT ones_at cos_at sin_at wts_eq ang_eq)
open Cert.ReferenceIdeal.Stage (wts ang)
open Cert.Reference7Ideal.Kv (kh kn kr keysT valsT)
open Idealize.ShloMosaic.Pipeline (Dat)

section
variable (K : FVec Ideal S4x8192x256 .bf16) (w : FVec Ideal S1x64 .f32)
  (x0 : Vec Ideal S1x4096x256 .bf16) (x2 x3 : Vec Ideal S4096x256 .f32) (x4 : Vec Ideal S256x256 .bf16) (x5 : Vec Ideal S1x256 .f32)
  (b : Fin 4) (J : Fin 2)

/-- The tile's normed keys are the reference's. -/
theorem norm_eq (h0 : ∀ (s : Fin 4096) (l : Fin 256), (x0 (ix3 0 s l) : EReal) = K (ix3 b ⟨4096 * J.val + s.val, by omega⟩ l))
    (h4 : ∀ x y, (x4 (ix2 x y) : EReal) = onesT (ix2 x y)) (h5 : ∀ l, (x5 (ix2 0 l) : EReal) = qwT w (ix2 0 l))
    (s : Fin 4096) (h : Fin 4) (d : Fin 64) :
    ((show FVec Ideal S4096x256 .f32 from k0_pay6 (F := Ideal) x0 x4 x5) (ix2 s ⟨64 * h.val + d.val, by omega⟩) : EReal)
      = kn (kh K) (wts w) (ix4 b ⟨4096 * J.val + s.val, by omega⟩ h d) := by
  have key : ∀ (d : Fin 64), (x0 (ix3 0 s ⟨64 * h.val + d.val, by omega⟩) : EReal) = kh K (ix4 b ⟨4096 * J.val + s.val, by omega⟩ h d) := fun d => by
    rw [h0, Cert.Reference7Ideal.Kv.kh_at]
    exact congrArg (fun y => K (ix3 b ⟨4096 * J.val + s.val, by omega⟩ y)) (Fin.ext (by simp only; omega))
  rw [norm_at, Cert.Reference7Ideal.Kv.kn_at, Cert.Reference7Ideal.Kv.inv_at, h5, wts_eq, key]
  have hs : (∑ x, x0 (ix3 0 s x) * x0 (ix3 0 s x) * x4 (ix2 x ⟨64 * h.val + d.val, by omega⟩) : EReal)
      = ∑ e, kh K (ix4 b ⟨4096 * J.val + s.val, by omega⟩ h e) * kh K (ix4 b ⟨4096 * J.val + s.val, by omega⟩ h e) := by
    refine Eq.trans (Finset.sum_congr rfl fun x _ => ?_)
      ((Cert.ReferenceIdeal.Stage.sum_head (fun x => x0 (ix3 0 s x) * x0 (ix3 0 s x)) h).trans (Finset.sum_congr rfl fun e _ => ?_))
    · rw [h4, ones_at]
      have e1 : (64 * h.val + d.val) / 64 = h.val := by omega
      simp only [e1]
    · simp only [key]
  rw [hs, Cert.ReferenceIdeal.Stage.bits_64, Cert.ReferenceIdeal.Stage.bits_64th, Ideal.div_coe (by norm_num)]

/-- The tile's rotated keys are the reference's. -/
theorem rot_eq (h0 : ∀ (s : Fin 4096) (l : Fin 256), (x0 (ix3 0 s l) : EReal) = K (ix3 b ⟨4096 * J.val + s.val, by omega⟩ l))
    (h2 : ∀ (s : Fin 4096) (l : Fin 256), (x2 (ix2 s l) : EReal) = cosT (ix2 ⟨4096 * J.val + s.val, by omega⟩ l))
    (h3 : ∀ (s : Fin 4096) (l : Fin 256), (x3 (ix2 s l) : EReal) = sinT (ix2 ⟨4096 * J.val + s.val, by omega⟩ l))
    (h4 : ∀ x y, (x4 (ix2 x y) : EReal) = onesT (ix2 x y)) (h5 : ∀ l, (x5 (ix2 0 l) : EReal) = qwT w (ix2 0 l))
    (s : Fin 4096) (h : Fin 4) (d : Fin 64) :
    (rot x0 x2 x3 x4 x5 (ix2 s ⟨64 * h.val + d.val, by omega⟩) : EReal)
      = kr (kn (kh K) (wts w)) (Host.cos ang) (Host.sin ang) (ix4 b ⟨4096 * J.val + s.val, by omega⟩ h d) := by
  have hn := norm_eq K w x0 x4 x5 b J h0 h4 h5 s h
  have hn' : ∀ (l : Fin 256) (e : Fin 64), l.val = 64 * h.val + e.val →
      ((show FVec Ideal S4096x256 .f32 from k0_pay6 (F := Ideal) x0 x4 x5) (ix2 s l) : EReal) = kn (kh K) (wts w) (ix4 b ⟨4096 * J.val + s.val, by omega⟩ h e) := fun l e hl => by
    rw [← hn e]
    exact congrArg (fun y => (show FVec Ideal S4096x256 .f32 from k0_pay6 (F := Ideal) x0 x4 x5) (ix2 s y)) (Fin.ext hl)
  have hcos : ∀ e : Fin 32, (Host.cos (ang : FVec Ideal S8192x32 .f32) (ix2 ⟨4096 * J.val + s.val, by omega⟩ e) : EReal) = Ideal.cos (angT (ix2 ⟨4096 * J.val + s.val, by omega⟩ e)) := fun e => by
    rw [ang_eq]; rfl
  have hsin : ∀ e : Fin 32, (Host.sin (ang : FVec Ideal S8192x32 .f32) (ix2 ⟨4096 * J.val + s.val, by omega⟩ e) : EReal) = Ideal.sin (angT (ix2 ⟨4096 * J.val + s.val, by omega⟩ e)) := fun e => by
    rw [ang_eq]; rfl
  have key : ∀ (x y : Fin 32), x = y → (angT (ix2 ⟨4096 * J.val + s.val, by omega⟩ x) : EReal) = angT (ix2 ⟨4096 * J.val + s.val, by omega⟩ y) := fun x y h => by rw [h]
  refine (rope_at _ _ _ s _).trans ?_
  refine Eq.trans ?_ (Cert.Reference7Ideal.Kv.kr_at _ _ _ b _ h d).symm
  have el : (64 * h.val + d.val) % 64 = d.val := by omega
  have hC : ((show FVec Ideal S4096x256 .f32 from k0_pay4 (F := Ideal) x2) (ix2 s ⟨64 * h.val + d.val, by omega⟩) : EReal)
      = cosT (ix2 ⟨4096 * J.val + s.val, by omega⟩ ⟨64 * h.val + d.val, by omega⟩) := (pay4_at x2 s _).trans (h2 s _)
  have hS : ((show FVec Ideal S4096x256 .f32 from k0_pay5 (F := Ideal) x3) (ix2 s ⟨64 * h.val + d.val, by omega⟩) : EReal)
      = sinT (ix2 ⟨4096 * J.val + s.val, by omega⟩ ⟨64 * h.val + d.val, by omega⟩) := (pay5_at x3 s _).trans (h3 s _)
  rw [cos_at] at hC
  rw [sin_at] at hS
  by_cases hd : d.val < 32
  · have h32 : (64 * h.val + d.val) % 64 < 32 := el.symm ▸ hd
    rw [dif_pos h32] at hC hS
    rw [key _ ⟨d.val, hd⟩ (Fin.ext el)] at hC hS
    refine (congrArg₂ (fun x y : EReal => x + y) (congrArg₂ (fun x y : EReal => x * y) (hn d) (hC.trans (hcos _).symm))
      (congrArg₂ (fun x y : EReal => x * y) ((dif_pos h32).trans (hn' _ ⟨32 + d.val, by omega⟩ (by simp only; omega))) (hS.trans (congrArg (fun x : EReal => -x) (hsin _).symm)))).trans ?_
    rw [dif_pos hd]
    simp only [mul_neg, sub_eq_add_neg]
  · have h32 : ¬ (64 * h.val + d.val) % 64 < 32 := el.symm ▸ hd
    rw [dif_neg h32] at hC hS
    rw [key _ ⟨d.val - 32, by omega⟩ (Fin.ext (congrArg (· - 32) el))] at hC hS
    refine (congrArg₂ (fun x y : EReal => x + y) (congrArg₂ (fun x y : EReal => x * y) (hn' _ ⟨32 + (d.val - 32), by omega⟩ (by simp only; omega)) (hC.trans (hcos _).symm))
      (congrArg₂ (fun x y : EReal => x * y) ((dif_neg h32).trans (hn' _ ⟨d.val - 32, by omega⟩ (by simp only; omega))) (hS.trans (hsin _).symm))).trans ?_
    rw [dif_neg hd]
    exact add_comm _ _

end

/-- Where each window's block lies at each point of the grid. -/
theorem idx : ∀ t : Fin cfg0.N, win0_0.index t = ![t.val / 2, t.val % 2, 0] ∧ win0_1.index t = ![t.val / 2, t.val % 2, 0]
    ∧ win0_2.index t = ![t.val % 2, 0] ∧ win0_3.index t = ![t.val % 2, 0] ∧ win0_4.index t = ![0, 0] ∧ win0_5.index t = ![0, 0]
    ∧ win0_6.index t = ![t.val / 2, 0, t.val % 2, 0] ∧ win0_7.index t = ![t.val / 2, 0, t.val % 2, 0, 0] ∧ t.val < 8 :=
  (by decide +kernel : ∀ t : Fin grid0.N, _)

section
variable (m : (ℓ : Loc nD τ sig) → Buf (Elt Ideal) ℓ) (c : Dev nD) (t : Fin cfg0.N)

/-- The table of ones the host prepares. -/
theorem V_ones : V m c main_v18 = onesT := by sl_kernel_rfl
/-- The weights the host prepares. -/
theorem V_kw : V m c main_v30 = qwT (m ((c : Thread nD τ).loc main_arg2)) := by sl_kernel_rfl
/-- The cosines the host prepares. -/
theorem V_cos : V m c main_v66 = cosT := by sl_kernel_rfl
/-- The sines the host prepares. -/
theorem V_sin : V m c main_v69 = sinT := by sl_kernel_rfl

/-- The keys' block. -/
theorem blk0 (s : Fin 4096) (l : Fin 256) : ((show Vec Ideal S1x4096x256 .bf16 from iblk m c 0 t) (ix3 0 s l) : EReal)
    = (show FVec Ideal S4x8192x256 .bf16 from m ((c : Thread nD τ).loc main_arg0))
      (ix3 ⟨t.val / 2, by have := (idx t).2.2.2.2.2.2.2.2; omega⟩ ⟨4096 * (t.val % 2) + s.val, by omega⟩ l) := by
  blk_ext [iblk, V_main_arg0, idx t]

/-- The values' block. -/
theorem blk1 (s : Fin 4096) (l : Fin 256) : ((show Vec Ideal S1x4096x256 .bf16 from iblk m c 1 t) (ix3 0 s l) : EReal)
    = (show FVec Ideal S4x8192x256 .bf16 from m ((c : Thread nD τ).loc main_arg1))
      (ix3 ⟨t.val / 2, by have := (idx t).2.2.2.2.2.2.2.2; omega⟩ ⟨4096 * (t.val % 2) + s.val, by omega⟩ l) := by
  blk_ext [iblk, V_main_arg1, idx t]

/-- The cosines' block. -/
theorem blk2 (s : Fin 4096) (l : Fin 256) : ((show Vec Ideal S4096x256 .f32 from iblk m c 2 t) (ix2 s l) : EReal) = cosT (ix2 ⟨4096 * (t.val % 2) + s.val, by omega⟩ l) := by
  rw [← V_cos m c]
  blk_ext [iblk, idx t]

/-- The sines' block. -/
theorem blk3 (s : Fin 4096) (l : Fin 256) : ((show Vec Ideal S4096x256 .f32 from iblk m c 3 t) (ix2 s l) : EReal) = sinT (ix2 ⟨4096 * (t.val % 2) + s.val, by omega⟩ l) := by
  rw [← V_sin m c]
  blk_ext [iblk, idx t]

/-- The table of ones' block. -/
theorem blk4 (x y : Fin 256) : ((show Vec Ideal S256x256 .bf16 from iblk m c 4 t) (ix2 x y) : EReal) = onesT (ix2 x y) := by
  rw [← V_ones m c]
  blk_ext [iblk, idx t]

/-- The weights' block. -/
theorem blk5 (l : Fin 256) : ((show Vec Ideal S1x256 .f32 from iblk m c 5 t) (ix2 0 l) : EReal) = qwT (m ((c : Thread nD τ).loc main_arg2)) (ix2 0 l) := by
  rw [← V_kw m c]
  blk_ext [iblk, idx t]

/-- Where an element of the keys' result lies in its array. -/
theorem emb6 (b : Fin 4) (hb : b.val = t.val / 2) (h : Fin 4) (s : Fin 4096) (n : Fin 8192) (hn : n.val = 4096 * (t.val % 2) + s.val) (d : Fin 64) :
    ((cfg0.win 6).blk t).view.emb (ix4 0 h s d) = ix4 b h n d := by
  blk_ext [idx t]

/-- Where an element of the values' result lies in its array. -/
theorem emb7 (b : Fin 4) (hb : b.val = t.val / 2) (h : Fin 4) (p : Fin 2) (hp : p.val = t.val % 2) (r : Fin 80) (s : Fin 4096) :
    ((cfg0.win 7).blk t).view.emb (ix5 0 h 0 r s) = ix5 b h p r s := by
  blk_ext [idx t]

end

/-- The reference's keys over the kernel's arguments. -/
def REF1 (m : (ℓ : Loc nD τ sig) → Buf (Elt Ideal) ℓ) (c : Dev nD) : FVec Ideal S4x4x8192x64 .bf16 :=
  keysT (m ((c : Thread nD τ).loc main_arg0)) (m ((c : Thread nD τ).loc main_arg2))

/-- The reference's values over the kernel's arguments. -/
def REF2 (m : (ℓ : Loc nD τ sig) → Buf (Elt Ideal) ℓ) (c : Dev nD) : FVec Ideal S4x4x2x80x4096 .bf16 :=
  valsT (m ((c : Thread nD τ).loc main_arg1))

/-- The keys' array after the run. -/
theorem final1 (m : (ℓ : Loc nD τ sig) → Buf (Elt Ideal) ℓ) (c : Dev nD) : (dats m 0 c).arrAt 6 (cfgs 0).N = REF1 m c := by
  refine (dats m 0 c).arrAt_eq_of_covers 6 _ (by decide +kernel) fun t _ y => ?_
  blk_simp
  rw [after0_6, outsAt0, out6]
  have h8 := (idx t).2.2.2.2.2.2.2.2
  obtain ⟨h, s, d, rfl⟩ : ∃ (h : Fin 4) (s : Fin 4096) (d : Fin 64), y = ix4 0 h s d :=
    ⟨y 1, y 2, y 3, (eq_ix4 (n0 := 1) (n1 := 4) (n2 := 4096) (n3 := 64) y).trans (congrArg (fun a => ix4 a (y 1) (y 2) (y 3)) (Subsingleton.elim _ _))⟩
  refine Eq.trans ?_ (congrArg (REF1 m c) (emb6 t ⟨t.val / 2, by omega⟩ rfl h s ⟨4096 * (t.val % 2) + s.val, by omega⟩ rfl d).symm)
  refine Eq.trans ?_ (Cert.Reference7Ideal.Kv.keys_at _ _ _ h _ d).symm
  exact rot_eq _ _ _ _ _ _ _ ⟨t.val / 2, by omega⟩ ⟨t.val % 2, by omega⟩ (blk0 m c t) (blk2 m c t) (blk3 m c t) (blk4 m c t) (blk5 m c t) s h d

/-- The values' array after the run. -/
theorem final2 (m : (ℓ : Loc nD τ sig) → Buf (Elt Ideal) ℓ) (c : Dev nD) : (dats m 0 c).arrAt 7 (cfgs 0).N = REF2 m c := by
  refine (dats m 0 c).arrAt_eq_of_covers 7 _ (by decide +kernel) fun t _ y => ?_
  blk_simp
  rw [after0_7, outsAt0, out7]
  have h8 := (idx t).2.2.2.2.2.2.2.2
  obtain ⟨h, r, s, rfl⟩ : ∃ (h : Fin 4) (r : Fin 80) (s : Fin 4096), y = ix5 0 h 0 r s :=
    ⟨y 1, y 3, y 4, (eq_ix5 (n0 := 1) (n1 := 4) (n2 := 1) (n3 := 80) (n4 := 4096) y).trans (by
      have e0 : y 0 = (0 : Fin 1) := Subsingleton.elim (α := Fin 1) _ _
      have e2 : y 2 = (0 : Fin 1) := Subsingleton.elim (α := Fin 1) _ _
      rw [e0, e2])⟩
  refine Eq.trans ?_ (congrArg (REF2 m c) (emb7 t ⟨t.val / 2, by omega⟩ rfl h ⟨t.val % 2, by omega⟩ rfl r s).symm)
  refine Eq.trans ?_ (Cert.Reference7Ideal.Kv.vals_at _ _ h _ r s).symm
  by_cases hr : r.val < 64
  · refine (dif_pos hr).trans (Eq.trans ?_ (dif_pos hr).symm)
    refine (blk1 m c t s _).trans ?_
    exact congrArg₂ (fun a b => (show FVec Ideal S4x8192x256 .bf16 from m ((c : Thread nD τ).loc main_arg1)) (ix3 ⟨t.val / 2, by omega⟩ a b))
      (Fin.ext (show 4096 * (t.val % 2) + s.val = t.val % 2 * 4096 + s.val by omega)) (Fin.ext (show 64 * h.val + r.val = h.val * 64 + r.val by omega))
  · refine (dif_neg hr).trans (Eq.trans ?_ (dif_neg hr).symm)
    rfl

end Cert.Kernel7Ideal.Kv
end
-- ==== Proof.DownSBody.lean ====
module

public import proofs.«01_k».proof.Proof.Gen.Kernel8Ideal.Frame
public import proofs.«01_k».proof.Proof.DownBody

/-! The sample group's down-projection's body at one grid point: the 44 pieces of the activations that it stores, and the block it
    writes from them. -/

@[expose] public section

set_option maxRecDepth 16384

noncomputable section

namespace Cert.Kernel8Ideal.Down

open Idealize.ShloMosaic Idealize.ShloMosaic.TcCoe Idealize.ShloMosaic.Tactic Idealize.SL.Sem
open Cert.Kernel8Ideal Cert.Kernel8Ideal.Gen
open Cert.Kernel5Ideal.Down (fills fills_read ext row cv gl inbM inbB inbA inbN inbW inbC inbP tailP)

variable {F : FTy → Type} [FloatOps F]

section body
variable (c : Dev nD) (i : grid0.Coords)
  (arg1 : Memref sig .tc .vmem S512x5632 .bf16) (harg1 : arg1.IsWhole)
  (arg2 : Memref sig .tc .vmem S16x5632 .bf16) (harg2 : arg2.IsWhole)
  (arg3 : Memref sig .tc .vmem S16x5632 .bf16) (harg3 : arg3.IsWhole)
  (arg4 : Memref sig .tc .vmem S512x1024 .f32) (harg4 : arg4.IsWhole)
  (arg5 : Memref sig .tc .vmem S512x256 .f32) (harg5 : arg5.IsWhole)
  (arg6 : Memref sig .tc .vmem S128x160 .bf16) (harg6 : arg6.IsWhole)
  (arg7 : Memref sig .tc .vmem S128x160 .bf16) (harg7 : arg7.IsWhole)
  (arg8 : Memref sig .tc .vmem S3x5632 .f32) (harg8 : arg8.IsWhole)
  (arg9 : Memref sig .tc .vmem S1x5632 .f32) (harg9 : arg9.IsWhole)
  (arg10 : Memref sig .tc .vmem S2816x1024 .bf16) (harg10 : arg10.IsWhole)
  (arg11 : Memref sig .tc .vmem S256x1024 .bf16) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S512x2816 .bf16) (harg16 : arg16.IsWhole)
  (x0 : Vec F S512x5632 .bf16) (x1 : Vec F S16x5632 .bf16) (x2 : Vec F S16x5632 .bf16) (x3 : Vec F S512x1024 .f32) (x4 : Vec F S512x256 .f32) (x5 : Vec F S128x160 .bf16) (x6 : Vec F S128x160 .bf16) (x7 : Vec F S3x5632 .f32) (x8 : Vec F S1x5632 .f32) (x9 : Vec F S2816x1024 .bf16) (x10 : Vec F S256x1024 .bf16) (x11 : Vec F S1024x1024 .bf16) (x12 : Vec F S1x1024 .f32) (x13 : Vec F S1x1024 .f32)

/-- The rows of a piece. -/
def mainP (r k : Nat) : FVec F S128x256 .bf16 :=
  View.readAt (Elt F) arg1.view (Rect.unit (s := S512x5632) ![128 * (r % 4), 256 * (k % 22)] S128x256.size (inbM r k)).toLoadRect (harg1.unread x0)

/-- The 16 rows before a piece: for the first one those of the tile before, or zeros where a sequence begins. -/
def befP : Nat → Nat → FVec F S16x256 .bf16
  | 0, k => mulf (View.readAt (Elt F) arg2.view (Rect.unit (s := S16x5632) ![0, 256 * (k % 22)] S16x256.size (inbN k)).toLoadRect (harg2.unread x1) : FVec F S16x256 .bf16)
      (broadcast S16x256 (k0_pay1 (F := F) i))
  | r + 1, k => View.readAt (Elt F) arg1.view (Rect.unit (s := S512x5632) ![128 * (r % 3) + 112, 256 * (k % 22)] S16x256.size (inbB r k)).toLoadRect (harg1.unread x0)

/-- The 16 rows after a piece: for the last one those of the tile after, or zeros where a sequence ends. -/
def aftP : Nat → Nat → FVec F S16x256 .bf16
  | 3, k => mulf (View.readAt (Elt F) arg3.view (Rect.unit (s := S16x5632) ![0, 256 * (k % 22)] S16x256.size (inbN k)).toLoadRect (harg3.unread x2) : FVec F S16x256 .bf16)
      (broadcast S16x256 (k0_pay2 (F := F) i))
  | r, k => View.readAt (Elt F) arg1.view (Rect.unit (s := S512x5632) ![128 * (r % 3) + 128, 256 * (k % 22)] S16x256.size (inbA r k)).toLoadRect (harg1.unread x0)

/-- A row of the convolution's weights. -/
def wP (j k : Nat) : Vec F S1x256 .f32 :=
  View.readAt (Elt F) arg8.view (Rect.unit (s := S3x5632) ![j % 3, 256 * (k % 22)] S1x256.size (inbW j k)).toLoadRect (harg8.unread x7)

/-- The convolution's bias. -/
def cP (k : Nat) : Vec F S1x256 .f32 :=
  View.readAt (Elt F) arg9.view (Rect.unit (s := S1x5632) ![0, 256 * (k % 22)] S1x256.size (inbC k)).toLoadRect (harg9.unread x8)

/-- The convolution of a piece. -/
def convP (r k : Nat) : FVec F S128x256 .f32 :=
  cv (shapeCast S128x160 (View.readAt (Elt F) arg6.view (Rect.unit (s := S128x160) ![0, 0] S128x160.size inb_S128x160_S128x160_0_0).toLoadRect (harg6.unread x5)) shapeCasts_S128x160_S128x160)
    (shapeCast S128x160 (View.readAt (Elt F) arg7.view (Rect.unit (s := S128x160) ![0, 0] S128x160.size inb_S128x160_S128x160_0_0).toLoadRect (harg7.unread x6)) shapeCasts_S128x160_S128x160)
    (ext (befP i arg1 harg1 arg2 harg2 x0 x1 r k) (mainP arg1 harg1 x0 r k) (aftP i arg1 harg1 arg3 harg3 x0 x2 r k))
    (mainP arg1 harg1 x0 r k) (wP arg8 harg8 x7 0 k) (wP arg8 harg8 x7 1 k) (wP arg8 harg8 x7 2 k) (cP arg9 harg9 x8 k)

/-- What store `u` puts into the activations. -/
def actP (u : Nat) : FVec F S128x256 .bf16 :=
  gl (convP i arg1 harg1 arg2 harg2 arg3 harg3 arg6 harg6 arg7 harg7 arg8 harg8 arg9 harg9 x0 x1 x2 x5 x6 x7 x8 (u / 11) (u % 11))
    (convP i arg1 harg1 arg2 harg2 arg3 harg3 arg6 harg6 arg7 harg7 arg8 harg8 arg9 harg9 x0 x1 x2 x5 x6 x7 x8 (u / 11) (u % 11 + 11))

/-- The stores into the activations, last first. -/
def accP : List (View.Piece (Elt F) S512x2816 .bf16) :=
  fills (s := S512x2816) S128x256.size (fun u => ![128 * (u / 11 % 4), 256 * (u % 11)]) inbP
    (fun u => actP i arg1 harg1 arg2 harg2 arg3 harg3 arg6 harg6 arg7 harg7 arg8 harg8 arg9 harg9 x0 x1 x2 x5 x6 x7 x8 u) 44

set_option maxHeartbeats 8000000 in
/-- What the body leaves in its output block. -/
theorem body_eq :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16
      x0 x1 x2 x3 x4 x5 x6 x7 x8 x9 x10 x11 x12 x13).1
    = [⟨Rect.unit ![0, 0] ![512, 1024] inb_S512x1024_S512x1024_0_0,
        tailP (View.readAt (Elt F) arg4.view (Rect.unit (s := S512x1024) ![0, 0] S512x1024.size inb_S512x1024_S512x1024_0_0).toLoadRect (harg4.unread x3))
          (arg16.view.readCov (accP i arg1 harg1 arg2 harg2 arg3 harg3 arg6 harg6 arg7 harg7 arg8 harg8 arg9 harg9 x0 x1 x2 x5 x6 x7 x8)
            (Rect.unit (s := S512x2816) ![0, 0] S512x2816.size inb_S512x2816_S512x2816_0_0).toLoadRect)
          (View.readAt (Elt F) arg10.view (Rect.unit (s := S2816x1024) ![0, 0] S2816x1024.size inb_S2816x1024_S2816x1024_0_0).toLoadRect (harg10.unread x9))
          (View.readAt (Elt F) arg12.view (Rect.unit (s := S1024x1024) ![0, 0] S1024x1024.size inb_S1024x1024_S1024x1024_0_0).toLoadRect (harg12.unread x11))
          (View.readAt (Elt F) arg13.view (Rect.unit (s := S1x1024) ![0, 0] S1x1024.size inb_S1x1024_S1x1024_0_0).toLoadRect (harg13.unread x12))
          (View.readAt (Elt F) arg5.view (Rect.unit (s := S512x256) ![0, 0] S512x256.size inb_S512x256_S512x256_0_0).toLoadRect (harg5.unread x4))
          (View.readAt (Elt F) arg11.view (Rect.unit (s := S256x1024) ![0, 0] S256x1024.size inb_S256x1024_S256x1024_0_0).toLoadRect (harg11.unread x10))
          (View.readAt (Elt F) arg14.view (Rect.unit (s := S1x1024) ![0, 0] S1x1024.size inb_S1x1024_S1x1024_0_0).toLoadRect (harg14.unread x13))⟩] := by
  sl_kernel_rfl

end body

end Cert.Kernel8Ideal.Down

end
-- ==== Proof.DownSRef.lean ====
module

public import proofs.«01_k».proof.Proof.Gen.Reference8Ideal.Run
public import proofs.«01_k».proof.Proof.DownRef
public import Idealize.ShloMosaic.Lib.Pipeline.ValueKit
public import Idealize.ShloMosaic.Lib.Tactic

/-! The sample group's down-projection and what follows it: what the reference gives, element by element. -/

@[expose] public section

set_option maxRecDepth 65536

noncomputable section

namespace Cert.Reference8Ideal.Down

open Idealize.ShloMosaic Idealize.ShloMosaic.TcCoe Idealize.ShloMosaic.Tactic Idealize.SL.Sem
open Cert.Reference8Ideal Cert.Reference8Ideal.Gen
open Cert.Reference5Ideal.Down (rmsf cvf gelf x2f x3f)

/-- The row before a row of its sequence, zero before the first. -/
def bef (u : Fin 16384 → EReal) (r : Fin 16384) : EReal := if r.val % 8192 = 0 then 0 else u ⟨r.val - 1, by omega⟩

/-- The row after a row of its sequence, zero after the last. -/
def aft (u : Fin 16384 → EReal) (r : Fin 16384) : EReal := if h : r.val % 8192 = 8191 then 0 else u ⟨r.val + 1, by omega⟩

/-- The convolution, as the reference computes it. -/
def cvT (x0 : FVec Ideal S16384x5632 .bf16) (x3 : FVec Ideal S1x3x5632 .f32) (x4 : FVec Ideal S1x5632 .f32) : FVec Ideal S16384x5632 .f32 :=
  shapeCast S16384x5632 (addf (addf (addf (mulf (concatenate S2x8192x5632 1 [⟨S2x1x5632, (broadcastInDim S2x1x5632 ![] bcast_S_S2x1x5632 (constant (F := Ideal) S_ .f32 0x00000000#32))⟩, ⟨S2x8191x5632, (extractStridedSlice S2x8191x5632 ![0, 0, 0] (shapeCast S2x8192x5632 (extf (F := Ideal) .f32 x0 bitsLt_bf16_f32) shapeCasts_S16384x5632_S2x8192x5632) slices_S2x8192x5632_S2x8191x5632_0_0_0)⟩] concatenates_S2x1x5632_S2x8191x5632_S2x8192x5632_d1) (broadcastInDim S2x8192x5632 ![0, 1, 2] bcast_S1x1x5632_S2x8192x5632_0_1_2 (broadcastInDim S1x1x5632 ![2] bcast_S5632_S1x1x5632_2 (shapeCast S5632 (extractStridedSlice S1x5632 ![0, 0] (shapeCast S3x5632 x3 shapeCasts_S1x3x5632_S3x5632) slices_S3x5632_S1x5632_0_0) shapeCasts_S1x5632_S5632)))) (mulf (shapeCast S2x8192x5632 (extf (F := Ideal) .f32 x0 bitsLt_bf16_f32) shapeCasts_S16384x5632_S2x8192x5632) (broadcastInDim S2x8192x5632 ![0, 1, 2] bcast_S1x1x5632_S2x8192x5632_0_1_2 (broadcastInDim S1x1x5632 ![2] bcast_S5632_S1x1x5632_2 (shapeCast S5632 (extractStridedSlice S1x5632 ![1, 0] (shapeCast S3x5632 x3 shapeCasts_S1x3x5632_S3x5632) slices_S3x5632_S1x5632_1_0) shapeCasts_S1x5632_S5632))))) (mulf (concatenate S2x8192x5632 1 [⟨S2x8191x5632, (extractStridedSlice S2x8191x5632 ![0, 1, 0] (shapeCast S2x8192x5632 (extf (F := Ideal) .f32 x0 bitsLt_bf16_f32) shapeCasts_S16384x5632_S2x8192x5632) slices_S2x8192x5632_S2x8191x5632_0_1_0)⟩, ⟨S2x1x5632, (broadcastInDim S2x1x5632 ![] bcast_S_S2x1x5632 (constant (F := Ideal) S_ .f32 0x00000000#32))⟩] concatenates_S2x8191x5632_S2x1x5632_S2x8192x5632_d1) (broadcastInDim S2x8192x5632 ![0, 1, 2] bcast_S1x1x5632_S2x8192x5632_0_1_2 (broadcastInDim S1x1x5632 ![2] bcast_S5632_S1x1x5632_2 (shapeCast S5632 (extractStridedSlice S1x5632 ![2, 0] (shapeCast S3x5632 x3 shapeCasts_S1x3x5632_S3x5632) slices_S3x5632_S1x5632_2_0) shapeCasts_S1x5632_S5632))))) (broadcastInDim S2x8192x5632 ![0, 1, 2] bcast_S1x1x5632_S2x8192x5632_0_1_2 (broadcastInDim S1x1x5632 ![2] bcast_S5632_S1x1x5632_2 (shapeCast S5632 x4 shapeCasts_S1x5632_S5632)))) shapeCasts_S2x8192x5632_S16384x5632

/-- The activations, as the reference computes them. -/
def actT (c : FVec Ideal S16384x5632 .f32) : FVec Ideal S16384x2816 .f32 :=
  mulf (mulf (extractStridedSlice S16384x2816 ![0, 0] c slices_S16384x5632_S16384x2816_0_0) (mulf (broadcastInDim S16384x2816 ![] bcast_S_S16384x2816 (constant (F := Ideal) S_ .f32 0x3F000000#32)) (addf (broadcastInDim S16384x2816 ![] bcast_S_S16384x2816 (constant (F := Ideal) S_ .f32 0x3F800000#32)) (Host.tanh (mulf (broadcastInDim S16384x2816 ![] bcast_S_S16384x2816 (constant (F := Ideal) S_ .f32 0x3F4C422A#32)) (addf (extractStridedSlice S16384x2816 ![0, 0] c slices_S16384x5632_S16384x2816_0_0) (mulf (broadcastInDim S16384x2816 ![] bcast_S_S16384x2816 (constant (F := Ideal) S_ .f32 0x3D372713#32)) (mulf (mulf (extractStridedSlice S16384x2816 ![0, 0] c slices_S16384x5632_S16384x2816_0_0) (extractStridedSlice S16384x2816 ![0, 0] c slices_S16384x5632_S16384x2816_0_0)) (extractStridedSlice S16384x2816 ![0, 0] c slices_S16384x5632_S16384x2816_0_0))))))))) (extractStridedSlice S16384x2816 ![0, 2816] c slices_S16384x5632_S16384x2816_0_2816)

/-- The residual stream after the down-projection, as the reference computes it. -/
def x2T (x1 : FVec Ideal S16384x1024 .f32) (a : FVec Ideal S16384x2816 .f32) (x5 : FVec Ideal S1x2816x1024 .f32) : FVec Ideal S16384x1024 .f32 :=
  addf x1 (Host.dotGeneral (F := Ideal) (φ₁ := .f32) (φ₂ := .f32) dot_S16384x2816_S2816x1024_S16384x1024_1_0_0_1_n_n none a (shapeCast S2816x1024 x5 shapeCasts_S1x2816x1024_S2816x1024))

/-- The residual stream after the per-layer embedding, as the reference computes it. -/
def x3T (x : FVec Ideal S16384x1024 .f32) (x7 : FVec Ideal S1x1024x1024 .f32) (x8 : FVec Ideal S1x1024 .f32) (x2 : FVec Ideal S16384x256 .f32)
    (x6 : FVec Ideal S1x256x1024 .f32) : FVec Ideal S16384x1024 .f32 :=
  addf x (mulf (Host.divf (broadcastInDim S16384x1024 ![] bcast_S_S16384x1024 (constant (F := Ideal) S_ .f32 0x3F800000#32)) (addf (broadcastInDim S16384x1024 ![] bcast_S_S16384x1024 (constant (F := Ideal) S_ .f32 0x3F800000#32)) (Host.exp (Host.negf (addf (Host.dotGeneral (F := Ideal) (φ₁ := .f32) (φ₂ := .f32) dot_S16384x1024_S1024x1024_S16384x1024_1_0_0_1_n_n none x (shapeCast S1024x1024 x7 shapeCasts_S1x1024x1024_S1024x1024)) (broadcastInDim S16384x1024 ![0, 1] bcast_S1x1024_S16384x1024_0_1 (broadcastInDim S1x1024 ![1] bcast_S1024_S1x1024_1 (shapeCast S1024 x8 shapeCasts_S1x1024_S1024)))))))) (Host.dotGeneral (F := Ideal) (φ₁ := .f32) (φ₂ := .f32) dot_S16384x256_S256x1024_S16384x1024_1_0_0_1_n_n none x2 (shapeCast S256x1024 x6 shapeCasts_S1x256x1024_S256x1024)))

/-- The final norm, as the reference computes it. -/
def nrmT (x : FVec Ideal S16384x1024 .f32) (x9 : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 x9))

/-- An element of the activations. -/
theorem act_at (c : FVec Ideal S16384x5632 .f32) (r : Fin 16384) (j : Fin 2816) :
    (actT c (ix2 r j) : EReal) = gelf (c (ix2 r ⟨j.val, by omega⟩)) (c (ix2 r ⟨2816 + j.val, by omega⟩)) := by
  pointwise [actT, gelf]
  congr 1
  rw [mul_left_comm, ← mul_assoc]

/-- An element of the residual stream after the down-projection. -/
theorem x2_at (x1 : FVec Ideal S16384x1024 .f32) (a : FVec Ideal S16384x2816 .f32) (x5 : FVec Ideal S1x2816x1024 .f32) (r : Fin 16384) (j : Fin 1024) :
    (x2T x1 a x5 (ix2 r j) : EReal) = x2f (x1 (ix2 r j)) (fun z => a (ix2 r z)) (fun z => x5 (ix3 0 z j)) := by
  pointwise [x2T, x2f]

/-- An element of the residual stream after the per-layer embedding. -/
theorem x3_at (x : FVec Ideal S16384x1024 .f32) (x7 : FVec Ideal S1x1024x1024 .f32) (x8 : FVec Ideal S1x1024 .f32) (x2 : FVec Ideal S16384x256 .f32)
    (x6 : FVec Ideal S1x256x1024 .f32) (r : Fin 16384) (j : Fin 1024) :
    (x3T x x7 x8 x2 x6 (ix2 r j) : EReal)
      = x3f (fun z => x (ix2 r z)) (fun z => x7 (ix3 0 z j)) (x8 (ix2 0 j)) (fun z => x2 (ix2 r z)) (fun z => x6 (ix3 0 z j)) j := by
  pointwise [x3T, x3f]
  simp only [zero_sub]

/-- An element of the final norm. -/
theorem nrm_at (x : FVec Ideal S16384x1024 .f32) (x9 : FVec Ideal S1024 .f32) (r : Fin 16384) (j : Fin 1024) :
    (nrmT x x9 (ix2 r j) : EReal) = rmsf (fun z => x (ix2 r z)) (x9 (ix1 j)) j := by
  pointwise [nrmT, rmsf]

/-- An element of the convolution. -/
theorem cv_at (x0 : FVec Ideal S16384x5632 .bf16) (x3 : FVec Ideal S1x3x5632 .f32) (x4 : FVec Ideal S1x5632 .f32) (r : Fin 16384) (j : Fin 5632) :
    (cvT x0 x3 x4 (ix2 r j) : EReal)
      = cvf (bef (fun r => x0 (ix2 r j)) r) (x0 (ix2 r j)) (aft (fun r => x0 (ix2 r j)) r) (x3 (ix3 0 0 j)) (x3 (ix3 0 1 j)) (x3 (ix3 0 2 j)) (x4 (ix2 0 j)) := by
  have hb : (if h : r.val % 8192 < 1 then (0 : EReal) else x0 (ix2 ⟨r.val / 8192 * 8192 + (r.val % 8192 - 1), by omega⟩ j))
      = bef (fun r => x0 (ix2 r j)) r := by
    unfold bef
    by_cases h : r.val % 8192 = 0
    · rw [dif_pos (by omega), if_pos h]
    · rw [dif_neg (by omega), if_neg h]
      exact congrArg (fun r => x0 (ix2 r j)) (Fin.ext (by show r.val / 8192 * 8192 + (r.val % 8192 - 1) = r.val - 1; omega))
  have ha : (if h : r.val % 8192 < 8191 then x0 (ix2 ⟨r.val / 8192 * 8192 + (1 + r.val % 8192), by omega⟩ j) else (0 : EReal))
      = aft (fun r => x0 (ix2 r j)) r := by
    unfold aft
    by_cases h : r.val % 8192 = 8191
    · rw [dif_neg (by omega), dif_pos h]
    · rw [dif_pos (by omega), dif_neg h]
      exact congrArg (fun r => x0 (ix2 r j)) (Fin.ext (by show r.val / 8192 * 8192 + (1 + r.val % 8192) = r.val + 1; omega))
  rw [← hb, ← ha]
  pointwise [cvT, cvf]

end Cert.Reference8Ideal.Down
end
-- ==== Proof.DownSPiece.lean ====
module

public import proofs.«01_k».proof.Proof.DownSBody
public import proofs.«01_k».proof.Proof.DownSRef
public import proofs.«01_k».proof.Proof.DownPiece
public import Idealize.ShloMosaic.Lib.Pipeline.ValueKit
public import Idealize.ShloMosaic.Lib.Tactic

/-! The sample group's down-projection's body, element by element: the convolution of a piece, its activations, and the last stretch. -/

@[expose] public section

set_option maxRecDepth 65536

noncomputable section

namespace Cert.Kernel8Ideal.Down

open Idealize.ShloMosaic Idealize.ShloMosaic.TcCoe Idealize.ShloMosaic.Tactic Idealize.SL.Sem
open Cert.Kernel8Ideal Cert.Kernel8Ideal.Gen
open Cert.Reference5Ideal.Down (rmsf cvf gelf x2f x3f)
open Cert.Kernel5Ideal.Down (fills fills_read ext row cv gl inbM inbB inbA inbN inbW inbC inbP tailP pay247_at pay248_at pay249_at tail_at ext_at cvP_at gl_at pick_bef pick_aft befL aftL convL)
open Cert.Reference8Ideal.Down (bef aft)

/-- The factor on the rows before a tile: zero where a sequence begins. -/
theorem pay1_at (i : grid0.Coords) (h : (i 0).val < 32) : (k0_pay1 (F := Ideal) i : EReal) = if (i 0).val % 16 = 0 then 0 else 1 := by
  have e : ∀ n : Fin 32, (Scalar.extui (let v2 : BitVec 32 := Scalar.remsi (BitVec.ofNat 32 n.val) (Scalar.select (Scalar.cmpi .eq 16#32 0#32) 1#32 16#32)
      Scalar.cmpi .sgt (Scalar.select (Scalar.andi (Scalar.xori (Scalar.cmpi .slt v2 0#32) (Scalar.cmpi .slt (Scalar.select (Scalar.cmpi .eq 16#32 0#32) 1#32 16#32) 0#32)) (Scalar.cmpi .ne v2 0#32))
        (Scalar.addi v2 (Scalar.select (Scalar.cmpi .eq 16#32 0#32) 1#32 16#32)) v2) 0#32) : BitVec 32) = if n.val % 16 = 0 then 0#32 else 1#32 := by
    decide +kernel
  refine (congrArg (fun x : BitVec 32 => ((x.toInt : ℝ) : EReal)) (e ⟨(i 0).val, h⟩)).trans ?_
  dsimp only
  split
  · show (((0#32 : BitVec 32).toInt : ℝ) : EReal) = 0
    simp
  · show (((1#32 : BitVec 32).toInt : ℝ) : EReal) = 1
    simp

/-- The factor on the rows after a tile: zero where a sequence ends. -/
theorem pay2_at (i : grid0.Coords) (h : (i 0).val < 32) : (k0_pay2 (F := Ideal) i : EReal) = if (i 0).val % 16 = 15 then 0 else 1 := by
  have e : ∀ n : Fin 32, (Scalar.extui (let v2 : BitVec 32 := Scalar.remsi (BitVec.ofNat 32 n.val) (Scalar.select (Scalar.cmpi .eq 16#32 0#32) 1#32 16#32)
      Scalar.cmpi .slt (Scalar.select (Scalar.andi (Scalar.xori (Scalar.cmpi .slt v2 0#32) (Scalar.cmpi .slt (Scalar.select (Scalar.cmpi .eq 16#32 0#32) 1#32 16#32) 0#32)) (Scalar.cmpi .ne v2 0#32))
        (Scalar.addi v2 (Scalar.select (Scalar.cmpi .eq 16#32 0#32) 1#32 16#32)) v2) 15#32) : BitVec 32) = if n.val % 16 = 15 then 0#32 else 1#32 := by
    decide +kernel
  refine (congrArg (fun x : BitVec 32 => ((x.toInt : ℝ) : EReal)) (e ⟨(i 0).val, h⟩)).trans ?_
  dsimp only
  split
  · show (((0#32 : BitVec 32).toInt : ℝ) : EReal) = 0
    simp
  · show (((1#32 : BitVec 32).toInt : ℝ) : EReal) = 1
    simp

/-- A load of a whole buffer's box, at one element. -/
theorem ld_at {s : Shape} {e : EltTy} (arg : Memref sig .tc .vmem s e) (harg : arg.IsWhole) (x : Vec Ideal s e) (L : LoadRect s) (j : L.shape.Idx) (y : s.Idx)
    (h : ∀ a, (L.idx j a).val = (y a).val) : View.readAt (Elt Ideal) arg.view L (harg.unread x) j = x y :=
  (congrFun (harg.read_unread x) (L.idx j)).trans (congrArg x (funext fun a => Fin.ext (h a)))

section body
variable (i : grid0.Coords)
  (arg1 : Memref sig .tc .vmem S512x5632 .bf16) (harg1 : arg1.IsWhole)
  (arg2 : Memref sig .tc .vmem S16x5632 .bf16) (harg2 : arg2.IsWhole)
  (arg3 : Memref sig .tc .vmem S16x5632 .bf16) (harg3 : arg3.IsWhole)
  (arg6 : Memref sig .tc .vmem S128x160 .bf16) (harg6 : arg6.IsWhole)
  (arg7 : Memref sig .tc .vmem S128x160 .bf16) (harg7 : arg7.IsWhole)
  (arg8 : Memref sig .tc .vmem S3x5632 .f32) (harg8 : arg8.IsWhole)
  (arg9 : Memref sig .tc .vmem S1x5632 .f32) (harg9 : arg9.IsWhole)
  (arg16 : Memref sig .tc .vmem S512x2816 .bf16)
  (x0 : Vec Ideal S512x5632 .bf16) (x1 : Vec Ideal S16x5632 .bf16) (x2 : Vec Ideal S16x5632 .bf16) (x5 : Vec Ideal S128x160 .bf16) (x6 : Vec Ideal S128x160 .bf16)
  (x7 : Vec Ideal S3x5632 .f32) (x8 : Vec Ideal S1x5632 .f32)

/-- An element of a piece's rows. -/
theorem mainP_at (r k : Nat) (p : Fin 128) (q : Fin 256) (I : Fin 512) (J : Fin 5632) (hI : I.val = 128 * (r % 4) + p.val) (hJ : J.val = 256 * (k % 22) + q.val) :
    mainP (F := Ideal) arg1 harg1 x0 r k (ix2 p q) = x0 (ix2 I J) :=
  ld_at arg1 harg1 x0 _ _ _ fun a => by
    match a with
    | ⟨0, _⟩ => show 128 * (r % 4) + 1 * p.val = I.val; omega
    | ⟨1, _⟩ => show 256 * (k % 22) + 1 * q.val = J.val; omega

/-- An element of a weights' row. -/
theorem wP_at (n k : Nat) (q : Fin 256) (N : Fin 3) (J : Fin 5632) (hN : N.val = n % 3) (hJ : J.val = 256 * (k % 22) + q.val) :
    wP (F := Ideal) arg8 harg8 x7 n k (ix2 0 q) = x7 (ix2 N J) :=
  ld_at arg8 harg8 x7 _ _ _ fun a => by
    match a with
    | ⟨0, _⟩ => show n % 3 + 1 * 0 = N.val; omega
    | ⟨1, _⟩ => show 256 * (k % 22) + 1 * q.val = J.val; omega

/-- An element of the bias. -/
theorem cP_at (k : Nat) (q : Fin 256) (J : Fin 5632) (hJ : J.val = 256 * (k % 22) + q.val) :
    cP (F := Ideal) arg9 harg9 x8 k (ix2 0 q) = x8 (ix2 0 J) :=
  ld_at arg9 harg9 x8 _ _ _ fun a => by
    match a with
    | ⟨0, _⟩ => rfl
    | ⟨1, _⟩ => show 256 * (k % 22) + 1 * q.val = J.val; omega

/-- The last of the 16 rows before a piece. -/
theorem befP_at (r k : Nat) (hr : r < 4) (q : Fin 256) (I : Fin 512) (J : Fin 5632) (hI : I.val = 128 * r) (hJ : J.val = 256 * (k % 22) + q.val) :
    (befP (F := Ideal) i arg1 harg1 arg2 harg2 x0 x1 r k (ix2 15 q) : EReal) = befL x0 x1 (k0_pay1 (F := Ideal) i) I J := by
  match r with
  | 0 =>
    rw [befL, if_pos (by omega)]
    refine congrArg (fun x : EReal => x * (k0_pay1 (F := Ideal) i : EReal)) (ld_at arg2 harg2 x1 _ _ _ fun a => ?_)
    match a with
    | ⟨0, _⟩ => rfl
    | ⟨1, _⟩ => show 256 * (k % 22) + 1 * q.val = J.val; omega
  | r + 1 =>
    rw [befL, if_neg (by omega)]
    refine ld_at arg1 harg1 x0 _ _ _ fun a => ?_
    match a with
    | ⟨0, _⟩ => show 128 * (r % 3) + 112 + 1 * 15 = I.val - 1; omega
    | ⟨1, _⟩ => show 256 * (k % 22) + 1 * q.val = J.val; omega

/-- The first of the 16 rows after a piece. -/
theorem aftP_at (r k : Nat) (hr : r < 4) (q : Fin 256) (I : Fin 512) (J : Fin 5632) (hI : I.val = 128 * r + 127) (hJ : J.val = 256 * (k % 22) + q.val) :
    (aftP (F := Ideal) i arg1 harg1 arg3 harg3 x0 x2 r k (ix2 0 q) : EReal) = aftL x0 x2 (k0_pay2 (F := Ideal) i) I J := by
  by_cases h : r = 3
  · subst h
    rw [aftL, dif_pos (by omega)]
    refine congrArg (fun x : EReal => x * (k0_pay2 (F := Ideal) i : EReal)) (ld_at arg3 harg3 x2 _ _ _ fun a => ?_)
    match a with
    | ⟨0, _⟩ => rfl
    | ⟨1, _⟩ => show 256 * (k % 22) + 1 * q.val = J.val; omega
  · rw [aftL, dif_neg (by omega), aftP.eq_2 _ _ _ _ _ _ _ _ _ h]
    refine ld_at arg1 harg1 x0 _ _ _ fun a => ?_
    match a with
    | ⟨0, _⟩ => show 128 * (r % 3) + 128 + 1 * 0 = I.val + 1; omega
    | ⟨1, _⟩ => show 256 * (k % 22) + 1 * q.val = J.val; omega

/-- A whole table, loaded. -/
theorem tab_at (arg : Memref sig .tc .vmem S128x160 .bf16) (harg : arg.IsWhole) (x : Vec Ideal S128x160 .bf16) (p : Fin 128) (z : Fin 160) :
    (shapeCast S128x160 (View.readAt (Elt Ideal) arg.view (Rect.unit (s := S128x160) ![0, 0] S128x160.size inb_S128x160_S128x160_0_0).toLoadRect (harg.unread x))
      shapeCasts_S128x160_S128x160 : FVec Ideal S128x160 .bf16) (ix2 p z) = x (ix2 p z) := by
  refine Eq.trans (b := View.readAt (Elt Ideal) arg.view (Rect.unit (s := S128x160) ![0, 0] S128x160.size inb_S128x160_S128x160_0_0).toLoadRect (harg.unread x) (ix2 p z))
    (by pointwise []) (ld_at arg harg x _ _ _ fun a => ?_)
  match a with
  | ⟨0, _⟩ => show 0 + 1 * p.val = p.val; omega
  | ⟨1, _⟩ => show 0 + 1 * z.val = z.val; omega

/-- An element of a piece's convolution is the tile's. -/
theorem convP_at (h5 : ∀ (p : Fin 128) (z : Fin 160), (x5 (ix2 p z) : EReal) = if z.val = p.val + 15 then 1 else 0)
    (h6 : ∀ (p : Fin 128) (z : Fin 160), (x6 (ix2 p z) : EReal) = if z.val = p.val + 17 then 1 else 0)
    (r k : Nat) (hr : r < 4) (p : Fin 128) (q : Fin 256) (I : Fin 512) (J : Fin 5632) (hI : I.val = 128 * r + p.val) (hJ : J.val = 256 * (k % 22) + q.val) :
    (convP (F := Ideal) i arg1 harg1 arg2 harg2 arg3 harg3 arg6 harg6 arg7 harg7 arg8 harg8 arg9 harg9 x0 x1 x2 x5 x6 x7 x8 r k (ix2 p q) : EReal)
      = convL x0 x1 x2 x7 x8 (k0_pay1 (F := Ideal) i) (k0_pay2 (F := Ideal) i) I J := by
  have hp := p.isLt
  have hq := q.isLt
  unfold convP
  rw [cvP_at, pick_bef _ (fun p z => (tab_at arg6 harg6 x5 p z).trans (h5 p z)), pick_aft _ (fun p z => (tab_at arg7 harg7 x6 p z).trans (h6 p z)),
    mainP_at arg1 harg1 x0 r k p q I J (by omega) hJ, wP_at arg8 harg8 x7 0 k q 0 J rfl hJ, wP_at arg8 harg8 x7 1 k q 1 J rfl hJ,
    wP_at arg8 harg8 x7 2 k q 2 J rfl hJ, cP_at arg9 harg9 x8 k q J hJ]
  unfold convL
  congr 1
  · by_cases h0 : p.val = 0
    · rw [if_pos h0]
      exact befP_at i arg1 harg1 arg2 harg2 x0 x1 r k hr q I J (by omega) hJ
    · rw [if_neg h0, befL, if_neg (by omega)]
      exact mainP_at arg1 harg1 x0 r k ⟨p.val - 1, by omega⟩ q ⟨I.val - 1, by omega⟩ J (by show I.val - 1 = 128 * (r % 4) + (p.val - 1); omega) hJ
  · by_cases h0 : p.val = 127
    · rw [dif_pos h0]
      exact aftP_at i arg1 harg1 arg3 harg3 x0 x2 r k hr q I J (by omega) hJ
    · rw [dif_neg h0, aftL, dif_neg (by omega)]
      exact mainP_at arg1 harg1 x0 r k ⟨p.val + 1, by omega⟩ q ⟨I.val + 1, by omega⟩ J (by show I.val + 1 = 128 * (r % 4) + (p.val + 1); omega) hJ

/-- An element of the stored activations. -/
theorem acts_at (h5 : ∀ (p : Fin 128) (z : Fin 160), (x5 (ix2 p z) : EReal) = if z.val = p.val + 15 then 1 else 0)
    (h6 : ∀ (p : Fin 128) (z : Fin 160), (x6 (ix2 p z) : EReal) = if z.val = p.val + 17 then 1 else 0) (I : Fin 512) (J : Fin 2816) :
    ((show FVec Ideal S512x2816 .bf16 from arg16.view.readCov
        (accP (F := Ideal) i arg1 harg1 arg2 harg2 arg3 harg3 arg6 harg6 arg7 harg7 arg8 harg8 arg9 harg9 x0 x1 x2 x5 x6 x7 x8)
        (Rect.unit (s := S512x2816) ![0, 0] S512x2816.size inb_S512x2816_S512x2816_0_0).toLoadRect) (ix2 I J) : EReal)
      = gelf (convL x0 x1 x2 x7 x8 (k0_pay1 (F := Ideal) i) (k0_pay2 (F := Ideal) i) I ⟨J.val, by omega⟩)
          (convL x0 x1 x2 x7 x8 (k0_pay1 (F := Ideal) i) (k0_pay2 (F := Ideal) i) I ⟨2816 + J.val, by omega⟩) := by
  have hI := I.isLt
  have hJ := J.isLt
  change arg16.view.read (Elt Ideal) _ ((Rect.unit (s := S512x2816) ![0, 0] S512x2816.size inb_S512x2816_S512x2816_0_0).toLoadRect.idx (ix2 I J)) = _
  unfold accP
  refine Eq.trans (congrArg _ ?_) ((fills_read (s := S512x2816) (size := S128x256.size) (off := fun u => ![128 * (u / 11 % 4), 256 * (u % 11)]) (inb := inbP)
    _ _ 44 (fun u w hu hwu j => ?_) (11 * (I.val / 128) + J.val / 256) (by omega) (ix2 (⟨I.val % 128, by omega⟩ : Fin 128) (⟨J.val % 256, by omega⟩ : Fin 256))).trans ?_)
  · funext a
    refine Fin.ext ?_
    match a with
    | ⟨0, _⟩ => show 0 + 1 * I.val = 128 * ((11 * (I.val / 128) + J.val / 256) / 11 % 4) + 1 * (I.val % 128); omega
    | ⟨1, _⟩ => show 0 + 1 * J.val = 256 * ((11 * (I.val / 128) + J.val / 256) % 11) + 1 * (J.val % 256); omega
  · have hj0 : (j (0 : Fin 2)).val < 128 := (j (0 : Fin 2)).isLt
    have hj1 : (j (1 : Fin 2)).val < 256 := (j (1 : Fin 2)).isLt
    by_cases h : u / 11 = w / 11
    · refine Rect.not_mem_set_of_axis _ _ (1 : Fin 2) (256 * (u % 11)) 256 rfl rfl rfl ?_
      show 256 * (w % 11) + 1 * (j (1 : Fin 2)).val < _ ∨ _ ≤ 256 * (w % 11) + 1 * (j (1 : Fin 2)).val
      omega
    · refine Rect.not_mem_set_of_axis _ _ (0 : Fin 2) (128 * (u / 11 % 4)) 128 rfl rfl rfl ?_
      show 128 * (w / 11 % 4) + 1 * (j (0 : Fin 2)).val < _ ∨ _ ≤ 128 * (w / 11 % 4) + 1 * (j (0 : Fin 2)).val
      omega
  · refine (gl_at _ _ _ _).trans (congrArg₂ gelf ?_ ?_)
    · exact convP_at i arg1 harg1 arg2 harg2 arg3 harg3 arg6 harg6 arg7 harg7 arg8 harg8 arg9 harg9 x0 x1 x2 x5 x6 x7 x8 h5 h6 _ _ (by omega) _ _ _ _
        (by show I.val = 128 * ((11 * (I.val / 128) + J.val / 256) / 11) + I.val % 128; omega)
        (by show J.val = 256 * ((11 * (I.val / 128) + J.val / 256) % 11 % 22) + J.val % 256; omega)
    · exact convP_at i arg1 harg1 arg2 harg2 arg3 harg3 arg6 harg6 arg7 harg7 arg8 harg8 arg9 harg9 x0 x1 x2 x5 x6 x7 x8 h5 h6 _ _ (by omega) _ _ _ _
        (by show I.val = 128 * ((11 * (I.val / 128) + J.val / 256) / 11) + I.val % 128; omega)
        (by show 2816 + J.val = 256 * (((11 * (I.val / 128) + J.val / 256) % 11 + 11) % 22) + J.val % 256; omega)

end body

end Cert.Kernel8Ideal.Down

end
-- ==== Proof.DownS.lean ====
module

public import proofs.«01_k».proof.Proof.DownSPiece
public import proofs.«01_k».proof.Proof.Down
public import proofs.«01_k».proof.Proof.Gen.Kernel8Ideal.Value
public import Idealize.ShloMosaic.Lib.Pipeline.ValueKit
public import Idealize.ShloMosaic.Lib.Tactic
public import Idealize.ShloMosaic.Lib.VecWindow

/-! The sample group's down-projection and what follows it: the kernel's result array is the reference's term over the kernel's arguments. -/

@[expose] public section

set_option maxRecDepth 65536

noncomputable section

namespace Cert.Kernel8Ideal.Down

open Idealize.ShloMosaic Idealize.ShloMosaic.TcCoe Idealize.ShloMosaic.Tactic Idealize.SL.Sem
open Cert.Kernel8Ideal Cert.Kernel8Ideal.Gen
open Cert.Reference5Ideal.Down (rmsf cvf gelf x2f x3f)
open Cert.Kernel5Ideal.Down (fills fills_read ext row cv gl inbM inbB inbA inbN inbW inbC inbP tailP pay247_at pay248_at pay249_at tail_at ext_at cvP_at gl_at pick_bef pick_aft befL aftL convL prevT nextT prev_at next_at cw_at cb_at wd_at wl_at wg_at gb_at nw_at)
open Cert.Reference8Ideal.Down (bef aft)
open Idealize.ShloMosaic.Pipeline (Dat)

section body
variable (c : Dev nD) (i : grid0.Coords)
  (arg1 : Memref sig .tc .vmem S512x5632 .bf16) (harg1 : arg1.IsWhole)
  (arg2 : Memref sig .tc .vmem S16x5632 .bf16) (harg2 : arg2.IsWhole)
  (arg3 : Memref sig .tc .vmem S16x5632 .bf16) (harg3 : arg3.IsWhole)
  (arg4 : Memref sig .tc .vmem S512x1024 .f32) (harg4 : arg4.IsWhole)
  (arg5 : Memref sig .tc .vmem S512x256 .f32) (harg5 : arg5.IsWhole)
  (arg6 : Memref sig .tc .vmem S128x160 .bf16) (harg6 : arg6.IsWhole)
  (arg7 : Memref sig .tc .vmem S128x160 .bf16) (harg7 : arg7.IsWhole)
  (arg8 : Memref sig .tc .vmem S3x5632 .f32) (harg8 : arg8.IsWhole)
  (arg9 : Memref sig .tc .vmem S1x5632 .f32) (harg9 : arg9.IsWhole)
  (arg10 : Memref sig .tc .vmem S2816x1024 .bf16) (harg10 : arg10.IsWhole)
  (arg11 : Memref sig .tc .vmem S256x1024 .bf16) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S512x1024 .f32) (harg15 : arg15.IsWhole)
  (arg16 : Memref sig .tc .vmem S512x2816 .bf16) (harg16 : arg16.IsWhole)
  (x0 : Vec Ideal S512x5632 .bf16) (x1 : Vec Ideal S16x5632 .bf16) (x2 : Vec Ideal S16x5632 .bf16) (x3 : Vec Ideal S512x1024 .f32) (x4 : Vec Ideal S512x256 .f32)
  (x5 : Vec Ideal S128x160 .bf16) (x6 : Vec Ideal S128x160 .bf16) (x7 : Vec Ideal S3x5632 .f32) (x8 : Vec Ideal S1x5632 .f32) (x9 : Vec Ideal S2816x1024 .bf16)
  (x10 : Vec Ideal S256x1024 .bf16) (x11 : Vec Ideal S1024x1024 .bf16) (x12 : Vec Ideal S1x1024 .f32) (x13 : Vec Ideal S1x1024 .f32)

/-- An element of the block that the body leaves, from the blocks it reads. -/
theorem out_at (h5 : ∀ (p : Fin 128) (z : Fin 160), (x5 (ix2 p z) : EReal) = if z.val = p.val + 15 then 1 else 0)
    (h6 : ∀ (p : Fin 128) (z : Fin 160), (x6 (ix2 p z) : EReal) = if z.val = p.val + 17 then 1 else 0) (I : Fin 512) (J : Fin 1024) :
    ((show FVec Ideal S512x1024 .f32 from out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13) (ix2 I J) : EReal)
      = rmsf (fun j => x3f (fun z => x2f (x3 (ix2 I z))
            (fun y => gelf (convL x0 x1 x2 x7 x8 (k0_pay1 (F := Ideal) i) (k0_pay2 (F := Ideal) i) I ⟨y.val, by omega⟩)
              (convL x0 x1 x2 x7 x8 (k0_pay1 (F := Ideal) i) (k0_pay2 (F := Ideal) i) I ⟨2816 + y.val, by omega⟩))
            (fun y => x9 (ix2 y z))) (fun z => x11 (ix2 z j)) (x12 (ix2 0 j))
          (fun z => x4 (ix2 I z)) (fun z => x10 (ix2 z j)) j) (x13 (ix2 0 J)) J := by
  unfold out0_A_14
  rw [body_eq]
  have e4 : View.readAt (Elt Ideal) arg4.view (Rect.unit (s := S512x1024) ![0, 0] S512x1024.size inb_S512x1024_S512x1024_0_0).toLoadRect (harg4.unread x3) = x3 :=
    (View.readAt_full arg4.view _ _).trans (harg4.read_unread x3)
  have e10 : View.readAt (Elt Ideal) arg10.view (Rect.unit (s := S2816x1024) ![0, 0] S2816x1024.size inb_S2816x1024_S2816x1024_0_0).toLoadRect (harg10.unread x9) = x9 :=
    (View.readAt_full arg10.view _ _).trans (harg10.read_unread x9)
  have e12 : View.readAt (Elt Ideal) arg12.view (Rect.unit (s := S1024x1024) ![0, 0] S1024x1024.size inb_S1024x1024_S1024x1024_0_0).toLoadRect (harg12.unread x11) = x11 :=
    (View.readAt_full arg12.view _ _).trans (harg12.read_unread x11)
  have e13 : View.readAt (Elt Ideal) arg13.view (Rect.unit (s := S1x1024) ![0, 0] S1x1024.size inb_S1x1024_S1x1024_0_0).toLoadRect (harg13.unread x12) = x12 :=
    (View.readAt_full arg13.view _ _).trans (harg13.read_unread x12)
  have e5 : View.readAt (Elt Ideal) arg5.view (Rect.unit (s := S512x256) ![0, 0] S512x256.size inb_S512x256_S512x256_0_0).toLoadRect (harg5.unread x4) = x4 :=
    (View.readAt_full arg5.view _ _).trans (harg5.read_unread x4)
  have e11 : View.readAt (Elt Ideal) arg11.view (Rect.unit (s := S256x1024) ![0, 0] S256x1024.size inb_S256x1024_S256x1024_0_0).toLoadRect (harg11.unread x10) = x10 :=
    (View.readAt_full arg11.view _ _).trans (harg11.read_unread x10)
  have e14 : View.readAt (Elt Ideal) arg14.view (Rect.unit (s := S1x1024) ![0, 0] S1x1024.size inb_S1x1024_S1x1024_0_0).toLoadRect (harg14.unread x13) = x13 :=
    (View.readAt_full arg14.view _ _).trans (harg14.read_unread x13)
  rw [e4, e10, e12, e13, e5, e11, e14]
  refine (congrFun (View.read_writes_full VO0_14 _ _ _ _) (ix2 I J)).trans ?_
  refine (tail_at _ _ _ _ _ _ _ _ I J).trans ?_
  have hA : ∀ y, ((show FVec Ideal S512x2816 .bf16 from arg16.view.readCov
        (accP (F := Ideal) i arg1 harg1 arg2 harg2 arg3 harg3 arg6 harg6 arg7 harg7 arg8 harg8 arg9 harg9 x0 x1 x2 x5 x6 x7 x8)
        (Rect.unit (s := S512x2816) ![0, 0] S512x2816.size inb_S512x2816_S512x2816_0_0).toLoadRect) (ix2 I y) : EReal) = _ :=
    fun y => acts_at i arg1 harg1 arg2 harg2 arg3 harg3 arg6 harg6 arg7 harg7 arg8 harg8 arg9 harg9 arg16 x0 x1 x2 x5 x6 x7 x8 h5 h6 I y
  exact congrArg (fun a : Fin 2816 → EReal => rmsf (fun j => x3f (fun z => x2f (x3 (ix2 I z)) a (fun y => x9 (ix2 y z))) (fun z => x11 (ix2 z j)) (x12 (ix2 0 j))
          (fun z => x4 (ix2 I z)) (fun z => x10 (ix2 z j)) j) (x13 (ix2 0 J)) J) (funext hA)

end body

/-- Where each window's block lies at each point of the grid. -/
theorem idx : ∀ t : Fin cfg0.N, (win0_0.index t = ![t.val, 0] ∧ win0_1.index t = ![32 * t.val - 1, 0] ∧ win0_2.index t = ![min (32 * (t.val + 1)) 1023, 0]
    ∧ win0_3.index t = ![t.val, 0] ∧ win0_4.index t = ![t.val, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![t.val, 0]) ∧ (grid0.coords t 0).val = t.val ∧ t.val < 32 :=
  (by decide +kernel : ∀ t : Fin grid0.N, _)

/-! ### The host's operands -/

/-- A host operand as the call gets it. -/
theorem V_prev (m : (ℓ : Loc nD τ sig) → Buf (Elt Ideal) ℓ) (c : Dev nD) : (show FVec Ideal S128x160 .bf16 from V m c main_v11) = prevT := by
  unfold prevT
  sl_kernel_rfl

/-- A host operand as the call gets it. -/
theorem V_next (m : (ℓ : Loc nD τ sig) → Buf (Elt Ideal) ℓ) (c : Dev nD) : (show FVec Ideal S128x160 .bf16 from V m c main_v21) = nextT := by
  unfold nextT
  sl_kernel_rfl

/-- A host operand as the call gets it. -/
theorem V_cw (m : (ℓ : Loc nD τ sig) → Buf (Elt Ideal) ℓ) (c : Dev nD) :
    (show FVec Ideal S3x5632 .f32 from V m c main_v22) = shapeCast S3x5632 (show FVec Ideal S1x3x5632 .f32 from m ((c : Thread nD τ).loc main_arg3)) shapeCasts_S1x3x5632_S3x5632 := by
  sl_kernel_rfl

/-- A host operand as the call gets it. -/
theorem V_cb (m : (ℓ : Loc nD τ sig) → Buf (Elt Ideal) ℓ) (c : Dev nD) :
    (show FVec Ideal S1x5632 .f32 from V m c main_v24) = broadcastInDim S1x5632 ![1] bcast_S5632_S1x5632_1 (shapeCast S5632 (show FVec Ideal S1x5632 .f32 from m ((c : Thread nD τ).loc main_arg4)) shapeCasts_S1x5632_S5632) := by
  sl_kernel_rfl

/-- A host operand as the call gets it. -/
theorem V_wd (m : (ℓ : Loc nD τ sig) → Buf (Elt Ideal) ℓ) (c : Dev nD) :
    (show FVec Ideal S2816x1024 .bf16 from V m c main_v26) = truncf (F := Ideal) .bf16 (shapeCast S2816x1024 (show FVec Ideal S1x2816x1024 .f32 from m ((c : Thread nD τ).loc main_arg5)) shapeCasts_S1x2816x1024_S2816x1024) bitsLt_bf16_f32 := by
  sl_kernel_rfl

/-- A host operand as the call gets it. -/
theorem V_wl (m : (ℓ : Loc nD τ sig) → Buf (Elt Ideal) ℓ) (c : Dev nD) :
    (show FVec Ideal S256x1024 .bf16 from V m c main_v28) = truncf (F := Ideal) .bf16 (shapeCast S256x1024 (show FVec Ideal S1x256x1024 .f32 from m ((c : Thread nD τ).loc main_arg6)) shapeCasts_S1x256x1024_S256x1024) bitsLt_bf16_f32 := by
  sl_kernel_rfl

/-- A host operand as the call gets it. -/
theorem V_wg (m : (ℓ : Loc nD τ sig) → Buf (Elt Ideal) ℓ) (c : Dev nD) :
    (show FVec Ideal S1024x1024 .bf16 from V m c main_v30) = truncf (F := Ideal) .bf16 (shapeCast S1024x1024 (show FVec Ideal S1x1024x1024 .f32 from m ((c : Thread nD τ).loc main_arg7)) shapeCasts_S1x1024x1024_S1024x1024) bitsLt_bf16_f32 := by
  sl_kernel_rfl

/-- A host operand as the call gets it. -/
theorem V_gb (m : (ℓ : Loc nD τ sig) → Buf (Elt Ideal) ℓ) (c : Dev nD) :
    (show FVec Ideal S1x1024 .f32 from V m c main_v32) = broadcastInDim S1x1024 ![1] bcast_S1024_S1x1024_1 (shapeCast S1024 (show FVec Ideal S1x1024 .f32 from m ((c : Thread nD τ).loc main_arg8)) shapeCasts_S1x1024_S1024) := by
  sl_kernel_rfl

/-- A host operand as the call gets it. -/
theorem V_nw (m : (ℓ : Loc nD τ sig) → Buf (Elt Ideal) ℓ) (c : Dev nD) :
    (show FVec Ideal S1x1024 .f32 from V m c main_v33) = broadcastInDim S1x1024 ![1] bcast_S1024_S1x1024_1 (show FVec Ideal S1024 .f32 from m ((c : Thread nD τ).loc main_arg9)) := by
  sl_kernel_rfl

section
variable (m : (ℓ : Loc nD τ sig) → Buf (Elt Ideal) ℓ) (c : Dev nD) (t : Fin cfg0.N)

/-- Window 0's block: the point's rows. -/
theorem blk0 (i : Fin 512) (x : Fin 5632) : ((show FVec Ideal S512x5632 .bf16 from iblk m c 0 t) (ix2 i x) : EReal)
    = (show FVec Ideal S16384x5632 .bf16 from m ((c : Thread nD τ).loc main_arg0)) (ix2 ⟨512 * t.val + i.val, by have := (idx t).2; omega⟩ x) := by
  blk_ext [iblk, V_main_arg0, idx t]

/-- Window 1's block: the 16 rows before the point's. -/
theorem blk1 (x : Fin 5632) (r : Fin 16384) (h : 0 < t.val) (hr : r.val = 512 * t.val - 1) : ((show FVec Ideal S16x5632 .bf16 from iblk m c 1 t) (ix2 15 x) : EReal)
    = (show FVec Ideal S16384x5632 .bf16 from m ((c : Thread nD τ).loc main_arg0)) (ix2 r x) := by
  blk_ext [iblk, V_main_arg0, idx t]

/-- Window 2's block: the 16 rows after the point's. -/
theorem blk2 (x : Fin 5632) (r : Fin 16384) (h : t.val < 31) (hr : r.val = 512 * t.val + 512) : ((show FVec Ideal S16x5632 .bf16 from iblk m c 2 t) (ix2 0 x) : EReal)
    = (show FVec Ideal S16384x5632 .bf16 from m ((c : Thread nD τ).loc main_arg0)) (ix2 r x) := by
  blk_ext [iblk, V_main_arg0, idx t]

/-- Window 3's block: the point's rows. -/
theorem blk3 (i : Fin 512) (x : Fin 1024) : ((show FVec Ideal S512x1024 .f32 from iblk m c 3 t) (ix2 i x) : EReal)
    = (show FVec Ideal S16384x1024 .f32 from m ((c : Thread nD τ).loc main_arg1)) (ix2 ⟨512 * t.val + i.val, by have := (idx t).2; omega⟩ x) := by
  blk_ext [iblk, V_main_arg1, idx t]

/-- Window 4's block: the point's rows. -/
theorem blk4 (i : Fin 512) (x : Fin 256) : ((show FVec Ideal S512x256 .f32 from iblk m c 4 t) (ix2 i x) : EReal)
    = (show FVec Ideal S16384x256 .f32 from m ((c : Thread nD τ).loc main_arg2)) (ix2 ⟨512 * t.val + i.val, by have := (idx t).2; omega⟩ x) := by
  blk_ext [iblk, V_main_arg2, idx t]

/-- Window 5's block: the whole table. -/
theorem blk5 (p : Fin 128) (z : Fin 160) : ((show FVec Ideal S128x160 .bf16 from iblk m c 5 t) (ix2 p z) : EReal) = if z.val = p.val + 15 then 1 else 0 := by
  refine Eq.trans ?_ (prev_at p z)
  rw [← V_prev m c]
  blk_ext [iblk, idx t]

/-- Window 6's block: the whole table. -/
theorem blk6 (p : Fin 128) (z : Fin 160) : ((show FVec Ideal S128x160 .bf16 from iblk m c 6 t) (ix2 p z) : EReal) = if z.val = p.val + 17 then 1 else 0 := by
  refine Eq.trans ?_ (next_at p z)
  rw [← V_next m c]
  blk_ext [iblk, idx t]

/-- Window 7's block: the whole array. -/
theorem blk7 (n : Fin 3) (j : Fin 5632) : ((show FVec Ideal S3x5632 .f32 from iblk m c 7 t) (ix2 n j) : EReal)
    = (show FVec Ideal S1x3x5632 .f32 from m ((c : Thread nD τ).loc main_arg3)) (ix3 0 n j) := by
  refine Eq.trans ?_ (cw_at _ n j)
  rw [← V_cw m c]
  blk_ext [iblk, idx t]

/-- Window 8's block: the whole array. -/
theorem blk8 (j : Fin 5632) : ((show FVec Ideal S1x5632 .f32 from iblk m c 8 t) (ix2 0 j) : EReal)
    = (show FVec Ideal S1x5632 .f32 from m ((c : Thread nD τ).loc main_arg4)) (ix2 0 j) := by
  refine Eq.trans ?_ (cb_at _ j)
  rw [← V_cb m c]
  blk_ext [iblk, idx t]

/-- Window 9's block: the whole array. -/
theorem blk9 (z : Fin 2816) (j : Fin 1024) : ((show FVec Ideal S2816x1024 .bf16 from iblk m c 9 t) (ix2 z j) : EReal)
    = (show FVec Ideal S1x2816x1024 .f32 from m ((c : Thread nD τ).loc main_arg5)) (ix3 0 z j) := by
  refine Eq.trans ?_ (wd_at _ z j)
  rw [← V_wd m c]
  blk_ext [iblk, idx t]

/-- Window 10's block: the whole array. -/
theorem blk10 (z : Fin 256) (j : Fin 1024) : ((show FVec Ideal S256x1024 .bf16 from iblk m c 10 t) (ix2 z j) : EReal)
    = (show FVec Ideal S1x256x1024 .f32 from m ((c : Thread nD τ).loc main_arg6)) (ix3 0 z j) := by
  refine Eq.trans ?_ (wl_at _ z j)
  rw [← V_wl m c]
  blk_ext [iblk, idx t]

/-- Window 11's block: the whole array. -/
theorem blk11 (z : Fin 1024) (j : Fin 1024) : ((show FVec Ideal S1024x1024 .bf16 from iblk m c 11 t) (ix2 z j) : EReal)
    = (show FVec Ideal S1x1024x1024 .f32 from m ((c : Thread nD τ).loc main_arg7)) (ix3 0 z j) := by
  refine Eq.trans ?_ (wg_at _ z j)
  rw [← V_wg m c]
  blk_ext [iblk, idx t]

/-- Window 12's block: the whole array. -/
theorem blk12 (j : Fin 1024) : ((show FVec Ideal S1x1024 .f32 from iblk m c 12 t) (ix2 0 j) : EReal)
    = (show FVec Ideal S1x1024 .f32 from m ((c : Thread nD τ).loc main_arg8)) (ix2 0 j) := by
  refine Eq.trans ?_ (gb_at _ j)
  rw [← V_gb m c]
  blk_ext [iblk, idx t]

/-- Window 13's block: the whole array. -/
theorem blk13 (j : Fin 1024) : ((show FVec Ideal S1x1024 .f32 from iblk m c 13 t) (ix2 0 j) : EReal)
    = (show FVec Ideal S1024 .f32 from m ((c : Thread nD τ).loc main_arg9)) (ix1 j) := by
  refine Eq.trans ?_ (nw_at _ j)
  rw [← V_nw m c]
  blk_ext [iblk, idx t]

end

/-- The reference's convolution over the kernel's arguments. -/
def CV (m : (ℓ : Loc nD τ sig) → Buf (Elt Ideal) ℓ) (c : Dev nD) : FVec Ideal S16384x5632 .f32 :=
  Cert.Reference8Ideal.Down.cvT (m ((c : Thread nD τ).loc main_arg0)) (m ((c : Thread nD τ).loc main_arg3)) (m ((c : Thread nD τ).loc main_arg4))

/-- The reference's residual stream after the down-projection over the kernel's arguments. -/
def RX2 (m : (ℓ : Loc nD τ sig) → Buf (Elt Ideal) ℓ) (c : Dev nD) : FVec Ideal S16384x1024 .f32 :=
  Cert.Reference8Ideal.Down.x2T (m ((c : Thread nD τ).loc main_arg1)) (Cert.Reference8Ideal.Down.actT (CV m c)) (m ((c : Thread nD τ).loc main_arg5))

/-- The reference's residual stream after the per-layer embedding over the kernel's arguments. -/
def RX3 (m : (ℓ : Loc nD τ sig) → Buf (Elt Ideal) ℓ) (c : Dev nD) : FVec Ideal S16384x1024 .f32 :=
  Cert.Reference8Ideal.Down.x3T (RX2 m c) (m ((c : Thread nD τ).loc main_arg7)) (m ((c : Thread nD τ).loc main_arg8)) (m ((c : Thread nD τ).loc main_arg2))
    (m ((c : Thread nD τ).loc main_arg6))

/-- The reference's result over the kernel's arguments. -/
def REF (m : (ℓ : Loc nD τ sig) → Buf (Elt Ideal) ℓ) (c : Dev nD) : FVec Ideal S16384x1024 .f32 :=
  Cert.Reference8Ideal.Down.nrmT (RX3 m c) (m ((c : Thread nD τ).loc main_arg9))

section
variable (m : (ℓ : Loc nD τ sig) → Buf (Elt Ideal) ℓ) (c : Dev nD) (t : Fin cfg0.N)

/-- The row before a row of the tile is the row before it in its sequence. -/
theorem bef_blk (i : Fin 512) (j : Fin 5632) (r : Fin 16384) (hr : r.val = 512 * t.val + i.val) :
    befL (iblk m c 0 t) (iblk m c 1 t) (k0_pay1 (F := Ideal) (grid0.coords t)) i j
      = bef (fun r => (show FVec Ideal S16384x5632 .bf16 from m ((c : Thread nD τ).loc main_arg0)) (ix2 r j)) r := by
  have h32 := (idx t).2
  unfold befL bef
  by_cases h0 : i.val = 0
  · rw [if_pos h0, pay1_at _ (by omega), h32.1]
    by_cases ht : t.val % 16 = 0
    · rw [if_pos ht, if_pos (by omega), mul_zero]
    · rw [if_neg ht, if_neg (by omega), mul_one]
      exact blk1 m c t j _ (by omega) (by show r.val - 1 = _; omega)
  · rw [if_neg h0, if_neg (by omega)]
    refine (blk0 m c t _ j).trans ?_
    exact congrArg (fun r => (show FVec Ideal S16384x5632 .bf16 from m ((c : Thread nD τ).loc main_arg0)) (ix2 r j))
      (Fin.ext (by show 512 * t.val + (i.val - 1) = r.val - 1; omega))

/-- The row after a row of the tile is the row after it in its sequence. -/
theorem aft_blk (i : Fin 512) (j : Fin 5632) (r : Fin 16384) (hr : r.val = 512 * t.val + i.val) :
    aftL (iblk m c 0 t) (iblk m c 2 t) (k0_pay2 (F := Ideal) (grid0.coords t)) i j
      = aft (fun r => (show FVec Ideal S16384x5632 .bf16 from m ((c : Thread nD τ).loc main_arg0)) (ix2 r j)) r := by
  have h32 := (idx t).2
  have hi := i.isLt
  unfold aftL aft
  by_cases h0 : i.val = 511
  · rw [dif_pos h0, pay2_at _ (by omega), h32.1]
    by_cases ht : t.val % 16 = 15
    · rw [if_pos ht, dif_pos (by omega), mul_zero]
    · rw [if_neg ht, dif_neg (by omega), mul_one]
      exact blk2 m c t j _ (by omega) (by show r.val + 1 = _; omega)
  · rw [dif_neg h0, dif_neg (by omega)]
    refine (blk0 m c t _ j).trans ?_
    exact congrArg (fun r => (show FVec Ideal S16384x5632 .bf16 from m ((c : Thread nD τ).loc main_arg0)) (ix2 r j))
      (Fin.ext (by show 512 * t.val + (i.val + 1) = r.val + 1; omega))

/-- The tile's convolution is the reference's, row for row. -/
theorem conv_blk (i : Fin 512) (j : Fin 5632) (r : Fin 16384) (hr : r.val = 512 * t.val + i.val) :
    convL (iblk m c 0 t) (iblk m c 1 t) (iblk m c 2 t) (iblk m c 7 t) (iblk m c 8 t) (k0_pay1 (F := Ideal) (grid0.coords t)) (k0_pay2 (F := Ideal) (grid0.coords t)) i j
      = CV m c (ix2 r j) := by
  have h32 := (idx t).2
  refine Eq.trans ?_ (Cert.Reference8Ideal.Down.cv_at _ _ _ r j).symm
  unfold convL
  congr 1
  · exact bef_blk m c t i j r hr
  · exact (blk0 m c t i j).trans (congrArg (fun r => (show FVec Ideal S16384x5632 .bf16 from m ((c : Thread nD τ).loc main_arg0)) (ix2 r j)) (Fin.ext hr.symm))
  · exact aft_blk m c t i j r hr
  · exact blk7 m c t 0 j
  · exact blk7 m c t 1 j
  · exact blk7 m c t 2 j
  · exact blk8 m c t j

/-- The point's residual stream after the down-projection is the reference's. -/
theorem x2_blk (i : Fin 512) (j : Fin 1024) (r : Fin 16384) (hr : r.val = 512 * t.val + i.val) :
    x2f ((show FVec Ideal S512x1024 .f32 from iblk m c 3 t) (ix2 i j))
      (fun y : Fin 2816 => gelf (convL (iblk m c 0 t) (iblk m c 1 t) (iblk m c 2 t) (iblk m c 7 t) (iblk m c 8 t) (k0_pay1 (F := Ideal) (grid0.coords t)) (k0_pay2 (F := Ideal) (grid0.coords t)) i ⟨y.val, by omega⟩)
        (convL (iblk m c 0 t) (iblk m c 1 t) (iblk m c 2 t) (iblk m c 7 t) (iblk m c 8 t) (k0_pay1 (F := Ideal) (grid0.coords t)) (k0_pay2 (F := Ideal) (grid0.coords t)) i ⟨2816 + y.val, by omega⟩))
      (fun y => (show FVec Ideal S2816x1024 .bf16 from iblk m c 9 t) (ix2 y j)) = RX2 m c (ix2 r j) := by
  have h32 := (idx t).2
  refine Eq.trans ?_ (Cert.Reference8Ideal.Down.x2_at _ _ _ r j).symm
  congr 1
  · exact (blk3 m c t i j).trans (congrArg (fun r => (show FVec Ideal S16384x1024 .f32 from m ((c : Thread nD τ).loc main_arg1)) (ix2 r j)) (Fin.ext hr.symm))
  · funext y
    refine Eq.trans ?_ (Cert.Reference8Ideal.Down.act_at _ r y).symm
    exact congrArg₂ gelf (conv_blk m c t i _ r hr) (conv_blk m c t i _ r hr)
  · exact funext fun y => blk9 m c t y j

end

/-- The result's array after the run. -/
theorem final (m : (ℓ : Loc nD τ sig) → Buf (Elt Ideal) ℓ) (c : Dev nD) : (dats m 0 c).arrAt 14 (cfgs 0).N = REF m c := by
  refine (dats m 0 c).arrAt_eq_of_covers 14 _ (by decide +kernel) fun t _ y => ?_
  blk_simp
  rw [after0_14]
  have h32 := (idx t).2
  obtain ⟨i, j, rfl⟩ : ∃ (i : Fin 512) (j : Fin 1024), y = ix2 i j := ⟨y 0, y 1, eq_ix2 (n0 := 512) (n1 := 1024) y⟩
  have e : ((cfg0.win 14).blk t).view.emb (ix2 i j) = ix2 (⟨512 * t.val + i.val, by omega⟩ : Fin 16384) j := by blk_ext [idx t]
  refine Eq.trans ?_ (congrArg (REF m c) e.symm)
  refine (out_at c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (blk5 m c t) (blk6 m c t) i j).trans ?_
  refine Eq.trans ?_ (Cert.Reference8Ideal.Down.nrm_at _ _ _ j).symm
  refine congrArg₂ (fun a b => rmsf a b j) (funext fun z => ?_) (blk13 m c t j)
  refine Eq.trans ?_ (Cert.Reference8Ideal.Down.x3_at _ _ _ _ _ _ z).symm
  congr 1
  · exact funext fun x => x2_blk m c t i x _ rfl
  · exact funext fun x => blk11 m c t x z
  · exact blk12 m c t z
  · exact funext fun x => blk4 m c t i x
  · exact funext fun x => blk10 m c t x z

end Cert.Kernel8Ideal.Down

end
-- ==== Proof.Final.lean ====
module

public import proofs.«01_k».proof.Proof.Point
public import proofs.«01_k».proof.Proof.Gen.KernelIdeal.Value
public import Idealize.ShloMosaic.Lib.Pipeline.ValueKit

/-! The kernel's result array is the reference's term over the kernel's arguments. -/

@[expose] public section

set_option maxRecDepth 16384

noncomputable section

namespace Cert.KernelIdeal.Trip

open Idealize.ShloMosaic Idealize.ShloMosaic.TcCoe Idealize.ShloMosaic.Tactic Idealize.SL.Sem
open Cert.KernelIdeal Cert.KernelIdeal.Gen
open Cert.ReferenceIdeal.Stage (scores mx ex pr out)
open Idealize.ShloMosaic.Pipeline (Dat)

/-- Where each window's block lies at each point of the grid. -/
theorem idx : ∀ t : Fin cfg0.N, win0_0.index t = ![t.val / 64, t.val % 16, t.val / 16 % 4] ∧ win0_1.index t = ![t.val / 64, t.val / 16 % 4, 0, 0]
    ∧ win0_2.index t = ![t.val / 64, t.val / 16 % 4, 0, 0, 0] ∧ win0_3.index t = ![t.val % 16, 0] ∧ win0_4.index t = ![t.val % 16, 0]
    ∧ win0_5.index t = ![0, 0] ∧ win0_6.index t = ![0, 0] ∧ win0_7.index t = ![t.val / 64, t.val % 16, t.val / 16 % 4] ∧ t.val < 256 :=
  (by decide +kernel : ∀ t : Fin grid0.N, _)

section
variable (m : (ℓ : Loc nD τ sig) → Buf (Elt Ideal) ℓ) (c : Dev nD) (t : Fin cfg0.N)

/-- The queries' block. -/
theorem blk0 (s : Fin 512) (l : Fin 256) : ((show Vec Ideal S1x512x256 .bf16 from iblk m c 0 t) (ix3 0 s l) : EReal)
    = (show FVec Ideal S4x8192x1024 .bf16 from m ((c : Thread nD τ).loc main_arg0))
      (ix3 ⟨t.val / 64, by have := (idx t).2.2.2.2.2.2.2.2; omega⟩ ⟨512 * (t.val % 16) + s.val, by omega⟩ ⟨256 * (t.val / 16 % 4) + l.val, by omega⟩) := by
  blk_ext [iblk, V_main_arg0, idx t]

/-- The keys' block. -/
theorem blk1 (n : Fin 8192) (d : Fin 64) : ((show Vec Ideal S1x1x8192x64 .bf16 from iblk m c 1 t) (ix4 0 0 n d) : EReal)
    = (show FVec Ideal S4x4x8192x64 .bf16 from m ((c : Thread nD τ).loc main_arg1))
      (ix4 ⟨t.val / 64, by have := (idx t).2.2.2.2.2.2.2.2; omega⟩ ⟨t.val / 16 % 4, by omega⟩ n d) := by
  blk_ext [iblk, V_main_arg1, idx t]

/-- Where an element of the values' block lies in its array. -/
theorem emb2 (b g : Fin 4) (hb : b.val = t.val / 64) (hg : g.val = t.val / 16 % 4) (p : Fin 2) (r : Fin 80) (n : Fin 4096) :
    (((cfg0.win 2).blk t).view.emb (ix5 0 0 p r n)) = (ix5 b g p r n) := by
  blk_ext [idx t]

/-- The values' block. -/
theorem blk2 (b g : Fin 4) (hb : b.val = t.val / 64) (hg : g.val = t.val / 16 % 4) (p : Fin 2) (r : Fin 80) (n : Fin 4096) :
    ((show Vec Ideal S1x1x2x80x4096 .bf16 from iblk m c 2 t) (ix5 0 0 p r n) : EReal)
      = vtT (m ((c : Thread nD τ).loc main_arg2)) (ix5 b g p r n) :=
  (congrArg (V m c main_v77) (emb2 t b g hb hg p r n)).trans (congrFun (V_vt m c) _)

/-- The cosines' block. -/
theorem blk3 (s : Fin 512) (l : Fin 256) : ((show Vec Ideal S512x256 .f32 from iblk m c 3 t) (ix2 s l) : EReal) = cosT (ix2 ⟨512 * (t.val % 16) + s.val, by omega⟩ l) := by
  rw [← V_cos m c]
  blk_ext [iblk, idx t]

/-- The sines' block. -/
theorem blk4 (s : Fin 512) (l : Fin 256) : ((show Vec Ideal S512x256 .f32 from iblk m c 4 t) (ix2 s l) : EReal) = sinT (ix2 ⟨512 * (t.val % 16) + s.val, by omega⟩ l) := by
  rw [← V_sin m c]
  blk_ext [iblk, idx t]

/-- The table of ones' block. -/
theorem blk5 (x y : Fin 256) : ((show Vec Ideal S256x256 .bf16 from iblk m c 5 t) (ix2 x y) : EReal) = onesT (ix2 x y) := by
  rw [← V_ones m c]
  blk_ext [iblk, idx t]

/-- The weights' block. -/
theorem blk6 (l : Fin 256) : ((show Vec Ideal S1x256 .f32 from iblk m c 6 t) (ix2 0 l) : EReal) = qwT (m ((c : Thread nD τ).loc main_arg3)) (ix2 0 l) := by
  rw [← V_qw m c]
  blk_ext [iblk, idx t]

end

/-- The reference's result over the kernel's arguments. -/
def REF (m : (ℓ : Loc nD τ sig) → Buf (Elt Ideal) ℓ) (c : Dev nD) : FVec Ideal S4x8192x1024 .bf16 :=
  out (m ((c : Thread nD τ).loc main_arg2))
    (pr (ex (scores (m ((c : Thread nD τ).loc main_arg0)) (m ((c : Thread nD τ).loc main_arg1)) (m ((c : Thread nD τ).loc main_arg3)))
      (mx (scores (m ((c : Thread nD τ).loc main_arg0)) (m ((c : Thread nD τ).loc main_arg1)) (m ((c : Thread nD τ).loc main_arg3))))))

/-- The kernel's result array after the run. -/
theorem final (m : (ℓ : Loc nD τ sig) → Buf (Elt Ideal) ℓ) (c : Dev nD)
    (hK : ∀ i, ∃ r : ℝ, ((show FVec Ideal S4x4x8192x64 .bf16 from m ((c : Thread nD τ).loc main_arg1)) i : EReal) = (r : EReal))
    (hw : ∀ i, ∃ r : ℝ, ((show FVec Ideal S1x64 .f32 from m ((c : Thread nD τ).loc main_arg3)) i : EReal) = (r : EReal)) :
    (dats m 0 c).arrAt 7 (cfgs 0).N = REF m c := by
  refine (dats m 0 c).arrAt_eq_of_covers 7 _ (by decide +kernel) fun t _ y => ?_
  blk_simp
  rw [after0_7, outsAt0, out_eq]
  have h256 := (idx t).2.2.2.2.2.2.2.2
  obtain ⟨z, s, l, rfl⟩ : ∃ (z : Fin 1) (s : Fin 512) (l : Fin 256), y = ix3 z s l := ⟨y 0, y 1, y 2, eq_ix3 (n0 := 1) (n1 := 512) (n2 := 256) y⟩
  obtain rfl : z = 0 := Subsingleton.elim _ _
  refine (block_eq (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (iblk m c 4 t) (iblk m c 5 t) (iblk m c 6 t)
    ⟨t.val / 64, by omega⟩ ⟨t.val / 16 % 4, by omega⟩ ⟨t.val % 16, by omega⟩ hK hw
    (blk0 m c t) (blk1 m c t) (blk2 m c t _ _ rfl rfl) (blk3 m c t) (blk4 m c t) (blk5 m c t) (blk6 m c t) s l).trans ?_
  refine congrArg (REF m c) ?_
  blk_ext [idx t]

end Cert.KernelIdeal.Trip
end
-- ==== Proof.Precond.lean ====
module

public import proofs.«01_k».proof.Defs
public import proofs.«01_k».proof.Proof.Soft
public import Idealize.ShloMosaic.Lib.Pointwise

/-! What the precondition says: the keys and the norm's weights are real numbers. -/

@[expose] public section

set_option maxRecDepth 16384

noncomputable section

namespace Cert.Proof

open Idealize.ShloMosaic Idealize.ShloMosaic.TcCoe Idealize.ShloMosaic.Tactic Idealize.SL.Sem
open Cert.Pre_finite_keys_and_weights

/-- The side conditions of the precondition's function. -/
theorem preFacts : Cert.Pre_finite_keys_and_weights.Facts := ⟨by decide, by decide⟩

/-- An extended real whose absolute value is below `⊤` is a real number. -/
theorem real_of_abs (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

/-- Under the precondition the keys are real. -/
theorem keys_real [Cert.Pre_finite_keys_and_weights.Facts] (q : FVec Ideal S4x8192x1024 .bf16) (k : FVec Ideal S4x4x8192x64 .bf16) (v : FVec Ideal S4x8192x256 .bf16)
    (w : FVec Ideal S1x64 .f32) (h : (fn q k v w).1 = fun _ => 1#1) (i) : ∃ r : ℝ, (k i : EReal) = (r : EReal) := by
  refine real_of_abs _ ?_
  have hi := congrFun h i
  dsimp only [fn] at hi
  rw [← Cert.KernelIdeal.Trip.bits_top16]
  exact hi

/-- Under the precondition the norm's weights are real. -/
theorem weights_real [Cert.Pre_finite_keys_and_weights.Facts] (q : FVec Ideal S4x8192x1024 .bf16) (k : FVec Ideal S4x4x8192x64 .bf16) (v : FVec Ideal S4x8192x256 .bf16)
    (w : FVec Ideal S1x64 .f32) (h : (fn q k v w).2 = fun _ => 1#1) (i) : ∃ r : ℝ, (w i : EReal) = (r : EReal) := by
  refine real_of_abs _ ?_
  have hi := congrFun h i
  dsimp only [fn] at hi
  rw [← Cert.KernelIdeal.Trip.bits_top]
  exact hi

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel8
public import proofs.«01_k».proof.Proof.Gen.Kernel7.Skeleton
public import proofs.«01_k».proof.Proof.Gen.Kernel8.Skeleton
public import proofs.«01_k».proof.Proof.Gen.Kernel7.Launch
public import proofs.«01_k».proof.Proof.Gen.Kernel8.Launch
public import proofs.«01_k».proof.Proof.Gen.Kernel7.Points
public import proofs.«01_k».proof.Proof.Gen.Kernel8.Points
public import proofs.«01_k».proof.Proof.Gen.Kernel7.Frame
public import proofs.«01_k».proof.Proof.Gen.Kernel8.Frame
public import proofs.«01_k».proof.Proof.Gen.Kernel7Ideal
public import proofs.«01_k».proof.Proof.Gen.Kernel8Ideal
public import proofs.«01_k».proof.Proof.Gen.Kernel7Ideal.Skeleton
public import proofs.«01_k».proof.Proof.Gen.Kernel8Ideal.Skeleton
public import proofs.«01_k».proof.Proof.Gen.Kernel7Ideal.Launch
public import proofs.«01_k».proof.Proof.Gen.Kernel8Ideal.Launch
public import proofs.«01_k».proof.Proof.Gen.Kernel7Ideal.Points
public import proofs.«01_k».proof.Proof.Gen.Kernel8Ideal.Points
public import proofs.«01_k».proof.Proof.Gen.Kernel7Ideal.Frame
public import proofs.«01_k».proof.Proof.Gen.Kernel8Ideal.Frame
public import proofs.«01_k».proof.Proof.Gen.Kernel7Ideal.Value
public import proofs.«01_k».proof.Proof.Gen.Kernel8Ideal.Value
public import proofs.«01_k».proof.Proof.Gen.Reference7Ideal
public import proofs.«01_k».proof.Proof.Gen.Reference8Ideal
public import proofs.«01_k».proof.Proof.Gen.Reference7Ideal.Run
public import proofs.«01_k».proof.Proof.Gen.Reference8Ideal.Run
public import proofs.«01_k».proof.Proof.In
public import proofs.«01_k».proof.Proof.Merge
public import proofs.«01_k».proof.Proof.Up
public import proofs.«01_k».proof.Proof.Down
public import proofs.«01_k».proof.Proof.Xbc
public import proofs.«01_k».proof.Proof.Kv
public import proofs.«01_k».proof.Proof.DownS
public import proofs.«01_k».proof.Proof.Final
public import proofs.«01_k».proof.Proof.Precond
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame: its host run read at the arguments; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's result is the reference's, for real keys and weights. -/
theorem value [Cert.Pre_finite_keys_and_weights.Facts] : Cert.algebraic_KernelIdeal_ReferenceIdeal_pre_finite_keys_and_weights := by
  intro m g m' g' hpre ha
  refine ⟨fun c => Cert.KernelIdeal.Trip.REF m c, ?_, ?_⟩
  · refine (θ_run Cert.KernelIdeal.defs _ _).mono (fun r h c => ⟨(h c).1.trans ?_, (h c).2⟩) (Cert.KernelIdeal.Value.run_blocks (F := Ideal) m g)
    exact Cert.KernelIdeal.Trip.final m c (keys_real _ _ _ _ (hpre c).1) (weights_real _ _ _ _ (hpre c).2)
  · refine (θ_run Cert.ReferenceIdeal.defs _ _).mono (fun r h c => ⟨(h c).1.trans ?_, (h c).2⟩) (Cert.ReferenceIdeal.Value.run (F := Ideal) m' g')
    refine (Cert.ReferenceIdeal.Stage.res_eq m' c).trans ?_
    obtain ⟨h0, h1, h2, h3⟩ := ha c
    rw [h0, h1, h2, h3]
    rfl

/-- The reference of the in-projection runs and leaves its arguments; it declares no semaphore. -/
theorem frame_reference2 : Cert.quiescent_Reference2Ideal := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

/-- The in-projection: the kernel's results are the reference's. -/
theorem value2 : Cert.algebraic_Kernel2Ideal_Reference2Ideal := by
  intro m g m' g' _ ha
  refine ⟨fun c => Cert.Kernel2Ideal.In.REF3 m c, fun c => Cert.Kernel2Ideal.In.REF4 m c, fun c => Cert.Kernel2Ideal.In.REF5 m c, fun c => Cert.Kernel2Ideal.In.REF6 m c, fun c => Cert.Kernel2Ideal.In.REF7 m c, fun c => Cert.Kernel2Ideal.In.REF8 m c, fun c => Cert.Kernel2Ideal.In.REF9 m c, ?_, ?_⟩
  · exact (θ_run Cert.Kernel2Ideal.defs _ _).mono (fun r h c => ⟨((h c).1).trans (Cert.Kernel2Ideal.In.final3 m c), ((h c).2.1).trans (Cert.Kernel2Ideal.In.final4 m c), ((h c).2.2.1).trans (Cert.Kernel2Ideal.In.final5 m c), ((h c).2.2.2.1).trans (Cert.Kernel2Ideal.In.final6 m c), ((h c).2.2.2.2.1).trans (Cert.Kernel2Ideal.In.final7 m c), ((h c).2.2.2.2.2.1).trans (Cert.Kernel2Ideal.In.final8 m c), ((h c).2.2.2.2.2.2.1).trans (Cert.Kernel2Ideal.In.final9 m c), (h c).2.2.2.2.2.2.2⟩) (Cert.Kernel2Ideal.Value.run_blocks (F := Ideal) m g)
  · refine (θ_run Cert.Reference2Ideal.defs _ _).mono (fun r h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, (h c).2.2.2.2.2.2.2⟩) (Cert.Reference2Ideal.Value.run (F := Ideal) m' g')
    all_goals
      obtain ⟨h0, h1, h2⟩ := ha c
      simp only [Cert.Kernel2Ideal.In.REF3, Cert.Kernel2Ideal.In.REF4, Cert.Kernel2Ideal.In.REF5, Cert.Kernel2Ideal.In.REF6, Cert.Kernel2Ideal.In.REF7, Cert.Kernel2Ideal.In.REF8, Cert.Kernel2Ideal.In.REF9, Cert.Kernel2Ideal.In.PRJ]
      simp only [← h0, ← h1, ← h2]
      rfl

/-- The reference of the merge of the branches runs and leaves its arguments; it declares no semaphore. -/
theorem frame_reference3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The merge of the branches: the kernel's results are the reference's. -/
theorem value3 : Cert.algebraic_Kernel3Ideal_Reference3Ideal := by
  intro m g m' g' _ ha
  refine ⟨fun c => Cert.Kernel3Ideal.Merge.REF1 m c, fun c => Cert.Kernel3Ideal.Merge.REF2 m c, ?_, ?_⟩
  · exact (θ_run Cert.Kernel3Ideal.defs _ _).mono (fun r h c => ⟨((h c).1).trans (Cert.Kernel3Ideal.Merge.final9 m c), ((h c).2.1).trans (Cert.Kernel3Ideal.Merge.final10 m c), (h c).2.2⟩) (Cert.Kernel3Ideal.Value.run_blocks (F := Ideal) m g)
  · refine (θ_run Cert.Reference3Ideal.defs _ _).mono (fun r h c => ⟨((h c).1).trans ?_, ((h c).2.1).trans ?_, (h c).2.2⟩) (Cert.Reference3Ideal.Value.run (F := Ideal) m' g')
    all_goals
      obtain ⟨h0, h1, h2, h3, h4, h5, h6, h7, h8⟩ := ha c
      simp only [Cert.Kernel3Ideal.Merge.REF2, Cert.Kernel3Ideal.Merge.REF1]
      simp only [← h0, ← h1, ← h2, ← h3, ← h4, ← h5, ← h6, ← h7, ← h8]
      rfl

/-- The reference of the up-projection runs and leaves its arguments; it declares no semaphore. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The up-projection: the kernel's results are the reference's. -/
theorem value4 : Cert.algebraic_Kernel4Ideal_Reference4Ideal := by
  intro m g m' g' _ ha
  refine ⟨fun c => Cert.Kernel4Ideal.Up.REF m c, ?_, ?_⟩
  · exact (θ_run Cert.Kernel4Ideal.defs _ _).mono (fun r h c => ⟨((h c).1).trans (Cert.Kernel4Ideal.Up.final m c), (h c).2⟩) (Cert.Kernel4Ideal.Value.run_blocks (F := Ideal) m g)
  · refine (θ_run Cert.Reference4Ideal.defs _ _).mono (fun r h c => ⟨((h c).1).trans ?_, (h c).2⟩) (Cert.Reference4Ideal.Value.run (F := Ideal) m' g')
    all_goals
      obtain ⟨h0, h1⟩ := ha c
      simp only [Cert.Kernel4Ideal.Up.REF]
      simp only [← h0, ← h1]
      rfl

/-- The reference of the down-projection and what follows it runs and leaves its arguments; it declares no semaphore. -/
theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The down-projection and what follows it: the kernel's results are the reference's. -/
theorem value5 : Cert.algebraic_Kernel5Ideal_Reference5Ideal := by
  intro m g m' g' _ ha
  refine ⟨fun c => Cert.Kernel5Ideal.Down.REF m c, ?_, ?_⟩
  · exact (θ_run Cert.Kernel5Ideal.defs _ _).mono (fun r h c => ⟨((h c).1).trans (Cert.Kernel5Ideal.Down.final m c), (h c).2⟩) (Cert.Kernel5Ideal.Value.run_blocks (F := Ideal) m g)
  · refine (θ_run Cert.Reference5Ideal.defs _ _).mono (fun r h c => ⟨((h c).1).trans ?_, (h c).2⟩) (Cert.Reference5Ideal.Value.run (F := Ideal) m' g')
    all_goals
      obtain ⟨h0, h1, h2, h3, h4, h5, h6, h7, h8, h9⟩ := ha c
      simp only [Cert.Kernel5Ideal.Down.REF, Cert.Kernel5Ideal.Down.RX3, Cert.Kernel5Ideal.Down.RX2, Cert.Kernel5Ideal.Down.CV]
      simp only [← h0, ← h1, ← h2, ← h3, ← h4, ← h5, ← h6, ← h7, ← h8, ← h9]
      rfl

/-- The reference of the state-space branch's convolution runs and leaves its arguments; it declares no semaphore. -/
theorem frame_reference6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The state-space branch's convolution: the kernel's results are the reference's. -/
theorem value6 : Cert.algebraic_Kernel6Ideal_Reference6Ideal := by
  intro m g m' g' _ ha
  refine ⟨fun c => Cert.Kernel6Ideal.Xbc.REF m c, ?_, ?_⟩
  · exact (θ_run Cert.Kernel6Ideal.defs _ _).mono (fun r h c => ⟨((h c).1).trans (Cert.Kernel6Ideal.Xbc.final m c), (h c).2⟩) (Cert.Kernel6Ideal.Value.run_blocks (F := Ideal) m g)
  · refine (θ_run Cert.Reference6Ideal.defs _ _).mono (fun r h c => ⟨((h c).1).trans ?_, (h c).2⟩) (Cert.Reference6Ideal.Value.run (F := Ideal) m' g')
    all_goals
      obtain ⟨h0, h1, h2⟩ := ha c
      simp only [Cert.Kernel6Ideal.Xbc.REF, Cert.Kernel6Ideal.Xbc.CV]
      simp only [← h0, ← h1, ← h2]
      rfl

/-- The reference of the preparation of the keys and values runs and leaves its arguments; it declares no semaphore. -/
theorem frame_reference7 : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- The preparation of the keys and values: the kernel's results are the reference's. -/
theorem value7 : Cert.algebraic_Kernel7Ideal_Reference7Ideal := by
  intro m g m' g' _ ha
  refine ⟨fun c => Cert.Kernel7Ideal.Kv.REF1 m c, fun c => Cert.Kernel7Ideal.Kv.REF2 m c, ?_, ?_⟩
  · exact (θ_run Cert.Kernel7Ideal.defs _ _).mono (fun r h c => ⟨((h c).1).trans (Cert.Kernel7Ideal.Kv.final1 m c), ((h c).2.1).trans (Cert.Kernel7Ideal.Kv.final2 m c), (h c).2.2⟩) (Cert.Kernel7Ideal.Value.run_blocks (F := Ideal) m g)
  · refine (θ_run Cert.Reference7Ideal.defs _ _).mono (fun r h c => ⟨((h c).1).trans ?_, ((h c).2.1).trans ?_, (h c).2.2⟩) (Cert.Reference7Ideal.Value.run (F := Ideal) m' g')
    all_goals
      obtain ⟨h0, h1, h2⟩ := ha c
      simp only [Cert.Kernel7Ideal.Kv.REF1, Cert.Kernel7Ideal.Kv.REF2]
      simp only [← h0, ← h1, ← h2]
      rfl

/-- The reference of the down-projection and what follows it, of the sample group runs and leaves its arguments; it declares no semaphore. -/
theorem frame_reference8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The down-projection and what follows it, of the sample group: the kernel's results are the reference's. -/
theorem value8 : Cert.algebraic_Kernel8Ideal_Reference8Ideal := by
  intro m g m' g' _ ha
  refine ⟨fun c => Cert.Kernel8Ideal.Down.REF m c, ?_, ?_⟩
  · exact (θ_run Cert.Kernel8Ideal.defs _ _).mono (fun r h c => ⟨((h c).1).trans (Cert.Kernel8Ideal.Down.final m c), (h c).2⟩) (Cert.Kernel8Ideal.Value.run_blocks (F := Ideal) m g)
  · refine (θ_run Cert.Reference8Ideal.defs _ _).mono (fun r h c => ⟨((h c).1).trans ?_, (h c).2⟩) (Cert.Reference8Ideal.Value.run (F := Ideal) m' g')
    all_goals
      obtain ⟨h0, h1, h2, h3, h4, h5, h6, h7, h8, h9⟩ := ha c
      simp only [Cert.Kernel8Ideal.Down.REF, Cert.Kernel8Ideal.Down.RX3, Cert.Kernel8Ideal.Down.RX2, Cert.Kernel8Ideal.Down.CV]
      simp only [← h0, ← h1, ← h2, ← h3, ← h4, ← h5, ← h6, ← h7, ← h8, ← h9]
      rfl

/-- Everything the certificate claims: the frames, the sanctioned idealization, and that the results are equal. -/
theorem claim : Cert.Claim :=
  haveI := preFacts
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    IdealRules.named_const.statement Cert.KernelIdeal.κ "scale_log2e" .f32 0x3E38AA3B#32
      (((1 / 8) * (Real.log 2)⁻¹ : ℝ) : EReal) rfl,
    value,
    trivial, value2,
    trivial, value3,
    trivial, value4,
    trivial, value5,
    IdealRules.named_const.statement Cert.Kernel6Ideal.κ "log2e_neg" .f32 0xBFB8AA3B#32
      ((-((Real.log 2)⁻¹) : ℝ) : EReal) rfl, value6,
    trivial, value7,
    trivial, value8⟩

end Cert.Proof

end
